-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp [hPre_tables_ok : Cert.Pre_tables_ok.Facts] (m : (ℓ : Loc Cert.KernelUp.nD Cert.KernelUp.τ Cert.KernelUp.sig) → Buf (Elt Bits) ℓ) : Prop :=
  ∀ c : Dev Cert.KernelUp.nD,
    (Cert.Pre_tables_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))).1 = (fun _ => 1#1)
    ∧ (Cert.Pre_tables_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))).2.1 = (fun _ => 1#1)
    ∧ (Cert.Pre_tables_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))).2.2.1 = (fun _ => 1#1)
    ∧ (Cert.Pre_tables_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))).2.2.2.1 = (fun _ => 1#1)
    ∧ (Cert.Pre_tables_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))).2.2.2.2 = (fun _ => 1#1)

def Pre_KernelUpIdeal [hPre_tables_ok : Cert.Pre_tables_ok.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_tables_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).1 = (fun _ => 1#1)
    ∧ (Cert.Pre_tables_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.1 = (fun _ => 1#1)
    ∧ (Cert.Pre_tables_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.1 = (fun _ => 1#1)
    ∧ (Cert.Pre_tables_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.1 = (fun _ => 1#1)
    ∧ (Cert.Pre_tables_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.2 = (fun _ => 1#1)

def Pre_ReferenceUpIdeal [hPre_tables_ok : Cert.Pre_tables_ok.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_tables_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).1 = (fun _ => 1#1)
    ∧ (Cert.Pre_tables_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.1 = (fun _ => 1#1)
    ∧ (Cert.Pre_tables_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.1 = (fun _ => 1#1)
    ∧ (Cert.Pre_tables_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.1 = (fun _ => 1#1)
    ∧ (Cert.Pre_tables_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelUp [hKernelUp : Cert.KernelUp.Facts] [hPre_tables_ok : Cert.Pre_tables_ok.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6)
      ∧ r.2.mem ((c.tc : Thread Cert.KernelUp.nD Cert.KernelUp.τ).loc Cert.KernelUp.main_arg7) = m ((c.tc : Thread Cert.KernelUp.nD Cert.KernelUp.τ).loc Cert.KernelUp.main_arg7))
      ∧ r.2.sem = fun _ => 0)

def quiescent_KernelUpIdeal [hKernelUpIdeal : Cert.KernelUpIdeal.Facts] [hPre_tables_ok : Cert.Pre_tables_ok.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
      ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ r.2.sem = fun _ => 0)

def quiescent_ReferenceUpIdeal [hReferenceUpIdeal : Cert.ReferenceUpIdeal.Facts] [hPre_tables_ok : Cert.Pre_tables_ok.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelUp_KernelUpIdeal : Prop :=
  True

def algebraic_KernelUpIdeal_ReferenceUpIdeal [hKernelUpIdeal : Cert.KernelUpIdeal.Facts] [hReferenceUpIdeal : Cert.ReferenceUpIdeal.Facts] [hPre_tables_ok : Cert.Pre_tables_ok.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)
      ∧ m' ((c.tc : Thread Cert.ReferenceUpIdeal.nD Cert.ReferenceUpIdeal.τ).loc Cert.ReferenceUpIdeal.main_arg7) = m ((c.tc : Thread Cert.KernelUpIdeal.nD Cert.KernelUpIdeal.τ).loc Cert.KernelUpIdeal.main_arg7)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
          ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v65) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6)
          ∧ r.2.mem ((c.tc : Thread Cert.ReferenceUpIdeal.nD Cert.ReferenceUpIdeal.τ).loc Cert.ReferenceUpIdeal.main_arg7) = m' ((c.tc : Thread Cert.ReferenceUpIdeal.nD Cert.ReferenceUpIdeal.τ).loc Cert.ReferenceUpIdeal.main_arg7))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hPre_tables_ok : Cert.Pre_tables_ok.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp) (hPre_tables_ok := hPre_tables_ok)
    ∧ quiescent_KernelUpIdeal (hKernelUpIdeal := hKernelUpIdeal) (hPre_tables_ok := hPre_tables_ok)
    ∧ quiescent_ReferenceUpIdeal (hReferenceUpIdeal := hReferenceUpIdeal) (hPre_tables_ok := hPre_tables_ok)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal) (hPre_tables_ok := hPre_tables_ok)
-- ==== Pre_tables_ok.lean ====
abbrev S99 : Shape := ⟨1, ![99]⟩
abbrev S405504x128 : Shape := ⟨2, ![405504, 128]⟩
abbrev S1x32x2048x4096 : Shape := ⟨4, ![1, 32, 2048, 4096]⟩
abbrev S1x32x4096 : Shape := ⟨3, ![1, 32, 4096]⟩
abbrev S_ : Shape := ⟨0, ![]⟩
abbrev S98 : Shape := ⟨1, ![98]⟩
abbrev S1 : Shape := ⟨1, ![1]⟩

class Facts : Prop where
  bcast_S_S99 : S_.BroadcastsInDim S99 (![] : Fin 0 → Fin S99.rank)
  slices_S99_S98_1 : S99.Slices ![1] S98
  slices_S99_S98_0 : S99.Slices ![0] S98
  bcast_S_S98 : S_.BroadcastsInDim S98 (![] : Fin 0 → Fin S98.rank)
  slices_S99_S1_0 : S99.Slices ![0] S1
  bcast_S_S1 : S_.BroadcastsInDim S1 (![] : Fin 0 → Fin S1.rank)
  slices_S99_S1_98 : S99.Slices ![98] S1

variable [Facts]

def fn_where {F : FTy → Type} [FloatOps F] (arg0 : IVec S98 1) (arg1 : IVec S98 1) (arg2 : IVec S98 1) : IVec S98 1 :=
  let v0 : IVec S98 1 := select arg0 arg1 arg2
  v0

def fn_part2 {F : FTy → Type} [FloatOps F] (main_arg2 : IVec S99 32) (main_arg3 : IVec S99 32) (main_v16 : IVec S99 1) (main_v27 : IVec S99 1) (main_v34 : IVec S98 1) (main_v37 : IVec S98 1) : IVec S99 1 × IVec S99 1 × IVec S98 1 × IVec S1 1 × IVec S1 1 :=
  let main_v38 : IVec S98 32 := (extractStridedSlice S98 ![1] · slices_S99_S98_1) main_arg2
  let main_c_9 : IVec S_ 32 := constantI S_ 32 0#32
  let main_v39 : IVec S98 32 := broadcastInDim S98 ![] bcast_S_S98 main_c_9
  let main_v40 : IVec S98 1 := cmpi .eq main_v38 main_v39
  let main_v41 : IVec S98 1 := fn_where (F := F) main_v40 main_v34 main_v37
  let main_v42 : IVec S1 32 := (extractStridedSlice S1 ![0] · slices_S99_S1_0) main_arg2
  let main_c_10 : IVec S_ 32 := constantI S_ 32 1#32
  let main_v43 : IVec S1 32 := broadcastInDim S1 ![] bcast_S_S1 main_c_10
  let main_v44 : IVec S1 1 := cmpi .eq main_v42 main_v43
  let main_v45 : IVec S1 32 := (extractStridedSlice S1 ![98] · slices_S99_S1_98) main_arg3
  let main_c_11 : IVec S_ 32 := constantI S_ 32 0#32
  let main_v46 : IVec S1 32 := broadcastInDim S1 ![] bcast_S_S1 main_c_11
  let main_v47 : IVec S1 1 := cmpi .slt main_v45 main_v46
  (main_v16, main_v27, main_v41, main_v44, main_v47)

def fn_part1 {F : FTy → Type} [FloatOps F] (main_arg0 : IVec S99 32) (main_arg2 : IVec S99 32) (main_arg3 : IVec S99 32) (main_v16 : IVec S99 1) (main_c_5 : IVec S_ 32) : IVec S99 1 × IVec S99 1 × IVec S98 1 × IVec S1 1 × IVec S1 1 :=
  let main_v17 : IVec S99 32 := broadcastInDim S99 ![] bcast_S_S99 main_c_5
  let main_v18 : IVec S99 1 := cmpi .sge main_arg3 main_v17
  let main_c_6 : IVec S_ 32 := constantI S_ 32 31#32
  let main_v19 : IVec S99 32 := broadcastInDim S99 ![] bcast_S_S99 main_c_6
  let main_v20 : IVec S99 1 := cmpi .sle main_arg3 main_v19
  let main_v21 : IVec S99 1 := andi main_v18 main_v20
  let main_c_7 : IVec S_ 32 := constantI S_ 32 0#32
  let main_v22 : IVec S99 32 := broadcastInDim S99 ![] bcast_S_S99 main_c_7
  let main_v23 : IVec S99 1 := cmpi .sge main_arg2 main_v22
  let main_v24 : IVec S99 1 := andi main_v21 main_v23
  let main_c_8 : IVec S_ 32 := constantI S_ 32 1#32
  let main_v25 : IVec S99 32 := broadcastInDim S99 ![] bcast_S_S99 main_c_8
  let main_v26 : IVec S99 1 := cmpi .sle main_arg2 main_v25
  let main_v27 : IVec S99 1 := andi main_v24 main_v26
  let main_v28 : IVec S98 32 := (extractStridedSlice S98 ![1] · slices_S99_S98_1) main_arg0
  let main_v29 : IVec S98 32 := (extractStridedSlice S98 ![0] · slices_S99_S98_0) main_arg0
  let main_v30 : IVec S98 1 := cmpi .eq main_v28 main_v29
  let main_v31 : IVec S98 32 := (extractStridedSlice S98 ![1] · slices_S99_S98_1) main_arg3
  let main_v32 : IVec S98 32 := (extractStridedSlice S98 ![0] · slices_S99_S98_0) main_arg3
  let main_v33 : IVec S98 1 := cmpi .eq main_v31 main_v32
  let main_v34 : IVec S98 1 := andi main_v30 main_v33
  let main_v35 : IVec S98 32 := (extractStridedSlice S98 ![1] · slices_S99_S98_1) main_arg0
  let main_v36 : IVec S98 32 := (extractStridedSlice S98 ![0] · slices_S99_S98_0) main_arg3
  let main_v37 : IVec S98 1 := cmpi .eq main_v35 main_v36
  fn_part2 (F := F) main_arg2 main_arg3 main_v16 main_v27 main_v34 main_v37

def fn {F : FTy → Type} [FloatOps F] (main_arg0 : IVec S99 32) (main_arg1 : IVec S99 32) (main_arg2 : IVec S99 32) (main_arg3 : IVec S99 32) (main_arg4 : IVec S99 32) (main_arg5 : IVec S405504x128 32) (main_arg6 : FVec F S1x32x2048x4096 .f32) (main_arg7 : FVec F S1x32x4096 .f32) : IVec S99 1 × IVec S99 1 × IVec S98 1 × IVec S1 1 × IVec S1 1 :=
  let main_c : IVec S_ 32 := constantI S_ 32 0#32
  let main_v0 : IVec S99 32 := broadcastInDim S99 ![] bcast_S_S99 main_c
  let main_v1 : IVec S99 1 := cmpi .sge main_arg0 main_v0
  let main_c_0 : IVec S_ 32 := constantI S_ 32 31#32
  let main_v2 : IVec S99 32 := broadcastInDim S99 ![] bcast_S_S99 main_c_0
  let main_v3 : IVec S99 1 := cmpi .sle main_arg0 main_v2
  let main_v4 : IVec S99 1 := andi main_v1 main_v3
  let main_c_1 : IVec S_ 32 := constantI S_ 32 0#32
  let main_v5 : IVec S99 32 := broadcastInDim S99 ![] bcast_S_S99 main_c_1
  let main_v6 : IVec S99 1 := cmpi .sge main_arg1 main_v5
  let main_v7 : IVec S99 1 := andi main_v4 main_v6
  let main_c_2 : IVec S_ 32 := constantI S_ 32 98#32
  let main_v8 : IVec S99 32 := broadcastInDim S99 ![] bcast_S_S99 main_c_2
  let main_v9 : IVec S99 1 := cmpi .sle main_arg1 main_v8
  let main_v10 : IVec S99 1 := andi main_v7 main_v9
  let main_c_3 : IVec S_ 32 := constantI S_ 32 0#32
  let main_v11 : IVec S99 32 := broadcastInDim S99 ![] bcast_S_S99 main_c_3
  let main_v12 : IVec S99 1 := cmpi .sge main_arg4 main_v11
  let main_v13 : IVec S99 1 := andi main_v10 main_v12
  let main_c_4 : IVec S_ 32 := constantI S_ 32 512#32
  let main_v14 : IVec S99 32 := broadcastInDim S99 ![] bcast_S_S99 main_c_4
  let main_v15 : IVec S99 1 := cmpi .sle main_arg4 main_v14
  let main_v16 : IVec S99 1 := andi main_v13 main_v15
  let main_c_5 : IVec S_ 32 := constantI S_ 32 4294967295#32
  fn_part1 (F := F) main_arg0 main_arg2 main_arg3 main_v16 main_c_5
-- ==== Kernel.lean ====
abbrev S4x2048x2048 : Shape := ⟨3, ![4, 2048, 2048]⟩
abbrev S16x2048 : Shape := ⟨2, ![16, 2048]⟩
abbrev S1x2048 : Shape := ⟨2, ![1, 2048]⟩
abbrev S1x2048x5120 : Shape := ⟨3, ![1, 2048, 5120]⟩
abbrev S1x3x1024 : Shape := ⟨3, ![1, 3, 1024]⟩
abbrev S1x31x1024 : Shape := ⟨3, ![1, 31, 1024]⟩
abbrev S1x1024 : Shape := ⟨2, ![1, 1024]⟩
abbrev S2048 : Shape := ⟨1, ![2048]⟩
abbrev S2048x5120 : Shape := ⟨2, ![2048, 5120]⟩
abbrev S3x1024 : Shape := ⟨2, ![3, 1024]⟩
abbrev S31x1024 : Shape := ⟨2, ![31, 1024]⟩
abbrev S1024 : Shape := ⟨1, ![1024]⟩
abbrev S8192x2048 : Shape := ⟨2, ![8192, 2048]⟩
abbrev S4x2x1024 : Shape := ⟨3, ![4, 2, 1024]⟩
abbrev S4x30x1024 : Shape := ⟨3, ![4, 30, 1024]⟩
abbrev S1x512x2048 : Shape := ⟨3, ![1, 512, 2048]⟩
abbrev S512x2048 : Shape := ⟨2, ![512, 2048]⟩
abbrev S1x2x1024 : Shape := ⟨3, ![1, 2, 1024]⟩
abbrev S1x30x1024 : Shape := ⟨3, ![1, 30, 1024]⟩
abbrev S512x5120 : Shape := ⟨2, ![512, 5120]⟩
abbrev S8x544x128 : Shape := ⟨3, ![8, 544, 128]⟩
abbrev S8x520x128 : Shape := ⟨3, ![8, 520, 128]⟩
abbrev S8x32x128 : Shape := ⟨3, ![8, 32, 128]⟩
abbrev S8x8x128 : Shape := ⟨3, ![8, 8, 128]⟩
abbrev S512x1024 : Shape := ⟨2, ![512, 1024]⟩
abbrev S16 : Shape := ⟨1, ![16]⟩
abbrev S16x1 : Shape := ⟨2, ![16, 1]⟩
abbrev S16x5120 : Shape := ⟨2, ![16, 5120]⟩
abbrev S16x1024 : Shape := ⟨2, ![16, 1024]⟩
abbrev S16x128 : Shape := ⟨2, ![16, 128]⟩
abbrev S1x16x128 : Shape := ⟨3, ![1, 16, 128]⟩
abbrev S8x128 : Shape := ⟨2, ![8, 128]⟩
abbrev S1x8x128 : Shape := ⟨3, ![1, 8, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128 : Shape := ⟨2, ![1, 128]⟩
abbrev S64x1024 : Shape := ⟨2, ![64, 1024]⟩
abbrev S64 : Shape := ⟨1, ![64]⟩
abbrev S64x1 : Shape := ⟨2, ![64, 1]⟩
abbrev S1x2x128 : Shape := ⟨3, ![1, 2, 128]⟩
abbrev S2x128 : Shape := ⟨2, ![2, 128]⟩
abbrev S1x30x128 : Shape := ⟨3, ![1, 30, 128]⟩
abbrev S30x128 : Shape := ⟨2, ![30, 128]⟩

abbrev nBuf : Space → Nat
  | .hbm => 24
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x5120, .f32⟩
  | .hbm, ⟨4, _⟩ => ⟨S1x3x1024, .f32⟩
  | .hbm, ⟨5, _⟩ => ⟨S1x31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048, .f32⟩
  | .hbm, ⟨10, _⟩ => ⟨S1x2048, .f32⟩
  | .hbm, ⟨11, _⟩ => ⟨S2048x5120, .f32⟩
  | .hbm, ⟨12, _⟩ => ⟨S2048x5120, .bf16⟩
  | .hbm, ⟨13, _⟩ => ⟨S3x1024, .f32⟩
  | .hbm, ⟨14, _⟩ => ⟨S31x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x2048, .bf16⟩
  | .hbm, ⟨22, _⟩ => ⟨S4x2x1024, .f32⟩
  | .hbm, ⟨23, _⟩ => ⟨S4x30x1024, .f32⟩
  | .local _ .vmem, ⟨0, _⟩ => ⟨S1x512x2048, .f32⟩
  | .local _ .vmem, ⟨1, _⟩ => ⟨S1x512x2048, .f32⟩
  | .local _ .vmem, ⟨2, _⟩ => ⟨S16x2048, .f32⟩
  | .local _ .vmem, ⟨3, _⟩ => ⟨S1x2048, .f32⟩
  | .local _ .vmem, ⟨4, _⟩ => ⟨S2048x5120, .bf16⟩
  | .local _ .vmem, ⟨5, _⟩ => ⟨S3x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S1x2x1024, .f32⟩
  | .local _ .vmem, ⟨13, _⟩ => ⟨S1x2x1024, .f32⟩
  | .local _ .vmem, ⟨14, _⟩ => ⟨S1x30x1024, .f32⟩
  | .local _ .vmem, ⟨15, _⟩ => ⟨S1x30x1024, .f32⟩
  | .local _ .vmem, ⟨16, _⟩ => ⟨S512x5120, .f32⟩
  | .local _ .vmem, ⟨17, _⟩ => ⟨S8x544x128, .f32⟩
  | .local _ .vmem, ⟨18, _⟩ => ⟨S8x520x128, .f32⟩
  | .local _ .vmem, ⟨19, _⟩ => ⟨S8x32x128, .f32⟩
  | .local _ .vmem, ⟨20, _⟩ => ⟨S8x8x128, .f32⟩
  | .local _ .vmem, ⟨21, _⟩ => ⟨S512x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v2359 : BitVec 1 := Scalar.cmpi .eq arg1 c3_i32
  let v2360 : BitVec 32 := Scalar.extui v2359
  let c0_i32_1580 : BitVec 32 := 0#32
  let v2361 : BitVec 1 := Scalar.cmpi .ne v2360 c0_i32_1580
  v2361

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x30x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x2048x2048 : Shape := ⟨3, ![4, 2048, 2048]⟩
abbrev S16x2048 : Shape := ⟨2, ![16, 2048]⟩
abbrev S1x2048 : Shape := ⟨2, ![1, 2048]⟩
abbrev S1x2048x5120 : Shape := ⟨3, ![1, 2048, 5120]⟩
abbrev S1x3x1024 : Shape := ⟨3, ![1, 3, 1024]⟩
abbrev S1x31x1024 : Shape := ⟨3, ![1, 31, 1024]⟩
abbrev S1x1024 : Shape := ⟨2, ![1, 1024]⟩
abbrev S1x16x2048 : Shape := ⟨3, ![1, 16, 2048]⟩
abbrev S4x16x2048 : Shape := ⟨3, ![4, 16, 2048]⟩
abbrev S4x2064x2048 : Shape := ⟨3, ![4, 2064, 2048]⟩
abbrev S_ : Shape := ⟨0, ![]⟩
abbrev S4x2x1024 : Shape := ⟨3, ![4, 2, 1024]⟩
abbrev S4x30x1024 : Shape := ⟨3, ![4, 30, 1024]⟩
abbrev S2048 : Shape := ⟨1, ![2048]⟩
abbrev S4x2064 : Shape := ⟨2, ![4, 2064]⟩
abbrev S4x2064x1 : Shape := ⟨3, ![4, 2064, 1]⟩
abbrev S1x1x2048 : Shape := ⟨3, ![1, 1, 2048]⟩
abbrev S2048x5120 : Shape := ⟨2, ![2048, 5120]⟩
abbrev S3x1024 : Shape := ⟨2, ![3, 1024]⟩
abbrev S31x1024 : Shape := ⟨2, ![31, 1024]⟩
abbrev S1024 : Shape := ⟨1, ![1024]⟩
abbrev S4x2064x5120 : Shape := ⟨3, ![4, 2064, 5120]⟩
abbrev S4x2064x1024 : Shape := ⟨3, ![4, 2064, 1024]⟩
abbrev S4x2066x1024 : Shape := ⟨3, ![4, 2066, 1024]⟩
abbrev S1x1x1024 : Shape := ⟨3, ![1, 1, 1024]⟩
abbrev S4x2094x1024 : Shape := ⟨3, ![4, 2094, 1024]⟩
abbrev S8192x2048 : Shape := ⟨2, ![8192, 2048]⟩

abbrev nBuf : Space → Nat
  | .hbm => 341
  | .vmem => 0
  | .smem => 0
  | _ => 0

abbrev hbmTy0_0 (i : Nat) : BufTy := match i % 128 with
  | 0 => ⟨S4x2048x2048, .f32⟩
  | 1 => ⟨S16x2048, .f32⟩
  | 2 => ⟨S1x2048, .f32⟩
  | 3 => ⟨S1x2048x5120, .f32⟩
  | 4 => ⟨S1x3x1024, .f32⟩
  | 5 => ⟨S1x31x1024, .f32⟩
  | 6 => ⟨S1x1024, .f32⟩
  | 7 => ⟨S1x1024, .f32⟩
  | 8 => ⟨S1x1024, .f32⟩
  | 9 => ⟨S1x16x2048, .f32⟩
  | 10 => ⟨S4x16x2048, .f32⟩
  | 11 => ⟨S4x2064x2048, .f32⟩
  | 12 => ⟨S_, .f32⟩
  | 13 => ⟨S4x2x1024, .f32⟩
  | 14 => ⟨S_, .f32⟩
  | 15 => ⟨S4x30x1024, .f32⟩
  | 16 => ⟨S2048, .f32⟩
  | 17 => ⟨S4x2064x2048, .f32⟩
  | 18 => ⟨S_, .f32⟩
  | 19 => ⟨S4x2064, .f32⟩
  | 20 => ⟨S4x2064x1, .f32⟩
  | 21 => ⟨S_, .f32⟩
  | 22 => ⟨S4x2064x1, .f32⟩
  | 23 => ⟨S4x2064x1, .f32⟩
  | 24 => ⟨S_, .f32⟩
  | 25 => ⟨S4x2064x1, .f32⟩
  | 26 => ⟨S4x2064x1, .f32⟩
  | 27 => ⟨S4x2064x1, .f32⟩
  | 28 => ⟨S4x2064x2048, .f32⟩
  | 29 => ⟨S4x2064x2048, .f32⟩
  | 30 => ⟨S1x1x2048, .f32⟩
  | 31 => ⟨S4x2064x2048, .f32⟩
  | 32 => ⟨S4x2064x2048, .f32⟩
  | 33 => ⟨S2048x5120, .f32⟩
  | 34 => ⟨S3x1024, .f32⟩
  | 35 => ⟨S31x1024, .f32⟩
  | 36 => ⟨S1024, .f32⟩
  | 37 => ⟨S1024, .f32⟩
  | 38 => ⟨S1024, .f32⟩
  | 39 => ⟨S4x2064x5120, .f32⟩
  | 40 => ⟨S4x2064x1024, .f32⟩
  | 41 => ⟨S4x2064x1024, .f32⟩
  | 42 => ⟨S4x2064x1024, .f32⟩
  | 43 => ⟨S4x2064x1024, .f32⟩
  | 44 => ⟨S4x2064x1024, .f32⟩
  | 45 => ⟨S4x2064x1024, .f32⟩
  | 46 => ⟨S4x2066x1024, .f32⟩
  | 47 => ⟨S4x2064x1024, .f32⟩
  | 48 => ⟨S1x1024, .f32⟩
  | 49 => ⟨S1024, .f32⟩
  | 50 => ⟨S1x1x1024, .f32⟩
  | 51 => ⟨S4x2064x1024, .f32⟩
  | 52 => ⟨S4x2064x1024, .f32⟩
  | 53 => ⟨S4x2064x1024, .f32⟩
  | 54 => ⟨S1x1024, .f32⟩
  | 55 => ⟨S1024, .f32⟩
  | 56 => ⟨S1x1x1024, .f32⟩
  | 57 => ⟨S4x2064x1024, .f32⟩
  | 58 => ⟨S4x2064x1024, .f32⟩
  | 59 => ⟨S4x2064x1024, .f32⟩
  | 60 => ⟨S4x2064x1024, .f32⟩
  | 61 => ⟨S1x1024, .f32⟩
  | 62 => ⟨S1024, .f32⟩
  | 63 => ⟨S1x1x1024, .f32⟩
  | 64 => ⟨S4x2064x1024, .f32⟩
  | 65 => ⟨S4x2064x1024, .f32⟩
  | 66 => ⟨S4x2064x1024, .f32⟩
  | 67 => ⟨S4x2x1024, .f32⟩
  | 68 => ⟨S4x2064x1024, .f32⟩
  | 69 => ⟨S4x2064x1024, .f32⟩
  | 70 => ⟨S4x2064x1024, .f32⟩
  | 71 => ⟨S_, .f32⟩
  | 72 => ⟨S4x2064x1024, .f32⟩
  | 73 => ⟨S4x2064x1024, .f32⟩
  | 74 => ⟨S_, .f32⟩
  | 75 => ⟨S4x2064x1024, .f32⟩
  | 76 => ⟨S4x2064x1024, .f32⟩
  | 77 => ⟨S4x2064x1024, .f32⟩
  | 78 => ⟨S4x2094x1024, .f32⟩
  | 79 => ⟨S4x2064x1024, .f32⟩
  | 80 => ⟨S1x1024, .f32⟩
  | 81 => ⟨S1024, .f32⟩
  | 82 => ⟨S1x1x1024, .f32⟩
  | 83 => ⟨S4x2064x1024, .f32⟩
  | 84 => ⟨S4x2064x1024, .f32⟩
  | 85 => ⟨S4x2064x1024, .f32⟩
  | 86 => ⟨S1x1024, .f32⟩
  | 87 => ⟨S1024, .f32⟩
  | 88 => ⟨S1x1x1024, .f32⟩
  | 89 => ⟨S4x2064x1024, .f32⟩
  | 90 => ⟨S4x2064x1024, .f32⟩
  | 91 => ⟨S4x2064x1024, .f32⟩
  | 92 => ⟨S4x2064x1024, .f32⟩
  | 93 => ⟨S1x1024, .f32⟩
  | 94 => ⟨S1024, .f32⟩
  | 95 => ⟨S1x1x1024, .f32⟩
  | 96 => ⟨S4x2064x1024, .f32⟩
  | 97 => ⟨S4x2064x1024, .f32⟩
  | 98 => ⟨S4x2064x1024, .f32⟩
  | 99 => ⟨S4x2064x1024, .f32⟩
  | 100 => ⟨S1x1024, .f32⟩
  | 101 => ⟨S1024, .f32⟩
  | 102 => ⟨S1x1x1024, .f32⟩
  | 103 => ⟨S4x2064x1024, .f32⟩
  | 104 => ⟨S4x2064x1024, .f32⟩
  | 105 => ⟨S4x2064x1024, .f32⟩
  | 106 => ⟨S4x2064x1024, .f32⟩
  | 107 => ⟨S1x1024, .f32⟩
  | 108 => ⟨S1024, .f32⟩
  | 109 => ⟨S1x1x1024, .f32⟩
  | 110 => ⟨S4x2064x1024, .f32⟩
  | 111 => ⟨S4x2064x1024, .f32⟩
  | 112 => ⟨S4x2064x1024, .f32⟩
  | 113 => ⟨S4x2064x1024, .f32⟩
  | 114 => ⟨S1x1024, .f32⟩
  | 115 => ⟨S1024, .f32⟩
  | 116 => ⟨S1x1x1024, .f32⟩
  | 117 => ⟨S4x2064x1024, .f32⟩
  | 118 => ⟨S4x2064x1024, .f32⟩
  | 119 => ⟨S4x2064x1024, .f32⟩
  | 120 => ⟨S4x2064x1024, .f32⟩
  | 121 => ⟨S1x1024, .f32⟩
  | 122 => ⟨S1024, .f32⟩
  | 123 => ⟨S1x1x1024, .f32⟩
  | 124 => ⟨S4x2064x1024, .f32⟩
  | 125 => ⟨S4x2064x1024, .f32⟩
  | 126 => ⟨S4x2064x1024, .f32⟩
  | 127 => ⟨S4x2064x1024, .f32⟩
  | _ => ⟨S4x2048x2048, .f32⟩

abbrev hbmTy0_1 (i : Nat) : BufTy := match i % 128 with
  | 0 => ⟨S1x1024, .f32⟩
  | 1 => ⟨S1024, .f32⟩
  | 2 => ⟨S1x1x1024, .f32⟩
  | 3 => ⟨S4x2064x1024, .f32⟩
  | 4 => ⟨S4x2064x1024, .f32⟩
  | 5 => ⟨S4x2064x1024, .f32⟩
  | 6 => ⟨S4x2064x1024, .f32⟩
  | 7 => ⟨S1x1024, .f32⟩
  | 8 => ⟨S1024, .f32⟩
  | 9 => ⟨S1x1x1024, .f32⟩
  | 10 => ⟨S4x2064x1024, .f32⟩
  | 11 => ⟨S4x2064x1024, .f32⟩
  | 12 => ⟨S4x2064x1024, .f32⟩
  | 13 => ⟨S4x2064x1024, .f32⟩
  | 14 => ⟨S1x1024, .f32⟩
  | 15 => ⟨S1024, .f32⟩
  | 16 => ⟨S1x1x1024, .f32⟩
  | 17 => ⟨S4x2064x1024, .f32⟩
  | 18 => ⟨S4x2064x1024, .f32⟩
  | 19 => ⟨S4x2064x1024, .f32⟩
  | 20 => ⟨S4x2064x1024, .f32⟩
  | 21 => ⟨S1x1024, .f32⟩
  | 22 => ⟨S1024, .f32⟩
  | 23 => ⟨S1x1x1024, .f32⟩
  | 24 => ⟨S4x2064x1024, .f32⟩
  | 25 => ⟨S4x2064x1024, .f32⟩
  | 26 => ⟨S4x2064x1024, .f32⟩
  | 27 => ⟨S4x2064x1024, .f32⟩
  | 28 => ⟨S1x1024, .f32⟩
  | 29 => ⟨S1024, .f32⟩
  | 30 => ⟨S1x1x1024, .f32⟩
  | 31 => ⟨S4x2064x1024, .f32⟩
  | 32 => ⟨S4x2064x1024, .f32⟩
  | 33 => ⟨S4x2064x1024, .f32⟩
  | 34 => ⟨S4x2064x1024, .f32⟩
  | 35 => ⟨S1x1024, .f32⟩
  | 36 => ⟨S1024, .f32⟩
  | 37 => ⟨S1x1x1024, .f32⟩
  | 38 => ⟨S4x2064x1024, .f32⟩
  | 39 => ⟨S4x2064x1024, .f32⟩
  | 40 => ⟨S4x2064x1024, .f32⟩
  | 41 => ⟨S4x2064x1024, .f32⟩
  | 42 => ⟨S1x1024, .f32⟩
  | 43 => ⟨S1024, .f32⟩
  | 44 => ⟨S1x1x1024, .f32⟩
  | 45 => ⟨S4x2064x1024, .f32⟩
  | 46 => ⟨S4x2064x1024, .f32⟩
  | 47 => ⟨S4x2064x1024, .f32⟩
  | 48 => ⟨S4x2064x1024, .f32⟩
  | 49 => ⟨S1x1024, .f32⟩
  | 50 => ⟨S1024, .f32⟩
  | 51 => ⟨S1x1x1024, .f32⟩
  | 52 => ⟨S4x2064x1024, .f32⟩
  | 53 => ⟨S4x2064x1024, .f32⟩
  | 54 => ⟨S4x2064x1024, .f32⟩
  | 55 => ⟨S4x2064x1024, .f32⟩
  | 56 => ⟨S1x1024, .f32⟩
  | 57 => ⟨S1024, .f32⟩
  | 58 => ⟨S1x1x1024, .f32⟩
  | 59 => ⟨S4x2064x1024, .f32⟩
  | 60 => ⟨S4x2064x1024, .f32⟩
  | 61 => ⟨S4x2064x1024, .f32⟩
  | 62 => ⟨S4x2064x1024, .f32⟩
  | 63 => ⟨S1x1024, .f32⟩
  | 64 => ⟨S1024, .f32⟩
  | 65 => ⟨S1x1x1024, .f32⟩
  | 66 => ⟨S4x2064x1024, .f32⟩
  | 67 => ⟨S4x2064x1024, .f32⟩
  | 68 => ⟨S4x2064x1024, .f32⟩
  | 69 => ⟨S4x2064x1024, .f32⟩
  | 70 => ⟨S1x1024, .f32⟩
  | 71 => ⟨S1024, .f32⟩
  | 72 => ⟨S1x1x1024, .f32⟩
  | 73 => ⟨S4x2064x1024, .f32⟩
  | 74 => ⟨S4x2064x1024, .f32⟩
  | 75 => ⟨S4x2064x1024, .f32⟩
  | 76 => ⟨S4x2064x1024, .f32⟩
  | 77 => ⟨S1x1024, .f32⟩
  | 78 => ⟨S1024, .f32⟩
  | 79 => ⟨S1x1x1024, .f32⟩
  | 80 => ⟨S4x2064x1024, .f32⟩
  | 81 => ⟨S4x2064x1024, .f32⟩
  | 82 => ⟨S4x2064x1024, .f32⟩
  | 83 => ⟨S4x2064x1024, .f32⟩
  | 84 => ⟨S1x1024, .f32⟩
  | 85 => ⟨S1024, .f32⟩
  | 86 => ⟨S1x1x1024, .f32⟩
  | 87 => ⟨S4x2064x1024, .f32⟩
  | 88 => ⟨S4x2064x1024, .f32⟩
  | 89 => ⟨S4x2064x1024, .f32⟩
  | 90 => ⟨S4x2064x1024, .f32⟩
  | 91 => ⟨S1x1024, .f32⟩
  | 92 => ⟨S1024, .f32⟩
  | 93 => ⟨S1x1x1024, .f32⟩
  | 94 => ⟨S4x2064x1024, .f32⟩
  | 95 => ⟨S4x2064x1024, .f32⟩
  | 96 => ⟨S4x2064x1024, .f32⟩
  | 97 => ⟨S4x2064x1024, .f32⟩
  | 98 => ⟨S1x1024, .f32⟩
  | 99 => ⟨S1024, .f32⟩
  | 100 => ⟨S1x1x1024, .f32⟩
  | 101 => ⟨S4x2064x1024, .f32⟩
  | 102 => ⟨S4x2064x1024, .f32⟩
  | 103 => ⟨S4x2064x1024, .f32⟩
  | 104 => ⟨S4x2064x1024, .f32⟩
  | 105 => ⟨S1x1024, .f32⟩
  | 106 => ⟨S1024, .f32⟩
  | 107 => ⟨S1x1x1024, .f32⟩
  | 108 => ⟨S4x2064x1024, .f32⟩
  | 109 => ⟨S4x2064x1024, .f32⟩
  | 110 => ⟨S4x2064x1024, .f32⟩
  | 111 => ⟨S4x2064x1024, .f32⟩
  | 112 => ⟨S1x1024, .f32⟩
  | 113 => ⟨S1024, .f32⟩
  | 114 => ⟨S1x1x1024, .f32⟩
  | 115 => ⟨S4x2064x1024, .f32⟩
  | 116 => ⟨S4x2064x1024, .f32⟩
  | 117 => ⟨S4x2064x1024, .f32⟩
  | 118 => ⟨S4x2064x1024, .f32⟩
  | 119 => ⟨S1x1024, .f32⟩
  | 120 => ⟨S1024, .f32⟩
  | 121 => ⟨S1x1x1024, .f32⟩
  | 122 => ⟨S4x2064x1024, .f32⟩
  | 123 => ⟨S4x2064x1024, .f32⟩
  | 124 => ⟨S4x2064x1024, .f32⟩
  | 125 => ⟨S4x2064x1024, .f32⟩
  | 126 => ⟨S1x1024, .f32⟩
  | 127 => ⟨S1024, .f32⟩
  | _ => ⟨S4x2048x2048, .f32⟩

abbrev hbmTy0_2 (i : Nat) : BufTy := match i % 128 with
  | 0 => ⟨S1x1x1024, .f32⟩
  | 1 => ⟨S4x2064x1024, .f32⟩
  | 2 => ⟨S4x2064x1024, .f32⟩
  | 3 => ⟨S4x2064x1024, .f32⟩
  | 4 => ⟨S4x2064x1024, .f32⟩
  | 5 => ⟨S1x1024, .f32⟩
  | 6 => ⟨S1024, .f32⟩
  | 7 => ⟨S1x1x1024, .f32⟩
  | 8 => ⟨S4x2064x1024, .f32⟩
  | 9 => ⟨S4x2064x1024, .f32⟩
  | 10 => ⟨S4x2064x1024, .f32⟩
  | 11 => ⟨S4x2064x1024, .f32⟩
  | 12 => ⟨S1x1024, .f32⟩
  | 13 => ⟨S1024, .f32⟩
  | 14 => ⟨S1x1x1024, .f32⟩
  | 15 => ⟨S4x2064x1024, .f32⟩
  | 16 => ⟨S4x2064x1024, .f32⟩
  | 17 => ⟨S4x2064x1024, .f32⟩
  | 18 => ⟨S4x2064x1024, .f32⟩
  | 19 => ⟨S1x1024, .f32⟩
  | 20 => ⟨S1024, .f32⟩
  | 21 => ⟨S1x1x1024, .f32⟩
  | 22 => ⟨S4x2064x1024, .f32⟩
  | 23 => ⟨S4x2064x1024, .f32⟩
  | 24 => ⟨S4x2064x1024, .f32⟩
  | 25 => ⟨S4x2064x1024, .f32⟩
  | 26 => ⟨S1x1024, .f32⟩
  | 27 => ⟨S1024, .f32⟩
  | 28 => ⟨S1x1x1024, .f32⟩
  | 29 => ⟨S4x2064x1024, .f32⟩
  | 30 => ⟨S4x2064x1024, .f32⟩
  | 31 => ⟨S4x2064x1024, .f32⟩
  | 32 => ⟨S4x2064x1024, .f32⟩
  | 33 => ⟨S1x1024, .f32⟩
  | 34 => ⟨S1024, .f32⟩
  | 35 => ⟨S1x1x1024, .f32⟩
  | 36 => ⟨S4x2064x1024, .f32⟩
  | 37 => ⟨S4x2064x1024, .f32⟩
  | 38 => ⟨S4x2064x1024, .f32⟩
  | 39 => ⟨S4x30x1024, .f32⟩
  | 40 => ⟨S1x1x1024, .f32⟩
  | 41 => ⟨S4x2064x1024, .f32⟩
  | 42 => ⟨S4x2064x1024, .f32⟩
  | 43 => ⟨S_, .f32⟩
  | 44 => ⟨S4x2064, .f32⟩
  | 45 => ⟨S4x2064x1, .f32⟩
  | 46 => ⟨S_, .f32⟩
  | 47 => ⟨S4x2064x1, .f32⟩
  | 48 => ⟨S4x2064x1, .f32⟩
  | 49 => ⟨S4x2064x1024, .f32⟩
  | 50 => ⟨S4x2064x1024, .f32⟩
  | 51 => ⟨S4x2064x1024, .f32⟩
  | 52 => ⟨S_, .f32⟩
  | 53 => ⟨S4x2064, .f32⟩
  | 54 => ⟨S4x2064x1, .f32⟩
  | 55 => ⟨S_, .f32⟩
  | 56 => ⟨S4x2064x1, .f32⟩
  | 57 => ⟨S4x2064x1, .f32⟩
  | 58 => ⟨S4x2064x1024, .f32⟩
  | 59 => ⟨S4x2064x1024, .f32⟩
  | 60 => ⟨S_, .f32⟩
  | 61 => ⟨S4x2064x1, .f32⟩
  | 62 => ⟨S4x2064x1, .f32⟩
  | 63 => ⟨S4x2064x1, .f32⟩
  | 64 => ⟨S4x2064x1024, .f32⟩
  | 65 => ⟨S4x2064x1024, .f32⟩
  | 66 => ⟨S1x1x1024, .f32⟩
  | 67 => ⟨S4x2064x1024, .f32⟩
  | 68 => ⟨S4x2064x1024, .f32⟩
  | 69 => ⟨S1x1x1024, .f32⟩
  | 70 => ⟨S4x2064x1024, .f32⟩
  | 71 => ⟨S4x2064x1024, .f32⟩
  | 72 => ⟨S4x2064x1024, .f32⟩
  | 73 => ⟨S4x2064x1024, .f32⟩
  | 74 => ⟨S_, .f32⟩
  | 75 => ⟨S4x2064x1024, .f32⟩
  | 76 => ⟨S4x2064x1024, .f32⟩
  | 77 => ⟨S_, .f32⟩
  | 78 => ⟨S4x2064x1024, .f32⟩
  | 79 => ⟨S4x2064x1024, .f32⟩
  | 80 => ⟨S4x2064x1024, .f32⟩
  | 81 => ⟨S4x2064x2048, .f32⟩
  | 82 => ⟨S4x2048x2048, .f32⟩
  | 83 => ⟨S8192x2048, .f32⟩
  | 84 => ⟨S8192x2048, .bf16⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_cst_6 : Ref sig .tc := ⟨.hbm, 299, rfl⟩
abbrev main_v283 : Ref sig .tc := ⟨.hbm, 300, rfl⟩
abbrev main_v284 : Ref sig .tc := ⟨.hbm, 301, rfl⟩
abbrev main_cst_7 : Ref sig .tc := ⟨.hbm, 302, rfl⟩
abbrev main_v285 : Ref sig .tc := ⟨.hbm, 303, rfl⟩
abbrev main_v286 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_cst_8 : Ref sig .tc := ⟨.hbm, 308, rfl⟩
abbrev main_v290 : Ref sig .tc := ⟨.hbm, 309, rfl⟩
abbrev main_v291 : Ref sig .tc := ⟨.hbm, 310, rfl⟩
abbrev main_cst_9 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_cst_10 : Ref sig .tc := ⟨.hbm, 316, rfl⟩
abbrev main_v296 : Ref sig .tc := ⟨.hbm, 317, rfl⟩
abbrev main_v297 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_cst_11 : Ref sig .tc := ⟨.hbm, 330, rfl⟩
abbrev main_v309 : Ref sig .tc := ⟨.hbm, 331, rfl⟩
abbrev main_v310 : Ref sig .tc := ⟨.hbm, 332, rfl⟩
abbrev main_cst_12 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_v317 : Ref sig .tc := ⟨.hbm, 340, rfl⟩

abbrev nD : Nat := 1
abbrev τ : Topo := Topo.v7x

variable {F : FTy → Type} [FloatOps F]
-- ==== KernelUp.lean ====
abbrev S99 : Shape := ⟨1, ![99]⟩
abbrev S405504x128 : Shape := ⟨2, ![405504, 128]⟩
abbrev S1x32x2048x4096 : Shape := ⟨4, ![1, 32, 2048, 4096]⟩
abbrev S1x32x4096 : Shape := ⟨3, ![1, 32, 4096]⟩
abbrev S32x2048x4096 : Shape := ⟨3, ![32, 2048, 4096]⟩
abbrev S32x4096 : Shape := ⟨2, ![32, 4096]⟩
abbrev S32x1x4096 : Shape := ⟨3, ![32, 1, 4096]⟩
abbrev S50688x2048 : Shape := ⟨2, ![50688, 2048]⟩
abbrev S4096x128 : Shape := ⟨2, ![4096, 128]⟩
abbrev S1 : Shape := ⟨1, ![1]⟩
abbrev S1x1x1024 : Shape := ⟨3, ![1, 1, 1024]⟩
abbrev S512x1024 : Shape := ⟨2, ![512, 1024]⟩
abbrev S2x2x2048x1024 : Shape := ⟨4, ![2, 2, 2048, 1024]⟩
abbrev S2 : Shape := ⟨1, ![2]⟩
abbrev S_ : Shape := ⟨0, ![]⟩
abbrev S1x1x2048x1024 : Shape := ⟨4, ![1, 1, 2048, 1024]⟩
abbrev S2048x1024 : Shape := ⟨2, ![2048, 1024]⟩
abbrev S1x2048x1024 : Shape := ⟨3, ![1, 2048, 1024]⟩
abbrev S128x128 : Shape := ⟨2, ![128, 128]⟩
abbrev S128x2048 : Shape := ⟨2, ![128, 2048]⟩
abbrev S128x1024 : Shape := ⟨2, ![128, 1024]⟩
abbrev S1x1024 : Shape := ⟨2, ![1, 1024]⟩
abbrev S384x1024 : Shape := ⟨2, ![384, 1024]⟩
abbrev S256x128 : Shape := ⟨2, ![256, 128]⟩
abbrev S256x2048 : Shape := ⟨2, ![256, 2048]⟩
abbrev S256x1024 : Shape := ⟨2, ![256, 1024]⟩
abbrev S384x128 : Shape := ⟨2, ![384, 128]⟩
abbrev S384x2048 : Shape := ⟨2, ![384, 2048]⟩
abbrev S512x128 : Shape := ⟨2, ![512, 128]⟩
abbrev S512x2048 : Shape := ⟨2, ![512, 2048]⟩

abbrev nBuf : Space → Nat
  | .hbm => 7
  | .vmem => 9
  | .smem => 6
  | _ => 0

abbrev bufTy : (tb : Table) → Fin (tcTables nBuf tb) → BufTy
  | .hbm, ⟨0, _⟩ => ⟨S405504x128, .i32⟩
  | .hbm, ⟨1, _⟩ => ⟨S1x32x2048x4096, .f32⟩
  | .hbm, ⟨2, _⟩ => ⟨S1x32x4096, .f32⟩
  | .hbm, ⟨3, _⟩ => ⟨S32x2048x4096, .f32⟩
  | .hbm, ⟨4, _⟩ => ⟨S32x4096, .f32⟩
  | .hbm, ⟨5, _⟩ => ⟨S32x1x4096, .f32⟩
  | .hbm, ⟨6, _⟩ => ⟨S50688x2048, .bf16⟩
  | .local _ .vmem, ⟨0, _⟩ => ⟨S4096x128, .i32⟩
  | .local _ .vmem, ⟨1, _⟩ => ⟨S4096x128, .i32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S2x2x2048x1024, .f32⟩
  | .local _ .smem, ⟨0, _⟩ => ⟨S99, .i32⟩
  | .local _ .smem, ⟨1, _⟩ => ⟨S99, .i32⟩
  | .local _ .smem, ⟨2, _⟩ => ⟨S99, .i32⟩
  | .local _ .smem, ⟨3, _⟩ => ⟨S99, .i32⟩
  | .local _ .smem, ⟨4, _⟩ => ⟨S99, .i32⟩
  | .local _ .smem, ⟨5, _⟩ => ⟨S1, .i32⟩
  | _, _ => ⟨S405504x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 99], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg0 : BitVec 32 := BitVec.ofNat 32 (i 0).val
  let c0_i32_11 : BitVec 32 := 0#32
  let v33 : BitVec 1 := Scalar.cmpi .eq arg0 c0_i32_11
  let arg1 : BitVec 32 := BitVec.ofNat 32 (i 1).val
  let c0_i32_12 : BitVec 32 := 0#32
  let v34 : BitVec 1 := Scalar.cmpi .eq arg1 c0_i32_12
  let v35 : BitVec 1 := Scalar.andi v33 v34
  let v36 : BitVec 32 := Scalar.extui v35
  let c0_i32_13 : BitVec 32 := 0#32
  let v37 : BitVec 1 := Scalar.cmpi .ne v36 c0_i32_13
  v37

def k0_off2 (i : grid0.Coords) : Fin 1 → Nat :=
  let arg1 : BitVec 32 := BitVec.ofNat 32 (i 1).val
  let v73 : Index := Scalar.indexCast arg1
  ![v73.toNat]
def k0_mult1 (i : grid0.Coords) : BitVec 32 :=
  let arg0 : BitVec 32 := BitVec.ofNat 32 (i 0).val
  let c1024_i32_31 : BitVec 32 := 1024#32
  let v75 : BitVec 32 := Scalar.muli arg0 c1024_i32_31
  v75
def k0_mult2 (i : grid0.Coords) : BitVec 32 :=
  let c2048_i32_33 : BitVec 32 := 2048#32
  let arg0 : BitVec 32 := BitVec.ofNat 32 (i 0).val
  let c1024_i32_32 : BitVec 32 := 1024#32
  let v77 : BitVec 32 := Scalar.muli arg0 c1024_i32_32
  let v78 : BitVec 32 := Scalar.addi c2048_i32_33 v77
  v78
def k0_off3 (i : grid0.Coords) (v74 : BitVec 32) : Fin 3 → Nat :=
  let c0_i32_39 : BitVec 32 := 0#32
  let arg0 : BitVec 32 := BitVec.ofNat 32 (i 0).val
  let c1024_i32_31 : BitVec 32 := 1024#32
  let v75 : BitVec 32 := Scalar.muli arg0 c1024_i32_31
  let v76 : BitVec 32 := v75
  ![v74.toNat, 0, v76.toNat]
def k0_cond1 (v3 : BitVec 32) : BitVec 1 :=
  let c1_i32 : BitVec 32 := 1#32
  let v4 : BitVec 32 := Scalar.andi v3 c1_i32
  let c0_i32 : BitVec 32 := 0#32
  let v5 : BitVec 1 := Scalar.cmpi .ne v4 c0_i32
  let v6 : BitVec 32 := Scalar.extui v5
  let c0_i32_0 : BitVec 32 := 0#32
  let v7 : BitVec 1 := Scalar.cmpi .ne v6 c0_i32_0
  v7

def k0_off4 (i : grid0.Coords) (v74 : BitVec 32) : Fin 3 → Nat :=
  let c0_i32_45 : BitVec 32 := 0#32
  let c2048_i32_33 : BitVec 32 := 2048#32
  let arg0 : BitVec 32 := BitVec.ofNat 32 (i 0).val
  let c1024_i32_32 : BitVec 32 := 1024#32
  let v77 : BitVec 32 := Scalar.muli arg0 c1024_i32_32
  let v78 : BitVec 32 := Scalar.addi c2048_i32_33 v77
  let v79 : BitVec 32 := v78
  ![v74.toNat, 0, v79.toNat]

def k0_chk1 (i : grid0.Coords) (v3 : BitVec 32) (v74 : BitVec 32) : Prop :=
  (∀ (k0_h1 : k0_cond1 v3 = 1#1), ∀ (k0_h2 : k0_cond2 i = 1#1), ∀ a, (k0_off3 i v74) a + S1x2048x1024.size a ≤ S32x2048x4096.size a) ∧
  (∀ (k0_h1 : k0_cond1 v3 = 1#1), ∀ (k0_h2 : k0_cond2 i = 1#1), ∀ a, (k0_off4 i v74) a + S1x2048x1024.size a ≤ S32x2048x4096.size a)
theorem k0_off3_inb : ∀ (i : grid0.Coords) (v3 : BitVec 32) (v74 : BitVec 32) (k0_hw1 : k0_chk1 i v3 v74), ∀ (k0_h1 : k0_cond1 v3 = 1#1), ∀ (k0_h2 : k0_cond2 i = 1#1), ∀ a, (k0_off3 i v74) a + S1x2048x1024.size a ≤ S32x2048x4096.size a := fun i v3 v74 k0_hw1 k0_h1 k0_h2 => k0_hw1.1 k0_h1 k0_h2
theorem k0_off4_inb : ∀ (i : grid0.Coords) (v3 : BitVec 32) (v74 : BitVec 32) (k0_hw1 : k0_chk1 i v3 v74), ∀ (k0_h1 : k0_cond1 v3 = 1#1), ∀ (k0_h2 : k0_cond2 i = 1#1), ∀ a, (k0_off4 i v74) a + S1x2048x1024.size a ≤ S32x2048x4096.size a := fun i v3 v74 k0_hw1 k0_h1 k0_h2 => k0_hw1.2 k0_h1 k0_h2

def k0_off5 (i : grid0.Coords) : Fin 1 → Nat :=
  let arg1 : BitVec 32 := BitVec.ofNat 32 (i 1).val
  let v42 : Index := Scalar.indexCast arg1
  ![v42.toNat]
def k0_mult3 (i : grid0.Coords) : BitVec 32 :=
  let arg0 : BitVec 32 := BitVec.ofNat 32 (i 0).val
  let c1024_i32 : BitVec 32 := 1024#32
  let v44 : BitVec 32 := Scalar.muli arg0 c1024_i32
  v44
def k0_mult4 (i : grid0.Coords) : BitVec 32 :=
  let c2048_i32 : BitVec 32 := 2048#32
  let arg0 : BitVec 32 := BitVec.ofNat 32 (i 0).val
  let c1024_i32_15 : BitVec 32 := 1024#32
  let v46 : BitVec 32 := Scalar.muli arg0 c1024_i32_15
  let v47 : BitVec 32 := Scalar.addi c2048_i32 v46
  v47
def k0_off6 (v41 : BitVec 32) : Fin 1 → Nat :=
  ![v41.toNat]

def k0_off7 (v41 : BitVec 32) : Fin 4 → Nat :=
  let c0_i32_16 : BitVec 32 := 0#32
  let c0_i32_17 : BitVec 32 := 0#32
  let c0_i32_18 : BitVec 32 := 0#32
  ![v41.toNat, 0, 0, 0]
def k0_off8 (i : grid0.Coords) (v43 : BitVec 32) : Fin 3 → Nat :=
  let c0_i32_19 : BitVec 32 := 0#32
  let arg0 : BitVec 32 := BitVec.ofNat 32 (i 0).val
  let c1024_i32 : BitVec 32 := 1024#32
  let v44 : BitVec 32 := Scalar.muli arg0 c1024_i32
  let v45 : BitVec 32 := v44
  ![v43.toNat, 0, v45.toNat]

def k0_off9 (v41 : BitVec 32) : Fin 1 → Nat :=
  ![v41.toNat]
def k0_off10 (v41 : BitVec 32) : Fin 4 → Nat :=
  let c1_i32_20 : BitVec 32 := 1#32
  let c0_i32_21 : BitVec 32 := 0#32
  let c0_i32_22 : BitVec 32 := 0#32
  ![v41.toNat, 1, 0, 0]

def k0_chk2 (v3 : BitVec 32) (v41 : BitVec 32) : Prop :=
  (∀ (k0_h1 : k0_cond1 v3 = 1#1), ∀ a, (k0_off6 v41) a + S1.size a ≤ S2.size a) ∧
  (∀ (k0_h1 : k0_cond1 v3 = 1#1), ∀ a, (k0_off7 v41) a + S1x1x2048x1024.size a ≤ S2x2x2048x1024.size a) ∧
  (∀ (k0_h1 : k0_cond1 v3 = 1#1), ∀ a, (k0_off9 v41) a + S1.size a ≤ S2.size a) ∧
  (∀ (k0_h1 : k0_cond1 v3 = 1#1), ∀ a, (k0_off10 v41) a + S1x1x2048x1024.size a ≤ S2x2x2048x1024.size a)
theorem k0_off6_inb : ∀ (v3 : BitVec 32) (v41 : BitVec 32) (k0_hw2 : k0_chk2 v3 v41), ∀ (k0_h1 : k0_cond1 v3 = 1#1), ∀ a, (k0_off6 v41) a + S1.size a ≤ S2.size a := fun v3 v41 k0_hw2 k0_h1 => k0_hw2.1 k0_h1
theorem k0_off7_inb : ∀ (v3 : BitVec 32) (v41 : BitVec 32) (k0_hw2 : k0_chk2 v3 v41), ∀ (k0_h1 : k0_cond1 v3 = 1#1), ∀ a, (k0_off7 v41) a + S1x1x2048x1024.size a ≤ S2x2x2048x1024.size a := fun v3 v41 k0_hw2 k0_h1 => k0_hw2.2.1 k0_h1
theorem k0_off9_inb : ∀ (v3 : BitVec 32) (v41 : BitVec 32) (k0_hw2 : k0_chk2 v3 v41), ∀ (k0_h1 : k0_cond1 v3 = 1#1), ∀ a, (k0_off9 v41) a + S1.size a ≤ S2.size a := fun v3 v41 k0_hw2 k0_h1 => k0_hw2.2.2.1 k0_h1
theorem k0_off10_inb : ∀ (v3 : BitVec 32) (v41 : BitVec 32) (k0_hw2 : k0_chk2 v3 v41), ∀ (k0_h1 : k0_cond1 v3 = 1#1), ∀ a, (k0_off10 v41) a + S1x1x2048x1024.size a ≤ S2x2x2048x1024.size a := fun v3 v41 k0_hw2 k0_h1 => k0_hw2.2.2.2 k0_h1

def k0_off11 (i : grid0.Coords) (v43 : BitVec 32) : Fin 3 → Nat :=
  let c0_i32_23 : BitVec 32 := 0#32
  let c2048_i32 : BitVec 32 := 2048#32
  let arg0 : BitVec 32 := BitVec.ofNat 32 (i 0).val
  let c1024_i32_15 : BitVec 32 := 1024#32
  let v46 : BitVec 32 := Scalar.muli arg0 c1024_i32_15
  let v47 : BitVec 32 := Scalar.addi c2048_i32 v46
  let v48 : BitVec 32 := v47
  ![v43.toNat, 0, v48.toNat]

def k0_chk3 (i : grid0.Coords) (v3 : BitVec 32) (v43 : BitVec 32) : Prop :=
  (∀ (k0_h1 : k0_cond1 v3 = 1#1), ∀ a, (k0_off8 i v43) a + S1x2048x1024.size a ≤ S32x2048x4096.size a) ∧
  (∀ (k0_h1 : k0_cond1 v3 = 1#1), ∀ a, (k0_off11 i v43) a + S1x2048x1024.size a ≤ S32x2048x4096.size a)
theorem k0_off8_inb : ∀ (i : grid0.Coords) (v3 : BitVec 32) (v43 : BitVec 32) (k0_hw3 : k0_chk3 i v3 v43), ∀ (k0_h1 : k0_cond1 v3 = 1#1), ∀ a, (k0_off8 i v43) a + S1x2048x1024.size a ≤ S32x2048x4096.size a := fun i v3 v43 k0_hw3 k0_h1 => k0_hw3.1 k0_h1
theorem k0_off11_inb : ∀ (i : grid0.Coords) (v3 : BitVec 32) (v43 : BitVec 32) (k0_hw3 : k0_chk3 i v3 v43), ∀ (k0_h1 : k0_cond1 v3 = 1#1), ∀ a, (k0_off11 i v43) a + S1x2048x1024.size a ≤ S32x2048x4096.size a := fun i v3 v43 k0_hw3 k0_h1 => k0_hw3.2 k0_h1

def k0_off12 (i : grid0.Coords) : Fin 1 → Nat :=
  let arg1 : BitVec 32 := BitVec.ofNat 32 (i 1).val
  let v61 : Index := Scalar.indexCast arg1
  ![v61.toNat]
def k0_mult5 (i : grid0.Coords) : BitVec 32 :=
  let arg0 : BitVec 32 := BitVec.ofNat 32 (i 0).val
  let c1024_i32_30 : BitVec 32 := 1024#32
  let v73 : BitVec 32 := Scalar.muli arg0 c1024_i32_30
  v73
def k0_mult6 (i : grid0.Coords) : BitVec 32 :=
  let c2048_i32_32 : BitVec 32 := 2048#32
  let arg0 : BitVec 32 := BitVec.ofNat 32 (i 0).val
  let c1024_i32_31 : BitVec 32 := 1024#32
  let v75 : BitVec 32 := Scalar.muli arg0 c1024_i32_31
  let v76 : BitVec 32 := Scalar.addi c2048_i32_32 v75
  v76
def k0_off13 (v41 : BitVec 32) : Fin 1 → Nat :=
  let c1_i32_29 : BitVec 32 := 1#32
  let v72 : BitVec 32 := Scalar.subi c1_i32_29 v41
  ![v72.toNat]
def k0_cond4 (v62 : BitVec 32) : BitVec 1 :=
  let c0_i32_24 : BitVec 32 := 0#32
  let v63 : BitVec 1 := Scalar.cmpi .sge v62 c0_i32_24
  let v64 : BitVec 32 := Scalar.extui v63
  let c0_i32_25 : BitVec 32 := 0#32
  let v65 : BitVec 1 := Scalar.cmpi .ne v64 c0_i32_25
  v65

def k0_off14 (v41 : BitVec 32) : Fin 4 → Nat :=
  let c1_i32_29 : BitVec 32 := 1#32
  let v72 : BitVec 32 := Scalar.subi c1_i32_29 v41
  let c0_i32_33 : BitVec 32 := 0#32
  let c0_i32_34 : BitVec 32 := 0#32
  let c0_i32_35 : BitVec 32 := 0#32
  ![v72.toNat, 0, 0, 0]
def k0_off15 (i : grid0.Coords) (v62 : BitVec 32) : Fin 3 → Nat :=
  let c0_i32_36 : BitVec 32 := 0#32
  let arg0 : BitVec 32 := BitVec.ofNat 32 (i 0).val
  let c1024_i32_30 : BitVec 32 := 1024#32
  let v73 : BitVec 32 := Scalar.muli arg0 c1024_i32_30
  let v74 : BitVec 32 := v73
  ![v62.toNat, 0, v74.toNat]
def k0_off16 (v41 : BitVec 32) : Fin 4 → Nat :=
  let c1_i32_29 : BitVec 32 := 1#32
  let v72 : BitVec 32 := Scalar.subi c1_i32_29 v41
  let c1_i32_37 : BitVec 32 := 1#32
  let c0_i32_38 : BitVec 32 := 0#32
  let c0_i32_39 : BitVec 32 := 0#32
  ![v72.toNat, 1, 0, 0]
def k0_off17 (i : grid0.Coords) (v62 : BitVec 32) : Fin 3 → Nat :=
  let c0_i32_40 : BitVec 32 := 0#32
  let c2048_i32_32 : BitVec 32 := 2048#32
  let arg0 : BitVec 32 := BitVec.ofNat 32 (i 0).val
  let c1024_i32_31 : BitVec 32 := 1024#32
  let v75 : BitVec 32 := Scalar.muli arg0 c1024_i32_31
  let v76 : BitVec 32 := Scalar.addi c2048_i32_32 v75
  let v77 : BitVec 32 := v76
  ![v62.toNat, 0, v77.toNat]
def k0_mult7 (i : grid0.Coords) : BitVec 32 :=
  let arg0 : BitVec 32 := BitVec.ofNat 32 (i 0).val
  let c1_i32_30 : BitVec 32 := 1#32
  let v73 : BitVec 32 := Scalar.addi arg0 c1_i32_30
  let c1024_i32_32 : BitVec 32 := 1024#32
  let v75 : BitVec 32 := Scalar.muli v73 c1024_i32_32
  v75
def k0_mult8 (i : grid0.Coords) : BitVec 32 :=
  let c2048_i32_34 : BitVec 32 := 2048#32
  let arg0 : BitVec 32 := BitVec.ofNat 32 (i 0).val
  let c1_i32_30 : BitVec 32 := 1#32
  let v73 : BitVec 32 := Scalar.addi arg0 c1_i32_30
  let c1024_i32_33 : BitVec 32 := 1024#32
  let v77 : BitVec 32 := Scalar.muli v73 c1024_i32_33
  let v78 : BitVec 32 := Scalar.addi c2048_i32_34 v77
  v78
def k0_off18 (v41 : BitVec 32) : Fin 1 → Nat :=
  let c1_i32_31 : BitVec 32 := 1#32
  let v74 : BitVec 32 := Scalar.subi c1_i32_31 v41
  ![v74.toNat]
def k0_cond5 (i : grid0.Coords) (v62 : BitVec 32) : BitVec 1 :=
  let c0_i32_26 : BitVec 32 := 0#32
  let v66 : BitVec 1 := Scalar.cmpi .slt v62 c0_i32_26
  let arg0 : BitVec 32 := BitVec.ofNat 32 (i 0).val
  let c1_i32_27 : BitVec 32 := 1#32
  let v67 : BitVec 32 := Scalar.addi arg0 c1_i32_27
  let c2_i32 : BitVec 32 := 2#32
  let v68 : BitVec 1 := Scalar.cmpi .slt v67 c2_i32
  let v69 : BitVec 1 := Scalar.andi v66 v68
  let v70 : BitVec 32 := Scalar.extui v69
  let c0_i32_28 : BitVec 32 := 0#32
  let v71 : BitVec 1 := Scalar.cmpi .ne v70 c0_i32_28
  v71

def k0_off19 (v41 : BitVec 32) : Fin 4 → Nat :=
  let c1_i32_31 : BitVec 32 := 1#32
  let v74 : BitVec 32 := Scalar.subi c1_i32_31 v41
  let c0_i32_35 : BitVec 32 := 0#32
  let c0_i32_36 : BitVec 32 := 0#32
  let c0_i32_37 : BitVec 32 := 0#32
  ![v74.toNat, 0, 0, 0]
def k0_off20 (i : grid0.Coords) (v72 : BitVec 32) : Fin 3 → Nat :=
  let c0_i32_38 : BitVec 32 := 0#32
  let arg0 : BitVec 32 := BitVec.ofNat 32 (i 0).val
  let c1_i32_30 : BitVec 32 := 1#32
  let v73 : BitVec 32 := Scalar.addi arg0 c1_i32_30
  let c1024_i32_32 : BitVec 32 := 1024#32
  let v75 : BitVec 32 := Scalar.muli v73 c1024_i32_32
  let v76 : BitVec 32 := v75
  ![v72.toNat, 0, v76.toNat]

def k0_off21 (v41 : BitVec 32) : Fin 1 → Nat :=
  let c1_i32_31 : BitVec 32 := 1#32
  let v74 : BitVec 32 := Scalar.subi c1_i32_31 v41
  ![v74.toNat]
def k0_off22 (v41 : BitVec 32) : Fin 4 → Nat :=
  let c1_i32_31 : BitVec 32 := 1#32
  let v74 : BitVec 32 := Scalar.subi c1_i32_31 v41
  let c1_i32_39 : BitVec 32 := 1#32
  let c0_i32_40 : BitVec 32 := 0#32
  let c0_i32_41 : BitVec 32 := 0#32
  ![v74.toNat, 1, 0, 0]

def k0_chk4 (i : grid0.Coords) (v3 : BitVec 32) (v41 : BitVec 32) (v62 : BitVec 32) : Prop :=
  (∀ (k0_h1 : k0_cond1 v3 = 1#1), ∀ (k0_h4 : k0_cond4 v62 = 1#1), ∀ a, (k0_off13 v41) a + S1.size a ≤ S2.size a) ∧
  (∀ (k0_h1 : k0_cond1 v3 = 1#1), ∀ (k0_h4 : k0_cond4 v62 = 1#1), ∀ a, (k0_off14 v41) a + S1x1x2048x1024.size a ≤ S2x2x2048x1024.size a) ∧
  (∀ (k0_h1 : k0_cond1 v3 = 1#1), ∀ (k0_h4 : k0_cond4 v62 = 1#1), ∀ a, (k0_off15 i v62) a + S1x2048x1024.size a ≤ S32x2048x4096.size a) ∧
  (∀ (k0_h1 : k0_cond1 v3 = 1#1), ∀ (k0_h4 : k0_cond4 v62 = 1#1), ∀ a, (k0_off16 v41) a + S1x1x2048x1024.size a ≤ S2x2x2048x1024.size a) ∧
  (∀ (k0_h1 : k0_cond1 v3 = 1#1), ∀ (k0_h4 : k0_cond4 v62 = 1#1), ∀ a, (k0_off17 i v62) a + S1x2048x1024.size a ≤ S32x2048x4096.size a) ∧
  (∀ (k0_h1 : k0_cond1 v3 = 1#1), ∀ (k0_h5 : k0_cond5 i v62 = 1#1), ∀ a, (k0_off18 v41) a + S1.size a ≤ S2.size a) ∧
  (∀ (k0_h1 : k0_cond1 v3 = 1#1), ∀ (k0_h5 : k0_cond5 i v62 = 1#1), ∀ a, (k0_off19 v41) a + S1x1x2048x1024.size a ≤ S2x2x2048x1024.size a) ∧
  (∀ (k0_h1 : k0_cond1 v3 = 1#1), ∀ (k0_h5 : k0_cond5 i v62 = 1#1), ∀ a, (k0_off21 v41) a + S1.size a ≤ S2.size a) ∧
  (∀ (k0_h1 : k0_cond1 v3 = 1#1), ∀ (k0_h5 : k0_cond5 i v62 = 1#1), ∀ a, (k0_off22 v41) a + S1x1x2048x1024.size a ≤ S2x2x2048x1024.size a)
theorem k0_off13_inb : ∀ (i : grid0.Coords) (v3 : BitVec 32) (v41 : BitVec 32) (v62 : BitVec 32) (k0_hw4 : k0_chk4 i v3 v41 v62), ∀ (k0_h1 : k0_cond1 v3 = 1#1), ∀ (k0_h4 : k0_cond4 v62 = 1#1), ∀ a, (k0_off13 v41) a + S1.size a ≤ S2.size a := fun i v3 v41 v62 k0_hw4 k0_h1 k0_h4 => k0_hw4.1 k0_h1 k0_h4
theorem k0_off14_inb : ∀ (i : grid0.Coords) (v3 : BitVec 32) (v41 : BitVec 32) (v62 : BitVec 32) (k0_hw4 : k0_chk4 i v3 v41 v62), ∀ (k0_h1 : k0_cond1 v3 = 1#1), ∀ (k0_h4 : k0_cond4 v62 = 1#1), ∀ a, (k0_off14 v41) a + S1x1x2048x1024.size a ≤ S2x2x2048x1024.size a := fun i v3 v41 v62 k0_hw4 k0_h1 k0_h4 => k0_hw4.2.1 k0_h1 k0_h4
theorem k0_off15_inb : ∀ (i : grid0.Coords) (v3 : BitVec 32) (v41 : BitVec 32) (v62 : BitVec 32) (k0_hw4 : k0_chk4 i v3 v41 v62), ∀ (k0_h1 : k0_cond1 v3 = 1#1), ∀ (k0_h4 : k0_cond4 v62 = 1#1), ∀ a, (k0_off15 i v62) a + S1x2048x1024.size a ≤ S32x2048x4096.size a := fun i v3 v41 v62 k0_hw4 k0_h1 k0_h4 => k0_hw4.2.2.1 k0_h1 k0_h4
theorem k0_off16_inb : ∀ (i : grid0.Coords) (v3 : BitVec 32) (v41 : BitVec 32) (v62 : BitVec 32) (k0_hw4 : k0_chk4 i v3 v41 v62), ∀ (k0_h1 : k0_cond1 v3 = 1#1), ∀ (k0_h4 : k0_cond4 v62 = 1#1), ∀ a, (k0_off16 v41) a + S1x1x2048x1024.size a ≤ S2x2x2048x1024.size a := fun i v3 v41 v62 k0_hw4 k0_h1 k0_h4 => k0_hw4.2.2.2.1 k0_h1 k0_h4
theorem k0_off17_inb : ∀ (i : grid0.Coords) (v3 : BitVec 32) (v41 : BitVec 32) (v62 : BitVec 32) (k0_hw4 : k0_chk4 i v3 v41 v62), ∀ (k0_h1 : k0_cond1 v3 = 1#1), ∀ (k0_h4 : k0_cond4 v62 = 1#1), ∀ a, (k0_off17 i v62) a + S1x2048x1024.size a ≤ S32x2048x4096.size a := fun i v3 v41 v62 k0_hw4 k0_h1 k0_h4 => k0_hw4.2.2.2.2.1 k0_h1 k0_h4
theorem k0_off18_inb : ∀ (i : grid0.Coords) (v3 : BitVec 32) (v41 : BitVec 32) (v62 : BitVec 32) (k0_hw4 : k0_chk4 i v3 v41 v62), ∀ (k0_h1 : k0_cond1 v3 = 1#1), ∀ (k0_h5 : k0_cond5 i v62 = 1#1), ∀ a, (k0_off18 v41) a + S1.size a ≤ S2.size a := fun i v3 v41 v62 k0_hw4 k0_h1 k0_h5 => k0_hw4.2.2.2.2.2.1 k0_h1 k0_h5
theorem k0_off19_inb : ∀ (i : grid0.Coords) (v3 : BitVec 32) (v41 : BitVec 32) (v62 : BitVec 32) (k0_hw4 : k0_chk4 i v3 v41 v62), ∀ (k0_h1 : k0_cond1 v3 = 1#1), ∀ (k0_h5 : k0_cond5 i v62 = 1#1), ∀ a, (k0_off19 v41) a + S1x1x2048x1024.size a ≤ S2x2x2048x1024.size a := fun i v3 v41 v62 k0_hw4 k0_h1 k0_h5 => k0_hw4.2.2.2.2.2.2.1 k0_h1 k0_h5
theorem k0_off21_inb : ∀ (i : grid0.Coords) (v3 : BitVec 32) (v41 : BitVec 32) (v62 : BitVec 32) (k0_hw4 : k0_chk4 i v3 v41 v62), ∀ (k0_h1 : k0_cond1 v3 = 1#1), ∀ (k0_h5 : k0_cond5 i v62 = 1#1), ∀ a, (k0_off21 v41) a + S1.size a ≤ S2.size a := fun i v3 v41 v62 k0_hw4 k0_h1 k0_h5 => k0_hw4.2.2.2.2.2.2.2.1 k0_h1 k0_h5
theorem k0_off22_inb : ∀ (i : grid0.Coords) (v3 : BitVec 32) (v41 : BitVec 32) (v62 : BitVec 32) (k0_hw4 : k0_chk4 i v3 v41 v62), ∀ (k0_h1 : k0_cond1 v3 = 1#1), ∀ (k0_h5 : k0_cond5 i v62 = 1#1), ∀ a, (k0_off22 v41) a + S1x1x2048x1024.size a ≤ S2x2x2048x1024.size a := fun i v3 v41 v62 k0_hw4 k0_h1 k0_h5 => k0_hw4.2.2.2.2.2.2.2.2 k0_h1 k0_h5

def k0_off23 (i : grid0.Coords) (v72 : BitVec 32) : Fin 3 → Nat :=
  let c0_i32_42 : BitVec 32 := 0#32
  let c2048_i32_34 : BitVec 32 := 2048#32
  let arg0 : BitVec 32 := BitVec.ofNat 32 (i 0).val
  let c1_i32_30 : BitVec 32 := 1#32
  let v73 : BitVec 32 := Scalar.addi arg0 c1_i32_30
  let c1024_i32_33 : BitVec 32 := 1024#32
  let v77 : BitVec 32 := Scalar.muli v73 c1024_i32_33
  let v78 : BitVec 32 := Scalar.addi c2048_i32_34 v77
  let v79 : BitVec 32 := v78
  ![v72.toNat, 0, v79.toNat]

def k0_chk5 (i : grid0.Coords) (v3 : BitVec 32) (v62 : BitVec 32) (v72 : BitVec 32) : Prop :=
  (∀ (k0_h1 : k0_cond1 v3 = 1#1), ∀ (k0_h5 : k0_cond5 i v62 = 1#1), ∀ a, (k0_off20 i v72) a + S1x2048x1024.size a ≤ S32x2048x4096.size a) ∧
  (∀ (k0_h1 : k0_cond1 v3 = 1#1), ∀ (k0_h5 : k0_cond5 i v62 = 1#1), ∀ a, (k0_off23 i v72) a + S1x2048x1024.size a ≤ S32x2048x4096.size a)
theorem k0_off20_inb : ∀ (i : grid0.Coords) (v3 : BitVec 32) (v62 : BitVec 32) (v72 : BitVec 32) (k0_hw5 : k0_chk5 i v3 v62 v72), ∀ (k0_h1 : k0_cond1 v3 = 1#1), ∀ (k0_h5 : k0_cond5 i v62 = 1#1), ∀ a, (k0_off20 i v72) a + S1x2048x1024.size a ≤ S32x2048x4096.size a := fun i v3 v62 v72 k0_hw5 k0_h1 k0_h5 => k0_hw5.1 k0_h1 k0_h5
theorem k0_off23_inb : ∀ (i : grid0.Coords) (v3 : BitVec 32) (v62 : BitVec 32) (v72 : BitVec 32) (k0_hw5 : k0_chk5 i v3 v62 v72), ∀ (k0_h1 : k0_cond1 v3 = 1#1), ∀ (k0_h5 : k0_cond5 i v62 = 1#1), ∀ a, (k0_off23 i v72) a + S1x2048x1024.size a ≤ S32x2048x4096.size a := fun i v3 v62 v72 k0_hw5 k0_h1 k0_h5 => k0_hw5.2 k0_h1 k0_h5

def k0_off24 (v33 : BitVec 32) : Fin 4 → Nat :=
  let v107 : Index := Scalar.indexCast v33
  let c0_34 : Index := 0#32
  let c0_35 : Index := 0#32
  let c0_36 : Index := 0#32
  ![v107.toNat, 0, 0, 0]
def k0_cond7 (v1 : BitVec 32) : BitVec 1 :=
  let c0_i32_3 : BitVec 32 := 0#32
  let v13 : BitVec 1 := Scalar.cmpi .sgt v1 c0_i32_3
  let c128_i32 : BitVec 32 := 128#32
  let v14 : BitVec 1 := Scalar.cmpi .sle v1 c128_i32
  let v15 : BitVec 1 := Scalar.andi v13 v14
  let v16 : BitVec 32 := Scalar.extui v15
  let c0_i32_4 : BitVec 32 := 0#32
  let v17 : BitVec 1 := Scalar.cmpi .ne v16 c0_i32_4
  v17

def k0_off25 (v33 : BitVec 32) : Fin 4 → Nat :=
  let v115 : Index := Scalar.indexCast v33
  let c1_40 : Index := 1#32
  let c0_41 : Index := 0#32
  let c0_42 : Index := 0#32
  ![v115.toNat, 1, 0, 0]

def k0_chk6 (v1 : BitVec 32) (v33 : BitVec 32) : Prop :=
  (∀ (k0_h7 : k0_cond7 v1 = 1#1), ∀ a, (k0_off24 v33) a + S1x1x2048x1024.size a ≤ S2x2x2048x1024.size a) ∧
  (∀ (k0_h7 : k0_cond7 v1 = 1#1), ∀ a, (k0_off25 v33) a + S1x1x2048x1024.size a ≤ S2x2x2048x1024.size a)
theorem k0_off24_inb : ∀ (v1 : BitVec 32) (v33 : BitVec 32) (k0_hw6 : k0_chk6 v1 v33), ∀ (k0_h7 : k0_cond7 v1 = 1#1), ∀ a, (k0_off24 v33) a + S1x1x2048x1024.size a ≤ S2x2x2048x1024.size a := fun v1 v33 k0_hw6 k0_h7 => k0_hw6.1 k0_h7
theorem k0_off25_inb : ∀ (v1 : BitVec 32) (v33 : BitVec 32) (k0_hw6 : k0_chk6 v1 v33), ∀ (k0_h7 : k0_cond7 v1 = 1#1), ∀ a, (k0_off25 v33) a + S1x1x2048x1024.size a ≤ S2x2x2048x1024.size a := fun v1 v33 k0_hw6 k0_h7 => k0_hw6.2 k0_h7

def k0_off26 (v33 : BitVec 32) : Fin 4 → Nat :=
  let v107 : Index := Scalar.indexCast v33
  let c0_34 : Index := 0#32
  let c0_35 : Index := 0#32
  let c0_36 : Index := 0#32
  ![v107.toNat, 0, 0, 0]
def k0_cond8 (v1 : BitVec 32) : BitVec 1 :=
  let c128_i32_5 : BitVec 32 := 128#32
  let v18 : BitVec 1 := Scalar.cmpi .sgt v1 c128_i32_5
  let c256_i32 : BitVec 32 := 256#32
  let v19 : BitVec 1 := Scalar.cmpi .sle v1 c256_i32
  let v20 : BitVec 1 := Scalar.andi v18 v19
  let v21 : BitVec 32 := Scalar.extui v20
  let c0_i32_6 : BitVec 32 := 0#32
  let v22 : BitVec 1 := Scalar.cmpi .ne v21 c0_i32_6
  v22

def k0_off27 (v33 : BitVec 32) : Fin 4 → Nat :=
  let v115 : Index := Scalar.indexCast v33
  let c1_40 : Index := 1#32
  let c0_41 : Index := 0#32
  let c0_42 : Index := 0#32
  ![v115.toNat, 1, 0, 0]

def k0_chk7 (v1 : BitVec 32) (v33 : BitVec 32) : Prop :=
  (∀ (k0_h8 : k0_cond8 v1 = 1#1), ∀ a, (k0_off26 v33) a + S1x1x2048x1024.size a ≤ S2x2x2048x1024.size a) ∧
  (∀ (k0_h8 : k0_cond8 v1 = 1#1), ∀ a, (k0_off27 v33) a + S1x1x2048x1024.size a ≤ S2x2x2048x1024.size a)
theorem k0_off26_inb : ∀ (v1 : BitVec 32) (v33 : BitVec 32) (k0_hw7 : k0_chk7 v1 v33), ∀ (k0_h8 : k0_cond8 v1 = 1#1), ∀ a, (k0_off26 v33) a + S1x1x2048x1024.size a ≤ S2x2x2048x1024.size a := fun v1 v33 k0_hw7 k0_h8 => k0_hw7.1 k0_h8
theorem k0_off27_inb : ∀ (v1 : BitVec 32) (v33 : BitVec 32) (k0_hw7 : k0_chk7 v1 v33), ∀ (k0_h8 : k0_cond8 v1 = 1#1), ∀ a, (k0_off27 v33) a + S1x1x2048x1024.size a ≤ S2x2x2048x1024.size a := fun v1 v33 k0_hw7 k0_h8 => k0_hw7.2 k0_h8

def k0_off28 (v33 : BitVec 32) : Fin 4 → Nat :=
  let v107 : Index := Scalar.indexCast v33
  let c0_34 : Index := 0#32
  let c0_35 : Index := 0#32
  let c0_36 : Index := 0#32
  ![v107.toNat, 0, 0, 0]
def k0_cond9 (v1 : BitVec 32) : BitVec 1 :=
  let c256_i32_7 : BitVec 32 := 256#32
  let v23 : BitVec 1 := Scalar.cmpi .sgt v1 c256_i32_7
  let c384_i32 : BitVec 32 := 384#32
  let v24 : BitVec 1 := Scalar.cmpi .sle v1 c384_i32
  let v25 : BitVec 1 := Scalar.andi v23 v24
  let v26 : BitVec 32 := Scalar.extui v25
  let c0_i32_8 : BitVec 32 := 0#32
  let v27 : BitVec 1 := Scalar.cmpi .ne v26 c0_i32_8
  v27

def k0_off29 (v33 : BitVec 32) : Fin 4 → Nat :=
  let v115 : Index := Scalar.indexCast v33
  let c1_40 : Index := 1#32
  let c0_41 : Index := 0#32
  let c0_42 : Index := 0#32
  ![v115.toNat, 1, 0, 0]

def k0_chk8 (v1 : BitVec 32) (v33 : BitVec 32) : Prop :=
  (∀ (k0_h9 : k0_cond9 v1 = 1#1), ∀ a, (k0_off28 v33) a + S1x1x2048x1024.size a ≤ S2x2x2048x1024.size a) ∧
  (∀ (k0_h9 : k0_cond9 v1 = 1#1), ∀ a, (k0_off29 v33) a + S1x1x2048x1024.size a ≤ S2x2x2048x1024.size a)
theorem k0_off28_inb : ∀ (v1 : BitVec 32) (v33 : BitVec 32) (k0_hw8 : k0_chk8 v1 v33), ∀ (k0_h9 : k0_cond9 v1 = 1#1), ∀ a, (k0_off28 v33) a + S1x1x2048x1024.size a ≤ S2x2x2048x1024.size a := fun v1 v33 k0_hw8 k0_h9 => k0_hw8.1 k0_h9
theorem k0_off29_inb : ∀ (v1 : BitVec 32) (v33 : BitVec 32) (k0_hw8 : k0_chk8 v1 v33), ∀ (k0_h9 : k0_cond9 v1 = 1#1), ∀ a, (k0_off29 v33) a + S1x1x2048x1024.size a ≤ S2x2x2048x1024.size a := fun v1 v33 k0_hw8 k0_h9 => k0_hw8.2 k0_h9

def k0_off30 (v33 : BitVec 32) : Fin 4 → Nat :=
  let v107 : Index := Scalar.indexCast v33
  let c0_34 : Index := 0#32
  let c0_35 : Index := 0#32
  let c0_36 : Index := 0#32
  ![v107.toNat, 0, 0, 0]
def k0_cond10 (v1 : BitVec 32) : BitVec 1 :=
  let c384_i32_9 : BitVec 32 := 384#32
  let v28 : BitVec 1 := Scalar.cmpi .sgt v1 c384_i32_9
  let c512_i32 : BitVec 32 := 512#32
  let v29 : BitVec 1 := Scalar.cmpi .sle v1 c512_i32
  let v30 : BitVec 1 := Scalar.andi v28 v29
  let v31 : BitVec 32 := Scalar.extui v30
  let c0_i32_10 : BitVec 32 := 0#32
  let v32 : BitVec 1 := Scalar.cmpi .ne v31 c0_i32_10
  v32

def k0_off31 (v33 : BitVec 32) : Fin 4 → Nat :=
  let v115 : Index := Scalar.indexCast v33
  let c1_40 : Index := 1#32
  let c0_41 : Index := 0#32
  let c0_42 : Index := 0#32
  ![v115.toNat, 1, 0, 0]

def k0_chk9 (v1 : BitVec 32) (v33 : BitVec 32) : Prop :=
  (∀ (k0_h10 : k0_cond10 v1 = 1#1), ∀ a, (k0_off30 v33) a + S1x1x2048x1024.size a ≤ S2x2x2048x1024.size a) ∧
  (∀ (k0_h10 : k0_cond10 v1 = 1#1), ∀ a, (k0_off31 v33) a + S1x1x2048x1024.size a ≤ S2x2x2048x1024.size a)
theorem k0_off30_inb : ∀ (v1 : BitVec 32) (v33 : BitVec 32) (k0_hw9 : k0_chk9 v1 v33), ∀ (k0_h10 : k0_cond10 v1 = 1#1), ∀ a, (k0_off30 v33) a + S1x1x2048x1024.size a ≤ S2x2x2048x1024.size a := fun v1 v33 k0_hw9 k0_h10 => k0_hw9.1 k0_h10
theorem k0_off31_inb : ∀ (v1 : BitVec 32) (v33 : BitVec 32) (k0_hw9 : k0_chk9 v1 v33), ∀ (k0_h10 : k0_cond10 v1 = 1#1), ∀ a, (k0_off31 v33) a + S1x1x2048x1024.size a ≤ S2x2x2048x1024.size a := fun v1 v33 k0_hw9 k0_h10 => k0_hw9.2 k0_h10

def k0_cond6 (v1 : BitVec 32) : BitVec 1 :=
  let c_m128_i32 : BitVec 32 := 4294967168#32
  let v8 : BitVec 1 := Scalar.cmpi .sgt v1 c_m128_i32
  let c0_i32_1 : BitVec 32 := 0#32
  let v9 : BitVec 1 := Scalar.cmpi .sle v1 c0_i32_1
  let v10 : BitVec 1 := Scalar.andi v8 v9
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S99.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S99) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S99.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S99.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S99 : Shape := ⟨1, ![99]⟩
abbrev S405504x128 : Shape := ⟨2, ![405504, 128]⟩
abbrev S1x32x2048x4096 : Shape := ⟨4, ![1, 32, 2048, 4096]⟩
abbrev S1x32x4096 : Shape := ⟨3, ![1, 32, 4096]⟩
abbrev S50688x1024 : Shape := ⟨2, ![50688, 1024]⟩
abbrev S_ : Shape := ⟨0, ![]⟩
abbrev S50688x2048 : Shape := ⟨2, ![50688, 2048]⟩
abbrev S99x512x2048 : Shape := ⟨3, ![99, 512, 2048]⟩
abbrev S99x1 : Shape := ⟨2, ![99, 1]⟩
abbrev S32x2048x4096 : Shape := ⟨3, ![32, 2048, 4096]⟩
abbrev S99x2048x4096 : Shape := ⟨3, ![99, 2048, 4096]⟩
abbrev S32x4096 : Shape := ⟨2, ![32, 4096]⟩
abbrev S99x4096 : Shape := ⟨2, ![99, 4096]⟩
abbrev S99x512x4096 : Shape := ⟨3, ![99, 512, 4096]⟩
abbrev S99x1x4096 : Shape := ⟨3, ![99, 1, 4096]⟩
abbrev S99x4x128 : Shape := ⟨3, ![99, 4, 128]⟩
abbrev S99x1x1 : Shape := ⟨3, ![99, 1, 1]⟩
abbrev S99x512x1 : Shape := ⟨3, ![99, 512, 1]⟩

abbrev nBuf : Space → Nat
  | .hbm => 97
  | .vmem => 0
  | .smem => 0
  | _ => 0

abbrev bufTy : (tb : Table) → Fin (tcTables nBuf tb) → BufTy
  | .hbm, ⟨0, _⟩ => ⟨S99, .i32⟩
  | .hbm, ⟨1, _⟩ => ⟨S99, .i32⟩
  | .hbm, ⟨2, _⟩ => ⟨S99, .i32⟩
  | .hbm, ⟨3, _⟩ => ⟨S99, .i32⟩
  | .hbm, ⟨4, _⟩ => ⟨S99, .i32⟩
  | .hbm, ⟨5, _⟩ => ⟨S405504x128, .i32⟩
  | .hbm, ⟨6, _⟩ => ⟨S1x32x2048x4096, .f32⟩
  | .hbm, ⟨7, _⟩ => ⟨S1x32x4096, .f32⟩
  | .hbm, ⟨8, _⟩ => ⟨S50688x1024, .i32⟩
  | .hbm, ⟨9, _⟩ => ⟨S_, .i32⟩
  | .hbm, ⟨10, _⟩ => ⟨S50688x1024, .i32⟩
  | .hbm, ⟨11, _⟩ => ⟨S50688x1024, .i32⟩
  | .hbm, ⟨12, _⟩ => ⟨S50688x1024, .f32⟩
  | .hbm, ⟨13, _⟩ => ⟨S_, .i32⟩
  | .hbm, ⟨14, _⟩ => ⟨S50688x1024, .i32⟩
  | .hbm, ⟨15, _⟩ => ⟨S50688x1024, .i32⟩
  | .hbm, ⟨16, _⟩ => ⟨S50688x1024, .f32⟩
  | .hbm, ⟨17, _⟩ => ⟨S50688x1024, .bf16⟩
  | .hbm, ⟨18, _⟩ => ⟨S50688x1024, .bf16⟩
  | .hbm, ⟨19, _⟩ => ⟨S50688x2048, .bf16⟩
  | .hbm, ⟨20, _⟩ => ⟨S99x512x2048, .bf16⟩
  | .hbm, ⟨21, _⟩ => ⟨S_, .i32⟩
  | .hbm, ⟨22, _⟩ => ⟨S99, .i32⟩
  | .hbm, ⟨23, _⟩ => ⟨S99, .i1⟩
  | .hbm, ⟨24, _⟩ => ⟨S_, .i32⟩
  | .hbm, ⟨25, _⟩ => ⟨S99, .i32⟩
  | .hbm, ⟨26, _⟩ => ⟨S99, .i32⟩
  | .hbm, ⟨27, _⟩ => ⟨S99, .i32⟩
  | .hbm, ⟨28, _⟩ => ⟨S99x1, .i32⟩
  | .hbm, ⟨29, _⟩ => ⟨S99x512x2048, .bf16⟩
  | .hbm, ⟨30, _⟩ => ⟨S32x2048x4096, .f32⟩
  | .hbm, ⟨31, _⟩ => ⟨S_, .i32⟩
  | .hbm, ⟨32, _⟩ => ⟨S99, .i32⟩
  | .hbm, ⟨33, _⟩ => ⟨S99, .i1⟩
  | .hbm, ⟨34, _⟩ => ⟨S_, .i32⟩
  | .hbm, ⟨35, _⟩ => ⟨S99, .i32⟩
  | .hbm, ⟨36, _⟩ => ⟨S99, .i32⟩
  | .hbm, ⟨37, _⟩ => ⟨S99, .i32⟩
  | .hbm, ⟨38, _⟩ => ⟨S99x1, .i32⟩
  | .hbm, ⟨39, _⟩ => ⟨S99x2048x4096, .f32⟩
  | .hbm, ⟨40, _⟩ => ⟨S32x4096, .f32⟩
  | .hbm, ⟨41, _⟩ => ⟨S_, .i32⟩
  | .hbm, ⟨42, _⟩ => ⟨S99, .i32⟩
  | .hbm, ⟨43, _⟩ => ⟨S99, .i1⟩
  | .hbm, ⟨44, _⟩ => ⟨S_, .i32⟩
  | .hbm, ⟨45, _⟩ => ⟨S99, .i32⟩
  | .hbm, ⟨46, _⟩ => ⟨S99, .i32⟩
  | .hbm, ⟨47, _⟩ => ⟨S99, .i32⟩
  | .hbm, ⟨48, _⟩ => ⟨S99x1, .i32⟩
  | .hbm, ⟨49, _⟩ => ⟨S99x4096, .f32⟩
  | .hbm, ⟨50, _⟩ => ⟨S99x512x4096, .f32⟩
  | .hbm, ⟨51, _⟩ => ⟨S99x1x4096, .f32⟩
  | .hbm, ⟨52, _⟩ => ⟨S99x512x4096, .f32⟩
  | .hbm, ⟨53, _⟩ => ⟨S99x512x4096, .f32⟩
  | .hbm, ⟨54, _⟩ => ⟨S99x512x2048, .f32⟩
  | .hbm, ⟨55, _⟩ => ⟨S99x512x2048, .f32⟩
  | .hbm, ⟨56, _⟩ => ⟨S_, .f32⟩
  | .hbm, ⟨57, _⟩ => ⟨S99x512x2048, .f32⟩
  | .hbm, ⟨58, _⟩ => ⟨S99x512x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S99x512x2048, .f32⟩
  | .hbm, ⟨63, _⟩ => ⟨S99x512x2048, .f32⟩
  | .hbm, ⟨64, _⟩ => ⟨S_, .f32⟩
  | .hbm, ⟨65, _⟩ => ⟨S99x512x2048, .f32⟩
  | .hbm, ⟨66, _⟩ => ⟨S99x512x2048, .f32⟩
  | .hbm, ⟨67, _⟩ => ⟨S_, .f32⟩
  | .hbm, ⟨68, _⟩ => ⟨S99x512x2048, .f32⟩
  | .hbm, ⟨69, _⟩ => ⟨S99x512x2048, .f32⟩
  | .hbm, ⟨70, _⟩ => ⟨S99x512x2048, .f32⟩
  | .hbm, ⟨71, _⟩ => ⟨S99x512x2048, .f32⟩
  | .hbm, ⟨72, _⟩ => ⟨S_, .f32⟩
  | .hbm, ⟨73, _⟩ => ⟨S99x512x2048, .f32⟩
  | .hbm, ⟨74, _⟩ => ⟨S99x512x2048, .f32⟩
  | .hbm, ⟨75, _⟩ => ⟨S_, .f32⟩
  | .hbm, ⟨76, _⟩ => ⟨S99x512x2048, .f32⟩
  | .hbm, ⟨77, _⟩ => ⟨S99x512x2048, .f32⟩
  | .hbm, ⟨78, _⟩ => ⟨S99x512x2048, .f32⟩
  | .hbm, ⟨79, _⟩ => ⟨S_, .f32⟩
  | .hbm, ⟨80, _⟩ => ⟨S99x512x2048, .f32⟩
  | .hbm, ⟨81, _⟩ => ⟨S99x512x2048, .f32⟩
  | .hbm, ⟨82, _⟩ => ⟨S99x512x2048, .f32⟩
  | .hbm, ⟨83, _⟩ => ⟨S99x512x2048, .bf16⟩
  | .hbm, ⟨84, _⟩ => ⟨S99x4x128, .i32⟩
  | .hbm, ⟨85, _⟩ => ⟨S_, .i32⟩
  | .hbm, ⟨86, _⟩ => ⟨S99x4x128, .i32⟩
  | .hbm, ⟨87, _⟩ => ⟨S99x4x128, .i32⟩
  | .hbm, ⟨88, _⟩ => ⟨S99x1x1, .i32⟩
  | .hbm, ⟨89, _⟩ => ⟨S99x4x128, .i32⟩
  | .hbm, ⟨90, _⟩ => ⟨S99x4x128, .i1⟩
  | .hbm, ⟨91, _⟩ => ⟨S99x512x1, .i1⟩
  | .hbm, ⟨92, _⟩ => ⟨S_, .bf16⟩
  | .hbm, ⟨93, _⟩ => ⟨S99x512x2048, .bf16⟩
  | .hbm, ⟨94, _⟩ => ⟨S99x512x2048, .i1⟩
  | .hbm, ⟨95, _⟩ => ⟨S99x512x2048, .bf16⟩
  | .hbm, ⟨96, _⟩ => ⟨S50688x2048, .bf16⟩
  | _, _ => ⟨S99, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Proof.Mix.Tiles.lean ====
/- Reading a tile out of a buffer that was written in pieces, and the scalar formulas of the mixer. -/
module

public import Idealize.ShloMosaic.Lib.Pointwise
public import Idealize.ShloMosaic.Lib.WritesUnit
public import Idealize.ShloMosaic.Lib.Pipeline.Value

@[expose] public section

noncomputable section

namespace Cert.Mix

open Idealize.ShloMosaic

/-- An array of rank 2 as a function of two natural numbers. -/
def nat2 {a b : ℕ} (X : (⟨2, ![a, b]⟩ : Shape).Idx → EReal) (i j : ℕ) : EReal :=
  if h : i < a ∧ j < b then X (ix2 ⟨i, h.1⟩ ⟨j, h.2⟩) else 0

theorem nat2_val {a b : ℕ} (X : (⟨2, ![a, b]⟩ : Shape).Idx → EReal) (i : Fin a) (j : Fin b) :
    nat2 X i.val j.val = X (ix2 i j) := dif_pos ⟨i.isLt, j.isLt⟩

theorem nat2_of {a b : ℕ} (X : (⟨2, ![a, b]⟩ : Shape).Idx → EReal) (i j : ℕ) (hi : i < a) (hj : j < b) :
    nat2 X i j = X (ix2 ⟨i, hi⟩ ⟨j, hj⟩) := dif_pos ⟨hi, hj⟩

/-- A rank-3 tile with leading axis 1: rows `o + r` of lane group `k` of the sequence `T`. -/
def tile3 {α : Type} {n m : ℕ} (T : ℕ → ℕ → α) (k o : ℕ) : (⟨3, ![1, n, m]⟩ : Shape).Idx → α :=
  fun x => T (o + (x 1).val) (128 * k + (x 2).val)

/-- A rank-2 tile at row `a` and column `b`. -/
def tile2 {α : Type} {n m : ℕ} (T : ℕ → ℕ → α) (a b : ℕ) : (⟨2, ![n, m]⟩ : Shape).Idx → α :=
  fun x => T (a + (x 0).val) (b + (x 1).val)

theorem tile3_ix {α : Type} {n m : ℕ} (T : ℕ → ℕ → α) (k o : ℕ) (a : Fin 1) (i : Fin n) (j : Fin m) :
    tile3 T k o (ix3 a i j) = T (o + i.val) (128 * k + j.val) := rfl

theorem tile2_ix {α : Type} {n m : ℕ} (T : ℕ → ℕ → α) (a b : ℕ) (i : Fin n) (j : Fin m) :
    tile2 T a b (ix2 i j) = T (a + i.val) (b + j.val) := rfl

/-- Three terms added from the left. -/
def chain3 (f : ℕ → EReal) : EReal := f 0 + f 1 + f 2

/-- Thirty-one terms added from the left. -/
def chain31 (f : ℕ → EReal) : EReal :=
  f 0 + f 1 + f 2 + f 3 + f 4 + f 5 + f 6 + f 7 + f 8 + f 9 + f 10 + f 11 + f 12 + f 13 + f 14 + f 15 + f 16 + f 17
    + f 18 + f 19 + f 20 + f 21 + f 22 + f 23 + f 24 + f 25 + f 26 + f 27 + f 28 + f 29 + f 30

/-- The rms-normalised row `x` with gains `g`, times a column `w`. -/
def proj {n : ℕ} (x g w : Fin n → EReal) : EReal :=
  ∑ k, x k * Ideal.rsqrt (Ideal.div (∑ j, x j * x j) (Ideal.ofBits FTy.f32 0x45000000#32)
    + Ideal.ofBits FTy.f32 0x3727C5AC#32) * g k * w k

/-- The mean of a row of 1024. -/
def mean {n : ℕ} (f : Fin n → EReal) : EReal := Ideal.div (∑ k, f k) (Ideal.ofBits FTy.f32 0x44800000#32)

/-- One element `c` of a row `f`, layer-normalised with gain `g` and shift `b`. -/
def layerNorm {n : ℕ} (f : Fin n → EReal) (c g b : EReal) : EReal :=
  (c - mean f) * Ideal.rsqrt (mean (fun k => (f k - mean f) * (f k - mean f)) + Ideal.ofBits FTy.f32 0x3727C5AC#32) * g + b

/-- The product of a value and its logistic. -/
def silu (x : EReal) : EReal := x * Ideal.logistic x

/-- The wide gate: columns 3072 on times the logistic of columns 4096 on. -/
def glu (u : ℕ → EReal) (ch : ℕ) : EReal := u (3072 + ch) * Ideal.logistic (u (4096 + ch))

/-- The narrow gate: columns 1024 on times columns 2048 on. -/
def gate (u : ℕ → EReal) (ch : ℕ) : EReal := u (1024 + ch) * u (2048 + ch)

/-- The wide convolution over thirty-one rows of `T`, with its shift. -/
def convB (T W : ℕ → ℕ → EReal) (B : ℕ → EReal) (o r ch : ℕ) : EReal :=
  chain31 (fun k => T (k + o + r) ch * W k ch) + B ch

/-- The narrow convolution over three rows of `T`. -/
def convA (T W : ℕ → ℕ → EReal) (o r ch : ℕ) : EReal := chain3 fun k => T (k + o + r) ch * W k ch

/-- One element of the mixed row: the gated narrow convolution, then the normalised wide one. -/
def mixed (u : ℕ → EReal) (a b : ℕ → EReal) (g s : ℕ → EReal) (c : ℕ) : EReal :=
  if c < 1024 then u c * a c else silu (layerNorm (fun k : Fin 1024 => b k.val) (b (c - 1024)) (g (c - 1024)) (s (c - 1024)))

variable {sig : RefSig} {κ : Kind} {sp : Space} {s : Shape} {e : EltTy}

/-- On the indices of `D`, the buffer `f` with the pieces `L` written into it holds `G`. -/
def Held (v : View sig κ sp s e) (f : v.ty.Contents (Elt Ideal)) (L : List (View.Piece (Elt Ideal) s e))
    (D : s.Idx → Prop) (G : s.Idx → Elt Ideal e) : Prop :=
  ∀ y, D y → v.read (Elt Ideal) (v.writes (Elt Ideal) f L) y = G y

theorem Held.mono {v : View sig κ sp s e} {f : v.ty.Contents (Elt Ideal)} {L : List (View.Piece (Elt Ideal) s e)}
    {D D' : s.Idx → Prop} {G : s.Idx → Elt Ideal e} (h : Held v f L D G) (hD : ∀ y, D' y → D y) : Held v f L D' G :=
  fun y hy => h y (hD y hy)

theorem Held.cons {v : View sig κ sp s e} {f : v.ty.Contents (Elt Ideal)} {L : List (View.Piece (Elt Ideal) s e)}
    {D D' : s.Idx → Prop} {G : s.Idx → Elt Ideal e} (h : Held v f L D G)
    {off size : Fin s.rank → ℕ} (inb : ∀ a, off a + size a ≤ s.size a)
    (w : (Rect.unit off size inb).shape.Idx → Elt Ideal e)
    (hw : ∀ x, w x = G ((Rect.unit off size inb).emb x))
    (hD : ∀ y, D' y → (∃ a, (y a).val < off a ∨ off a + size a ≤ (y a).val) → D y) :
    Held v f (⟨Rect.unit off size inb, w⟩ :: L) D' G := by
  intro y hy
  rw [View.read_writes_cons_unit v f inb w L y rfl]
  split
  · next hh =>
    rw [hw]
    congr 1
    funext a
    apply Fin.ext
    have h1 := hh a
    have h2 := Rect.unitLocal_val (s := s) (off := off) (size := size) y hh a
    show off a + 1 * (Rect.unitLocal (s := s) (off := off) (size := size) y hh a).val = (y a).val
    omega
  · next hh =>
    refine h y (hD y hy ?_)
    obtain ⟨a, ha⟩ := not_forall.mp hh
    exact ⟨a, by omega⟩

theorem Held.read {v : View sig κ sp s e} {f : v.ty.Contents (Elt Ideal)} {L : List (View.Piece (Elt Ideal) s e)}
    {D : s.Idx → Prop} {G : s.Idx → Elt Ideal e} (h : Held v f L D G)
    (off size : Fin s.rank → ℕ) (inb : ∀ a, off a + size a ≤ s.size a)
    (hD : ∀ x, D ((Rect.unit off size inb).idx x)) :
    v.readAt (Elt Ideal) (Rect.unit off size inb).toLoadRect (v.writes (Elt Ideal) f L)
      = fun x => G ((Rect.unit off size inb).idx x) :=
  funext fun x => h _ (hD x)

/-! ## A buffer of eight lane groups, with a halo of `H` rows before 512 rows -/

section Groups

variable {N : ℕ} {v : View sig κ sp (⟨3, ![8, N, 128]⟩ : Shape) .f32} {f : v.ty.Contents (Elt Ideal)}
  {L : List (View.Piece (Elt Ideal) (⟨3, ![8, N, 128]⟩ : Shape) .f32)} {T : ℕ → ℕ → EReal}

/-- The sequence `T` laid out over the eight lane groups. -/
def lay (T : ℕ → ℕ → EReal) : (⟨3, ![8, N, 128]⟩ : Shape).Idx → EReal :=
  fun y => T (y 1).val (128 * (y 0).val + (y 2).val)

/-- From row `h` on, the rows of the halo (the first `H`) and of the first `k` lane groups hold the sequence `T`. -/
def Rows (v : View sig κ sp (⟨3, ![8, N, 128]⟩ : Shape) .f32) (f : v.ty.Contents (Elt Ideal))
    (L : List (View.Piece (Elt Ideal) (⟨3, ![8, N, 128]⟩ : Shape) .f32)) (T : ℕ → ℕ → EReal) (H h k : ℕ) : Prop :=
  Held v f L (fun y => h ≤ (y 1).val ∧ ((y 1).val < H ∨ (y 0).val < k)) (lay T)

theorem Rows.step {H h k : ℕ} (hr : Rows v f L T H h k) (hN : N = H + 512)
    (inb : ∀ a, (![k, H, 0] : Fin 3 → ℕ) a + (![1, 512, 128] : Fin 3 → ℕ) a ≤ (![8, N, 128] : Fin 3 → ℕ) a)
    (w : (⟨3, ![1, 512, 128]⟩ : Shape).Idx → EReal) (hw : w = tile3 T k H) :
    Rows v f (⟨Rect.unit (s := ⟨3, ![8, N, 128]⟩) ![k, H, 0] ![1, 512, 128] inb, w⟩ :: L) T H h (k + 1) := by
  refine Held.cons hr inb w (fun x => ?_) fun y hy => ?_
  · subst hw
    show T _ _ = T _ _
    have h0 : (x 0).val = 0 := Nat.lt_one_iff.mp (x 0).isLt
    congr 1
    · show H + (x 1).val = H + 1 * (x 1).val; omega
    · show 128 * k + (x 2).val = 128 * (k + 1 * (x 0).val) + (0 + 1 * (x 2).val); omega
  · rintro ⟨a, ha⟩
    have h1 : (y 1).val < N := (y 1).isLt
    have h2 : (y 2).val < 128 := (y 2).isLt
    refine ⟨hy.1, ?_⟩
    have h3 := hy.2
    fin_cases a
    · change (y 0).val < k ∨ k + 1 ≤ (y 0).val at ha; omega
    · change (y 1).val < H ∨ H + 512 ≤ (y 1).val at ha; omega
    · change (y 2).val < 0 ∨ 0 + 128 ≤ (y 2).val at ha; omega

theorem Rows.read {H h k K n : ℕ} (hr : Rows v f L T H h K) (o : ℕ)
    (inb : ∀ a, (![k, o, 0] : Fin 3 → ℕ) a + (![1, n, 128] : Fin 3 → ℕ) a ≤ (![8, N, 128] : Fin 3 → ℕ) a)
    (ho : h ≤ o) (hk : k < K) :
    v.readAt (Elt Ideal) (Rect.unit (s := ⟨3, ![8, N, 128]⟩) ![k, o, 0] ![1, n, 128] inb).toLoadRect
      (v.writes (Elt Ideal) f L) = tile3 (n := n) (m := 128) T k o := by
  refine (Held.read hr _ _ inb fun x => ?_).trans (funext fun x => ?_)
  · have h0 : (x 0).val = 0 := Nat.lt_one_iff.mp (x 0).isLt
    refine ⟨?_, .inr ?_⟩
    · show h ≤ o + 1 * (x 1).val; omega
    · show k + 1 * (x 0).val < K; omega
  · have h0 : (x 0).val = 0 := Nat.lt_one_iff.mp (x 0).isLt
    show T _ _ = T _ _
    congr 1
    · show o + 1 * (x 1).val = o + (x 1).val; omega
    · show 128 * (k + 1 * (x 0).val) + (0 + 1 * (x 2).val) = 128 * k + (x 2).val; omega

theorem Rows.readCov {H h k K n : ℕ} (hr : Rows v v.junk L T H h K) (o : ℕ)
    (inb : ∀ a, (![k, o, 0] : Fin 3 → ℕ) a + (![1, n, 128] : Fin 3 → ℕ) a ≤ (![8, N, 128] : Fin 3 → ℕ) a)
    (ho : h ≤ o) (hk : k < K) :
    v.readCov L (Rect.unit (s := ⟨3, ![8, N, 128]⟩) ![k, o, 0] ![1, n, 128] inb).toLoadRect
      = tile3 (n := n) (m := 128) T k o := hr.read o inb ho hk

/-- The rows read back over all lane groups at once. -/
theorem Rows.readCov8 {H h n : ℕ} (hr : Rows v v.junk L T H h 8) (o : ℕ)
    (inb : ∀ a, (![0, o, 0] : Fin 3 → ℕ) a + (![8, n, 128] : Fin 3 → ℕ) a ≤ (![8, N, 128] : Fin 3 → ℕ) a)
    (ho : h ≤ o) :
    v.readCov L (Rect.unit (s := ⟨3, ![8, N, 128]⟩) ![0, o, 0] ![8, n, 128] inb).toLoadRect
      = lay (N := n) (fun r ch => T (o + r) ch) := by
  refine (Held.read hr _ _ inb fun x => ?_).trans (funext fun x => ?_)
  · have h0 : (x 0).val < 8 := (x 0).isLt
    refine ⟨?_, .inr ?_⟩
    · show h ≤ o + 1 * (x 1).val; omega
    · show 0 + 1 * (x 0).val < 8; omega
  · show T _ _ = T _ _
    congr 1
    · show o + 1 * (x 1).val = o + (x 1).val; omega
    · show 128 * (0 + 1 * (x 0).val) + (0 + 1 * (x 2).val) = 128 * (x 0).val + (x 2).val; omega

/-- Nothing written yet: the halo is what the buffer held. -/
theorem Rows.base {H : ℕ} (hN : H ≤ N) (h : ∀ (c : Fin 8) (r : Fin N) (l : Fin 128), r.val < H →
      v.read (Elt Ideal) f (ix3 c r l) = T r.val (128 * c.val + l.val)) : Rows v f [] T H 0 0 := by
  intro y hy
  have h1 : (y 1).val < H := by have := hy.2; omega
  have := h (y 0) (y 1) (y 2) h1
  rw [ix3_eta] at this
  exact this

/-- Nothing is claimed of the halo. -/
theorem Rows.none {H : ℕ} : Rows v f [] T H H 0 := by
  intro y hy
  exact absurd hy.2 (by have := hy.1; omega)

/-- The halo written last, over anything. -/
theorem Held.halo {H : ℕ}
    (inb : ∀ a, (![0, 0, 0] : Fin 3 → ℕ) a + (![8, H, 128] : Fin 3 → ℕ) a ≤ (![8, N, 128] : Fin 3 → ℕ) a)
    (w : (⟨3, ![8, H, 128]⟩ : Shape).Idx → EReal) (hw : w = lay T) :
    Held v f (⟨Rect.unit (s := ⟨3, ![8, N, 128]⟩) ![0, 0, 0] ![8, H, 128] inb, w⟩ :: L) (fun y => (y 1).val < H) (lay T) := by
  have h0 : Held v f L (fun _ => False) (lay T) := fun y hy => hy.elim
  refine Held.cons h0 inb w (fun x => ?_) fun y hy => ?_
  · subst hw
    show T _ _ = T _ _
    congr 1
    · show (x 1).val = 0 + 1 * (x 1).val; omega
    · show 128 * (x 0).val + (x 2).val = 128 * (0 + 1 * (x 0).val) + (0 + 1 * (x 2).val); omega
  · rintro ⟨a, ha⟩
    have h1 : (y 0).val < 8 := (y 0).isLt
    have h2 : (y 2).val < 128 := (y 2).isLt
    fin_cases a
    · change (y 0).val < 0 ∨ 0 + 8 ≤ (y 0).val at ha; omega
    · change (y 1).val < 0 ∨ 0 + H ≤ (y 1).val at ha; omega
    · change (y 2).val < 0 ∨ 0 + 128 ≤ (y 2).val at ha; omega

/-- The halo written whole. -/
theorem Rows.halo {H : ℕ}
    (inb : ∀ a, (![0, 0, 0] : Fin 3 → ℕ) a + (![8, H, 128] : Fin 3 → ℕ) a ≤ (![8, N, 128] : Fin 3 → ℕ) a)
    (w : (⟨3, ![8, H, 128]⟩ : Shape).Idx → EReal) (hw : w = lay T) :
    Rows v f [⟨Rect.unit (s := ⟨3, ![8, N, 128]⟩) ![0, 0, 0] ![8, H, 128] inb, w⟩] T H 0 0 :=
  (Held.halo inb w hw).mono fun y hy => hy.2.resolve_right (Nat.not_lt_zero _)

end Groups

/-! ## A rank-2 buffer -/

section Flat

variable {N M : ℕ} {v : View sig κ sp (⟨2, ![N, M]⟩ : Shape) e} {f : v.ty.Contents (Elt Ideal)}
  {L : List (View.Piece (Elt Ideal) (⟨2, ![N, M]⟩ : Shape) e)} {T : ℕ → ℕ → Elt Ideal e}

/-- A function of two numbers as a rank-2 array. -/
def flat2 (T : ℕ → ℕ → Elt Ideal e) : (⟨2, ![N, M]⟩ : Shape).Idx → Elt Ideal e := fun y => T (y 0).val (y 1).val

theorem Held.nil2 : Held v f [] (fun _ => False) (flat2 T) := fun _ h => h.elim

theorem Held.cons2 {D : (⟨2, ![N, M]⟩ : Shape).Idx → Prop} (h : Held v f L D (flat2 T)) {p q a b : ℕ}
    (inb : ∀ i, (![p, q] : Fin 2 → ℕ) i + (![a, b] : Fin 2 → ℕ) i ≤ (![N, M] : Fin 2 → ℕ) i)
    (w : (⟨2, ![a, b]⟩ : Shape).Idx → Elt Ideal e) (hw : w = tile2 T p q) {D' : (⟨2, ![N, M]⟩ : Shape).Idx → Prop}
    (hD : ∀ y : (⟨2, ![N, M]⟩ : Shape).Idx, D' y → (y 0).val < N → (y 1).val < M →
      ((y 0).val < p ∨ p + a ≤ (y 0).val) ∨ ((y 1).val < q ∨ q + b ≤ (y 1).val) → D y) :
    Held v f (⟨Rect.unit (s := ⟨2, ![N, M]⟩) ![p, q] ![a, b] inb, w⟩ :: L) D' (flat2 T) := by
  refine Held.cons h inb w (fun x => ?_) fun y hy => ?_
  · subst hw
    show T _ _ = T _ _
    congr 1
    · show p + (x 0).val = p + 1 * (x 0).val; omega
    · show q + (x 1).val = q + 1 * (x 1).val; omega
  · rintro ⟨i, hi⟩
    refine hD y hy (y 0).isLt (y 1).isLt ?_
    fin_cases i
    · exact .inl hi
    · exact .inr hi

theorem Held.read2 {D : (⟨2, ![N, M]⟩ : Shape).Idx → Prop} (h : Held v v.junk L D (flat2 T)) {p q a b : ℕ}
    (inb : ∀ i, (![p, q] : Fin 2 → ℕ) i + (![a, b] : Fin 2 → ℕ) i ≤ (![N, M] : Fin 2 → ℕ) i)
    (hD : ∀ y : (⟨2, ![N, M]⟩ : Shape).Idx, D y) :
    v.readCov L (Rect.unit (s := ⟨2, ![N, M]⟩) ![p, q] ![a, b] inb).toLoadRect = tile2 (n := a) (m := b) T p q := by
  refine (Held.read h _ _ inb fun x => hD _).trans (funext fun x => ?_)
  show T _ _ = T _ _
  congr 1
  · show p + 1 * (x 0).val = p + (x 0).val; omega
  · show q + 1 * (x 1).val = q + (x 1).val; omega

end Flat

/-- A load of part of a rank-2 array, as a tile. -/
theorem ld2 {a b n m : ℕ} (X : (⟨2, ![a, b]⟩ : Shape).Idx → EReal) (T : ℕ → ℕ → EReal)
    (hX : ∀ i j, X (ix2 i j) = T i.val j.val) (p q : ℕ)
    (inb : ∀ i, (![p, q] : Fin 2 → ℕ) i + (![n, m] : Fin 2 → ℕ) i ≤ (![a, b] : Fin 2 → ℕ) i) :
    View.ld (Val := Elt Ideal) (e' := .f32) X (Rect.unit (s := ⟨2, ![a, b]⟩) ![p, q] ![n, m] inb) = tile2 (n := n) (m := m) T p q := by
  funext x
  have h := hX ((Rect.unit (s := ⟨2, ![a, b]⟩) ![p, q] ![n, m] inb).idx x 0) ((Rect.unit (s := ⟨2, ![a, b]⟩) ![p, q] ![n, m] inb).idx x 1)
  rw [ix2_eta] at h
  refine h.trans ?_
  show T _ _ = T _ _
  congr 1
  · show p + 1 * (x 0).val = p + (x 0).val; omega
  · show q + 1 * (x 1).val = q + (x 1).val; omega

theorem ldFull2 {a b : ℕ} (X : (⟨2, ![a, b]⟩ : Shape).Idx → Elt Ideal e)
    (inb : ∀ i, (![0, 0] : Fin 2 → ℕ) i + (![a, b] : Fin 2 → ℕ) i ≤ (⟨2, ![a, b]⟩ : Shape).size i) :
    View.ld X (Rect.unit (s := ⟨2, ![a, b]⟩) ![0, 0] ![a, b] inb) = X :=
  View.ld_unit_zero (S := ⟨2, ![a, b]⟩) (funext fun i => by fin_cases i <;> rfl) inb X

theorem ldFull3 {a b c : ℕ} (X : (⟨3, ![a, b, c]⟩ : Shape).Idx → Elt Ideal e)
    (inb : ∀ i, (![0, 0, 0] : Fin 3 → ℕ) i + (![a, b, c] : Fin 3 → ℕ) i ≤ (⟨3, ![a, b, c]⟩ : Shape).size i) :
    View.ld X (Rect.unit (s := ⟨3, ![a, b, c]⟩) ![0, 0, 0] ![a, b, c] inb) = X :=
  View.ld_unit_zero (S := ⟨3, ![a, b, c]⟩) (funext fun i => by fin_cases i <;> rfl) inb X

/-! ## Rank-3 pieces one lane group wide -/

section Slabs

variable {N : ℕ} {v : View sig κ sp (⟨3, ![8, N, 128]⟩ : Shape) .f32} {f : v.ty.Contents (Elt Ideal)}
  {L : List (View.Piece (Elt Ideal) (⟨3, ![8, N, 128]⟩ : Shape) .f32)} {T : ℕ → ℕ → EReal}

theorem Held.nilG : Held v f [] (fun _ => False) (lay T) := fun _ h => h.elim

theorem Held.consG {D : (⟨3, ![8, N, 128]⟩ : Shape).Idx → Prop} (h : Held v f L D (lay T)) {k o n : ℕ}
    (inb : ∀ i, (![k, o, 0] : Fin 3 → ℕ) i + (![1, n, 128] : Fin 3 → ℕ) i ≤ (![8, N, 128] : Fin 3 → ℕ) i)
    (w : (⟨3, ![1, n, 128]⟩ : Shape).Idx → EReal) (hw : w = tile3 T k o) {D' : (⟨3, ![8, N, 128]⟩ : Shape).Idx → Prop}
    (hD : ∀ y : (⟨3, ![8, N, 128]⟩ : Shape).Idx, D' y → (y 0).val < 8 → (y 1).val < N →
      ((y 0).val < k ∨ k + 1 ≤ (y 0).val) ∨ ((y 1).val < o ∨ o + n ≤ (y 1).val) → D y) :
    Held v f (⟨Rect.unit (s := ⟨3, ![8, N, 128]⟩) ![k, o, 0] ![1, n, 128] inb, w⟩ :: L) D' (lay T) := by
  refine Held.cons h inb w (fun x => ?_) fun y hy => ?_
  · subst hw
    have h0 : (x 0).val = 0 := Nat.lt_one_iff.mp (x 0).isLt
    show T _ _ = T _ _
    congr 1
    · show o + (x 1).val = o + 1 * (x 1).val; omega
    · show 128 * k + (x 2).val = 128 * (k + 1 * (x 0).val) + (0 + 1 * (x 2).val); omega
  · rintro ⟨i, hi⟩
    have h2 : (y 2).val < 128 := (y 2).isLt
    refine hD y hy (y 0).isLt (y 1).isLt ?_
    fin_cases i
    · exact .inl hi
    · exact .inr hi
    · change (y 2).val < 0 ∨ 0 + 128 ≤ (y 2).val at hi; omega

theorem Held.readG {n : ℕ} {D : (⟨3, ![8, N, 128]⟩ : Shape).Idx → Prop} (h : Held v v.junk L D (lay T)) (hN : n = N)
    (inb : ∀ i, (![0, 0, 0] : Fin 3 → ℕ) i + (![8, n, 128] : Fin 3 → ℕ) i ≤ (![8, N, 128] : Fin 3 → ℕ) i)
    (hD : ∀ y, D y) :
    v.readCov L (Rect.unit (s := ⟨3, ![8, N, 128]⟩) ![0, 0, 0] ![8, n, 128] inb).toLoadRect = lay (N := n) T := by
  refine (Held.read h _ _ inb fun x => hD _).trans (funext fun x => ?_)
  show T _ _ = T _ _
  congr 1
  · show 0 + 1 * (x 1).val = (x 1).val; omega
  · show 128 * (0 + 1 * (x 0).val) + (0 + 1 * (x 2).val) = 128 * (x 0).val + (x 2).val; omega

end Slabs

section Cols

variable {N M : ℕ} {v : View sig κ sp (⟨3, ![1, N, M]⟩ : Shape) .f32} {f : v.ty.Contents (Elt Ideal)}
  {L : List (View.Piece (Elt Ideal) (⟨3, ![1, N, M]⟩ : Shape) .f32)} {T : ℕ → ℕ → EReal} {o : ℕ}

/-- Rows `o + r` of the sequence `T`, with a leading axis 1. -/
def rows3 (T : ℕ → ℕ → EReal) (o : ℕ) : (⟨3, ![1, N, M]⟩ : Shape).Idx → EReal := fun y => T (o + (y 1).val) (y 2).val

theorem Held.nilC : Held v f [] (fun _ => False) (rows3 T o) := fun _ h => h.elim

theorem Held.consC {D : (⟨3, ![1, N, M]⟩ : Shape).Idx → Prop} (h : Held v f L D (rows3 T o)) {q : ℕ} (k : ℕ)
    (hk : q = 128 * k)
    (inb : ∀ i, (![0, 0, q] : Fin 3 → ℕ) i + (![1, N, 128] : Fin 3 → ℕ) i ≤ (![1, N, M] : Fin 3 → ℕ) i)
    (w : (⟨3, ![1, N, 128]⟩ : Shape).Idx → EReal) (hw : w = tile3 T k o) {D' : (⟨3, ![1, N, M]⟩ : Shape).Idx → Prop}
    (hD : ∀ y : (⟨3, ![1, N, M]⟩ : Shape).Idx, D' y → (y 2).val < M →
      ((y 2).val < q ∨ q + 128 ≤ (y 2).val) → D y) :
    Held v f (⟨Rect.unit (s := ⟨3, ![1, N, M]⟩) ![0, 0, q] ![1, N, 128] inb, w⟩ :: L) D' (rows3 T o) := by
  refine Held.cons h inb w (fun x => ?_) fun y hy => ?_
  · subst hw
    show T _ _ = T _ _
    congr 1
    · show o + (x 1).val = o + (0 + 1 * (x 1).val); omega
    · show 128 * k + (x 2).val = q + 1 * (x 2).val; omega
  · rintro ⟨i, hi⟩
    have h0 : (y 0).val < 1 := (y 0).isLt
    have h1 : (y 1).val < N := (y 1).isLt
    refine hD y hy (y 2).isLt ?_
    fin_cases i
    · change (y 0).val < 0 ∨ 0 + 1 ≤ (y 0).val at hi; omega
    · change (y 1).val < 0 ∨ 0 + N ≤ (y 1).val at hi; omega
    · exact hi

end Cols

end Cert.Mix

end
-- ==== Proof.Mix.Model.lean ====
/- The mixer's mathematics, element by element, as functions of natural numbers. -/
module

public import proofs.«01_k».proof.Proof.Mix.Tiles

@[expose] public section

noncomputable section

namespace Cert.Mix

open Idealize.ShloMosaic

/-- An array of rank 3 as a function of three natural numbers. -/
def nat3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

theorem nat3_val {a b c : ℕ} (X : (⟨3, ![a, b, c]⟩ : Shape).Idx → EReal) (i : Fin a) (j : Fin b) (k : Fin c) :
    nat3 X i.val j.val k.val = X (ix3 i j k) := dif_pos ⟨i.isLt, j.isLt, k.isLt⟩

theorem nat3_of {a b c : ℕ} (X : (⟨3, ![a, b, c]⟩ : Shape).Idx → EReal) (i : Fin a) (j : Fin b) (k : Fin c) {i' j' k' : ℕ}
    (hi : i.val = i') (hj : j.val = j') (hk : k.val = k') : X (ix3 i j k) = nat3 X i' j' k' := by
  subst hi hj hk; exact (nat3_val X i j k).symm

/-- The prompt mixer's arguments, as functions. -/
structure Args where
  x : ℕ → ℕ → ℕ → EReal
  start : ℕ → ℕ → EReal
  gain : ℕ → EReal
  win : ℕ → ℕ → EReal
  wa : ℕ → ℕ → EReal
  wb : ℕ → ℕ → EReal
  bb : ℕ → EReal
  lg : ℕ → EReal
  lb : ℕ → EReal

/-- The arguments read off the arrays. -/
def argsOf (x : (⟨3, ![4, 2048, 2048]⟩ : Shape).Idx → EReal) (me : (⟨2, ![16, 2048]⟩ : Shape).Idx → EReal)
    (g : (⟨2, ![1, 2048]⟩ : Shape).Idx → EReal) (w : (⟨3, ![1, 2048, 5120]⟩ : Shape).Idx → EReal)
    (wa : (⟨3, ![1, 3, 1024]⟩ : Shape).Idx → EReal) (wb : (⟨3, ![1, 31, 1024]⟩ : Shape).Idx → EReal)
    (bb lg lb : (⟨2, ![1, 1024]⟩ : Shape).Idx → EReal) : Args where
  x := nat3 x
  start := nat2 me
  gain := nat2 g 0
  win := nat3 w 0
  wa := nat3 wa 0
  wb := nat3 wb 0
  bb := nat2 bb 0
  lg := nat2 lg 0
  lb := nat2 lb 0

namespace Args

variable (A : Args)

/-- The projection of row `n` of sequence `b`. -/
def inX (b n j : ℕ) : EReal :=
  proj (fun k : Fin 2048 => A.x b n k.val) (fun k => A.gain k.val) (fun k => A.win k.val j)

/-- The projection of start row `r`. -/
def inM (r j : ℕ) : EReal :=
  proj (fun k : Fin 2048 => A.start r k.val) (fun k => A.gain k.val) (fun k => A.win k.val j)

/-- Row `n` of the projected sequence `b`, the sixteen start rows first. -/
def row (b n : ℕ) : ℕ → EReal := if n < 16 then A.inM n else A.inX b (n - 16)

/-- The wide sequence behind thirty rows of zeros. -/
def seqB (b n ch : ℕ) : EReal := if n < 30 then 0 else glu (A.row b (n - 30)) ch

/-- The narrow sequence behind two rows of zeros. -/
def seqA (b n ch : ℕ) : EReal := if n < 2 then 0 else gate (A.row b (n - 2)) ch

/-- The mixed rows. -/
def y (b n c : ℕ) : EReal :=
  mixed (A.inX b n) (convA (A.seqA b) A.wa 16 n) (convB (A.seqB b) A.wb A.bb 16 n) A.lg A.lb c

/-- The start rows' share of the wide sequence, behind sixteen rows of zeros. -/
def startB (r ch : ℕ) : EReal := if r < 16 then 0 else glu (A.inM (r - 16)) ch

/-- The last eight start rows' share of the narrow sequence. -/
def startA (r ch : ℕ) : EReal := gate (A.inM (8 + r)) ch

theorem seqB_start (b r ch : ℕ) (h : r < 32) : A.seqB b (r + 14) ch = A.startB r ch := by
  unfold seqB startB row
  by_cases h1 : r < 16
  · rw [if_pos (by omega), if_pos h1]
  · rw [if_neg (by omega), if_neg h1, if_pos (by omega), show r + 14 - 30 = r - 16 by omega]

theorem seqA_start (b r ch : ℕ) (h : r < 8) : A.seqA b (r + 10) ch = A.startA r ch := by
  unfold seqA startA row
  rw [if_neg (by omega), if_pos (by omega), show r + 10 - 2 = 8 + r by omega]

theorem seqB_row (b n ch : ℕ) : A.seqB b (n + 46) ch = glu (A.inX b n) ch := by
  unfold seqB row
  rw [if_neg (by omega), if_neg (by omega), show n + 46 - 30 - 16 = n by omega]

theorem seqA_row (b n ch : ℕ) : A.seqA b (n + 18) ch = gate (A.inX b n) ch := by
  unfold seqA row
  rw [if_neg (by omega), if_neg (by omega), show n + 18 - 2 - 16 = n by omega]

end Args

theorem convB_shift (S W : ℕ → ℕ → EReal) (B : ℕ → EReal) (a a' o o' r n : ℕ) (h : a + o + r + a' = o' + n) :
    convB (fun r ch => S (a + r + a') ch) W B o r = convB S W B o' n := by
  funext ch
  unfold convB
  congr 2
  funext k
  dsimp only
  rw [show a + (k + o + r) + a' = k + o' + n by omega]

theorem convA_shift (S W : ℕ → ℕ → EReal) (a a' o o' r n : ℕ) (h : a + o + r + a' = o' + n) :
    convA (fun r ch => S (a + r + a') ch) W o r = convA S W o' n := by
  funext ch
  unfold convA
  congr 1
  funext k
  dsimp only
  rw [show a + (k + o + r) + a' = k + o' + n by omega]

end Cert.Mix

end
-- ==== Proof.Mix.Blocks.lean ====
/- What the kernel's input blocks hold, as elements of the program's arguments. -/
module

public import proofs.«01_k».proof.Proof.Gen.KernelIdeal.Value
public import proofs.«01_k».proof.Proof.Mix.Tiles
public import Idealize.ShloMosaic.Lib.Pipeline.ValueKit

@[expose] public section

set_option maxRecDepth 16384

noncomputable section

namespace Cert.Mix

open Cert.KernelIdeal Cert.KernelIdeal.Gen
open Idealize.ShloMosaic Idealize.ShloMosaic.TcCoe

variable (m : (ℓ : Loc nD τ sig) → Buf (Elt Ideal) ℓ) (c : Dev nD)

theorem idx0 : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

theorem blk0 (t : Fin cfg0.N) (i : Fin 512) (k : Fin 2048) (b : Fin 4) (n : Fin 2048) (hb : b.val = t.val / 4)
    (hn : n.val = 512 * (t.val % 4) + i.val) (z : Fin 1) :
    iblk m c 0 t (ix3 z i k) = m ((c : Thread nD τ).loc main_arg0) (ix3 b n k) := by
  blk_ext [iblk, V, idx0 t]

theorem blk1 (t : Fin cfg0.N) (i : Fin 16) (k : Fin 2048) :
    iblk m c 1 t (ix2 i k) = m ((c : Thread nD τ).loc main_arg1) (ix2 i k) := by
  blk_ext [iblk, V, idx0 t]

theorem blk2 (t : Fin cfg0.N) (z z' : Fin 1) (k : Fin 2048) :
    iblk m c 2 t (ix2 z k) = m ((c : Thread nD τ).loc main_arg2) (ix2 z' k) := by
  blk_ext! [iblk, V, idx0 t]

theorem blk3 (t : Fin cfg0.N) (z : Fin 1) (k : Fin 2048) (j : Fin 5120) :
    iblk m c 3 t (ix2 k j) = m ((c : Thread nD τ).loc main_arg3) (ix3 z k j) := by
  blk_ext! [iblk, V, idx0 t]

theorem blk4 (t : Fin cfg0.N) (z : Fin 1) (k : Fin 3) (j : Fin 1024) :
    iblk m c 4 t (ix2 k j) = m ((c : Thread nD τ).loc main_arg4) (ix3 z k j) := by
  blk_ext! [iblk, V, idx0 t]

theorem blk5 (t : Fin cfg0.N) (z : Fin 1) (k : Fin 31) (j : Fin 1024) :
    iblk m c 5 t (ix2 k j) = m ((c : Thread nD τ).loc main_arg5) (ix3 z k j) := by
  blk_ext! [iblk, V, idx0 t]

theorem blk6 (t : Fin cfg0.N) (z z' : Fin 1) (j : Fin 1024) :
    iblk m c 6 t (ix2 z j) = m ((c : Thread nD τ).loc main_arg6) (ix2 z' j) := by
  blk_ext! [iblk, V, idx0 t]

theorem blk7 (t : Fin cfg0.N) (z z' : Fin 1) (j : Fin 1024) :
    iblk m c 7 t (ix2 z j) = m ((c : Thread nD τ).loc main_arg7) (ix2 z' j) := by
  blk_ext! [iblk, V, idx0 t]

theorem blk8 (t : Fin cfg0.N) (z z' : Fin 1) (j : Fin 1024) :
    iblk m c 8 t (ix2 z j) = m ((c : Thread nD τ).loc main_arg8) (ix2 z' j) := by
  blk_ext! [iblk, V, idx0 t]

end Cert.Mix

end
-- ==== Proof.Mix.CaseA.lean ====
/- What one grid point of the kernel leaves, case A: the rows of the two sequences, the mixed rows and the halos. -/
module

public import proofs.«01_k».proof.Proof.Gen.KernelIdeal.Frame.RunA
public import proofs.«01_k».proof.Proof.Mix.Tiles

@[expose] public section

set_option maxRecDepth 16384
set_option maxHeartbeats 2000000

noncomputable section

namespace Cert.Mix.CaseA

open Cert.KernelIdeal Cert.KernelIdeal.Gen Cert.KernelIdeal.Gen.kernelRun0_A.sl
open Idealize.ShloMosaic Idealize.ShloMosaic.TcCoe

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32}
  {T TA U WA WB : ℕ → ℕ → EReal} {BB GG SS : ℕ → EReal}

/-- The projection read back at a lane group. -/
theorem readU (hU : ∀ (r : Fin 512) (j : Fin 5120), k0_pay47 (F := Ideal) x0 x2 x3 (ix2 r j) = U r.val j.val) (q : ℕ)
    (inb : ∀ a, (![0, q] : Fin 2 → ℕ) a + S512x128.size a ≤ S512x5120.size a) :
    arg14.view.readCov (HS0_1 (F := Ideal) c arg2 harg2 arg4 harg4 arg5 harg5 x0 x2 x3) (Rect.unit (s := S512x5120) ![0, q] S512x128.size inb).toLoadRect = tile2 U 0 q := by
  refine Held.read2 (D := fun _ => True) ?_ inb fun _ => trivial
  unfold HS0_1
  refine Held.cons2 Held.nil2 _ _ ?_ fun y _ h0 h1 h => by omega
  simp only [View.readAt_eq_ld, harg2.read_unread, harg4.read_unread, harg5.read_unread, ldFull3, ldFull2]
  funext y
  idx_vars y
  rw [hU, tile2_ix, Nat.zero_add, Nat.zero_add]

theorem gb1 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f [⟨Rect.unit (s := S8x544x128) ![0, 0, 0] S8x32x128.size inb_S8x544x128_S8x32x128_0_0_0, k0_pay45 (F := Ideal) (v2370 (F := Ideal) c arg3 harg3 arg4 harg4 arg5 harg5 arg17 x1 x2 x3)⟩] T 32 h 0) :
    Rows arg15.view f (HS1_2 (F := Ideal) c arg2 harg2 arg3 harg3 arg4 harg4 arg5 harg5 arg14 arg17 x0 x1 x2 x3) T 32 h 1 := by
  unfold HS1_2
  refine Rows.step hb rfl _ _ ?_
  simp only [v34, v35, readU hU]
  funext y
  idx_vars y
  pointwise [k0_pay49]
  simp only [tile3_ix, tile2_ix, Nat.zero_add]
  rw [hT _ _ (by omega) (by omega), glu]
  simp only [← Nat.add_assoc, Nat.reduceAdd, Nat.reduceMul, Nat.zero_add]

theorem gb2 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_2 (F := Ideal) c arg2 harg2 arg3 harg3 arg4 harg4 arg5 harg5 arg14 arg17 x0 x1 x2 x3) T 32 h 1) :
    Rows arg15.view f (HS1_3 (F := Ideal) c arg2 harg2 arg3 harg3 arg4 harg4 arg5 harg5 arg14 arg17 x0 x1 x2 x3) T 32 h 2 := by
  unfold HS1_3
  refine Rows.step hb rfl _ _ ?_
  simp only [r_18, v294, v295, readU hU]
  funext y
  idx_vars y
  pointwise [k0_pay67, k0_pay68]
  simp only [tile3_ix, tile2_ix, Nat.zero_add]
  rw [hT _ _ (by omega) (by omega), glu]
  simp only [← Nat.add_assoc, Nat.reduceAdd, Nat.reduceMul, Nat.zero_add]

theorem gb3 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_3 (F := Ideal) c arg2 harg2 arg3 harg3 arg4 harg4 arg5 harg5 arg14 arg17 x0 x1 x2 x3) T 32 h 2) :
    Rows arg15.view f (HS1_4 (F := Ideal) c arg2 harg2 arg3 harg3 arg4 harg4 arg5 harg5 arg14 arg17 x0 x1 x2 x3) T 32 h 3 := by
  unfold HS1_4
  refine Rows.step hb rfl _ _ ?_
  simp only [v554, v555, readU hU]
  funext y
  idx_vars y
  pointwise [k0_pay85]
  simp only [tile3_ix, tile2_ix, Nat.zero_add]
  rw [hT _ _ (by omega) (by omega), glu]
  simp only [← Nat.add_assoc, Nat.reduceAdd, Nat.reduceMul, Nat.zero_add]

theorem gb4 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_4 (F := Ideal) c arg2 harg2 arg3 harg3 arg4 harg4 arg5 harg5 arg14 arg17 x0 x1 x2 x3) T 32 h 3) :
    Rows arg15.view f (HS1_5 (F := Ideal) c arg2 harg2 arg3 harg3 arg4 harg4 arg5 harg5 arg14 arg17 x0 x1 x2 x3) T 32 h 4 := by
  unfold HS1_5
  refine Rows.step hb rfl _ _ ?_
  simp only [v814, v815, readU hU]
  funext y
  idx_vars y
  pointwise [k0_pay104]
  simp only [tile3_ix, tile2_ix, Nat.zero_add]
  rw [hT _ _ (by omega) (by omega), glu]
  simp only [← Nat.add_assoc, Nat.reduceAdd, Nat.reduceMul, Nat.zero_add]

theorem gb5 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_5 (F := Ideal) c arg2 harg2 arg3 harg3 arg4 harg4 arg5 harg5 arg14 arg17 x0 x1 x2 x3) T 32 h 4) :
    Rows arg15.view f (HS1_6 (F := Ideal) c arg2 harg2 arg3 harg3 arg4 harg4 arg5 harg5 arg14 arg17 x0 x1 x2 x3) T 32 h 5 := by
  unfold HS1_6
  refine Rows.step hb rfl _ _ ?_
  simp only [v1074, v1075, readU hU]
  funext y
  idx_vars y
  pointwise [k0_pay121]
  simp only [tile3_ix, tile2_ix, Nat.zero_add]
  rw [hT _ _ (by omega) (by omega), glu]
  simp only [← Nat.add_assoc, Nat.reduceAdd, Nat.reduceMul, Nat.zero_add]

theorem gb6 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_6 (F := Ideal) c arg2 harg2 arg3 harg3 arg4 harg4 arg5 harg5 arg14 arg17 x0 x1 x2 x3) T 32 h 5) :
    Rows arg15.view f (HS1_7 (F := Ideal) c arg2 harg2 arg3 harg3 arg4 harg4 arg5 harg5 arg14 arg17 x0 x1 x2 x3) T 32 h 6 := by
  unfold HS1_7
  refine Rows.step hb rfl _ _ ?_
  simp only [v1334, v1335, readU hU]
  funext y
  idx_vars y
  pointwise [k0_pay139]
  simp only [tile3_ix, tile2_ix, Nat.zero_add]
  rw [hT _ _ (by omega) (by omega), glu]
  simp only [← Nat.add_assoc, Nat.reduceAdd, Nat.reduceMul, Nat.zero_add]

theorem gb7 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_7 (F := Ideal) c arg2 harg2 arg3 harg3 arg4 harg4 arg5 harg5 arg14 arg17 x0 x1 x2 x3) T 32 h 6) :
    Rows arg15.view f (HS1_8 (F := Ideal) c arg2 harg2 arg3 harg3 arg4 harg4 arg5 harg5 arg14 arg17 x0 x1 x2 x3) T 32 h 7 := by
  unfold HS1_8
  refine Rows.step hb rfl _ _ ?_
  simp only [r_88, v1594, v1595, readU hU]
  funext y
  idx_vars y
  pointwise [k0_pay157, k0_pay158]
  simp only [tile3_ix, tile2_ix, Nat.zero_add]
  rw [hT _ _ (by omega) (by omega), glu]
  simp only [← Nat.add_assoc, Nat.reduceAdd, Nat.reduceMul, Nat.zero_add]

theorem gb8 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_8 (F := Ideal) c arg2 harg2 arg3 harg3 arg4 harg4 arg5 harg5 arg14 arg17 x0 x1 x2 x3) T 32 h 7) :
    Rows arg15.view f (HS1_9 (F := Ideal) c arg2 harg2 arg3 harg3 arg4 harg4 arg5 harg5 arg14 arg17 x0 x1 x2 x3) T 32 h 8 := by
  unfold HS1_9
  refine Rows.step hb rfl _ _ ?_
  simp only [v1854, v1855, readU hU]
  funext y
  idx_vars y
  pointwise [k0_pay175]
  simp only [tile3_ix, tile2_ix, Nat.zero_add]
  rw [hT _ _ (by omega) (by omega), glu]
  simp only [← Nat.add_assoc, Nat.reduceAdd, Nat.reduceMul, Nat.zero_add]

theorem cv1 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f [⟨Rect.unit (s := S8x520x128) ![0, 0, 0] S8x8x128.size inb_S8x520x128_S8x8x128_0_0_0, k0_pay46 (F := Ideal) (v2374 (F := Ideal) c arg3 harg3 arg4 harg4 arg5 harg5 arg18 x1 x2 x3)⟩] TA 8 h 0) :
    Rows arg16.view f (HS2_2 (F := Ideal) c arg2 harg2 arg3 harg3 arg4 harg4 arg5 harg5 arg14 arg18 x0 x1 x2 x3) TA 8 h 1 := by
  unfold HS2_2
  refine Rows.step hb rfl _ _ ?_
  simp only [v32, v33, readU hU]
  funext y
  idx_vars y
  pointwise [k0_pay48]
  simp only [tile3_ix, tile2_ix, Nat.zero_add]
  rw [hTA _ _ (by omega) (by omega), gate]
  simp only [← Nat.add_assoc, Nat.reduceAdd, Nat.reduceMul, Nat.zero_add]

theorem cv2 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_2 (F := Ideal) c arg2 harg2 arg3 harg3 arg4 harg4 arg5 harg5 arg14 arg18 x0 x1 x2 x3) TA 8 h 1) :
    Rows arg16.view f (HS2_3 (F := Ideal) c arg2 harg2 arg3 harg3 arg4 harg4 arg5 harg5 arg14 arg18 x0 x1 x2 x3) TA 8 h 2 := by
  unfold HS2_3
  refine Rows.step hb rfl _ _ ?_
  simp only [v292, v293, readU hU]
  funext y
  idx_vars y
  pointwise [k0_pay66]
  simp only [tile3_ix, tile2_ix, Nat.zero_add]
  rw [hTA _ _ (by omega) (by omega), gate]
  simp only [← Nat.add_assoc, Nat.reduceAdd, Nat.reduceMul, Nat.zero_add]

theorem cv3 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_3 (F := Ideal) c arg2 harg2 arg3 harg3 arg4 harg4 arg5 harg5 arg14 arg18 x0 x1 x2 x3) TA 8 h 2) :
    Rows arg16.view f (HS2_4 (F := Ideal) c arg2 harg2 arg3 harg3 arg4 harg4 arg5 harg5 arg14 arg18 x0 x1 x2 x3) TA 8 h 3 := by
  unfold HS2_4
  refine Rows.step hb rfl _ _ ?_
  simp only [v552, v553, readU hU]
  funext y
  idx_vars y
  pointwise [k0_pay84]
  simp only [tile3_ix, tile2_ix, Nat.zero_add]
  rw [hTA _ _ (by omega) (by omega), gate]
  simp only [← Nat.add_assoc, Nat.reduceAdd, Nat.reduceMul, Nat.zero_add]

theorem cv4 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_4 (F := Ideal) c arg2 harg2 arg3 harg3 arg4 harg4 arg5 harg5 arg14 arg18 x0 x1 x2 x3) TA 8 h 3) :
    Rows arg16.view f (HS2_5 (F := Ideal) c arg2 harg2 arg3 harg3 arg4 harg4 arg5 harg5 arg14 arg18 x0 x1 x2 x3) TA 8 h 4 := by
  unfold HS2_5
  refine Rows.step hb rfl _ _ ?_
  simp only [r_46, v812, v813, readU hU]
  funext y
  idx_vars y
  pointwise [k0_pay102, k0_pay103]
  simp only [tile3_ix, tile2_ix, Nat.zero_add]
  rw [hTA _ _ (by omega) (by omega), gate]
  simp only [← Nat.add_assoc, Nat.reduceAdd, Nat.reduceMul, Nat.zero_add]

theorem cv5 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_5 (F := Ideal) c arg2 harg2 arg3 harg3 arg4 harg4 arg5 harg5 arg14 arg18 x0 x1 x2 x3) TA 8 h 4) :
    Rows arg16.view f (HS2_6 (F := Ideal) c arg2 harg2 arg3 harg3 arg4 harg4 arg5 harg5 arg14 arg18 x0 x1 x2 x3) TA 8 h 5 := by
  unfold HS2_6
  refine Rows.step hb rfl _ _ ?_
  simp only [v1072, v1073, readU hU]
  funext y
  idx_vars y
  pointwise [k0_pay120]
  simp only [tile3_ix, tile2_ix, Nat.zero_add]
  rw [hTA _ _ (by omega) (by omega), gate]
  simp only [← Nat.add_assoc, Nat.reduceAdd, Nat.reduceMul, Nat.zero_add]

theorem cv6 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_6 (F := Ideal) c arg2 harg2 arg3 harg3 arg4 harg4 arg5 harg5 arg14 arg18 x0 x1 x2 x3) TA 8 h 5) :
    Rows arg16.view f (HS2_7 (F := Ideal) c arg2 harg2 arg3 harg3 arg4 harg4 arg5 harg5 arg14 arg18 x0 x1 x2 x3) TA 8 h 6 := by
  unfold HS2_7
  refine Rows.step hb rfl _ _ ?_
  simp only [v1332, v1333, readU hU]
  funext y
  idx_vars y
  pointwise [k0_pay138]
  simp only [tile3_ix, tile2_ix, Nat.zero_add]
  rw [hTA _ _ (by omega) (by omega), gate]
  simp only [← Nat.add_assoc, Nat.reduceAdd, Nat.reduceMul, Nat.zero_add]

theorem cv7 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_7 (F := Ideal) c arg2 harg2 arg3 harg3 arg4 harg4 arg5 harg5 arg14 arg18 x0 x1 x2 x3) TA 8 h 6) :
    Rows arg16.view f (HS2_8 (F := Ideal) c arg2 harg2 arg3 harg3 arg4 harg4 arg5 harg5 arg14 arg18 x0 x1 x2 x3) TA 8 h 7 := by
  unfold HS2_8
  refine Rows.step hb rfl _ _ ?_
  simp only [v1592, v1593, readU hU]
  funext y
  idx_vars y
  pointwise [k0_pay156]
  simp only [tile3_ix, tile2_ix, Nat.zero_add]
  rw [hTA _ _ (by omega) (by omega), gate]
  simp only [← Nat.add_assoc, Nat.reduceAdd, Nat.reduceMul, Nat.zero_add]

theorem cv8 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_8 (F := Ideal) c arg2 harg2 arg3 harg3 arg4 harg4 arg5 harg5 arg14 arg18 x0 x1 x2 x3) TA 8 h 7) :
    Rows arg16.view f (HS2_9 (F := Ideal) c arg2 harg2 arg3 harg3 arg4 harg4 arg5 harg5 arg14 arg18 x0 x1 x2 x3) TA 8 h 8 := by
  unfold HS2_9
  refine Rows.step hb rfl _ _ ?_
  simp only [v1852, v1853, readU hU]
  funext y
  idx_vars y
  pointwise [k0_pay174]
  simp only [tile3_ix, tile2_ix, Nat.zero_add]
  rw [hTA _ _ (by omega) (by omega), gate]
  simp only [← Nat.add_assoc, Nat.reduceAdd, Nat.reduceMul, Nat.zero_add]

theorem pay3 {V : ℕ → ℕ → EReal} (hV : ∀ (r : Fin 16) (j : Fin 5120), k0_pay2 (F := Ideal) x1 x2 x3 (ix2 r j) = V r.val j.val) : k0_pay3 (F := Ideal) x1 x2 x3 = tile2 (n := 16) (m := 1024) (fun r ch => gate (V r) ch) 0 0 := by
  funext y
  idx_vars y
  pointwise [k0_pay3]
  simp only [hV, tile2_ix, gate, Nat.zero_add]

theorem pay4 {V : ℕ → ℕ → EReal} (hV : ∀ (r : Fin 16) (j : Fin 5120), k0_pay2 (F := Ideal) x1 x2 x3 (ix2 r j) = V r.val j.val) : k0_pay4 (F := Ideal) x1 x2 x3 = tile2 (n := 16) (m := 1024) (fun r ch => glu (V r) ch) 0 0 := by
  funext y
  idx_vars y
  pointwise [k0_pay4]
  simp only [hV, tile2_ix, glu, Nat.zero_add]

/-- The start rows kept for the first point of every batch. -/
theorem metaGb {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) {κ' : Kind} {sp' : Space} {v : View sig κ' sp' S8x32x128 .f32} {f : v.ty.Contents (Elt Ideal)} :
    Held v f (HS3_16 (F := Ideal) c arg3 harg3 arg4 harg4 arg5 harg5 x1 x2 x3) (fun _ => True) (lay T) := by
  unfold HS3_16
  refine Held.consG (D := fun y => (y 0).val < 7 ∨ (y 0).val = 7 ∧ (y 1).val < 16) ?_ _ _ ?_ fun y hy h0 h1 h => by (try beta_reduce at hy ⊢); clear hy; omega
  swap
  · simp only [r_1]
    simp only [View.readAt_eq_ld, harg3.read_unread, harg4.read_unread, harg5.read_unread, ldFull2]
    funext y
    idx_vars y
    pointwise [k0_pay43]
    rw [tile3_ix]
    rw [hh2 _ _ (by omega) (by omega), pay4 hV, tile2_ix]
    simp only [Nat.reduceMul, Nat.zero_add]
  refine Held.consG (D := fun y => (y 0).val < 7) ?_ _ _ ?_ fun y hy h0 h1 h => by (try beta_reduce at hy ⊢); omega
  swap
  · skip
    skip
    funext y
    idx_vars y
    pointwise [k0_pay42]
    rw [tile3_ix]
    exact (hh _ _ (by omega)).symm
  refine Held.consG (D := fun y => (y 0).val < 6 ∨ (y 0).val = 6 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay40]
    rw [tile3_ix]
    rw [hh2 _ _ (by omega) (by omega), pay4 hV, tile2_ix]
    simp only [Nat.reduceMul, Nat.zero_add]
  refine Held.consG (D := fun y => (y 0).val < 6) ?_ _ _ ?_ fun y hy h0 h1 h => by (try beta_reduce at hy ⊢); omega
  swap
  · skip
    skip
    funext y
    idx_vars y
    pointwise [k0_pay39]
    rw [tile3_ix]
    exact (hh _ _ (by omega)).symm
  refine Held.consG (D := fun y => (y 0).val < 5 ∨ (y 0).val = 5 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay21]
    rw [tile3_ix]
    rw [hh2 _ _ (by omega) (by omega), pay4 hV, tile2_ix]
    simp only [Nat.reduceMul, Nat.zero_add]
  refine Held.consG (D := fun y => (y 0).val < 5) ?_ _ _ ?_ fun y hy h0 h1 h => by (try beta_reduce at hy ⊢); omega
  swap
  · skip
    skip
    funext y
    idx_vars y
    pointwise [k0_pay20]
    rw [tile3_ix]
    exact (hh _ _ (by omega)).symm
  refine Held.consG (D := fun y => (y 0).val < 4 ∨ (y 0).val = 4 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay18]
    rw [tile3_ix]
    rw [hh2 _ _ (by omega) (by omega), pay4 hV, tile2_ix]
    simp only [Nat.reduceMul, Nat.zero_add]
  refine Held.consG (D := fun y => (y 0).val < 4) ?_ _ _ ?_ fun y hy h0 h1 h => by (try beta_reduce at hy ⊢); omega
  swap
  · skip
    skip
    funext y
    idx_vars y
    pointwise [k0_pay17]
    rw [tile3_ix]
    exact (hh _ _ (by omega)).symm
  refine Held.consG (D := fun y => (y 0).val < 3 ∨ (y 0).val = 3 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay15]
    rw [tile3_ix]
    rw [hh2 _ _ (by omega) (by omega), pay4 hV, tile2_ix]
    simp only [Nat.reduceMul, Nat.zero_add]
  refine Held.consG (D := fun y => (y 0).val < 3) ?_ _ _ ?_ fun y hy h0 h1 h => by (try beta_reduce at hy ⊢); omega
  swap
  · skip
    skip
    funext y
    idx_vars y
    pointwise [k0_pay14]
    rw [tile3_ix]
    exact (hh _ _ (by omega)).symm
  refine Held.consG (D := fun y => (y 0).val < 2 ∨ (y 0).val = 2 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay12]
    rw [tile3_ix]
    rw [hh2 _ _ (by omega) (by omega), pay4 hV, tile2_ix]
    simp only [Nat.reduceMul, Nat.zero_add]
  refine Held.consG (D := fun y => (y 0).val < 2) ?_ _ _ ?_ fun y hy h0 h1 h => by (try beta_reduce at hy ⊢); omega
  swap
  · skip
    skip
    funext y
    idx_vars y
    pointwise [k0_pay11]
    rw [tile3_ix]
    exact (hh _ _ (by omega)).symm
  refine Held.consG (D := fun y => (y 0).val < 1 ∨ (y 0).val = 1 ∧ (y 1).val < 16) ?_ _ _ ?_ fun y hy h0 h1 h => by (try beta_reduce at hy ⊢); omega
  swap
  · simp only [r_1]
    simp only [View.readAt_eq_ld, harg3.read_unread, harg4.read_unread, harg5.read_unread, ldFull2]
    funext y
    idx_vars y
    pointwise [k0_pay9]
    rw [tile3_ix]
    rw [hh2 _ _ (by omega) (by omega), pay4 hV, tile2_ix]
    simp only [Nat.reduceMul, Nat.zero_add]
  refine Held.consG (D := fun y => (y 0).val < 1) ?_ _ _ ?_ fun y hy h0 h1 h => by (try beta_reduce at hy ⊢); omega
  swap
  · skip
    skip
    funext y
    idx_vars y
    pointwise [k0_pay8]
    rw [tile3_ix]
    exact (hh _ _ (by omega)).symm
  refine Held.consG (D := fun y => (y 0).val < 0 ∨ (y 0).val = 0 ∧ (y 1).val < 16) ?_ _ _ ?_ fun y hy h0 h1 h => by (try beta_reduce at hy ⊢); omega
  swap
  · skip
    simp only [View.readAt_eq_ld, harg3.read_unread, harg4.read_unread, harg5.read_unread, ldFull2]
    funext y
    idx_vars y
    pointwise [k0_pay6]
    rw [tile3_ix]
    rw [hh2 _ _ (by omega) (by omega), pay4 hV, tile2_ix]
    simp only [Nat.reduceMul, Nat.zero_add]
  refine Held.consG (D := fun y => False) ?_ _ _ ?_ fun y hy h0 h1 h => by (try beta_reduce at hy ⊢); omega
  swap
  · skip
    skip
    funext y
    idx_vars y
    pointwise [k0_pay5]
    rw [tile3_ix]
    exact (hh _ _ (by omega)).symm
  exact Held.nilG

/-- The start rows kept for the first point of every batch. -/
theorem metaCv {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) {κ' : Kind} {sp' : Space} {v : View sig κ' sp' S8x8x128 .f32} {f : v.ty.Contents (Elt Ideal)} :
    Held v f (HS4_8 (F := Ideal) c arg3 harg3 arg4 harg4 arg5 harg5 x1 x2 x3) (fun _ => True) (lay TA) := by
  unfold HS4_8
  refine Held.consG (D := fun y => (y 0).val < 7) ?_ _ _ ?_ fun y hy h0 h1 h => by (try beta_reduce at hy ⊢); clear hy; omega
  swap
  · simp only [r]
    simp only [View.readAt_eq_ld, harg3.read_unread, harg4.read_unread, harg5.read_unread, ldFull2]
    funext y
    idx_vars y
    pointwise [k0_pay44]
    rw [tile3_ix]
    rw [hhA _ _ (by omega) (by omega), pay3 hV, tile2_ix]
    simp only [Nat.reduceMul, Nat.zero_add]
  refine Held.consG (D := fun y => (y 0).val < 6) ?_ _ _ ?_ fun y hy h0 h1 h => by (try beta_reduce at hy ⊢); omega
  swap
  · simp only [r]
    simp only [View.readAt_eq_ld, harg3.read_unread, harg4.read_unread, harg5.read_unread, ldFull2]
    funext y
    idx_vars y
    pointwise [k0_pay41]
    rw [tile3_ix]
    rw [hhA _ _ (by omega) (by omega), pay3 hV, tile2_ix]
    simp only [Nat.reduceMul, Nat.zero_add]
  refine Held.consG (D := fun y => (y 0).val < 5) ?_ _ _ ?_ fun y hy h0 h1 h => by (try beta_reduce at hy ⊢); omega
  swap
  · simp only [r, r_3]
    simp only [View.readAt_eq_ld, harg3.read_unread, harg4.read_unread, harg5.read_unread, ldFull2]
    funext y
    idx_vars y
    pointwise [k0_pay22, k0_pay38]
    rw [tile3_ix]
    rw [hhA _ _ (by omega) (by omega), pay3 hV, tile2_ix]
    simp only [Nat.reduceMul, Nat.zero_add]
  refine Held.consG (D := fun y => (y 0).val < 4) ?_ _ _ ?_ fun y hy h0 h1 h => by (try beta_reduce at hy ⊢); omega
  swap
  · simp only [r]
    simp only [View.readAt_eq_ld, harg3.read_unread, harg4.read_unread, harg5.read_unread, ldFull2]
    funext y
    idx_vars y
    pointwise [k0_pay19]
    rw [tile3_ix]
    rw [hhA _ _ (by omega) (by omega), pay3 hV, tile2_ix]
    simp only [Nat.reduceMul, Nat.zero_add]
  refine Held.consG (D := fun y => (y 0).val < 3) ?_ _ _ ?_ fun y hy h0 h1 h => by (try beta_reduce at hy ⊢); omega
  swap
  · simp only [r]
    simp only [View.readAt_eq_ld, harg3.read_unread, harg4.read_unread, harg5.read_unread, ldFull2]
    funext y
    idx_vars y
    pointwise [k0_pay16]
    rw [tile3_ix]
    rw [hhA _ _ (by omega) (by omega), pay3 hV, tile2_ix]
    simp only [Nat.reduceMul, Nat.zero_add]
  refine Held.consG (D := fun y => (y 0).val < 2) ?_ _ _ ?_ fun y hy h0 h1 h => by (try beta_reduce at hy ⊢); omega
  swap
  · simp only [r]
    simp only [View.readAt_eq_ld, harg3.read_unread, harg4.read_unread, harg5.read_unread, ldFull2]
    funext y
    idx_vars y
    pointwise [k0_pay13]
    rw [tile3_ix]
    rw [hhA _ _ (by omega) (by omega), pay3 hV, tile2_ix]
    simp only [Nat.reduceMul, Nat.zero_add]
  refine Held.consG (D := fun y => (y 0).val < 1) ?_ _ _ ?_ fun y hy h0 h1 h => by (try beta_reduce at hy ⊢); omega
  swap
  · simp only [r]
    simp only [View.readAt_eq_ld, harg3.read_unread, harg4.read_unread, harg5.read_unread, ldFull2]
    funext y
    idx_vars y
    pointwise [k0_pay10]
    rw [tile3_ix]
    rw [hhA _ _ (by omega) (by omega), pay3 hV, tile2_ix]
    simp only [Nat.reduceMul, Nat.zero_add]
  refine Held.consG (D := fun y => False) ?_ _ _ ?_ fun y hy h0 h1 h => by (try beta_reduce at hy ⊢); omega
  swap
  · simp only [r_2]
    simp only [View.readAt_eq_ld, harg3.read_unread, harg4.read_unread, harg5.read_unread, ldFull2]
    funext y
    idx_vars y
    pointwise [k0_pay7]
    rw [tile3_ix]
    rw [hhA _ _ (by omega) (by omega), pay3 hV, tile2_ix]
    simp only [Nat.reduceMul, Nat.zero_add]
  exact Held.nilG

theorem base {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) :
    Rows arg15.view arg15.view.junk [⟨Rect.unit (s := S8x544x128) ![0, 0, 0] S8x32x128.size inb_S8x544x128_S8x32x128_0_0_0,
      k0_pay45 (F := Ideal) (v2370 (F := Ideal) c arg3 harg3 arg4 harg4 arg5 harg5 arg17 x1 x2 x3)⟩] T 32 0 0 := by
  refine Rows.halo _ _ ?_
  unfold v2370
  rw [Held.readG (metaGb (hV := hV) (hh := hh) (hh2 := hh2)) rfl _ fun _ => trivial]
  funext y
  idx_vars y
  pointwise [k0_pay45]

theorem baseA {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) :
    Rows arg16.view arg16.view.junk [⟨Rect.unit (s := S8x520x128) ![0, 0, 0] S8x8x128.size inb_S8x520x128_S8x8x128_0_0_0,
      k0_pay46 (F := Ideal) (v2374 (F := Ideal) c arg3 harg3 arg4 harg4 arg5 harg5 arg18 x1 x2 x3)⟩] TA 8 0 0 := by
  refine Rows.halo _ _ ?_
  unfold v2374
  rw [Held.readG (metaCv (hV := hV) (hhA := hhA)) rfl _ fun _ => trivial]
  funext y
  idx_vars y
  pointwise [k0_pay46]

/-- The wide convolution of the point's rows. -/
theorem bc (hU : ∀ (r : Fin 512) (j : Fin 5120), k0_pay47 (F := Ideal) x0 x2 x3 (ix2 r j) = U r.val j.val) (hT : ∀ r ch, r < 512 → ch < 1024 → T (32 + r) ch = glu (U r) ch)
    {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) (hWB : ∀ (k : Fin 31) (j : Fin 1024), x5 (ix2 k j) = WB k.val j.val) (hBB : ∀ (z : Fin 1) (j : Fin 1024), x6 (ix2 z j) = BB j.val) :
    Held arg19.view arg19.view.junk (HS5_8 (F := Ideal) c arg2 harg2 arg3 harg3 arg4 harg4 arg5 harg5 arg7 harg7 arg8 harg8 arg14 arg15 arg17 x0 x1 x2 x3 x5 x6) (fun _ => True) (flat2 (convB T WB BB 2)) := by
  have hw : ∀ (p q : ℕ) (inb : ∀ a, (![p, q] : Fin 2 → ℕ) a + S1x128.size a ≤ S31x1024.size a), View.readAt (Elt Ideal) arg7.view (Rect.unit (s := S31x1024) ![p, q] S1x128.size inb).toLoadRect (harg7.unread x5) = tile2 WB p q :=
    fun p q inb => by rw [View.readAt_eq_ld, harg7.read_unread]; exact ld2 x5 WB hWB p q inb
  have hs : ∀ (p q : ℕ) (inb : ∀ a, (![p, q] : Fin 2 → ℕ) a + S1x128.size a ≤ S1x1024.size a), View.readAt (Elt Ideal) arg8.view (Rect.unit (s := S1x1024) ![p, q] S1x128.size inb).toLoadRect (harg8.unread x6) = tile2 (fun _ ch => BB ch) p q :=
    fun p q inb => by rw [View.readAt_eq_ld, harg8.read_unread]; exact ld2 x6 (fun _ ch => BB ch) hBB p q inb
  unfold HS5_8
  refine Held.cons2 (D := fun y => (y 1).val < 896) ?_ _ _ ?_ fun y hy h0 h1 h => by (try beta_reduce at hy ⊢); clear hy; omega
  swap
  · clear * - hU hT hV hh hh2 hw hs
    have hgbj : ∀ (o : ℕ) (inb : ∀ a, (![7, o, 0] : Fin 3 → ℕ) a + S1x512x128.size a ≤ S8x544x128.size a), 0 ≤ o → arg15.view.readCov (HS1_9 (F := Ideal) c arg2 harg2 arg3 harg3 arg4 harg4 arg5 harg5 arg14 arg17 x0 x1 x2 x3) (Rect.unit (s := S8x544x128) ![7, o, 0] S1x512x128.size inb).toLoadRect = tile3 T 7 o :=
      fun o inb ho => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (hV := hV) (hh := hh) (hh2 := hh2)))))))))))))))))) o inb ho (by omega)
    simp only [r_104, r_105, r_106, r_107, r_108, r_109, r_110, r_111, r_112, r_113, r_114, r_115, v1888, v1894, v1901, v1908, v1915, v1922, v1929, v1936, v1943, v1950, v1957, v1964, v1971, v1978, v1985, v1992, v1999, v2006, v2013, v2020, v2027, v2034, v2041, v2048, v2055, v2062, v2069, v2076, v2083, v2090, v2097, hgbj, hw, hs, Nat.reduceLeDiff, Nat.le_refl, Nat.zero_le]
    clear hgbj hw hs
    funext y
    idx_vars y
    pointwise [k0_pay179, k0_pay180, k0_pay181, k0_pay182, k0_pay183, k0_pay184, k0_pay185, k0_pay186, k0_pay187, k0_pay188, k0_pay189, k0_pay190, k0_pay191]
    simp only [tile3_ix, tile2_ix, convB, chain31, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hT hV hh hh2 hw hs
    have hgbj : ∀ (o : ℕ) (inb : ∀ a, (![6, o, 0] : Fin 3 → ℕ) a + S1x512x128.size a ≤ S8x544x128.size a), 0 ≤ o → arg15.view.readCov (HS1_8 (F := Ideal) c arg2 harg2 arg3 harg3 arg4 harg4 arg5 harg5 arg14 arg17 x0 x1 x2 x3) (Rect.unit (s := S8x544x128) ![6, o, 0] S1x512x128.size inb).toLoadRect = tile3 T 6 o :=
      fun o inb ho => Rows.readCov (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (hV := hV) (hh := hh) (hh2 := hh2)))))))))))))))) o inb ho (by omega)
    simp only [r_100, r_101, r_89, r_90, r_91, r_92, r_93, r_94, r_95, r_96, r_97, r_98, r_99, v1628, v1634, v1641, v1648, v1655, v1662, v1669, v1676, v1683, v1690, v1697, v1704, v1711, v1718, v1725, v1732, v1739, v1746, v1753, v1760, v1767, v1774, v1781, v1788, v1795, v1802, v1809, v1816, v1823, v1830, v1837, hgbj, hw, hs, Nat.reduceLeDiff, Nat.le_refl, Nat.zero_le]
    clear hgbj hw hs
    funext y
    idx_vars y
    pointwise [k0_pay160, k0_pay161, k0_pay162, k0_pay163, k0_pay164, k0_pay165, k0_pay166, k0_pay167, k0_pay168, k0_pay169, k0_pay170, k0_pay171, k0_pay172, k0_pay173]
    simp only [tile3_ix, tile2_ix, convB, chain31, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hT hV hh hh2 hw hs
    have hgbj : ∀ (o : ℕ) (inb : ∀ a, (![5, o, 0] : Fin 3 → ℕ) a + S1x512x128.size a ≤ S8x544x128.size a), 0 ≤ o → arg15.view.readCov (HS1_7 (F := Ideal) c arg2 harg2 arg3 harg3 arg4 harg4 arg5 harg5 arg14 arg17 x0 x1 x2 x3) (Rect.unit (s := S8x544x128) ![5, o, 0] S1x512x128.size inb).toLoadRect = tile3 T 5 o :=
      fun o inb ho => Rows.readCov (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (hV := hV) (hh := hh) (hh2 := hh2)))))))))))))) o inb ho (by omega)
    simp only [r_76, r_77, r_78, r_79, r_80, r_81, r_82, r_83, r_84, r_85, r_86, r_87, v1368, v1374, v1381, v1388, v1395, v1402, v1409, v1416, v1423, v1430, v1437, v1444, v1451, v1458, v1465, v1472, v1479, v1486, v1493, v1500, v1507, v1514, v1521, v1528, v1535, v1542, v1549, v1556, v1563, v1570, v1577, hgbj, hw, hs, Nat.reduceLeDiff, Nat.le_refl, Nat.zero_le]
    clear hgbj hw hs
    funext y
    idx_vars y
    pointwise [k0_pay143, k0_pay144, k0_pay145, k0_pay146, k0_pay147, k0_pay148, k0_pay149, k0_pay150, k0_pay151, k0_pay152, k0_pay153, k0_pay154, k0_pay155]
    simp only [tile3_ix, tile2_ix, convB, chain31, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hT hV hh hh2 hw hs
    have hgbj : ∀ (o : ℕ) (inb : ∀ a, (![4, o, 0] : Fin 3 → ℕ) a + S1x512x128.size a ≤ S8x544x128.size a), 0 ≤ o → arg15.view.readCov (HS1_6 (F := Ideal) c arg2 harg2 arg3 harg3 arg4 harg4 arg5 harg5 arg14 arg17 x0 x1 x2 x3) (Rect.unit (s := S8x544x128) ![4, o, 0] S1x512x128.size inb).toLoadRect = tile3 T 4 o :=
      fun o inb ho => Rows.readCov (gb5 (hU := hU) (hT := hT) (hb := (gb4 (hU := hU) (hT := hT) (hb := (gb3 (hU := hU) (hT := hT) (hb := (gb2 (hU := hU) (hT := hT) (hb := (gb1 (hU := hU) (hT := hT) (hb := (base (hV := hV) (hh := hh) (hh2 := hh2)))))))))))) o inb ho (by omega)
    simp only [r_62, r_63, r_64, r_65, r_66, r_67, r_68, r_69, r_70, r_71, r_72, r_73, v1108, v1114, v1121, v1128, v1135, v1142, v1149, v1156, v1163, v1170, v1177, v1184, v1191, v1198, v1205, v1212, v1219, v1226, v1233, v1240, v1247, v1254, v1261, v1268, v1275, v1282, v1289, v1296, v1303, v1310, v1317, hgbj, hw, hs, Nat.reduceLeDiff, Nat.le_refl, Nat.zero_le]
    clear hgbj hw hs
    funext y
    idx_vars y
    pointwise [k0_pay125, k0_pay126, k0_pay127, k0_pay128, k0_pay129, k0_pay130, k0_pay131, k0_pay132, k0_pay133, k0_pay134, k0_pay135, k0_pay136, k0_pay137]
    simp only [tile3_ix, tile2_ix, convB, chain31, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hT hV hh hh2 hw hs
    have hgbj : ∀ (o : ℕ) (inb : ∀ a, (![3, o, 0] : Fin 3 → ℕ) a + S1x512x128.size a ≤ S8x544x128.size a), 0 ≤ o → arg15.view.readCov (HS1_5 (F := Ideal) c arg2 harg2 arg3 harg3 arg4 harg4 arg5 harg5 arg14 arg17 x0 x1 x2 x3) (Rect.unit (s := S8x544x128) ![3, o, 0] S1x512x128.size inb).toLoadRect = tile3 T 3 o :=
      fun o inb ho => Rows.readCov (gb4 (hU := hU) (hT := hT) (hb := (gb3 (hU := hU) (hT := hT) (hb := (gb2 (hU := hU) (hT := hT) (hb := (gb1 (hU := hU) (hT := hT) (hb := (base (hV := hV) (hh := hh) (hh2 := hh2)))))))))) o inb ho (by omega)
    simp only [r_47, r_48, r_49, r_50, r_51, r_52, r_53, r_54, r_55, r_56, r_57, r_58, r_59, v1001, v1008, v1015, v1022, v1029, v1036, v1043, v1050, v1057, v848, v854, v861, v868, v875, v882, v889, v896, v903, v910, v917, v924, v931, v938, v945, v952, v959, v966, v973, v980, v987, v994, hgbj, hw, hs, Nat.reduceLeDiff, Nat.le_refl, Nat.zero_le]
    clear hgbj hw hs
    funext y
    idx_vars y
    pointwise [k0_pay106, k0_pay107, k0_pay108, k0_pay109, k0_pay110, k0_pay111, k0_pay112, k0_pay113, k0_pay114, k0_pay115, k0_pay116, k0_pay117, k0_pay118, k0_pay119]
    simp only [tile3_ix, tile2_ix, convB, chain31, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hT hV hh hh2 hw hs
    have hgbj : ∀ (o : ℕ) (inb : ∀ a, (![2, o, 0] : Fin 3 → ℕ) a + S1x512x128.size a ≤ S8x544x128.size a), 0 ≤ o → arg15.view.readCov (HS1_4 (F := Ideal) c arg2 harg2 arg3 harg3 arg4 harg4 arg5 harg5 arg14 arg17 x0 x1 x2 x3) (Rect.unit (s := S8x544x128) ![2, o, 0] S1x512x128.size inb).toLoadRect = tile3 T 2 o :=
      fun o inb ho => Rows.readCov (gb3 (hU := hU) (hT := hT) (hb := (gb2 (hU := hU) (hT := hT) (hb := (gb1 (hU := hU) (hT := hT) (hb := (base (hV := hV) (hh := hh) (hh2 := hh2)))))))) o inb ho (by omega)
    simp only [r_34, r_35, r_36, r_37, r_38, r_39, r_40, r_41, r_42, r_43, r_44, r_45, v588, v594, v601, v608, v615, v622, v629, v636, v643, v650, v657, v664, v671, v678, v685, v692, v699, v706, v713, v720, v727, v734, v741, v748, v755, v762, v769, v776, v783, v790, v797, hgbj, hw, hs, Nat.reduceLeDiff, Nat.le_refl, Nat.zero_le]
    clear hgbj hw hs
    funext y
    idx_vars y
    pointwise [k0_pay100, k0_pay101, k0_pay89, k0_pay90, k0_pay91, k0_pay92, k0_pay93, k0_pay94, k0_pay95, k0_pay96, k0_pay97, k0_pay98, k0_pay99]
    simp only [tile3_ix, tile2_ix, convB, chain31, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hT hV hh hh2 hw hs
    have hgbj : ∀ (o : ℕ) (inb : ∀ a, (![1, o, 0] : Fin 3 → ℕ) a + S1x512x128.size a ≤ S8x544x128.size a), 0 ≤ o → arg15.view.readCov (HS1_3 (F := Ideal) c arg2 harg2 arg3 harg3 arg4 harg4 arg5 harg5 arg14 arg17 x0 x1 x2 x3) (Rect.unit (s := S8x544x128) ![1, o, 0] S1x512x128.size inb).toLoadRect = tile3 T 1 o :=
      fun o inb ho => Rows.readCov (gb2 (hU := hU) (hT := hT) (hb := (gb1 (hU := hU) (hT := hT) (hb := (base (hV := hV) (hh := hh) (hh2 := hh2)))))) o inb ho (by omega)
    simp only [r_19, r_20, r_21, r_22, r_23, r_24, r_25, r_26, r_27, r_28, r_29, r_30, r_31, v328, v334, v341, v348, v355, v362, v369, v376, v383, v390, v397, v404, v411, v418, v425, v432, v439, v446, v453, v460, v467, v474, v481, v488, v495, v502, v509, v516, v523, v530, v537, hgbj, hw, hs, Nat.reduceLeDiff, Nat.le_refl, Nat.zero_le]
    clear hgbj hw hs
    funext y
    idx_vars y
    pointwise [k0_pay70, k0_pay71, k0_pay72, k0_pay73, k0_pay74, k0_pay75, k0_pay76, k0_pay77, k0_pay78, k0_pay79, k0_pay80, k0_pay81, k0_pay82, k0_pay83]
    simp only [tile3_ix, tile2_ix, convB, chain31, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hT hV hh hh2 hw hs
    have hgbj : ∀ (o : ℕ) (inb : ∀ a, (![0, o, 0] : Fin 3 → ℕ) a + S1x512x128.size a ≤ S8x544x128.size a), 0 ≤ o → arg15.view.readCov (HS1_2 (F := Ideal) c arg2 harg2 arg3 harg3 arg4 harg4 arg5 harg5 arg14 arg17 x0 x1 x2 x3) (Rect.unit (s := S8x544x128) ![0, o, 0] S1x512x128.size inb).toLoadRect = tile3 T 0 o :=
      fun o inb ho => Rows.readCov (gb1 (hU := hU) (hT := hT) (hb := (base (hV := hV) (hh := hh) (hh2 := hh2)))) o inb ho (by omega)
    simp only [r_10, r_11, r_12, r_13, r_14, r_15, r_16, r_17, r_6, r_7, r_8, r_9, v102, v109, v116, v123, v130, v137, v144, v151, v158, v165, v172, v179, v186, v193, v200, v207, v214, v221, v228, v235, v242, v249, v256, v263, v270, v277, v68, v74, v81, v88, v95, hgbj, hw, hs, Nat.reduceLeDiff, Nat.le_refl, Nat.zero_le]
    clear hgbj hw hs
    funext y
    idx_vars y
    pointwise [k0_pay53, k0_pay54, k0_pay55, k0_pay56, k0_pay57, k0_pay58, k0_pay59, k0_pay60, k0_pay61, k0_pay62, k0_pay63, k0_pay64, k0_pay65]
    simp only [tile3_ix, tile2_ix, convB, chain31, Fin.val_zero, Nat.reduceAdd, Nat.reduceMul, Nat.zero_add, Nat.add_zero]
  exact Held.nil2

/-- The mixed rows of the point. -/
theorem y (hc0 : cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) (hhA : ∀ r ch, r < 8 → ch < 1024 → TA r ch = gate (V (8 + r)) ch) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val)
    {κ' : Kind} {sp' : Space} {v : View sig κ' sp' S512x2048 .bf16} {f : v.ty.Contents (Elt Ideal)} :
    Held v f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8).1 (fun _ => True)
      (flat2 (e := .bf16) fun r => mixed (U r) (convA TA WA 6 r) (convB T WB BB 2 r) GG SS) := by
  have hr : ∀ (o : ℕ) (inb : ∀ a, (![o, 0] : Fin 2 → ℕ) a + S64x1024.size a ≤ S512x1024.size a), arg19.view.readCov (HS5_8 (F := Ideal) c arg2 harg2 arg3 harg3 arg4 harg4 arg5 harg5 arg7 harg7 arg8 harg8 arg14 arg15 arg17 x0 x1 x2 x3 x5 x6) (Rect.unit (s := S512x1024) ![o, 0] S64x1024.size inb).toLoadRect = tile2 (convB T WB BB 2) o 0 :=
    fun o inb => Held.read2 (bc (hU := hU) (hT := hT) (hV := hV) (hh := hh) (hh2 := hh2) (hWB := hWB) (hBB := hBB)) inb fun _ => trivial
  have hu : ∀ (q : ℕ) (inb : ∀ a, (![0, q] : Fin 2 → ℕ) a + S512x128.size a ≤ S512x5120.size a),
      arg14.view.readCov (HS0_1 (F := Ideal) c arg2 harg2 arg4 harg4 arg5 harg5 x0 x2 x3) (Rect.unit (s := S512x5120) ![0, q] S512x128.size inb).toLoadRect = tile2 U 0 q := readU hU
  have hw : ∀ (p q : ℕ) (inb : ∀ a, (![p, q] : Fin 2 → ℕ) a + S1x128.size a ≤ S3x1024.size a), View.readAt (Elt Ideal) arg6.view (Rect.unit (s := S3x1024) ![p, q] S1x128.size inb).toLoadRect (harg6.unread x4) = tile2 WA p q :=
    fun p q inb => by rw [View.readAt_eq_ld, harg6.read_unread]; exact ld2 x4 WA hWA p q inb
  unfold kernelRun0_A
  dsimp only
  refine Held.cons2 (D := fun y => (y 1).val < 1024 ∨ (y 0).val < 448) ?_ _ _ ?_ fun y hy h0 h1 h => by (try beta_reduce at hy ⊢); clear hy; omega
  swap
  · clear * - hr hG hS
    simp only [v_1, hr, View.readAt_eq_ld, harg9.read_unread, harg10.read_unread, ldFull2]
    clear hr
    funext y
    idx_vars y
    pointwise [k0_pay205]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 384) ?_ _ _ ?_ fun y hy h0 h1 h => by (try beta_reduce at hy ⊢); omega
  swap
  · clear * - hr hG hS
    simp only [v2297, hr, View.readAt_eq_ld, harg9.read_unread, harg10.read_unread, ldFull2]
    clear hr
    funext y
    idx_vars y
    pointwise [k0_pay204]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 320) ?_ _ _ ?_ fun y hy h0 h1 h => by (try beta_reduce at hy ⊢); omega
  swap
  · clear * - hr hG hS
    simp only [r_121, v2266, hr, View.readAt_eq_ld, harg9.read_unread, harg10.read_unread, ldFull2]
    clear hr
    funext y
    idx_vars y
    pointwise [k0_pay202, k0_pay203]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 256) ?_ _ _ ?_ fun y hy h0 h1 h => by (try beta_reduce at hy ⊢); omega
  swap
  · clear * - hr hG hS
    simp only [r_119, r_120, v2235, hr, View.readAt_eq_ld, harg9.read_unread, harg10.read_unread, ldFull2]
    clear hr
    funext y
    idx_vars y
    pointwise [k0_pay199, k0_pay200, k0_pay201]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 192) ?_ _ _ ?_ fun y hy h0 h1 h => by (try beta_reduce at hy ⊢); omega
  swap
  · clear * - hr hG hS
    simp only [v, hr, View.readAt_eq_ld, harg9.read_unread, harg10.read_unread, ldFull2]
    clear hr
    funext y
    idx_vars y
    pointwise [k0_pay198]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 128) ?_ _ _ ?_ fun y hy h0 h1 h => by (try beta_reduce at hy ⊢); omega
  swap
  · clear * - hr hG hS
    simp only [v2173, hr, View.readAt_eq_ld, harg9.read_unread, harg10.read_unread, ldFull2]
    clear hr
    funext y
    idx_vars y
    pointwise [k0_pay197]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 64) ?_ _ _ ?_ fun y hy h0 h1 h => by (try beta_reduce at hy ⊢); omega
  swap
  · clear * - hr hG hS
    simp only [r_118, v2142, hr, View.readAt_eq_ld, harg9.read_unread, harg10.read_unread, ldFull2]
    clear hr
    funext y
    idx_vars y
    pointwise [k0_pay195, k0_pay196]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 0) ?_ _ _ ?_ fun y hy h0 h1 h => by (try beta_reduce at hy ⊢); omega
  swap
  · clear * - hr hG hS
    simp only [r_116, r_117, v2111, hr, View.readAt_eq_ld, harg9.read_unread, harg10.read_unread, ldFull2]
    clear hr
    funext y
    idx_vars y
    pointwise [k0_pay192, k0_pay193, k0_pay194]
    simp only [tile2_ix]
    rw [mixed, if_neg (by omega), silu]
    simp only [layerNorm, mean, tile2_ix, hG, hS, Nat.add_sub_cancel_left, Nat.zero_add]
  refine Held.cons2 (D := fun y => (y 1).val < 896) ?_ _ _ ?_ fun y hy h0 h1 h => by (try beta_reduce at hy ⊢); omega
  swap
  · clear * - hU hTA hV hhA hw hu
    have hcvj : ∀ (o : ℕ) (inb : ∀ a, (![7, o, 0] : Fin 3 → ℕ) a + S1x512x128.size a ≤ S8x520x128.size a), 0 ≤ o → arg16.view.readCov (HS2_9 (F := Ideal) c arg2 harg2 arg3 harg3 arg4 harg4 arg5 harg5 arg14 arg18 x0 x1 x2 x3) (Rect.unit (s := S8x520x128) ![7, o, 0] S1x512x128.size inb).toLoadRect = tile3 TA 7 o :=
      fun o inb ho => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (hV := hV) (hhA := hhA)))))))))))))))))) o inb ho (by omega)
    simp only [r_102, r_103, v1851, v1865, v1871, v1878, hcvj, hw, hu, Nat.reduceLeDiff, Nat.le_refl, Nat.zero_le]
    clear hcvj hw hu
    funext y
    idx_vars y
    pointwise [k0_pay176, k0_pay177, k0_pay178]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hTA hV hhA hw hu
    have hcvj : ∀ (o : ℕ) (inb : ∀ a, (![6, o, 0] : Fin 3 → ℕ) a + S1x512x128.size a ≤ S8x520x128.size a), 0 ≤ o → arg16.view.readCov (HS2_8 (F := Ideal) c arg2 harg2 arg3 harg3 arg4 harg4 arg5 harg5 arg14 arg18 x0 x1 x2 x3) (Rect.unit (s := S8x520x128) ![6, o, 0] S1x512x128.size inb).toLoadRect = tile3 TA 6 o :=
      fun o inb ho => Rows.readCov (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (hV := hV) (hhA := hhA)))))))))))))))) o inb ho (by omega)
    simp only [v1591, v1605, v1611, v1618, hcvj, hw, hu, Nat.reduceLeDiff, Nat.le_refl, Nat.zero_le]
    clear hcvj hw hu
    funext y
    idx_vars y
    pointwise [k0_pay159]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hTA hV hhA hw hu
    have hcvj : ∀ (o : ℕ) (inb : ∀ a, (![5, o, 0] : Fin 3 → ℕ) a + S1x512x128.size a ≤ S8x520x128.size a), 0 ≤ o → arg16.view.readCov (HS2_7 (F := Ideal) c arg2 harg2 arg3 harg3 arg4 harg4 arg5 harg5 arg14 arg18 x0 x1 x2 x3) (Rect.unit (s := S8x520x128) ![5, o, 0] S1x512x128.size inb).toLoadRect = tile3 TA 5 o :=
      fun o inb ho => Rows.readCov (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (hV := hV) (hhA := hhA)))))))))))))) o inb ho (by omega)
    simp only [r_74, r_75, v1331, v1345, v1351, v1358, hcvj, hw, hu, Nat.reduceLeDiff, Nat.le_refl, Nat.zero_le]
    clear hcvj hw hu
    funext y
    idx_vars y
    pointwise [k0_pay140, k0_pay141, k0_pay142]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hTA hV hhA hw hu
    have hcvj : ∀ (o : ℕ) (inb : ∀ a, (![4, o, 0] : Fin 3 → ℕ) a + S1x512x128.size a ≤ S8x520x128.size a), 0 ≤ o → arg16.view.readCov (HS2_6 (F := Ideal) c arg2 harg2 arg3 harg3 arg4 harg4 arg5 harg5 arg14 arg18 x0 x1 x2 x3) (Rect.unit (s := S8x520x128) ![4, o, 0] S1x512x128.size inb).toLoadRect = tile3 TA 4 o :=
      fun o inb ho => Rows.readCov (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (hV := hV) (hhA := hhA)))))))))))) o inb ho (by omega)
    simp only [r_60, r_61, v1071, v1085, v1091, v1098, hcvj, hw, hu, Nat.reduceLeDiff, Nat.le_refl, Nat.zero_le]
    clear hcvj hw hu
    funext y
    idx_vars y
    pointwise [k0_pay122, k0_pay123, k0_pay124]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hTA hV hhA hw hu
    have hcvj : ∀ (o : ℕ) (inb : ∀ a, (![3, o, 0] : Fin 3 → ℕ) a + S1x512x128.size a ≤ S8x520x128.size a), 0 ≤ o → arg16.view.readCov (HS2_5 (F := Ideal) c arg2 harg2 arg3 harg3 arg4 harg4 arg5 harg5 arg14 arg18 x0 x1 x2 x3) (Rect.unit (s := S8x520x128) ![3, o, 0] S1x512x128.size inb).toLoadRect = tile3 TA 3 o :=
      fun o inb ho => Rows.readCov (cv4 (hU := hU) (hTA := hTA) (hb := (cv3 (hU := hU) (hTA := hTA) (hb := (cv2 (hU := hU) (hTA := hTA) (hb := (cv1 (hU := hU) (hTA := hTA) (hb := (baseA (hV := hV) (hhA := hhA)))))))))) o inb ho (by omega)
    simp only [v811, v825, v831, v838, hcvj, hw, hu, Nat.reduceLeDiff, Nat.le_refl, Nat.zero_le]
    clear hcvj hw hu
    funext y
    idx_vars y
    pointwise [k0_pay105]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hTA hV hhA hw hu
    have hcvj : ∀ (o : ℕ) (inb : ∀ a, (![2, o, 0] : Fin 3 → ℕ) a + S1x512x128.size a ≤ S8x520x128.size a), 0 ≤ o → arg16.view.readCov (HS2_4 (F := Ideal) c arg2 harg2 arg3 harg3 arg4 harg4 arg5 harg5 arg14 arg18 x0 x1 x2 x3) (Rect.unit (s := S8x520x128) ![2, o, 0] S1x512x128.size inb).toLoadRect = tile3 TA 2 o :=
      fun o inb ho => Rows.readCov (cv3 (hU := hU) (hTA := hTA) (hb := (cv2 (hU := hU) (hTA := hTA) (hb := (cv1 (hU := hU) (hTA := hTA) (hb := (baseA (hV := hV) (hhA := hhA)))))))) o inb ho (by omega)
    simp only [r_32, r_33, v551, v565, v571, v578, hcvj, hw, hu, Nat.reduceLeDiff, Nat.le_refl, Nat.zero_le]
    clear hcvj hw hu
    funext y
    idx_vars y
    pointwise [k0_pay86, k0_pay87, k0_pay88]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hTA hV hhA hw hu
    have hcvj : ∀ (o : ℕ) (inb : ∀ a, (![1, o, 0] : Fin 3 → ℕ) a + S1x512x128.size a ≤ S8x520x128.size a), 0 ≤ o → arg16.view.readCov (HS2_3 (F := Ideal) c arg2 harg2 arg3 harg3 arg4 harg4 arg5 harg5 arg14 arg18 x0 x1 x2 x3) (Rect.unit (s := S8x520x128) ![1, o, 0] S1x512x128.size inb).toLoadRect = tile3 TA 1 o :=
      fun o inb ho => Rows.readCov (cv2 (hU := hU) (hTA := hTA) (hb := (cv1 (hU := hU) (hTA := hTA) (hb := (baseA (hV := hV) (hhA := hhA)))))) o inb ho (by omega)
    simp only [v291, v305, v311, v318, hcvj, hw, hu, Nat.reduceLeDiff, Nat.le_refl, Nat.zero_le]
    clear hcvj hw hu
    funext y
    idx_vars y
    pointwise [k0_pay69]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hTA hV hhA hw hu
    have hcvj : ∀ (o : ℕ) (inb : ∀ a, (![0, o, 0] : Fin 3 → ℕ) a + S1x512x128.size a ≤ S8x520x128.size a), 0 ≤ o → arg16.view.readCov (HS2_2 (F := Ideal) c arg2 harg2 arg3 harg3 arg4 harg4 arg5 harg5 arg14 arg18 x0 x1 x2 x3) (Rect.unit (s := S8x520x128) ![0, o, 0] S1x512x128.size inb).toLoadRect = tile3 TA 0 o :=
      fun o inb ho => Rows.readCov (cv1 (hU := hU) (hTA := hTA) (hb := (baseA (hV := hV) (hhA := hhA)))) o inb ho (by omega)
    simp only [r_4, r_5, v31, v45, v51, v58, hcvj, hw, hu, Nat.reduceLeDiff, Nat.le_refl, Nat.zero_le]
    clear hcvj hw hu
    funext y
    idx_vars y
    pointwise [k0_pay50, k0_pay51, k0_pay52]
    simp only [tile2_ix]
    rw [mixed, if_pos (by omega)]
    simp only [tile3_ix, tile2_ix, convA, chain3, Fin.val_zero, Nat.reduceAdd, Nat.reduceMul, Nat.zero_add, Nat.add_zero]
  exact Held.nil2

/-- The halo the point leaves for the next one. -/
theorem gbHalo (hc0 : cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) {κ' : Kind} {sp' : Space} {v : View sig κ' sp' S8x544x128 .f32} {f : v.ty.Contents (Elt Ideal)} :
    Held v f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8).2.2.2.1 (fun y => (y 1).val < 32) (lay fun r ch => T (512 + r) ch) := by
  unfold kernelRun0_A
  dsimp only
  refine Held.halo _ _ ?_
  have h8 : arg15.view.readCov (HS1_9 (F := Ideal) c arg2 harg2 arg3 harg3 arg4 harg4 arg5 harg5 arg14 arg17 x0 x1 x2 x3) (Rect.unit (s := S8x544x128) ![0, 512, 0] S8x32x128.size inb_S8x544x128_S8x32x128_0_512_0).toLoadRect
      = lay (N := 32) (fun r ch => T (512 + r) ch) :=
    Rows.readCov8 (n := 32) (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (hV := hV) (hh := hh) (hh2 := hh2)))))))))))))))))) 512 inb_S8x544x128_S8x32x128_0_512_0 (by omega)
  unfold v2362
  rw [h8]
  funext y
  idx_vars y
  pointwise [k0_pay207]

/-- The halo the point leaves for the next one. -/
theorem cvHalo (hc0 : cond0_0 i) (hc1 : cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) {κ' : Kind} {sp' : Space} {v : View sig κ' sp' S8x520x128 .f32} {f : v.ty.Contents (Elt Ideal)} :
    Held v f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8).2.2.2.2.1 (fun y => (y 1).val < 8) (lay fun r ch => TA (512 + r) ch) := by
  unfold kernelRun0_A
  dsimp only
  refine Held.halo _ _ ?_
  have h8 : arg16.view.readCov (HS2_9 (F := Ideal) c arg2 harg2 arg3 harg3 arg4 harg4 arg5 harg5 arg14 arg18 x0 x1 x2 x3) (Rect.unit (s := S8x520x128) ![0, 512, 0] S8x8x128.size inb_S8x520x128_S8x8x128_0_512_0).toLoadRect
      = lay (N := 8) (fun r ch => TA (512 + r) ch) :=
    Rows.readCov8 (n := 8) (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (hV := hV) (hhA := hhA)))))))))))))))))) 512 inb_S8x520x128_S8x8x128_0_512_0 (by omega)
  unfold v2366
  rw [h8]
  funext y
  idx_vars y
  pointwise [k0_pay1]

theorem gbMeta (hc0 : cond0_0 i) (hc1 : cond0_1 i) (hc2 : ¬cond0_2 i) {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) {κ' : Kind} {sp' : Space} {v : View sig κ' sp' S8x32x128 .f32} {f : v.ty.Contents (Elt Ideal)} :
    Held v f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8).2.2.2.2.2.1 (fun _ => True) (lay T) := by
  unfold kernelRun0_A
  dsimp only
  exact metaGb (hV := hV) (hh := hh) (hh2 := hh2)

theorem cvMeta (hc0 : cond0_0 i) (hc1 : cond0_1 i) (hc2 : ¬cond0_2 i) {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) {κ' : Kind} {sp' : Space} {v : View sig κ' sp' S8x8x128 .f32} {f : v.ty.Contents (Elt Ideal)} :
    Held v f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8).2.2.2.2.2.2.1 (fun _ => True) (lay TA) := by
  unfold kernelRun0_A
  dsimp only
  exact metaCv (hV := hV) (hhA := hhA)

end Cert.Mix.CaseA

end
-- ==== Proof.Mix.CaseB.lean ====
/- What one grid point of the kernel leaves, case B: the rows of the two sequences, the mixed rows and the halos. -/
module

public import proofs.«01_k».proof.Proof.Gen.KernelIdeal.Frame.RunB
public import proofs.«01_k».proof.Proof.Mix.Tiles

@[expose] public section

set_option maxRecDepth 16384
set_option maxHeartbeats 2000000

noncomputable section

namespace Cert.Mix.CaseB

open Cert.KernelIdeal Cert.KernelIdeal.Gen Cert.KernelIdeal.Gen.kernelRun0_B.sl
open Idealize.ShloMosaic Idealize.ShloMosaic.TcCoe

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

/-- The projection read back at a lane group. -/
theorem readU (hU : ∀ (r : Fin 512) (j : Fin 5120), k0_pay47 (F := Ideal) x0 x2 x3 (ix2 r j) = U r.val j.val) (q : ℕ)
    (inb : ∀ a, (![0, q] : Fin 2 → ℕ) a + S512x128.size a ≤ S512x5120.size a) :
    arg14.view.readCov (HS0_1 (F := Ideal) c arg2 harg2 arg4 harg4 arg5 harg5 x0 x2 x3) (Rect.unit (s := S512x5120) ![0, q] S512x128.size inb).toLoadRect = tile2 U 0 q := by
  refine Held.read2 (D := fun _ => True) ?_ inb fun _ => trivial
  unfold HS0_1
  refine Held.cons2 Held.nil2 _ _ ?_ fun y _ h0 h1 h => by omega
  simp only [View.readAt_eq_ld, harg2.read_unread, harg4.read_unread, harg5.read_unread, ldFull3, ldFull2]
  funext y
  idx_vars y
  rw [hU, tile2_ix, Nat.zero_add, Nat.zero_add]

theorem gb1 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f [] T 32 h 0) :
    Rows arg15.view f (HS1_1 (F := Ideal) c arg2 harg2 arg4 harg4 arg5 harg5 arg14 x0 x2 x3) T 32 h 1 := by
  unfold HS1_1
  refine Rows.step hb rfl _ _ ?_
  simp only [v34, v35, readU hU]
  funext y
  idx_vars y
  pointwise [k0_pay49]
  simp only [tile3_ix, tile2_ix, Nat.zero_add]
  rw [hT _ _ (by omega) (by omega), glu]
  simp only [← Nat.add_assoc, Nat.reduceAdd, Nat.reduceMul, Nat.zero_add]

theorem gb2 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_1 (F := Ideal) c arg2 harg2 arg4 harg4 arg5 harg5 arg14 x0 x2 x3) T 32 h 1) :
    Rows arg15.view f (HS1_2 (F := Ideal) c arg2 harg2 arg4 harg4 arg5 harg5 arg14 x0 x2 x3) T 32 h 2 := by
  unfold HS1_2
  refine Rows.step hb rfl _ _ ?_
  simp only [r_14, v294, v295, readU hU]
  funext y
  idx_vars y
  pointwise [k0_pay67, k0_pay68]
  simp only [tile3_ix, tile2_ix, Nat.zero_add]
  rw [hT _ _ (by omega) (by omega), glu]
  simp only [← Nat.add_assoc, Nat.reduceAdd, Nat.reduceMul, Nat.zero_add]

theorem gb3 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_2 (F := Ideal) c arg2 harg2 arg4 harg4 arg5 harg5 arg14 x0 x2 x3) T 32 h 2) :
    Rows arg15.view f (HS1_3 (F := Ideal) c arg2 harg2 arg4 harg4 arg5 harg5 arg14 x0 x2 x3) T 32 h 3 := by
  unfold HS1_3
  refine Rows.step hb rfl _ _ ?_
  simp only [v554, v555, readU hU]
  funext y
  idx_vars y
  pointwise [k0_pay85]
  simp only [tile3_ix, tile2_ix, Nat.zero_add]
  rw [hT _ _ (by omega) (by omega), glu]
  simp only [← Nat.add_assoc, Nat.reduceAdd, Nat.reduceMul, Nat.zero_add]

theorem gb4 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_3 (F := Ideal) c arg2 harg2 arg4 harg4 arg5 harg5 arg14 x0 x2 x3) T 32 h 3) :
    Rows arg15.view f (HS1_4 (F := Ideal) c arg2 harg2 arg4 harg4 arg5 harg5 arg14 x0 x2 x3) T 32 h 4 := by
  unfold HS1_4
  refine Rows.step hb rfl _ _ ?_
  simp only [v814, v815, readU hU]
  funext y
  idx_vars y
  pointwise [k0_pay104]
  simp only [tile3_ix, tile2_ix, Nat.zero_add]
  rw [hT _ _ (by omega) (by omega), glu]
  simp only [← Nat.add_assoc, Nat.reduceAdd, Nat.reduceMul, Nat.zero_add]

theorem gb5 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_4 (F := Ideal) c arg2 harg2 arg4 harg4 arg5 harg5 arg14 x0 x2 x3) T 32 h 4) :
    Rows arg15.view f (HS1_5 (F := Ideal) c arg2 harg2 arg4 harg4 arg5 harg5 arg14 x0 x2 x3) T 32 h 5 := by
  unfold HS1_5
  refine Rows.step hb rfl _ _ ?_
  simp only [v1074, v1075, readU hU]
  funext y
  idx_vars y
  pointwise [k0_pay121]
  simp only [tile3_ix, tile2_ix, Nat.zero_add]
  rw [hT _ _ (by omega) (by omega), glu]
  simp only [← Nat.add_assoc, Nat.reduceAdd, Nat.reduceMul, Nat.zero_add]

theorem gb6 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_5 (F := Ideal) c arg2 harg2 arg4 harg4 arg5 harg5 arg14 x0 x2 x3) T 32 h 5) :
    Rows arg15.view f (HS1_6 (F := Ideal) c arg2 harg2 arg4 harg4 arg5 harg5 arg14 x0 x2 x3) T 32 h 6 := by
  unfold HS1_6
  refine Rows.step hb rfl _ _ ?_
  simp only [v1334, v1335, readU hU]
  funext y
  idx_vars y
  pointwise [k0_pay139]
  simp only [tile3_ix, tile2_ix, Nat.zero_add]
  rw [hT _ _ (by omega) (by omega), glu]
  simp only [← Nat.add_assoc, Nat.reduceAdd, Nat.reduceMul, Nat.zero_add]

theorem gb7 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_6 (F := Ideal) c arg2 harg2 arg4 harg4 arg5 harg5 arg14 x0 x2 x3) T 32 h 6) :
    Rows arg15.view f (HS1_7 (F := Ideal) c arg2 harg2 arg4 harg4 arg5 harg5 arg14 x0 x2 x3) T 32 h 7 := by
  unfold HS1_7
  refine Rows.step hb rfl _ _ ?_
  simp only [r_84, v1594, v1595, readU hU]
  funext y
  idx_vars y
  pointwise [k0_pay157, k0_pay158]
  simp only [tile3_ix, tile2_ix, Nat.zero_add]
  rw [hT _ _ (by omega) (by omega), glu]
  simp only [← Nat.add_assoc, Nat.reduceAdd, Nat.reduceMul, Nat.zero_add]

theorem gb8 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_7 (F := Ideal) c arg2 harg2 arg4 harg4 arg5 harg5 arg14 x0 x2 x3) T 32 h 7) :
    Rows arg15.view f (HS1_8 (F := Ideal) c arg2 harg2 arg4 harg4 arg5 harg5 arg14 x0 x2 x3) T 32 h 8 := by
  unfold HS1_8
  refine Rows.step hb rfl _ _ ?_
  simp only [v1854, v1855, readU hU]
  funext y
  idx_vars y
  pointwise [k0_pay175]
  simp only [tile3_ix, tile2_ix, Nat.zero_add]
  rw [hT _ _ (by omega) (by omega), glu]
  simp only [← Nat.add_assoc, Nat.reduceAdd, Nat.reduceMul, Nat.zero_add]

theorem cv1 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f [] TA 8 h 0) :
    Rows arg16.view f (HS2_1 (F := Ideal) c arg2 harg2 arg4 harg4 arg5 harg5 arg14 x0 x2 x3) TA 8 h 1 := by
  unfold HS2_1
  refine Rows.step hb rfl _ _ ?_
  simp only [v32, v33, readU hU]
  funext y
  idx_vars y
  pointwise [k0_pay48]
  simp only [tile3_ix, tile2_ix, Nat.zero_add]
  rw [hTA _ _ (by omega) (by omega), gate]
  simp only [← Nat.add_assoc, Nat.reduceAdd, Nat.reduceMul, Nat.zero_add]

theorem cv2 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_1 (F := Ideal) c arg2 harg2 arg4 harg4 arg5 harg5 arg14 x0 x2 x3) TA 8 h 1) :
    Rows arg16.view f (HS2_2 (F := Ideal) c arg2 harg2 arg4 harg4 arg5 harg5 arg14 x0 x2 x3) TA 8 h 2 := by
  unfold HS2_2
  refine Rows.step hb rfl _ _ ?_
  simp only [v292, v293, readU hU]
  funext y
  idx_vars y
  pointwise [k0_pay66]
  simp only [tile3_ix, tile2_ix, Nat.zero_add]
  rw [hTA _ _ (by omega) (by omega), gate]
  simp only [← Nat.add_assoc, Nat.reduceAdd, Nat.reduceMul, Nat.zero_add]

theorem cv3 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_2 (F := Ideal) c arg2 harg2 arg4 harg4 arg5 harg5 arg14 x0 x2 x3) TA 8 h 2) :
    Rows arg16.view f (HS2_3 (F := Ideal) c arg2 harg2 arg4 harg4 arg5 harg5 arg14 x0 x2 x3) TA 8 h 3 := by
  unfold HS2_3
  refine Rows.step hb rfl _ _ ?_
  simp only [v552, v553, readU hU]
  funext y
  idx_vars y
  pointwise [k0_pay84]
  simp only [tile3_ix, tile2_ix, Nat.zero_add]
  rw [hTA _ _ (by omega) (by omega), gate]
  simp only [← Nat.add_assoc, Nat.reduceAdd, Nat.reduceMul, Nat.zero_add]

theorem cv4 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_3 (F := Ideal) c arg2 harg2 arg4 harg4 arg5 harg5 arg14 x0 x2 x3) TA 8 h 3) :
    Rows arg16.view f (HS2_4 (F := Ideal) c arg2 harg2 arg4 harg4 arg5 harg5 arg14 x0 x2 x3) TA 8 h 4 := by
  unfold HS2_4
  refine Rows.step hb rfl _ _ ?_
  simp only [r_42, v812, v813, readU hU]
  funext y
  idx_vars y
  pointwise [k0_pay102, k0_pay103]
  simp only [tile3_ix, tile2_ix, Nat.zero_add]
  rw [hTA _ _ (by omega) (by omega), gate]
  simp only [← Nat.add_assoc, Nat.reduceAdd, Nat.reduceMul, Nat.zero_add]

theorem cv5 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_4 (F := Ideal) c arg2 harg2 arg4 harg4 arg5 harg5 arg14 x0 x2 x3) TA 8 h 4) :
    Rows arg16.view f (HS2_5 (F := Ideal) c arg2 harg2 arg4 harg4 arg5 harg5 arg14 x0 x2 x3) TA 8 h 5 := by
  unfold HS2_5
  refine Rows.step hb rfl _ _ ?_
  simp only [v1072, v1073, readU hU]
  funext y
  idx_vars y
  pointwise [k0_pay120]
  simp only [tile3_ix, tile2_ix, Nat.zero_add]
  rw [hTA _ _ (by omega) (by omega), gate]
  simp only [← Nat.add_assoc, Nat.reduceAdd, Nat.reduceMul, Nat.zero_add]

theorem cv6 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_5 (F := Ideal) c arg2 harg2 arg4 harg4 arg5 harg5 arg14 x0 x2 x3) TA 8 h 5) :
    Rows arg16.view f (HS2_6 (F := Ideal) c arg2 harg2 arg4 harg4 arg5 harg5 arg14 x0 x2 x3) TA 8 h 6 := by
  unfold HS2_6
  refine Rows.step hb rfl _ _ ?_
  simp only [v1332, v1333, readU hU]
  funext y
  idx_vars y
  pointwise [k0_pay138]
  simp only [tile3_ix, tile2_ix, Nat.zero_add]
  rw [hTA _ _ (by omega) (by omega), gate]
  simp only [← Nat.add_assoc, Nat.reduceAdd, Nat.reduceMul, Nat.zero_add]

theorem cv7 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_6 (F := Ideal) c arg2 harg2 arg4 harg4 arg5 harg5 arg14 x0 x2 x3) TA 8 h 6) :
    Rows arg16.view f (HS2_7 (F := Ideal) c arg2 harg2 arg4 harg4 arg5 harg5 arg14 x0 x2 x3) TA 8 h 7 := by
  unfold HS2_7
  refine Rows.step hb rfl _ _ ?_
  simp only [v1592, v1593, readU hU]
  funext y
  idx_vars y
  pointwise [k0_pay156]
  simp only [tile3_ix, tile2_ix, Nat.zero_add]
  rw [hTA _ _ (by omega) (by omega), gate]
  simp only [← Nat.add_assoc, Nat.reduceAdd, Nat.reduceMul, Nat.zero_add]

theorem cv8 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_7 (F := Ideal) c arg2 harg2 arg4 harg4 arg5 harg5 arg14 x0 x2 x3) TA 8 h 7) :
    Rows arg16.view f (HS2_8 (F := Ideal) c arg2 harg2 arg4 harg4 arg5 harg5 arg14 x0 x2 x3) TA 8 h 8 := by
  unfold HS2_8
  refine Rows.step hb rfl _ _ ?_
  simp only [v1852, v1853, readU hU]
  funext y
  idx_vars y
  pointwise [k0_pay174]
  simp only [tile3_ix, tile2_ix, Nat.zero_add]
  rw [hTA _ _ (by omega) (by omega), gate]
  simp only [← Nat.add_assoc, Nat.reduceAdd, Nat.reduceMul, Nat.zero_add]

theorem base (hh : ∀ (c : Fin 8) (r : Fin 544) (l : Fin 128), r.val < 32 → xs1 (ix3 c r l) = T r.val (128 * c.val + l.val)) : Rows arg15.view (harg15.unread xs1) [] T 32 0 0 :=
  Rows.base (by omega) fun a r l hr => by rw [harg15.read_unread]; exact hh a r l hr

theorem baseA (hhA : ∀ (c : Fin 8) (r : Fin 520) (l : Fin 128), r.val < 8 → xs2 (ix3 c r l) = TA r.val (128 * c.val + l.val)) : Rows arg16.view (harg16.unread xs2) [] TA 8 0 0 :=
  Rows.base (by omega) fun a r l hr => by rw [harg16.read_unread]; exact hhA a r l hr

/-- The wide convolution of the point's rows. -/
theorem bc (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) (hWB : ∀ (k : Fin 31) (j : Fin 1024), x5 (ix2 k j) = WB k.val j.val) (hBB : ∀ (z : Fin 1) (j : Fin 1024), x6 (ix2 z j) = BB j.val) :
    Held arg19.view arg19.view.junk (HS5_8 (F := Ideal) c arg2 harg2 arg4 harg4 arg5 harg5 arg7 harg7 arg8 harg8 arg14 arg15 harg15 x0 x2 x3 x5 x6 xs1) (fun _ => True) (flat2 (convB T WB BB 2)) := by
  have hw : ∀ (p q : ℕ) (inb : ∀ a, (![p, q] : Fin 2 → ℕ) a + S1x128.size a ≤ S31x1024.size a), View.readAt (Elt Ideal) arg7.view (Rect.unit (s := S31x1024) ![p, q] S1x128.size inb).toLoadRect (harg7.unread x5) = tile2 WB p q :=
    fun p q inb => by rw [View.readAt_eq_ld, harg7.read_unread]; exact ld2 x5 WB hWB p q inb
  have hs : ∀ (p q : ℕ) (inb : ∀ a, (![p, q] : Fin 2 → ℕ) a + S1x128.size a ≤ S1x1024.size a), View.readAt (Elt Ideal) arg8.view (Rect.unit (s := S1x1024) ![p, q] S1x128.size inb).toLoadRect (harg8.unread x6) = tile2 (fun _ ch => BB ch) p q :=
    fun p q inb => by rw [View.readAt_eq_ld, harg8.read_unread]; exact ld2 x6 (fun _ ch => BB ch) hBB p q inb
  unfold HS5_8
  refine Held.cons2 (D := fun y => (y 1).val < 896) ?_ _ _ ?_ fun y hy h0 h1 h => by (try beta_reduce at hy ⊢); clear hy; omega
  swap
  · clear * - hU hT hh hw hs
    have hgb : ∀ (o : ℕ) (inb : ∀ a, (![7, o, 0] : Fin 3 → ℕ) a + S1x512x128.size a ≤ S8x544x128.size a), View.readAt (Elt Ideal) arg15.view (Rect.unit (s := S8x544x128) ![7, o, 0] S1x512x128.size inb).toLoadRect (arg15.view.writes (Elt Ideal) (harg15.unread xs1) (HS1_8 (F := Ideal) c arg2 harg2 arg4 harg4 arg5 harg5 arg14 x0 x2 x3)) = tile3 T 7 o :=
      fun o inb => Rows.read (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))))))) o inb (Nat.zero_le _) (by omega)
    have hgbj : ∀ (o : ℕ) (inb : ∀ a, (![7, o, 0] : Fin 3 → ℕ) a + S1x512x128.size a ≤ S8x544x128.size a), 32 ≤ o → arg15.view.readCov (HS1_8 (F := Ideal) c arg2 harg2 arg4 harg4 arg5 harg5 arg14 x0 x2 x3) (Rect.unit (s := S8x544x128) ![7, o, 0] S1x512x128.size inb).toLoadRect = tile3 T 7 o :=
      fun o inb ho => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) o inb ho (by omega)
    simp only [r_100, r_101, r_102, r_103, r_104, r_105, r_106, r_107, r_108, r_109, r_110, r_111, v1888, v1894, v1901, v1908, v1915, v1922, v1929, v1936, v1943, v1950, v1957, v1964, v1971, v1978, v1985, v1992, v1999, v2006, v2013, v2020, v2027, v2034, v2041, v2048, v2055, v2062, v2069, v2076, v2083, v2090, v2097, hgb, hgbj, hw, hs, Nat.reduceLeDiff, Nat.le_refl, Nat.zero_le]
    clear hgb hgbj hw hs
    funext y
    idx_vars y
    pointwise [k0_pay179, k0_pay180, k0_pay181, k0_pay182, k0_pay183, k0_pay184, k0_pay185, k0_pay186, k0_pay187, k0_pay188, k0_pay189, k0_pay190, k0_pay191]
    simp only [tile3_ix, tile2_ix, convB, chain31, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hT hh hw hs
    have hgb : ∀ (o : ℕ) (inb : ∀ a, (![6, o, 0] : Fin 3 → ℕ) a + S1x512x128.size a ≤ S8x544x128.size a), View.readAt (Elt Ideal) arg15.view (Rect.unit (s := S8x544x128) ![6, o, 0] S1x512x128.size inb).toLoadRect (arg15.view.writes (Elt Ideal) (harg15.unread xs1) (HS1_7 (F := Ideal) c arg2 harg2 arg4 harg4 arg5 harg5 arg14 x0 x2 x3)) = tile3 T 6 o :=
      fun o inb => Rows.read (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))))) o inb (Nat.zero_le _) (by omega)
    have hgbj : ∀ (o : ℕ) (inb : ∀ a, (![6, o, 0] : Fin 3 → ℕ) a + S1x512x128.size a ≤ S8x544x128.size a), 32 ≤ o → arg15.view.readCov (HS1_7 (F := Ideal) c arg2 harg2 arg4 harg4 arg5 harg5 arg14 x0 x2 x3) (Rect.unit (s := S8x544x128) ![6, o, 0] S1x512x128.size inb).toLoadRect = tile3 T 6 o :=
      fun o inb ho => Rows.readCov (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))) o inb ho (by omega)
    simp only [r_85, r_86, r_87, r_88, r_89, r_90, r_91, r_92, r_93, r_94, r_95, r_96, r_97, v1628, v1634, v1641, v1648, v1655, v1662, v1669, v1676, v1683, v1690, v1697, v1704, v1711, v1718, v1725, v1732, v1739, v1746, v1753, v1760, v1767, v1774, v1781, v1788, v1795, v1802, v1809, v1816, v1823, v1830, v1837, hgb, hgbj, hw, hs, Nat.reduceLeDiff, Nat.le_refl, Nat.zero_le]
    clear hgb hgbj hw hs
    funext y
    idx_vars y
    pointwise [k0_pay160, k0_pay161, k0_pay162, k0_pay163, k0_pay164, k0_pay165, k0_pay166, k0_pay167, k0_pay168, k0_pay169, k0_pay170, k0_pay171, k0_pay172, k0_pay173]
    simp only [tile3_ix, tile2_ix, convB, chain31, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hT hh hw hs
    have hgb : ∀ (o : ℕ) (inb : ∀ a, (![5, o, 0] : Fin 3 → ℕ) a + S1x512x128.size a ≤ S8x544x128.size a), View.readAt (Elt Ideal) arg15.view (Rect.unit (s := S8x544x128) ![5, o, 0] S1x512x128.size inb).toLoadRect (arg15.view.writes (Elt Ideal) (harg15.unread xs1) (HS1_6 (F := Ideal) c arg2 harg2 arg4 harg4 arg5 harg5 arg14 x0 x2 x3)) = tile3 T 5 o :=
      fun o inb => Rows.read (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))) o inb (Nat.zero_le _) (by omega)
    have hgbj : ∀ (o : ℕ) (inb : ∀ a, (![5, o, 0] : Fin 3 → ℕ) a + S1x512x128.size a ≤ S8x544x128.size a), 32 ≤ o → arg15.view.readCov (HS1_6 (F := Ideal) c arg2 harg2 arg4 harg4 arg5 harg5 arg14 x0 x2 x3) (Rect.unit (s := S8x544x128) ![5, o, 0] S1x512x128.size inb).toLoadRect = tile3 T 5 o :=
      fun o inb ho => Rows.readCov (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))) o inb ho (by omega)
    simp only [r_72, r_73, r_74, r_75, r_76, r_77, r_78, r_79, r_80, r_81, r_82, r_83, v1368, v1374, v1381, v1388, v1395, v1402, v1409, v1416, v1423, v1430, v1437, v1444, v1451, v1458, v1465, v1472, v1479, v1486, v1493, v1500, v1507, v1514, v1521, v1528, v1535, v1542, v1549, v1556, v1563, v1570, v1577, hgb, hgbj, hw, hs, Nat.reduceLeDiff, Nat.le_refl, Nat.zero_le]
    clear hgb hgbj hw hs
    funext y
    idx_vars y
    pointwise [k0_pay143, k0_pay144, k0_pay145, k0_pay146, k0_pay147, k0_pay148, k0_pay149, k0_pay150, k0_pay151, k0_pay152, k0_pay153, k0_pay154, k0_pay155]
    simp only [tile3_ix, tile2_ix, convB, chain31, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hT hh hw hs
    have hgb : ∀ (o : ℕ) (inb : ∀ a, (![4, o, 0] : Fin 3 → ℕ) a + S1x512x128.size a ≤ S8x544x128.size a), View.readAt (Elt Ideal) arg15.view (Rect.unit (s := S8x544x128) ![4, o, 0] S1x512x128.size inb).toLoadRect (arg15.view.writes (Elt Ideal) (harg15.unread xs1) (HS1_5 (F := Ideal) c arg2 harg2 arg4 harg4 arg5 harg5 arg14 x0 x2 x3)) = tile3 T 4 o :=
      fun o inb => Rows.read (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))) o inb (Nat.zero_le _) (by omega)
    have hgbj : ∀ (o : ℕ) (inb : ∀ a, (![4, o, 0] : Fin 3 → ℕ) a + S1x512x128.size a ≤ S8x544x128.size a), 32 ≤ o → arg15.view.readCov (HS1_5 (F := Ideal) c arg2 harg2 arg4 harg4 arg5 harg5 arg14 x0 x2 x3) (Rect.unit (s := S8x544x128) ![4, o, 0] S1x512x128.size inb).toLoadRect = tile3 T 4 o :=
      fun o inb ho => Rows.readCov (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))) o inb ho (by omega)
    simp only [r_58, r_59, r_60, r_61, r_62, r_63, r_64, r_65, r_66, r_67, r_68, r_69, v1108, v1114, v1121, v1128, v1135, v1142, v1149, v1156, v1163, v1170, v1177, v1184, v1191, v1198, v1205, v1212, v1219, v1226, v1233, v1240, v1247, v1254, v1261, v1268, v1275, v1282, v1289, v1296, v1303, v1310, v1317, hgb, hgbj, hw, hs, Nat.reduceLeDiff, Nat.le_refl, Nat.zero_le]
    clear hgb hgbj hw hs
    funext y
    idx_vars y
    pointwise [k0_pay125, k0_pay126, k0_pay127, k0_pay128, k0_pay129, k0_pay130, k0_pay131, k0_pay132, k0_pay133, k0_pay134, k0_pay135, k0_pay136, k0_pay137]
    simp only [tile3_ix, tile2_ix, convB, chain31, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hT hh hw hs
    have hgb : ∀ (o : ℕ) (inb : ∀ a, (![3, o, 0] : Fin 3 → ℕ) a + S1x512x128.size a ≤ S8x544x128.size a), View.readAt (Elt Ideal) arg15.view (Rect.unit (s := S8x544x128) ![3, o, 0] S1x512x128.size inb).toLoadRect (arg15.view.writes (Elt Ideal) (harg15.unread xs1) (HS1_4 (F := Ideal) c arg2 harg2 arg4 harg4 arg5 harg5 arg14 x0 x2 x3)) = tile3 T 3 o :=
      fun o inb => Rows.read (gb4 (hU := hU) (hT := hT) (hb := (gb3 (hU := hU) (hT := hT) (hb := (gb2 (hU := hU) (hT := hT) (hb := (gb1 (hU := hU) (hT := hT) (hb := (base (harg15 := harg15) (hh := hh)))))))))) o inb (Nat.zero_le _) (by omega)
    have hgbj : ∀ (o : ℕ) (inb : ∀ a, (![3, o, 0] : Fin 3 → ℕ) a + S1x512x128.size a ≤ S8x544x128.size a), 32 ≤ o → arg15.view.readCov (HS1_4 (F := Ideal) c arg2 harg2 arg4 harg4 arg5 harg5 arg14 x0 x2 x3) (Rect.unit (s := S8x544x128) ![3, o, 0] S1x512x128.size inb).toLoadRect = tile3 T 3 o :=
      fun o inb ho => Rows.readCov (gb4 (hU := hU) (hT := hT) (hb := (gb3 (hU := hU) (hT := hT) (hb := (gb2 (hU := hU) (hT := hT) (hb := (gb1 (hU := hU) (hT := hT) (hb := Rows.none)))))))) o inb ho (by omega)
    simp only [r_43, r_44, r_45, r_46, r_47, r_48, r_49, r_50, r_51, r_52, r_53, r_54, r_55, v1001, v1008, v1015, v1022, v1029, v1036, v1043, v1050, v1057, v848, v854, v861, v868, v875, v882, v889, v896, v903, v910, v917, v924, v931, v938, v945, v952, v959, v966, v973, v980, v987, v994, hgb, hgbj, hw, hs, Nat.reduceLeDiff, Nat.le_refl, Nat.zero_le]
    clear hgb hgbj hw hs
    funext y
    idx_vars y
    pointwise [k0_pay106, k0_pay107, k0_pay108, k0_pay109, k0_pay110, k0_pay111, k0_pay112, k0_pay113, k0_pay114, k0_pay115, k0_pay116, k0_pay117, k0_pay118, k0_pay119]
    simp only [tile3_ix, tile2_ix, convB, chain31, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hT hh hw hs
    have hgb : ∀ (o : ℕ) (inb : ∀ a, (![2, o, 0] : Fin 3 → ℕ) a + S1x512x128.size a ≤ S8x544x128.size a), View.readAt (Elt Ideal) arg15.view (Rect.unit (s := S8x544x128) ![2, o, 0] S1x512x128.size inb).toLoadRect (arg15.view.writes (Elt Ideal) (harg15.unread xs1) (HS1_3 (F := Ideal) c arg2 harg2 arg4 harg4 arg5 harg5 arg14 x0 x2 x3)) = tile3 T 2 o :=
      fun o inb => Rows.read (gb3 (hU := hU) (hT := hT) (hb := (gb2 (hU := hU) (hT := hT) (hb := (gb1 (hU := hU) (hT := hT) (hb := (base (harg15 := harg15) (hh := hh)))))))) o inb (Nat.zero_le _) (by omega)
    have hgbj : ∀ (o : ℕ) (inb : ∀ a, (![2, o, 0] : Fin 3 → ℕ) a + S1x512x128.size a ≤ S8x544x128.size a), 32 ≤ o → arg15.view.readCov (HS1_3 (F := Ideal) c arg2 harg2 arg4 harg4 arg5 harg5 arg14 x0 x2 x3) (Rect.unit (s := S8x544x128) ![2, o, 0] S1x512x128.size inb).toLoadRect = tile3 T 2 o :=
      fun o inb ho => Rows.readCov (gb3 (hU := hU) (hT := hT) (hb := (gb2 (hU := hU) (hT := hT) (hb := (gb1 (hU := hU) (hT := hT) (hb := Rows.none)))))) o inb ho (by omega)
    simp only [r_30, r_31, r_32, r_33, r_34, r_35, r_36, r_37, r_38, r_39, r_40, r_41, v588, v594, v601, v608, v615, v622, v629, v636, v643, v650, v657, v664, v671, v678, v685, v692, v699, v706, v713, v720, v727, v734, v741, v748, v755, v762, v769, v776, v783, v790, v797, hgb, hgbj, hw, hs, Nat.reduceLeDiff, Nat.le_refl, Nat.zero_le]
    clear hgb hgbj hw hs
    funext y
    idx_vars y
    pointwise [k0_pay100, k0_pay101, k0_pay89, k0_pay90, k0_pay91, k0_pay92, k0_pay93, k0_pay94, k0_pay95, k0_pay96, k0_pay97, k0_pay98, k0_pay99]
    simp only [tile3_ix, tile2_ix, convB, chain31, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hT hh hw hs
    have hgb : ∀ (o : ℕ) (inb : ∀ a, (![1, o, 0] : Fin 3 → ℕ) a + S1x512x128.size a ≤ S8x544x128.size a), View.readAt (Elt Ideal) arg15.view (Rect.unit (s := S8x544x128) ![1, o, 0] S1x512x128.size inb).toLoadRect (arg15.view.writes (Elt Ideal) (harg15.unread xs1) (HS1_2 (F := Ideal) c arg2 harg2 arg4 harg4 arg5 harg5 arg14 x0 x2 x3)) = tile3 T 1 o :=
      fun o inb => Rows.read (gb2 (hU := hU) (hT := hT) (hb := (gb1 (hU := hU) (hT := hT) (hb := (base (harg15 := harg15) (hh := hh)))))) o inb (Nat.zero_le _) (by omega)
    have hgbj : ∀ (o : ℕ) (inb : ∀ a, (![1, o, 0] : Fin 3 → ℕ) a + S1x512x128.size a ≤ S8x544x128.size a), 32 ≤ o → arg15.view.readCov (HS1_2 (F := Ideal) c arg2 harg2 arg4 harg4 arg5 harg5 arg14 x0 x2 x3) (Rect.unit (s := S8x544x128) ![1, o, 0] S1x512x128.size inb).toLoadRect = tile3 T 1 o :=
      fun o inb ho => Rows.readCov (gb2 (hU := hU) (hT := hT) (hb := (gb1 (hU := hU) (hT := hT) (hb := Rows.none)))) o inb ho (by omega)
    simp only [r_15, r_16, r_17, r_18, r_19, r_20, r_21, r_22, r_23, r_24, r_25, r_26, r_27, v328, v334, v341, v348, v355, v362, v369, v376, v383, v390, v397, v404, v411, v418, v425, v432, v439, v446, v453, v460, v467, v474, v481, v488, v495, v502, v509, v516, v523, v530, v537, hgb, hgbj, hw, hs, Nat.reduceLeDiff, Nat.le_refl, Nat.zero_le]
    clear hgb hgbj hw hs
    funext y
    idx_vars y
    pointwise [k0_pay70, k0_pay71, k0_pay72, k0_pay73, k0_pay74, k0_pay75, k0_pay76, k0_pay77, k0_pay78, k0_pay79, k0_pay80, k0_pay81, k0_pay82, k0_pay83]
    simp only [tile3_ix, tile2_ix, convB, chain31, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hT hh hw hs
    have hgb : ∀ (o : ℕ) (inb : ∀ a, (![0, o, 0] : Fin 3 → ℕ) a + S1x512x128.size a ≤ S8x544x128.size a), View.readAt (Elt Ideal) arg15.view (Rect.unit (s := S8x544x128) ![0, o, 0] S1x512x128.size inb).toLoadRect (arg15.view.writes (Elt Ideal) (harg15.unread xs1) (HS1_1 (F := Ideal) c arg2 harg2 arg4 harg4 arg5 harg5 arg14 x0 x2 x3)) = tile3 T 0 o :=
      fun o inb => Rows.read (gb1 (hU := hU) (hT := hT) (hb := (base (harg15 := harg15) (hh := hh)))) o inb (Nat.zero_le _) (by omega)
    have hgbj : ∀ (o : ℕ) (inb : ∀ a, (![0, o, 0] : Fin 3 → ℕ) a + S1x512x128.size a ≤ S8x544x128.size a), 32 ≤ o → arg15.view.readCov (HS1_1 (F := Ideal) c arg2 harg2 arg4 harg4 arg5 harg5 arg14 x0 x2 x3) (Rect.unit (s := S8x544x128) ![0, o, 0] S1x512x128.size inb).toLoadRect = tile3 T 0 o :=
      fun o inb ho => Rows.readCov (gb1 (hU := hU) (hT := hT) (hb := Rows.none)) o inb ho (by omega)
    simp only [r_10, r_11, r_12, r_13, r_2, r_3, r_4, r_5, r_6, r_7, r_8, r_9, v102, v109, v116, v123, v130, v137, v144, v151, v158, v165, v172, v179, v186, v193, v200, v207, v214, v221, v228, v235, v242, v249, v256, v263, v270, v277, v68, v74, v81, v88, v95, hgb, hgbj, hw, hs, Nat.reduceLeDiff, Nat.le_refl, Nat.zero_le]
    clear hgb hgbj hw hs
    funext y
    idx_vars y
    pointwise [k0_pay53, k0_pay54, k0_pay55, k0_pay56, k0_pay57, k0_pay58, k0_pay59, k0_pay60, k0_pay61, k0_pay62, k0_pay63, k0_pay64, k0_pay65]
    simp only [tile3_ix, tile2_ix, convB, chain31, Fin.val_zero, Nat.reduceAdd, Nat.reduceMul, Nat.zero_add, Nat.add_zero]
  exact Held.nil2

/-- The mixed rows of the point. -/
theorem y (hc0 : ¬cond0_0 i) (hc1 : ¬cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 544) (l : Fin 128), r.val < 32 → xs1 (ix3 c r l) = T r.val (128 * c.val + l.val)) (hhA : ∀ (c : Fin 8) (r : Fin 520) (l : Fin 128), r.val < 8 → xs2 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val)
    {κ' : Kind} {sp' : Space} {v : View sig κ' sp' S512x2048 .bf16} {f : v.ty.Contents (Elt Ideal)} :
    Held v f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).1 (fun _ => True)
      (flat2 (e := .bf16) fun r => mixed (U r) (convA TA WA 6 r) (convB T WB BB 2 r) GG SS) := by
  have hr : ∀ (o : ℕ) (inb : ∀ a, (![o, 0] : Fin 2 → ℕ) a + S64x1024.size a ≤ S512x1024.size a), arg19.view.readCov (HS5_8 (F := Ideal) c arg2 harg2 arg4 harg4 arg5 harg5 arg7 harg7 arg8 harg8 arg14 arg15 harg15 x0 x2 x3 x5 x6 xs1) (Rect.unit (s := S512x1024) ![o, 0] S64x1024.size inb).toLoadRect = tile2 (convB T WB BB 2) o 0 :=
    fun o inb => Held.read2 (bc (hU := hU) (hT := hT) (hh := hh) (hWB := hWB) (hBB := hBB)) inb fun _ => trivial
  have hu : ∀ (q : ℕ) (inb : ∀ a, (![0, q] : Fin 2 → ℕ) a + S512x128.size a ≤ S512x5120.size a),
      arg14.view.readCov (HS0_1 (F := Ideal) c arg2 harg2 arg4 harg4 arg5 harg5 x0 x2 x3) (Rect.unit (s := S512x5120) ![0, q] S512x128.size inb).toLoadRect = tile2 U 0 q := readU hU
  have hw : ∀ (p q : ℕ) (inb : ∀ a, (![p, q] : Fin 2 → ℕ) a + S1x128.size a ≤ S3x1024.size a), View.readAt (Elt Ideal) arg6.view (Rect.unit (s := S3x1024) ![p, q] S1x128.size inb).toLoadRect (harg6.unread x4) = tile2 WA p q :=
    fun p q inb => by rw [View.readAt_eq_ld, harg6.read_unread]; exact ld2 x4 WA hWA p q inb
  unfold kernelRun0_B
  dsimp only
  refine Held.cons2 (D := fun y => (y 1).val < 1024 ∨ (y 0).val < 448) ?_ _ _ ?_ fun y hy h0 h1 h => by (try beta_reduce at hy ⊢); clear hy; omega
  swap
  · clear * - hr hG hS
    simp only [v_1, hr, View.readAt_eq_ld, harg9.read_unread, harg10.read_unread, ldFull2]
    clear hr
    funext y
    idx_vars y
    pointwise [k0_pay205]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 384) ?_ _ _ ?_ fun y hy h0 h1 h => by (try beta_reduce at hy ⊢); omega
  swap
  · clear * - hr hG hS
    simp only [v2297, hr, View.readAt_eq_ld, harg9.read_unread, harg10.read_unread, ldFull2]
    clear hr
    funext y
    idx_vars y
    pointwise [k0_pay204]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 320) ?_ _ _ ?_ fun y hy h0 h1 h => by (try beta_reduce at hy ⊢); omega
  swap
  · clear * - hr hG hS
    simp only [r_117, v2266, hr, View.readAt_eq_ld, harg9.read_unread, harg10.read_unread, ldFull2]
    clear hr
    funext y
    idx_vars y
    pointwise [k0_pay202, k0_pay203]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 256) ?_ _ _ ?_ fun y hy h0 h1 h => by (try beta_reduce at hy ⊢); omega
  swap
  · clear * - hr hG hS
    simp only [r_115, r_116, v2235, hr, View.readAt_eq_ld, harg9.read_unread, harg10.read_unread, ldFull2]
    clear hr
    funext y
    idx_vars y
    pointwise [k0_pay199, k0_pay200, k0_pay201]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 192) ?_ _ _ ?_ fun y hy h0 h1 h => by (try beta_reduce at hy ⊢); omega
  swap
  · clear * - hr hG hS
    simp only [v, hr, View.readAt_eq_ld, harg9.read_unread, harg10.read_unread, ldFull2]
    clear hr
    funext y
    idx_vars y
    pointwise [k0_pay198]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 128) ?_ _ _ ?_ fun y hy h0 h1 h => by (try beta_reduce at hy ⊢); omega
  swap
  · clear * - hr hG hS
    simp only [v2173, hr, View.readAt_eq_ld, harg9.read_unread, harg10.read_unread, ldFull2]
    clear hr
    funext y
    idx_vars y
    pointwise [k0_pay197]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 64) ?_ _ _ ?_ fun y hy h0 h1 h => by (try beta_reduce at hy ⊢); omega
  swap
  · clear * - hr hG hS
    simp only [r_114, v2142, hr, View.readAt_eq_ld, harg9.read_unread, harg10.read_unread, ldFull2]
    clear hr
    funext y
    idx_vars y
    pointwise [k0_pay195, k0_pay196]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 0) ?_ _ _ ?_ fun y hy h0 h1 h => by (try beta_reduce at hy ⊢); omega
  swap
  · clear * - hr hG hS
    simp only [r_112, r_113, v2111, hr, View.readAt_eq_ld, harg9.read_unread, harg10.read_unread, ldFull2]
    clear hr
    funext y
    idx_vars y
    pointwise [k0_pay192, k0_pay193, k0_pay194]
    simp only [tile2_ix]
    rw [mixed, if_neg (by omega), silu]
    simp only [layerNorm, mean, tile2_ix, hG, hS, Nat.add_sub_cancel_left, Nat.zero_add]
  refine Held.cons2 (D := fun y => (y 1).val < 896) ?_ _ _ ?_ fun y hy h0 h1 h => by (try beta_reduce at hy ⊢); omega
  swap
  · clear * - hU hTA hhA hw hu
    have hcv : ∀ (o : ℕ) (inb : ∀ a, (![7, o, 0] : Fin 3 → ℕ) a + S1x512x128.size a ≤ S8x520x128.size a), View.readAt (Elt Ideal) arg16.view (Rect.unit (s := S8x520x128) ![7, o, 0] S1x512x128.size inb).toLoadRect (arg16.view.writes (Elt Ideal) (harg16.unread xs2) (HS2_8 (F := Ideal) c arg2 harg2 arg4 harg4 arg5 harg5 arg14 x0 x2 x3)) = tile3 TA 7 o :=
      fun o inb => Rows.read (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))))))) o inb (Nat.zero_le _) (by omega)
    have hcvj : ∀ (o : ℕ) (inb : ∀ a, (![7, o, 0] : Fin 3 → ℕ) a + S1x512x128.size a ≤ S8x520x128.size a), 8 ≤ o → arg16.view.readCov (HS2_8 (F := Ideal) c arg2 harg2 arg4 harg4 arg5 harg5 arg14 x0 x2 x3) (Rect.unit (s := S8x520x128) ![7, o, 0] S1x512x128.size inb).toLoadRect = tile3 TA 7 o :=
      fun o inb ho => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) o inb ho (by omega)
    simp only [r_98, r_99, v1851, v1865, v1871, v1878, hcv, hcvj, hw, hu, Nat.reduceLeDiff, Nat.le_refl, Nat.zero_le]
    clear hcv hcvj hw hu
    funext y
    idx_vars y
    pointwise [k0_pay176, k0_pay177, k0_pay178]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hTA hhA hw hu
    have hcv : ∀ (o : ℕ) (inb : ∀ a, (![6, o, 0] : Fin 3 → ℕ) a + S1x512x128.size a ≤ S8x520x128.size a), View.readAt (Elt Ideal) arg16.view (Rect.unit (s := S8x520x128) ![6, o, 0] S1x512x128.size inb).toLoadRect (arg16.view.writes (Elt Ideal) (harg16.unread xs2) (HS2_7 (F := Ideal) c arg2 harg2 arg4 harg4 arg5 harg5 arg14 x0 x2 x3)) = tile3 TA 6 o :=
      fun o inb => Rows.read (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))))) o inb (Nat.zero_le _) (by omega)
    have hcvj : ∀ (o : ℕ) (inb : ∀ a, (![6, o, 0] : Fin 3 → ℕ) a + S1x512x128.size a ≤ S8x520x128.size a), 8 ≤ o → arg16.view.readCov (HS2_7 (F := Ideal) c arg2 harg2 arg4 harg4 arg5 harg5 arg14 x0 x2 x3) (Rect.unit (s := S8x520x128) ![6, o, 0] S1x512x128.size inb).toLoadRect = tile3 TA 6 o :=
      fun o inb ho => Rows.readCov (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))) o inb ho (by omega)
    simp only [v1591, v1605, v1611, v1618, hcv, hcvj, hw, hu, Nat.reduceLeDiff, Nat.le_refl, Nat.zero_le]
    clear hcv hcvj hw hu
    funext y
    idx_vars y
    pointwise [k0_pay159]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hTA hhA hw hu
    have hcv : ∀ (o : ℕ) (inb : ∀ a, (![5, o, 0] : Fin 3 → ℕ) a + S1x512x128.size a ≤ S8x520x128.size a), View.readAt (Elt Ideal) arg16.view (Rect.unit (s := S8x520x128) ![5, o, 0] S1x512x128.size inb).toLoadRect (arg16.view.writes (Elt Ideal) (harg16.unread xs2) (HS2_6 (F := Ideal) c arg2 harg2 arg4 harg4 arg5 harg5 arg14 x0 x2 x3)) = tile3 TA 5 o :=
      fun o inb => Rows.read (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))) o inb (Nat.zero_le _) (by omega)
    have hcvj : ∀ (o : ℕ) (inb : ∀ a, (![5, o, 0] : Fin 3 → ℕ) a + S1x512x128.size a ≤ S8x520x128.size a), 8 ≤ o → arg16.view.readCov (HS2_6 (F := Ideal) c arg2 harg2 arg4 harg4 arg5 harg5 arg14 x0 x2 x3) (Rect.unit (s := S8x520x128) ![5, o, 0] S1x512x128.size inb).toLoadRect = tile3 TA 5 o :=
      fun o inb ho => Rows.readCov (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))) o inb ho (by omega)
    simp only [r_70, r_71, v1331, v1345, v1351, v1358, hcv, hcvj, hw, hu, Nat.reduceLeDiff, Nat.le_refl, Nat.zero_le]
    clear hcv hcvj hw hu
    funext y
    idx_vars y
    pointwise [k0_pay140, k0_pay141, k0_pay142]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hTA hhA hw hu
    have hcv : ∀ (o : ℕ) (inb : ∀ a, (![4, o, 0] : Fin 3 → ℕ) a + S1x512x128.size a ≤ S8x520x128.size a), View.readAt (Elt Ideal) arg16.view (Rect.unit (s := S8x520x128) ![4, o, 0] S1x512x128.size inb).toLoadRect (arg16.view.writes (Elt Ideal) (harg16.unread xs2) (HS2_5 (F := Ideal) c arg2 harg2 arg4 harg4 arg5 harg5 arg14 x0 x2 x3)) = tile3 TA 4 o :=
      fun o inb => Rows.read (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))) o inb (Nat.zero_le _) (by omega)
    have hcvj : ∀ (o : ℕ) (inb : ∀ a, (![4, o, 0] : Fin 3 → ℕ) a + S1x512x128.size a ≤ S8x520x128.size a), 8 ≤ o → arg16.view.readCov (HS2_5 (F := Ideal) c arg2 harg2 arg4 harg4 arg5 harg5 arg14 x0 x2 x3) (Rect.unit (s := S8x520x128) ![4, o, 0] S1x512x128.size inb).toLoadRect = tile3 TA 4 o :=
      fun o inb ho => Rows.readCov (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))) o inb ho (by omega)
    simp only [r_56, r_57, v1071, v1085, v1091, v1098, hcv, hcvj, hw, hu, Nat.reduceLeDiff, Nat.le_refl, Nat.zero_le]
    clear hcv hcvj hw hu
    funext y
    idx_vars y
    pointwise [k0_pay122, k0_pay123, k0_pay124]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hTA hhA hw hu
    have hcv : ∀ (o : ℕ) (inb : ∀ a, (![3, o, 0] : Fin 3 → ℕ) a + S1x512x128.size a ≤ S8x520x128.size a), View.readAt (Elt Ideal) arg16.view (Rect.unit (s := S8x520x128) ![3, o, 0] S1x512x128.size inb).toLoadRect (arg16.view.writes (Elt Ideal) (harg16.unread xs2) (HS2_4 (F := Ideal) c arg2 harg2 arg4 harg4 arg5 harg5 arg14 x0 x2 x3)) = tile3 TA 3 o :=
      fun o inb => Rows.read (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))) o inb (Nat.zero_le _) (by omega)
    have hcvj : ∀ (o : ℕ) (inb : ∀ a, (![3, o, 0] : Fin 3 → ℕ) a + S1x512x128.size a ≤ S8x520x128.size a), 8 ≤ o → arg16.view.readCov (HS2_4 (F := Ideal) c arg2 harg2 arg4 harg4 arg5 harg5 arg14 x0 x2 x3) (Rect.unit (s := S8x520x128) ![3, o, 0] S1x512x128.size inb).toLoadRect = tile3 TA 3 o :=
      fun o inb ho => Rows.readCov (cv4 (hU := hU) (hTA := hTA) (hb := (cv3 (hU := hU) (hTA := hTA) (hb := (cv2 (hU := hU) (hTA := hTA) (hb := (cv1 (hU := hU) (hTA := hTA) (hb := Rows.none)))))))) o inb ho (by omega)
    simp only [v811, v825, v831, v838, hcv, hcvj, hw, hu, Nat.reduceLeDiff, Nat.le_refl, Nat.zero_le]
    clear hcv hcvj hw hu
    funext y
    idx_vars y
    pointwise [k0_pay105]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hTA hhA hw hu
    have hcv : ∀ (o : ℕ) (inb : ∀ a, (![2, o, 0] : Fin 3 → ℕ) a + S1x512x128.size a ≤ S8x520x128.size a), View.readAt (Elt Ideal) arg16.view (Rect.unit (s := S8x520x128) ![2, o, 0] S1x512x128.size inb).toLoadRect (arg16.view.writes (Elt Ideal) (harg16.unread xs2) (HS2_3 (F := Ideal) c arg2 harg2 arg4 harg4 arg5 harg5 arg14 x0 x2 x3)) = tile3 TA 2 o :=
      fun o inb => Rows.read (cv3 (hU := hU) (hTA := hTA) (hb := (cv2 (hU := hU) (hTA := hTA) (hb := (cv1 (hU := hU) (hTA := hTA) (hb := (baseA (harg16 := harg16) (hhA := hhA)))))))) o inb (Nat.zero_le _) (by omega)
    have hcvj : ∀ (o : ℕ) (inb : ∀ a, (![2, o, 0] : Fin 3 → ℕ) a + S1x512x128.size a ≤ S8x520x128.size a), 8 ≤ o → arg16.view.readCov (HS2_3 (F := Ideal) c arg2 harg2 arg4 harg4 arg5 harg5 arg14 x0 x2 x3) (Rect.unit (s := S8x520x128) ![2, o, 0] S1x512x128.size inb).toLoadRect = tile3 TA 2 o :=
      fun o inb ho => Rows.readCov (cv3 (hU := hU) (hTA := hTA) (hb := (cv2 (hU := hU) (hTA := hTA) (hb := (cv1 (hU := hU) (hTA := hTA) (hb := Rows.none)))))) o inb ho (by omega)
    simp only [r_28, r_29, v551, v565, v571, v578, hcv, hcvj, hw, hu, Nat.reduceLeDiff, Nat.le_refl, Nat.zero_le]
    clear hcv hcvj hw hu
    funext y
    idx_vars y
    pointwise [k0_pay86, k0_pay87, k0_pay88]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hTA hhA hw hu
    have hcv : ∀ (o : ℕ) (inb : ∀ a, (![1, o, 0] : Fin 3 → ℕ) a + S1x512x128.size a ≤ S8x520x128.size a), View.readAt (Elt Ideal) arg16.view (Rect.unit (s := S8x520x128) ![1, o, 0] S1x512x128.size inb).toLoadRect (arg16.view.writes (Elt Ideal) (harg16.unread xs2) (HS2_2 (F := Ideal) c arg2 harg2 arg4 harg4 arg5 harg5 arg14 x0 x2 x3)) = tile3 TA 1 o :=
      fun o inb => Rows.read (cv2 (hU := hU) (hTA := hTA) (hb := (cv1 (hU := hU) (hTA := hTA) (hb := (baseA (harg16 := harg16) (hhA := hhA)))))) o inb (Nat.zero_le _) (by omega)
    have hcvj : ∀ (o : ℕ) (inb : ∀ a, (![1, o, 0] : Fin 3 → ℕ) a + S1x512x128.size a ≤ S8x520x128.size a), 8 ≤ o → arg16.view.readCov (HS2_2 (F := Ideal) c arg2 harg2 arg4 harg4 arg5 harg5 arg14 x0 x2 x3) (Rect.unit (s := S8x520x128) ![1, o, 0] S1x512x128.size inb).toLoadRect = tile3 TA 1 o :=
      fun o inb ho => Rows.readCov (cv2 (hU := hU) (hTA := hTA) (hb := (cv1 (hU := hU) (hTA := hTA) (hb := Rows.none)))) o inb ho (by omega)
    simp only [v291, v305, v311, v318, hcv, hcvj, hw, hu, Nat.reduceLeDiff, Nat.le_refl, Nat.zero_le]
    clear hcv hcvj hw hu
    funext y
    idx_vars y
    pointwise [k0_pay69]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hTA hhA hw hu
    have hcv : ∀ (o : ℕ) (inb : ∀ a, (![0, o, 0] : Fin 3 → ℕ) a + S1x512x128.size a ≤ S8x520x128.size a), View.readAt (Elt Ideal) arg16.view (Rect.unit (s := S8x520x128) ![0, o, 0] S1x512x128.size inb).toLoadRect (arg16.view.writes (Elt Ideal) (harg16.unread xs2) (HS2_1 (F := Ideal) c arg2 harg2 arg4 harg4 arg5 harg5 arg14 x0 x2 x3)) = tile3 TA 0 o :=
      fun o inb => Rows.read (cv1 (hU := hU) (hTA := hTA) (hb := (baseA (harg16 := harg16) (hhA := hhA)))) o inb (Nat.zero_le _) (by omega)
    have hcvj : ∀ (o : ℕ) (inb : ∀ a, (![0, o, 0] : Fin 3 → ℕ) a + S1x512x128.size a ≤ S8x520x128.size a), 8 ≤ o → arg16.view.readCov (HS2_1 (F := Ideal) c arg2 harg2 arg4 harg4 arg5 harg5 arg14 x0 x2 x3) (Rect.unit (s := S8x520x128) ![0, o, 0] S1x512x128.size inb).toLoadRect = tile3 TA 0 o :=
      fun o inb ho => Rows.readCov (cv1 (hU := hU) (hTA := hTA) (hb := Rows.none)) o inb ho (by omega)
    simp only [r, r_1, v31, v45, v51, v58, hcv, hcvj, hw, hu, Nat.reduceLeDiff, Nat.le_refl, Nat.zero_le]
    clear hcv hcvj hw hu
    funext y
    idx_vars y
    pointwise [k0_pay50, k0_pay51, k0_pay52]
    simp only [tile2_ix]
    rw [mixed, if_pos (by omega)]
    simp only [tile3_ix, tile2_ix, convA, chain3, Fin.val_zero, Nat.reduceAdd, Nat.reduceMul, Nat.zero_add, Nat.add_zero]
  exact Held.nil2

/-- The halo the point leaves for the next one. -/
theorem gbHalo (hc0 : ¬cond0_0 i) (hc1 : ¬cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) {κ' : Kind} {sp' : Space} {v : View sig κ' sp' S8x544x128 .f32} {f : v.ty.Contents (Elt Ideal)} :
    Held v f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.2.2.1 (fun y => (y 1).val < 32) (lay fun r ch => T (512 + r) ch) := by
  unfold kernelRun0_B
  dsimp only
  refine Held.halo _ _ ?_
  have h8 : arg15.view.readCov (HS1_8 (F := Ideal) c arg2 harg2 arg4 harg4 arg5 harg5 arg14 x0 x2 x3) (Rect.unit (s := S8x544x128) ![0, 512, 0] S8x32x128.size inb_S8x544x128_S8x32x128_0_512_0).toLoadRect
      = lay (N := 32) (fun r ch => T (512 + r) ch) :=
    Rows.readCov8 (n := 32) (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 512 inb_S8x544x128_S8x32x128_0_512_0 (by omega)
  unfold v2362
  rw [h8]
  funext y
  idx_vars y
  pointwise [k0_pay207]

/-- The halo the point leaves for the next one. -/
theorem cvHalo (hc0 : ¬cond0_0 i) (hc1 : ¬cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 520) (l : Fin 128), r.val < 8 → xs2 (ix3 c r l) = TA r.val (128 * c.val + l.val)) {κ' : Kind} {sp' : Space} {v : View sig κ' sp' S8x520x128 .f32} {f : v.ty.Contents (Elt Ideal)} :
    Held v f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.2.2.2.1 (fun y => (y 1).val < 8) (lay fun r ch => TA (512 + r) ch) := by
  unfold kernelRun0_B
  dsimp only
  refine Held.halo _ _ ?_
  have h8 : arg16.view.readCov (HS2_8 (F := Ideal) c arg2 harg2 arg4 harg4 arg5 harg5 arg14 x0 x2 x3) (Rect.unit (s := S8x520x128) ![0, 512, 0] S8x8x128.size inb_S8x520x128_S8x8x128_0_512_0).toLoadRect
      = lay (N := 8) (fun r ch => TA (512 + r) ch) :=
    Rows.readCov8 (n := 8) (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 512 inb_S8x520x128_S8x8x128_0_512_0 (by omega)
  unfold v2366
  rw [h8]
  funext y
  idx_vars y
  pointwise [k0_pay1]

end Cert.Mix.CaseB

end
-- ==== Proof.Mix.CaseC.lean ====
/- What one grid point of the kernel leaves, case C: the rows of the two sequences, the mixed rows and the halos. -/
module

public import proofs.«01_k».proof.Proof.Gen.KernelIdeal.Frame.RunC
public import proofs.«01_k».proof.Proof.Mix.Tiles

@[expose] public section

set_option maxRecDepth 16384
set_option maxHeartbeats 2000000

noncomputable section

namespace Cert.Mix.CaseC

open Cert.KernelIdeal Cert.KernelIdeal.Gen Cert.KernelIdeal.Gen.kernelRun0_C.sl
open Idealize.ShloMosaic Idealize.ShloMosaic.TcCoe

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

/-- The projection read back at a lane group. -/
theorem readU (hU : ∀ (r : Fin 512) (j : Fin 5120), k0_pay47 (F := Ideal) x0 x2 x3 (ix2 r j) = U r.val j.val) (q : ℕ)
    (inb : ∀ a, (![0, q] : Fin 2 → ℕ) a + S512x128.size a ≤ S512x5120.size a) :
    arg14.view.readCov (HS0_1 (F := Ideal) c arg2 harg2 arg4 harg4 arg5 harg5 x0 x2 x3) (Rect.unit (s := S512x5120) ![0, q] S512x128.size inb).toLoadRect = tile2 U 0 q := by
  refine Held.read2 (D := fun _ => True) ?_ inb fun _ => trivial
  unfold HS0_1
  refine Held.cons2 Held.nil2 _ _ ?_ fun y _ h0 h1 h => by omega
  simp only [View.readAt_eq_ld, harg2.read_unread, harg4.read_unread, harg5.read_unread, ldFull3, ldFull2]
  funext y
  idx_vars y
  rw [hU, tile2_ix, Nat.zero_add, Nat.zero_add]

theorem gb1 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f [] T 32 h 0) :
    Rows arg15.view f (HS1_1 (F := Ideal) c arg2 harg2 arg4 harg4 arg5 harg5 arg14 x0 x2 x3) T 32 h 1 := by
  unfold HS1_1
  refine Rows.step hb rfl _ _ ?_
  simp only [v34, v35, readU hU]
  funext y
  idx_vars y
  pointwise [k0_pay49]
  simp only [tile3_ix, tile2_ix, Nat.zero_add]
  rw [hT _ _ (by omega) (by omega), glu]
  simp only [← Nat.add_assoc, Nat.reduceAdd, Nat.reduceMul, Nat.zero_add]

theorem gb2 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_1 (F := Ideal) c arg2 harg2 arg4 harg4 arg5 harg5 arg14 x0 x2 x3) T 32 h 1) :
    Rows arg15.view f (HS1_2 (F := Ideal) c arg2 harg2 arg4 harg4 arg5 harg5 arg14 x0 x2 x3) T 32 h 2 := by
  unfold HS1_2
  refine Rows.step hb rfl _ _ ?_
  simp only [r_14, v294, v295, readU hU]
  funext y
  idx_vars y
  pointwise [k0_pay67, k0_pay68]
  simp only [tile3_ix, tile2_ix, Nat.zero_add]
  rw [hT _ _ (by omega) (by omega), glu]
  simp only [← Nat.add_assoc, Nat.reduceAdd, Nat.reduceMul, Nat.zero_add]

theorem gb3 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_2 (F := Ideal) c arg2 harg2 arg4 harg4 arg5 harg5 arg14 x0 x2 x3) T 32 h 2) :
    Rows arg15.view f (HS1_3 (F := Ideal) c arg2 harg2 arg4 harg4 arg5 harg5 arg14 x0 x2 x3) T 32 h 3 := by
  unfold HS1_3
  refine Rows.step hb rfl _ _ ?_
  simp only [v554, v555, readU hU]
  funext y
  idx_vars y
  pointwise [k0_pay85]
  simp only [tile3_ix, tile2_ix, Nat.zero_add]
  rw [hT _ _ (by omega) (by omega), glu]
  simp only [← Nat.add_assoc, Nat.reduceAdd, Nat.reduceMul, Nat.zero_add]

theorem gb4 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_3 (F := Ideal) c arg2 harg2 arg4 harg4 arg5 harg5 arg14 x0 x2 x3) T 32 h 3) :
    Rows arg15.view f (HS1_4 (F := Ideal) c arg2 harg2 arg4 harg4 arg5 harg5 arg14 x0 x2 x3) T 32 h 4 := by
  unfold HS1_4
  refine Rows.step hb rfl _ _ ?_
  simp only [v814, v815, readU hU]
  funext y
  idx_vars y
  pointwise [k0_pay104]
  simp only [tile3_ix, tile2_ix, Nat.zero_add]
  rw [hT _ _ (by omega) (by omega), glu]
  simp only [← Nat.add_assoc, Nat.reduceAdd, Nat.reduceMul, Nat.zero_add]

theorem gb5 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_4 (F := Ideal) c arg2 harg2 arg4 harg4 arg5 harg5 arg14 x0 x2 x3) T 32 h 4) :
    Rows arg15.view f (HS1_5 (F := Ideal) c arg2 harg2 arg4 harg4 arg5 harg5 arg14 x0 x2 x3) T 32 h 5 := by
  unfold HS1_5
  refine Rows.step hb rfl _ _ ?_
  simp only [v1074, v1075, readU hU]
  funext y
  idx_vars y
  pointwise [k0_pay121]
  simp only [tile3_ix, tile2_ix, Nat.zero_add]
  rw [hT _ _ (by omega) (by omega), glu]
  simp only [← Nat.add_assoc, Nat.reduceAdd, Nat.reduceMul, Nat.zero_add]

theorem gb6 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_5 (F := Ideal) c arg2 harg2 arg4 harg4 arg5 harg5 arg14 x0 x2 x3) T 32 h 5) :
    Rows arg15.view f (HS1_6 (F := Ideal) c arg2 harg2 arg4 harg4 arg5 harg5 arg14 x0 x2 x3) T 32 h 6 := by
  unfold HS1_6
  refine Rows.step hb rfl _ _ ?_
  simp only [v1334, v1335, readU hU]
  funext y
  idx_vars y
  pointwise [k0_pay139]
  simp only [tile3_ix, tile2_ix, Nat.zero_add]
  rw [hT _ _ (by omega) (by omega), glu]
  simp only [← Nat.add_assoc, Nat.reduceAdd, Nat.reduceMul, Nat.zero_add]

theorem gb7 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_6 (F := Ideal) c arg2 harg2 arg4 harg4 arg5 harg5 arg14 x0 x2 x3) T 32 h 6) :
    Rows arg15.view f (HS1_7 (F := Ideal) c arg2 harg2 arg4 harg4 arg5 harg5 arg14 x0 x2 x3) T 32 h 7 := by
  unfold HS1_7
  refine Rows.step hb rfl _ _ ?_
  simp only [r_84, v1594, v1595, readU hU]
  funext y
  idx_vars y
  pointwise [k0_pay157, k0_pay158]
  simp only [tile3_ix, tile2_ix, Nat.zero_add]
  rw [hT _ _ (by omega) (by omega), glu]
  simp only [← Nat.add_assoc, Nat.reduceAdd, Nat.reduceMul, Nat.zero_add]

theorem gb8 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_7 (F := Ideal) c arg2 harg2 arg4 harg4 arg5 harg5 arg14 x0 x2 x3) T 32 h 7) :
    Rows arg15.view f (HS1_8 (F := Ideal) c arg2 harg2 arg4 harg4 arg5 harg5 arg14 x0 x2 x3) T 32 h 8 := by
  unfold HS1_8
  refine Rows.step hb rfl _ _ ?_
  simp only [v1854, v1855, readU hU]
  funext y
  idx_vars y
  pointwise [k0_pay175]
  simp only [tile3_ix, tile2_ix, Nat.zero_add]
  rw [hT _ _ (by omega) (by omega), glu]
  simp only [← Nat.add_assoc, Nat.reduceAdd, Nat.reduceMul, Nat.zero_add]

theorem cv1 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f [] TA 8 h 0) :
    Rows arg16.view f (HS2_1 (F := Ideal) c arg2 harg2 arg4 harg4 arg5 harg5 arg14 x0 x2 x3) TA 8 h 1 := by
  unfold HS2_1
  refine Rows.step hb rfl _ _ ?_
  simp only [v32, v33, readU hU]
  funext y
  idx_vars y
  pointwise [k0_pay48]
  simp only [tile3_ix, tile2_ix, Nat.zero_add]
  rw [hTA _ _ (by omega) (by omega), gate]
  simp only [← Nat.add_assoc, Nat.reduceAdd, Nat.reduceMul, Nat.zero_add]

theorem cv2 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_1 (F := Ideal) c arg2 harg2 arg4 harg4 arg5 harg5 arg14 x0 x2 x3) TA 8 h 1) :
    Rows arg16.view f (HS2_2 (F := Ideal) c arg2 harg2 arg4 harg4 arg5 harg5 arg14 x0 x2 x3) TA 8 h 2 := by
  unfold HS2_2
  refine Rows.step hb rfl _ _ ?_
  simp only [v292, v293, readU hU]
  funext y
  idx_vars y
  pointwise [k0_pay66]
  simp only [tile3_ix, tile2_ix, Nat.zero_add]
  rw [hTA _ _ (by omega) (by omega), gate]
  simp only [← Nat.add_assoc, Nat.reduceAdd, Nat.reduceMul, Nat.zero_add]

theorem cv3 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_2 (F := Ideal) c arg2 harg2 arg4 harg4 arg5 harg5 arg14 x0 x2 x3) TA 8 h 2) :
    Rows arg16.view f (HS2_3 (F := Ideal) c arg2 harg2 arg4 harg4 arg5 harg5 arg14 x0 x2 x3) TA 8 h 3 := by
  unfold HS2_3
  refine Rows.step hb rfl _ _ ?_
  simp only [v552, v553, readU hU]
  funext y
  idx_vars y
  pointwise [k0_pay84]
  simp only [tile3_ix, tile2_ix, Nat.zero_add]
  rw [hTA _ _ (by omega) (by omega), gate]
  simp only [← Nat.add_assoc, Nat.reduceAdd, Nat.reduceMul, Nat.zero_add]

theorem cv4 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_3 (F := Ideal) c arg2 harg2 arg4 harg4 arg5 harg5 arg14 x0 x2 x3) TA 8 h 3) :
    Rows arg16.view f (HS2_4 (F := Ideal) c arg2 harg2 arg4 harg4 arg5 harg5 arg14 x0 x2 x3) TA 8 h 4 := by
  unfold HS2_4
  refine Rows.step hb rfl _ _ ?_
  simp only [r_42, v812, v813, readU hU]
  funext y
  idx_vars y
  pointwise [k0_pay102, k0_pay103]
  simp only [tile3_ix, tile2_ix, Nat.zero_add]
  rw [hTA _ _ (by omega) (by omega), gate]
  simp only [← Nat.add_assoc, Nat.reduceAdd, Nat.reduceMul, Nat.zero_add]

theorem cv5 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_4 (F := Ideal) c arg2 harg2 arg4 harg4 arg5 harg5 arg14 x0 x2 x3) TA 8 h 4) :
    Rows arg16.view f (HS2_5 (F := Ideal) c arg2 harg2 arg4 harg4 arg5 harg5 arg14 x0 x2 x3) TA 8 h 5 := by
  unfold HS2_5
  refine Rows.step hb rfl _ _ ?_
  simp only [v1072, v1073, readU hU]
  funext y
  idx_vars y
  pointwise [k0_pay120]
  simp only [tile3_ix, tile2_ix, Nat.zero_add]
  rw [hTA _ _ (by omega) (by omega), gate]
  simp only [← Nat.add_assoc, Nat.reduceAdd, Nat.reduceMul, Nat.zero_add]

theorem cv6 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_5 (F := Ideal) c arg2 harg2 arg4 harg4 arg5 harg5 arg14 x0 x2 x3) TA 8 h 5) :
    Rows arg16.view f (HS2_6 (F := Ideal) c arg2 harg2 arg4 harg4 arg5 harg5 arg14 x0 x2 x3) TA 8 h 6 := by
  unfold HS2_6
  refine Rows.step hb rfl _ _ ?_
  simp only [v1332, v1333, readU hU]
  funext y
  idx_vars y
  pointwise [k0_pay138]
  simp only [tile3_ix, tile2_ix, Nat.zero_add]
  rw [hTA _ _ (by omega) (by omega), gate]
  simp only [← Nat.add_assoc, Nat.reduceAdd, Nat.reduceMul, Nat.zero_add]

theorem cv7 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_6 (F := Ideal) c arg2 harg2 arg4 harg4 arg5 harg5 arg14 x0 x2 x3) TA 8 h 6) :
    Rows arg16.view f (HS2_7 (F := Ideal) c arg2 harg2 arg4 harg4 arg5 harg5 arg14 x0 x2 x3) TA 8 h 7 := by
  unfold HS2_7
  refine Rows.step hb rfl _ _ ?_
  simp only [v1592, v1593, readU hU]
  funext y
  idx_vars y
  pointwise [k0_pay156]
  simp only [tile3_ix, tile2_ix, Nat.zero_add]
  rw [hTA _ _ (by omega) (by omega), gate]
  simp only [← Nat.add_assoc, Nat.reduceAdd, Nat.reduceMul, Nat.zero_add]

theorem cv8 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_7 (F := Ideal) c arg2 harg2 arg4 harg4 arg5 harg5 arg14 x0 x2 x3) TA 8 h 7) :
    Rows arg16.view f (HS2_8 (F := Ideal) c arg2 harg2 arg4 harg4 arg5 harg5 arg14 x0 x2 x3) TA 8 h 8 := by
  unfold HS2_8
  refine Rows.step hb rfl _ _ ?_
  simp only [v1852, v1853, readU hU]
  funext y
  idx_vars y
  pointwise [k0_pay174]
  simp only [tile3_ix, tile2_ix, Nat.zero_add]
  rw [hTA _ _ (by omega) (by omega), gate]
  simp only [← Nat.add_assoc, Nat.reduceAdd, Nat.reduceMul, Nat.zero_add]

theorem base (hh : ∀ (c : Fin 8) (r : Fin 544) (l : Fin 128), r.val < 32 → xs1 (ix3 c r l) = T r.val (128 * c.val + l.val)) : Rows arg15.view (harg15.unread xs1) [] T 32 0 0 :=
  Rows.base (by omega) fun a r l hr => by rw [harg15.read_unread]; exact hh a r l hr

theorem baseA (hhA : ∀ (c : Fin 8) (r : Fin 520) (l : Fin 128), r.val < 8 → xs2 (ix3 c r l) = TA r.val (128 * c.val + l.val)) : Rows arg16.view (harg16.unread xs2) [] TA 8 0 0 :=
  Rows.base (by omega) fun a r l hr => by rw [harg16.read_unread]; exact hhA a r l hr

/-- The wide convolution of the point's rows. -/
theorem bc (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) (hWB : ∀ (k : Fin 31) (j : Fin 1024), x5 (ix2 k j) = WB k.val j.val) (hBB : ∀ (z : Fin 1) (j : Fin 1024), x6 (ix2 z j) = BB j.val) :
    Held arg19.view arg19.view.junk (HS5_8 (F := Ideal) c arg2 harg2 arg4 harg4 arg5 harg5 arg7 harg7 arg8 harg8 arg14 arg15 harg15 x0 x2 x3 x5 x6 xs1) (fun _ => True) (flat2 (convB T WB BB 2)) := by
  have hw : ∀ (p q : ℕ) (inb : ∀ a, (![p, q] : Fin 2 → ℕ) a + S1x128.size a ≤ S31x1024.size a), View.readAt (Elt Ideal) arg7.view (Rect.unit (s := S31x1024) ![p, q] S1x128.size inb).toLoadRect (harg7.unread x5) = tile2 WB p q :=
    fun p q inb => by rw [View.readAt_eq_ld, harg7.read_unread]; exact ld2 x5 WB hWB p q inb
  have hs : ∀ (p q : ℕ) (inb : ∀ a, (![p, q] : Fin 2 → ℕ) a + S1x128.size a ≤ S1x1024.size a), View.readAt (Elt Ideal) arg8.view (Rect.unit (s := S1x1024) ![p, q] S1x128.size inb).toLoadRect (harg8.unread x6) = tile2 (fun _ ch => BB ch) p q :=
    fun p q inb => by rw [View.readAt_eq_ld, harg8.read_unread]; exact ld2 x6 (fun _ ch => BB ch) hBB p q inb
  unfold HS5_8
  refine Held.cons2 (D := fun y => (y 1).val < 896) ?_ _ _ ?_ fun y hy h0 h1 h => by (try beta_reduce at hy ⊢); clear hy; omega
  swap
  · clear * - hU hT hh hw hs
    have hgb : ∀ (o : ℕ) (inb : ∀ a, (![7, o, 0] : Fin 3 → ℕ) a + S1x512x128.size a ≤ S8x544x128.size a), View.readAt (Elt Ideal) arg15.view (Rect.unit (s := S8x544x128) ![7, o, 0] S1x512x128.size inb).toLoadRect (arg15.view.writes (Elt Ideal) (harg15.unread xs1) (HS1_8 (F := Ideal) c arg2 harg2 arg4 harg4 arg5 harg5 arg14 x0 x2 x3)) = tile3 T 7 o :=
      fun o inb => Rows.read (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))))))) o inb (Nat.zero_le _) (by omega)
    have hgbj : ∀ (o : ℕ) (inb : ∀ a, (![7, o, 0] : Fin 3 → ℕ) a + S1x512x128.size a ≤ S8x544x128.size a), 32 ≤ o → arg15.view.readCov (HS1_8 (F := Ideal) c arg2 harg2 arg4 harg4 arg5 harg5 arg14 x0 x2 x3) (Rect.unit (s := S8x544x128) ![7, o, 0] S1x512x128.size inb).toLoadRect = tile3 T 7 o :=
      fun o inb ho => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) o inb ho (by omega)
    simp only [r_100, r_101, r_102, r_103, r_104, r_105, r_106, r_107, r_108, r_109, r_110, r_111, v1888, v1894, v1901, v1908, v1915, v1922, v1929, v1936, v1943, v1950, v1957, v1964, v1971, v1978, v1985, v1992, v1999, v2006, v2013, v2020, v2027, v2034, v2041, v2048, v2055, v2062, v2069, v2076, v2083, v2090, v2097, hgb, hgbj, hw, hs, Nat.reduceLeDiff, Nat.le_refl, Nat.zero_le]
    clear hgb hgbj hw hs
    funext y
    idx_vars y
    pointwise [k0_pay179, k0_pay180, k0_pay181, k0_pay182, k0_pay183, k0_pay184, k0_pay185, k0_pay186, k0_pay187, k0_pay188, k0_pay189, k0_pay190, k0_pay191]
    simp only [tile3_ix, tile2_ix, convB, chain31, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hT hh hw hs
    have hgb : ∀ (o : ℕ) (inb : ∀ a, (![6, o, 0] : Fin 3 → ℕ) a + S1x512x128.size a ≤ S8x544x128.size a), View.readAt (Elt Ideal) arg15.view (Rect.unit (s := S8x544x128) ![6, o, 0] S1x512x128.size inb).toLoadRect (arg15.view.writes (Elt Ideal) (harg15.unread xs1) (HS1_7 (F := Ideal) c arg2 harg2 arg4 harg4 arg5 harg5 arg14 x0 x2 x3)) = tile3 T 6 o :=
      fun o inb => Rows.read (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))))) o inb (Nat.zero_le _) (by omega)
    have hgbj : ∀ (o : ℕ) (inb : ∀ a, (![6, o, 0] : Fin 3 → ℕ) a + S1x512x128.size a ≤ S8x544x128.size a), 32 ≤ o → arg15.view.readCov (HS1_7 (F := Ideal) c arg2 harg2 arg4 harg4 arg5 harg5 arg14 x0 x2 x3) (Rect.unit (s := S8x544x128) ![6, o, 0] S1x512x128.size inb).toLoadRect = tile3 T 6 o :=
      fun o inb ho => Rows.readCov (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))) o inb ho (by omega)
    simp only [r_85, r_86, r_87, r_88, r_89, r_90, r_91, r_92, r_93, r_94, r_95, r_96, r_97, v1628, v1634, v1641, v1648, v1655, v1662, v1669, v1676, v1683, v1690, v1697, v1704, v1711, v1718, v1725, v1732, v1739, v1746, v1753, v1760, v1767, v1774, v1781, v1788, v1795, v1802, v1809, v1816, v1823, v1830, v1837, hgb, hgbj, hw, hs, Nat.reduceLeDiff, Nat.le_refl, Nat.zero_le]
    clear hgb hgbj hw hs
    funext y
    idx_vars y
    pointwise [k0_pay160, k0_pay161, k0_pay162, k0_pay163, k0_pay164, k0_pay165, k0_pay166, k0_pay167, k0_pay168, k0_pay169, k0_pay170, k0_pay171, k0_pay172, k0_pay173]
    simp only [tile3_ix, tile2_ix, convB, chain31, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hT hh hw hs
    have hgb : ∀ (o : ℕ) (inb : ∀ a, (![5, o, 0] : Fin 3 → ℕ) a + S1x512x128.size a ≤ S8x544x128.size a), View.readAt (Elt Ideal) arg15.view (Rect.unit (s := S8x544x128) ![5, o, 0] S1x512x128.size inb).toLoadRect (arg15.view.writes (Elt Ideal) (harg15.unread xs1) (HS1_6 (F := Ideal) c arg2 harg2 arg4 harg4 arg5 harg5 arg14 x0 x2 x3)) = tile3 T 5 o :=
      fun o inb => Rows.read (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))))) o inb (Nat.zero_le _) (by omega)
    have hgbj : ∀ (o : ℕ) (inb : ∀ a, (![5, o, 0] : Fin 3 → ℕ) a + S1x512x128.size a ≤ S8x544x128.size a), 32 ≤ o → arg15.view.readCov (HS1_6 (F := Ideal) c arg2 harg2 arg4 harg4 arg5 harg5 arg14 x0 x2 x3) (Rect.unit (s := S8x544x128) ![5, o, 0] S1x512x128.size inb).toLoadRect = tile3 T 5 o :=
      fun o inb ho => Rows.readCov (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))) o inb ho (by omega)
    simp only [r_72, r_73, r_74, r_75, r_76, r_77, r_78, r_79, r_80, r_81, r_82, r_83, v1368, v1374, v1381, v1388, v1395, v1402, v1409, v1416, v1423, v1430, v1437, v1444, v1451, v1458, v1465, v1472, v1479, v1486, v1493, v1500, v1507, v1514, v1521, v1528, v1535, v1542, v1549, v1556, v1563, v1570, v1577, hgb, hgbj, hw, hs, Nat.reduceLeDiff, Nat.le_refl, Nat.zero_le]
    clear hgb hgbj hw hs
    funext y
    idx_vars y
    pointwise [k0_pay143, k0_pay144, k0_pay145, k0_pay146, k0_pay147, k0_pay148, k0_pay149, k0_pay150, k0_pay151, k0_pay152, k0_pay153, k0_pay154, k0_pay155]
    simp only [tile3_ix, tile2_ix, convB, chain31, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hT hh hw hs
    have hgb : ∀ (o : ℕ) (inb : ∀ a, (![4, o, 0] : Fin 3 → ℕ) a + S1x512x128.size a ≤ S8x544x128.size a), View.readAt (Elt Ideal) arg15.view (Rect.unit (s := S8x544x128) ![4, o, 0] S1x512x128.size inb).toLoadRect (arg15.view.writes (Elt Ideal) (harg15.unread xs1) (HS1_5 (F := Ideal) c arg2 harg2 arg4 harg4 arg5 harg5 arg14 x0 x2 x3)) = tile3 T 4 o :=
      fun o inb => Rows.read (gb5 (hU := hU) (hT := hT) (hb := (gb4 (hU := hU) (hT := hT) (hb := (gb3 (hU := hU) (hT := hT) (hb := (gb2 (hU := hU) (hT := hT) (hb := (gb1 (hU := hU) (hT := hT) (hb := (base (harg15 := harg15) (hh := hh)))))))))))) o inb (Nat.zero_le _) (by omega)
    have hgbj : ∀ (o : ℕ) (inb : ∀ a, (![4, o, 0] : Fin 3 → ℕ) a + S1x512x128.size a ≤ S8x544x128.size a), 32 ≤ o → arg15.view.readCov (HS1_5 (F := Ideal) c arg2 harg2 arg4 harg4 arg5 harg5 arg14 x0 x2 x3) (Rect.unit (s := S8x544x128) ![4, o, 0] S1x512x128.size inb).toLoadRect = tile3 T 4 o :=
      fun o inb ho => Rows.readCov (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))) o inb ho (by omega)
    simp only [r_58, r_59, r_60, r_61, r_62, r_63, r_64, r_65, r_66, r_67, r_68, r_69, v1108, v1114, v1121, v1128, v1135, v1142, v1149, v1156, v1163, v1170, v1177, v1184, v1191, v1198, v1205, v1212, v1219, v1226, v1233, v1240, v1247, v1254, v1261, v1268, v1275, v1282, v1289, v1296, v1303, v1310, v1317, hgb, hgbj, hw, hs, Nat.reduceLeDiff, Nat.le_refl, Nat.zero_le]
    clear hgb hgbj hw hs
    funext y
    idx_vars y
    pointwise [k0_pay125, k0_pay126, k0_pay127, k0_pay128, k0_pay129, k0_pay130, k0_pay131, k0_pay132, k0_pay133, k0_pay134, k0_pay135, k0_pay136, k0_pay137]
    simp only [tile3_ix, tile2_ix, convB, chain31, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hT hh hw hs
    have hgb : ∀ (o : ℕ) (inb : ∀ a, (![3, o, 0] : Fin 3 → ℕ) a + S1x512x128.size a ≤ S8x544x128.size a), View.readAt (Elt Ideal) arg15.view (Rect.unit (s := S8x544x128) ![3, o, 0] S1x512x128.size inb).toLoadRect (arg15.view.writes (Elt Ideal) (harg15.unread xs1) (HS1_4 (F := Ideal) c arg2 harg2 arg4 harg4 arg5 harg5 arg14 x0 x2 x3)) = tile3 T 3 o :=
      fun o inb => Rows.read (gb4 (hU := hU) (hT := hT) (hb := (gb3 (hU := hU) (hT := hT) (hb := (gb2 (hU := hU) (hT := hT) (hb := (gb1 (hU := hU) (hT := hT) (hb := (base (harg15 := harg15) (hh := hh)))))))))) o inb (Nat.zero_le _) (by omega)
    have hgbj : ∀ (o : ℕ) (inb : ∀ a, (![3, o, 0] : Fin 3 → ℕ) a + S1x512x128.size a ≤ S8x544x128.size a), 32 ≤ o → arg15.view.readCov (HS1_4 (F := Ideal) c arg2 harg2 arg4 harg4 arg5 harg5 arg14 x0 x2 x3) (Rect.unit (s := S8x544x128) ![3, o, 0] S1x512x128.size inb).toLoadRect = tile3 T 3 o :=
      fun o inb ho => Rows.readCov (gb4 (hU := hU) (hT := hT) (hb := (gb3 (hU := hU) (hT := hT) (hb := (gb2 (hU := hU) (hT := hT) (hb := (gb1 (hU := hU) (hT := hT) (hb := Rows.none)))))))) o inb ho (by omega)
    simp only [r_43, r_44, r_45, r_46, r_47, r_48, r_49, r_50, r_51, r_52, r_53, r_54, r_55, v1001, v1008, v1015, v1022, v1029, v1036, v1043, v1050, v1057, v848, v854, v861, v868, v875, v882, v889, v896, v903, v910, v917, v924, v931, v938, v945, v952, v959, v966, v973, v980, v987, v994, hgb, hgbj, hw, hs, Nat.reduceLeDiff, Nat.le_refl, Nat.zero_le]
    clear hgb hgbj hw hs
    funext y
    idx_vars y
    pointwise [k0_pay106, k0_pay107, k0_pay108, k0_pay109, k0_pay110, k0_pay111, k0_pay112, k0_pay113, k0_pay114, k0_pay115, k0_pay116, k0_pay117, k0_pay118, k0_pay119]
    simp only [tile3_ix, tile2_ix, convB, chain31, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hT hh hw hs
    have hgb : ∀ (o : ℕ) (inb : ∀ a, (![2, o, 0] : Fin 3 → ℕ) a + S1x512x128.size a ≤ S8x544x128.size a), View.readAt (Elt Ideal) arg15.view (Rect.unit (s := S8x544x128) ![2, o, 0] S1x512x128.size inb).toLoadRect (arg15.view.writes (Elt Ideal) (harg15.unread xs1) (HS1_3 (F := Ideal) c arg2 harg2 arg4 harg4 arg5 harg5 arg14 x0 x2 x3)) = tile3 T 2 o :=
      fun o inb => Rows.read (gb3 (hU := hU) (hT := hT) (hb := (gb2 (hU := hU) (hT := hT) (hb := (gb1 (hU := hU) (hT := hT) (hb := (base (harg15 := harg15) (hh := hh)))))))) o inb (Nat.zero_le _) (by omega)
    have hgbj : ∀ (o : ℕ) (inb : ∀ a, (![2, o, 0] : Fin 3 → ℕ) a + S1x512x128.size a ≤ S8x544x128.size a), 32 ≤ o → arg15.view.readCov (HS1_3 (F := Ideal) c arg2 harg2 arg4 harg4 arg5 harg5 arg14 x0 x2 x3) (Rect.unit (s := S8x544x128) ![2, o, 0] S1x512x128.size inb).toLoadRect = tile3 T 2 o :=
      fun o inb ho => Rows.readCov (gb3 (hU := hU) (hT := hT) (hb := (gb2 (hU := hU) (hT := hT) (hb := (gb1 (hU := hU) (hT := hT) (hb := Rows.none)))))) o inb ho (by omega)
    simp only [r_30, r_31, r_32, r_33, r_34, r_35, r_36, r_37, r_38, r_39, r_40, r_41, v588, v594, v601, v608, v615, v622, v629, v636, v643, v650, v657, v664, v671, v678, v685, v692, v699, v706, v713, v720, v727, v734, v741, v748, v755, v762, v769, v776, v783, v790, v797, hgb, hgbj, hw, hs, Nat.reduceLeDiff, Nat.le_refl, Nat.zero_le]
    clear hgb hgbj hw hs
    funext y
    idx_vars y
    pointwise [k0_pay100, k0_pay101, k0_pay89, k0_pay90, k0_pay91, k0_pay92, k0_pay93, k0_pay94, k0_pay95, k0_pay96, k0_pay97, k0_pay98, k0_pay99]
    simp only [tile3_ix, tile2_ix, convB, chain31, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hT hh hw hs
    have hgb : ∀ (o : ℕ) (inb : ∀ a, (![1, o, 0] : Fin 3 → ℕ) a + S1x512x128.size a ≤ S8x544x128.size a), View.readAt (Elt Ideal) arg15.view (Rect.unit (s := S8x544x128) ![1, o, 0] S1x512x128.size inb).toLoadRect (arg15.view.writes (Elt Ideal) (harg15.unread xs1) (HS1_2 (F := Ideal) c arg2 harg2 arg4 harg4 arg5 harg5 arg14 x0 x2 x3)) = tile3 T 1 o :=
      fun o inb => Rows.read (gb2 (hU := hU) (hT := hT) (hb := (gb1 (hU := hU) (hT := hT) (hb := (base (harg15 := harg15) (hh := hh)))))) o inb (Nat.zero_le _) (by omega)
    have hgbj : ∀ (o : ℕ) (inb : ∀ a, (![1, o, 0] : Fin 3 → ℕ) a + S1x512x128.size a ≤ S8x544x128.size a), 32 ≤ o → arg15.view.readCov (HS1_2 (F := Ideal) c arg2 harg2 arg4 harg4 arg5 harg5 arg14 x0 x2 x3) (Rect.unit (s := S8x544x128) ![1, o, 0] S1x512x128.size inb).toLoadRect = tile3 T 1 o :=
      fun o inb ho => Rows.readCov (gb2 (hU := hU) (hT := hT) (hb := (gb1 (hU := hU) (hT := hT) (hb := Rows.none)))) o inb ho (by omega)
    simp only [r_15, r_16, r_17, r_18, r_19, r_20, r_21, r_22, r_23, r_24, r_25, r_26, r_27, v328, v334, v341, v348, v355, v362, v369, v376, v383, v390, v397, v404, v411, v418, v425, v432, v439, v446, v453, v460, v467, v474, v481, v488, v495, v502, v509, v516, v523, v530, v537, hgb, hgbj, hw, hs, Nat.reduceLeDiff, Nat.le_refl, Nat.zero_le]
    clear hgb hgbj hw hs
    funext y
    idx_vars y
    pointwise [k0_pay70, k0_pay71, k0_pay72, k0_pay73, k0_pay74, k0_pay75, k0_pay76, k0_pay77, k0_pay78, k0_pay79, k0_pay80, k0_pay81, k0_pay82, k0_pay83]
    simp only [tile3_ix, tile2_ix, convB, chain31, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hT hh hw hs
    have hgb : ∀ (o : ℕ) (inb : ∀ a, (![0, o, 0] : Fin 3 → ℕ) a + S1x512x128.size a ≤ S8x544x128.size a), View.readAt (Elt Ideal) arg15.view (Rect.unit (s := S8x544x128) ![0, o, 0] S1x512x128.size inb).toLoadRect (arg15.view.writes (Elt Ideal) (harg15.unread xs1) (HS1_1 (F := Ideal) c arg2 harg2 arg4 harg4 arg5 harg5 arg14 x0 x2 x3)) = tile3 T 0 o :=
      fun o inb => Rows.read (gb1 (hU := hU) (hT := hT) (hb := (base (harg15 := harg15) (hh := hh)))) o inb (Nat.zero_le _) (by omega)
    have hgbj : ∀ (o : ℕ) (inb : ∀ a, (![0, o, 0] : Fin 3 → ℕ) a + S1x512x128.size a ≤ S8x544x128.size a), 32 ≤ o → arg15.view.readCov (HS1_1 (F := Ideal) c arg2 harg2 arg4 harg4 arg5 harg5 arg14 x0 x2 x3) (Rect.unit (s := S8x544x128) ![0, o, 0] S1x512x128.size inb).toLoadRect = tile3 T 0 o :=
      fun o inb ho => Rows.readCov (gb1 (hU := hU) (hT := hT) (hb := Rows.none)) o inb ho (by omega)
    simp only [r_10, r_11, r_12, r_13, r_2, r_3, r_4, r_5, r_6, r_7, r_8, r_9, v102, v109, v116, v123, v130, v137, v144, v151, v158, v165, v172, v179, v186, v193, v200, v207, v214, v221, v228, v235, v242, v249, v256, v263, v270, v277, v68, v74, v81, v88, v95, hgb, hgbj, hw, hs, Nat.reduceLeDiff, Nat.le_refl, Nat.zero_le]
    clear hgb hgbj hw hs
    funext y
    idx_vars y
    pointwise [k0_pay53, k0_pay54, k0_pay55, k0_pay56, k0_pay57, k0_pay58, k0_pay59, k0_pay60, k0_pay61, k0_pay62, k0_pay63, k0_pay64, k0_pay65]
    simp only [tile3_ix, tile2_ix, convB, chain31, Fin.val_zero, Nat.reduceAdd, Nat.reduceMul, Nat.zero_add, Nat.add_zero]
  exact Held.nil2

/-- The mixed rows of the point. -/
theorem y (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 544) (l : Fin 128), r.val < 32 → xs1 (ix3 c r l) = T r.val (128 * c.val + l.val)) (hhA : ∀ (c : Fin 8) (r : Fin 520) (l : Fin 128), r.val < 8 → xs2 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val)
    {κ' : Kind} {sp' : Space} {v : View sig κ' sp' S512x2048 .bf16} {f : v.ty.Contents (Elt Ideal)} :
    Held v f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).1 (fun _ => True)
      (flat2 (e := .bf16) fun r => mixed (U r) (convA TA WA 6 r) (convB T WB BB 2 r) GG SS) := by
  have hr : ∀ (o : ℕ) (inb : ∀ a, (![o, 0] : Fin 2 → ℕ) a + S64x1024.size a ≤ S512x1024.size a), arg19.view.readCov (HS5_8 (F := Ideal) c arg2 harg2 arg4 harg4 arg5 harg5 arg7 harg7 arg8 harg8 arg14 arg15 harg15 x0 x2 x3 x5 x6 xs1) (Rect.unit (s := S512x1024) ![o, 0] S64x1024.size inb).toLoadRect = tile2 (convB T WB BB 2) o 0 :=
    fun o inb => Held.read2 (bc (hU := hU) (hT := hT) (hh := hh) (hWB := hWB) (hBB := hBB)) inb fun _ => trivial
  have hu : ∀ (q : ℕ) (inb : ∀ a, (![0, q] : Fin 2 → ℕ) a + S512x128.size a ≤ S512x5120.size a),
      arg14.view.readCov (HS0_1 (F := Ideal) c arg2 harg2 arg4 harg4 arg5 harg5 x0 x2 x3) (Rect.unit (s := S512x5120) ![0, q] S512x128.size inb).toLoadRect = tile2 U 0 q := readU hU
  have hw : ∀ (p q : ℕ) (inb : ∀ a, (![p, q] : Fin 2 → ℕ) a + S1x128.size a ≤ S3x1024.size a), View.readAt (Elt Ideal) arg6.view (Rect.unit (s := S3x1024) ![p, q] S1x128.size inb).toLoadRect (harg6.unread x4) = tile2 WA p q :=
    fun p q inb => by rw [View.readAt_eq_ld, harg6.read_unread]; exact ld2 x4 WA hWA p q inb
  unfold kernelRun0_C
  dsimp only
  refine Held.cons2 (D := fun y => (y 1).val < 1024 ∨ (y 0).val < 448) ?_ _ _ ?_ fun y hy h0 h1 h => by (try beta_reduce at hy ⊢); clear hy; omega
  swap
  · clear * - hr hG hS
    simp only [v_1, hr, View.readAt_eq_ld, harg9.read_unread, harg10.read_unread, ldFull2]
    clear hr
    funext y
    idx_vars y
    pointwise [k0_pay205]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 384) ?_ _ _ ?_ fun y hy h0 h1 h => by (try beta_reduce at hy ⊢); omega
  swap
  · clear * - hr hG hS
    simp only [v2297, hr, View.readAt_eq_ld, harg9.read_unread, harg10.read_unread, ldFull2]
    clear hr
    funext y
    idx_vars y
    pointwise [k0_pay204]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 320) ?_ _ _ ?_ fun y hy h0 h1 h => by (try beta_reduce at hy ⊢); omega
  swap
  · clear * - hr hG hS
    simp only [r_117, v2266, hr, View.readAt_eq_ld, harg9.read_unread, harg10.read_unread, ldFull2]
    clear hr
    funext y
    idx_vars y
    pointwise [k0_pay202, k0_pay203]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 256) ?_ _ _ ?_ fun y hy h0 h1 h => by (try beta_reduce at hy ⊢); omega
  swap
  · clear * - hr hG hS
    simp only [r_115, r_116, v2235, hr, View.readAt_eq_ld, harg9.read_unread, harg10.read_unread, ldFull2]
    clear hr
    funext y
    idx_vars y
    pointwise [k0_pay199, k0_pay200, k0_pay201]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 192) ?_ _ _ ?_ fun y hy h0 h1 h => by (try beta_reduce at hy ⊢); omega
  swap
  · clear * - hr hG hS
    simp only [v, hr, View.readAt_eq_ld, harg9.read_unread, harg10.read_unread, ldFull2]
    clear hr
    funext y
    idx_vars y
    pointwise [k0_pay198]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 128) ?_ _ _ ?_ fun y hy h0 h1 h => by (try beta_reduce at hy ⊢); omega
  swap
  · clear * - hr hG hS
    simp only [v2173, hr, View.readAt_eq_ld, harg9.read_unread, harg10.read_unread, ldFull2]
    clear hr
    funext y
    idx_vars y
    pointwise [k0_pay197]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 64) ?_ _ _ ?_ fun y hy h0 h1 h => by (try beta_reduce at hy ⊢); omega
  swap
  · clear * - hr hG hS
    simp only [r_114, v2142, hr, View.readAt_eq_ld, harg9.read_unread, harg10.read_unread, ldFull2]
    clear hr
    funext y
    idx_vars y
    pointwise [k0_pay195, k0_pay196]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 0) ?_ _ _ ?_ fun y hy h0 h1 h => by (try beta_reduce at hy ⊢); omega
  swap
  · clear * - hr hG hS
    simp only [r_112, r_113, v2111, hr, View.readAt_eq_ld, harg9.read_unread, harg10.read_unread, ldFull2]
    clear hr
    funext y
    idx_vars y
    pointwise [k0_pay192, k0_pay193, k0_pay194]
    simp only [tile2_ix]
    rw [mixed, if_neg (by omega), silu]
    simp only [layerNorm, mean, tile2_ix, hG, hS, Nat.add_sub_cancel_left, Nat.zero_add]
  refine Held.cons2 (D := fun y => (y 1).val < 896) ?_ _ _ ?_ fun y hy h0 h1 h => by (try beta_reduce at hy ⊢); omega
  swap
  · clear * - hU hTA hhA hw hu
    have hcv : ∀ (o : ℕ) (inb : ∀ a, (![7, o, 0] : Fin 3 → ℕ) a + S1x512x128.size a ≤ S8x520x128.size a), View.readAt (Elt Ideal) arg16.view (Rect.unit (s := S8x520x128) ![7, o, 0] S1x512x128.size inb).toLoadRect (arg16.view.writes (Elt Ideal) (harg16.unread xs2) (HS2_8 (F := Ideal) c arg2 harg2 arg4 harg4 arg5 harg5 arg14 x0 x2 x3)) = tile3 TA 7 o :=
      fun o inb => Rows.read (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))))))) o inb (Nat.zero_le _) (by omega)
    have hcvj : ∀ (o : ℕ) (inb : ∀ a, (![7, o, 0] : Fin 3 → ℕ) a + S1x512x128.size a ≤ S8x520x128.size a), 8 ≤ o → arg16.view.readCov (HS2_8 (F := Ideal) c arg2 harg2 arg4 harg4 arg5 harg5 arg14 x0 x2 x3) (Rect.unit (s := S8x520x128) ![7, o, 0] S1x512x128.size inb).toLoadRect = tile3 TA 7 o :=
      fun o inb ho => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) o inb ho (by omega)
    simp only [r_98, r_99, v1851, v1865, v1871, v1878, hcv, hcvj, hw, hu, Nat.reduceLeDiff, Nat.le_refl, Nat.zero_le]
    clear hcv hcvj hw hu
    funext y
    idx_vars y
    pointwise [k0_pay176, k0_pay177, k0_pay178]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hTA hhA hw hu
    have hcv : ∀ (o : ℕ) (inb : ∀ a, (![6, o, 0] : Fin 3 → ℕ) a + S1x512x128.size a ≤ S8x520x128.size a), View.readAt (Elt Ideal) arg16.view (Rect.unit (s := S8x520x128) ![6, o, 0] S1x512x128.size inb).toLoadRect (arg16.view.writes (Elt Ideal) (harg16.unread xs2) (HS2_7 (F := Ideal) c arg2 harg2 arg4 harg4 arg5 harg5 arg14 x0 x2 x3)) = tile3 TA 6 o :=
      fun o inb => Rows.read (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))))) o inb (Nat.zero_le _) (by omega)
    have hcvj : ∀ (o : ℕ) (inb : ∀ a, (![6, o, 0] : Fin 3 → ℕ) a + S1x512x128.size a ≤ S8x520x128.size a), 8 ≤ o → arg16.view.readCov (HS2_7 (F := Ideal) c arg2 harg2 arg4 harg4 arg5 harg5 arg14 x0 x2 x3) (Rect.unit (s := S8x520x128) ![6, o, 0] S1x512x128.size inb).toLoadRect = tile3 TA 6 o :=
      fun o inb ho => Rows.readCov (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))) o inb ho (by omega)
    simp only [v1591, v1605, v1611, v1618, hcv, hcvj, hw, hu, Nat.reduceLeDiff, Nat.le_refl, Nat.zero_le]
    clear hcv hcvj hw hu
    funext y
    idx_vars y
    pointwise [k0_pay159]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hTA hhA hw hu
    have hcv : ∀ (o : ℕ) (inb : ∀ a, (![5, o, 0] : Fin 3 → ℕ) a + S1x512x128.size a ≤ S8x520x128.size a), View.readAt (Elt Ideal) arg16.view (Rect.unit (s := S8x520x128) ![5, o, 0] S1x512x128.size inb).toLoadRect (arg16.view.writes (Elt Ideal) (harg16.unread xs2) (HS2_6 (F := Ideal) c arg2 harg2 arg4 harg4 arg5 harg5 arg14 x0 x2 x3)) = tile3 TA 5 o :=
      fun o inb => Rows.read (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))))) o inb (Nat.zero_le _) (by omega)
    have hcvj : ∀ (o : ℕ) (inb : ∀ a, (![5, o, 0] : Fin 3 → ℕ) a + S1x512x128.size a ≤ S8x520x128.size a), 8 ≤ o → arg16.view.readCov (HS2_6 (F := Ideal) c arg2 harg2 arg4 harg4 arg5 harg5 arg14 x0 x2 x3) (Rect.unit (s := S8x520x128) ![5, o, 0] S1x512x128.size inb).toLoadRect = tile3 TA 5 o :=
      fun o inb ho => Rows.readCov (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))) o inb ho (by omega)
    simp only [r_70, r_71, v1331, v1345, v1351, v1358, hcv, hcvj, hw, hu, Nat.reduceLeDiff, Nat.le_refl, Nat.zero_le]
    clear hcv hcvj hw hu
    funext y
    idx_vars y
    pointwise [k0_pay140, k0_pay141, k0_pay142]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hTA hhA hw hu
    have hcv : ∀ (o : ℕ) (inb : ∀ a, (![4, o, 0] : Fin 3 → ℕ) a + S1x512x128.size a ≤ S8x520x128.size a), View.readAt (Elt Ideal) arg16.view (Rect.unit (s := S8x520x128) ![4, o, 0] S1x512x128.size inb).toLoadRect (arg16.view.writes (Elt Ideal) (harg16.unread xs2) (HS2_5 (F := Ideal) c arg2 harg2 arg4 harg4 arg5 harg5 arg14 x0 x2 x3)) = tile3 TA 4 o :=
      fun o inb => Rows.read (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))))) o inb (Nat.zero_le _) (by omega)
    have hcvj : ∀ (o : ℕ) (inb : ∀ a, (![4, o, 0] : Fin 3 → ℕ) a + S1x512x128.size a ≤ S8x520x128.size a), 8 ≤ o → arg16.view.readCov (HS2_5 (F := Ideal) c arg2 harg2 arg4 harg4 arg5 harg5 arg14 x0 x2 x3) (Rect.unit (s := S8x520x128) ![4, o, 0] S1x512x128.size inb).toLoadRect = tile3 TA 4 o :=
      fun o inb ho => Rows.readCov (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))) o inb ho (by omega)
    simp only [r_56, r_57, v1071, v1085, v1091, v1098, hcv, hcvj, hw, hu, Nat.reduceLeDiff, Nat.le_refl, Nat.zero_le]
    clear hcv hcvj hw hu
    funext y
    idx_vars y
    pointwise [k0_pay122, k0_pay123, k0_pay124]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hTA hhA hw hu
    have hcv : ∀ (o : ℕ) (inb : ∀ a, (![3, o, 0] : Fin 3 → ℕ) a + S1x512x128.size a ≤ S8x520x128.size a), View.readAt (Elt Ideal) arg16.view (Rect.unit (s := S8x520x128) ![3, o, 0] S1x512x128.size inb).toLoadRect (arg16.view.writes (Elt Ideal) (harg16.unread xs2) (HS2_4 (F := Ideal) c arg2 harg2 arg4 harg4 arg5 harg5 arg14 x0 x2 x3)) = tile3 TA 3 o :=
      fun o inb => Rows.read (cv4 (hU := hU) (hTA := hTA) (hb := (cv3 (hU := hU) (hTA := hTA) (hb := (cv2 (hU := hU) (hTA := hTA) (hb := (cv1 (hU := hU) (hTA := hTA) (hb := (baseA (harg16 := harg16) (hhA := hhA)))))))))) o inb (Nat.zero_le _) (by omega)
    have hcvj : ∀ (o : ℕ) (inb : ∀ a, (![3, o, 0] : Fin 3 → ℕ) a + S1x512x128.size a ≤ S8x520x128.size a), 8 ≤ o → arg16.view.readCov (HS2_4 (F := Ideal) c arg2 harg2 arg4 harg4 arg5 harg5 arg14 x0 x2 x3) (Rect.unit (s := S8x520x128) ![3, o, 0] S1x512x128.size inb).toLoadRect = tile3 TA 3 o :=
      fun o inb ho => Rows.readCov (cv4 (hU := hU) (hTA := hTA) (hb := (cv3 (hU := hU) (hTA := hTA) (hb := (cv2 (hU := hU) (hTA := hTA) (hb := (cv1 (hU := hU) (hTA := hTA) (hb := Rows.none)))))))) o inb ho (by omega)
    simp only [v811, v825, v831, v838, hcv, hcvj, hw, hu, Nat.reduceLeDiff, Nat.le_refl, Nat.zero_le]
    clear hcv hcvj hw hu
    funext y
    idx_vars y
    pointwise [k0_pay105]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hTA hhA hw hu
    have hcv : ∀ (o : ℕ) (inb : ∀ a, (![2, o, 0] : Fin 3 → ℕ) a + S1x512x128.size a ≤ S8x520x128.size a), View.readAt (Elt Ideal) arg16.view (Rect.unit (s := S8x520x128) ![2, o, 0] S1x512x128.size inb).toLoadRect (arg16.view.writes (Elt Ideal) (harg16.unread xs2) (HS2_3 (F := Ideal) c arg2 harg2 arg4 harg4 arg5 harg5 arg14 x0 x2 x3)) = tile3 TA 2 o :=
      fun o inb => Rows.read (cv3 (hU := hU) (hTA := hTA) (hb := (cv2 (hU := hU) (hTA := hTA) (hb := (cv1 (hU := hU) (hTA := hTA) (hb := (baseA (harg16 := harg16) (hhA := hhA)))))))) o inb (Nat.zero_le _) (by omega)
    have hcvj : ∀ (o : ℕ) (inb : ∀ a, (![2, o, 0] : Fin 3 → ℕ) a + S1x512x128.size a ≤ S8x520x128.size a), 8 ≤ o → arg16.view.readCov (HS2_3 (F := Ideal) c arg2 harg2 arg4 harg4 arg5 harg5 arg14 x0 x2 x3) (Rect.unit (s := S8x520x128) ![2, o, 0] S1x512x128.size inb).toLoadRect = tile3 TA 2 o :=
      fun o inb ho => Rows.readCov (cv3 (hU := hU) (hTA := hTA) (hb := (cv2 (hU := hU) (hTA := hTA) (hb := (cv1 (hU := hU) (hTA := hTA) (hb := Rows.none)))))) o inb ho (by omega)
    simp only [r_28, r_29, v551, v565, v571, v578, hcv, hcvj, hw, hu, Nat.reduceLeDiff, Nat.le_refl, Nat.zero_le]
    clear hcv hcvj hw hu
    funext y
    idx_vars y
    pointwise [k0_pay86, k0_pay87, k0_pay88]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hTA hhA hw hu
    have hcv : ∀ (o : ℕ) (inb : ∀ a, (![1, o, 0] : Fin 3 → ℕ) a + S1x512x128.size a ≤ S8x520x128.size a), View.readAt (Elt Ideal) arg16.view (Rect.unit (s := S8x520x128) ![1, o, 0] S1x512x128.size inb).toLoadRect (arg16.view.writes (Elt Ideal) (harg16.unread xs2) (HS2_2 (F := Ideal) c arg2 harg2 arg4 harg4 arg5 harg5 arg14 x0 x2 x3)) = tile3 TA 1 o :=
      fun o inb => Rows.read (cv2 (hU := hU) (hTA := hTA) (hb := (cv1 (hU := hU) (hTA := hTA) (hb := (baseA (harg16 := harg16) (hhA := hhA)))))) o inb (Nat.zero_le _) (by omega)
    have hcvj : ∀ (o : ℕ) (inb : ∀ a, (![1, o, 0] : Fin 3 → ℕ) a + S1x512x128.size a ≤ S8x520x128.size a), 8 ≤ o → arg16.view.readCov (HS2_2 (F := Ideal) c arg2 harg2 arg4 harg4 arg5 harg5 arg14 x0 x2 x3) (Rect.unit (s := S8x520x128) ![1, o, 0] S1x512x128.size inb).toLoadRect = tile3 TA 1 o :=
      fun o inb ho => Rows.readCov (cv2 (hU := hU) (hTA := hTA) (hb := (cv1 (hU := hU) (hTA := hTA) (hb := Rows.none)))) o inb ho (by omega)
    simp only [v291, v305, v311, v318, hcv, hcvj, hw, hu, Nat.reduceLeDiff, Nat.le_refl, Nat.zero_le]
    clear hcv hcvj hw hu
    funext y
    idx_vars y
    pointwise [k0_pay69]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hTA hhA hw hu
    have hcv : ∀ (o : ℕ) (inb : ∀ a, (![0, o, 0] : Fin 3 → ℕ) a + S1x512x128.size a ≤ S8x520x128.size a), View.readAt (Elt Ideal) arg16.view (Rect.unit (s := S8x520x128) ![0, o, 0] S1x512x128.size inb).toLoadRect (arg16.view.writes (Elt Ideal) (harg16.unread xs2) (HS2_1 (F := Ideal) c arg2 harg2 arg4 harg4 arg5 harg5 arg14 x0 x2 x3)) = tile3 TA 0 o :=
      fun o inb => Rows.read (cv1 (hU := hU) (hTA := hTA) (hb := (baseA (harg16 := harg16) (hhA := hhA)))) o inb (Nat.zero_le _) (by omega)
    have hcvj : ∀ (o : ℕ) (inb : ∀ a, (![0, o, 0] : Fin 3 → ℕ) a + S1x512x128.size a ≤ S8x520x128.size a), 8 ≤ o → arg16.view.readCov (HS2_1 (F := Ideal) c arg2 harg2 arg4 harg4 arg5 harg5 arg14 x0 x2 x3) (Rect.unit (s := S8x520x128) ![0, o, 0] S1x512x128.size inb).toLoadRect = tile3 TA 0 o :=
      fun o inb ho => Rows.readCov (cv1 (hU := hU) (hTA := hTA) (hb := Rows.none)) o inb ho (by omega)
    simp only [r, r_1, v31, v45, v51, v58, hcv, hcvj, hw, hu, Nat.reduceLeDiff, Nat.le_refl, Nat.zero_le]
    clear hcv hcvj hw hu
    funext y
    idx_vars y
    pointwise [k0_pay50, k0_pay51, k0_pay52]
    simp only [tile2_ix]
    rw [mixed, if_pos (by omega)]
    simp only [tile3_ix, tile2_ix, convA, chain3, Fin.val_zero, Nat.reduceAdd, Nat.reduceMul, Nat.zero_add, Nat.add_zero]
  exact Held.nil2

/-- The halo the point leaves for the next one. -/
theorem gbHalo (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) {κ' : Kind} {sp' : Space} {v : View sig κ' sp' S8x544x128 .f32} {f : v.ty.Contents (Elt Ideal)} :
    Held v f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.2.2.1 (fun y => (y 1).val < 32) (lay fun r ch => T (512 + r) ch) := by
  unfold kernelRun0_C
  dsimp only
  refine Held.halo _ _ ?_
  have h8 : arg15.view.readCov (HS1_8 (F := Ideal) c arg2 harg2 arg4 harg4 arg5 harg5 arg14 x0 x2 x3) (Rect.unit (s := S8x544x128) ![0, 512, 0] S8x32x128.size inb_S8x544x128_S8x32x128_0_512_0).toLoadRect
      = lay (N := 32) (fun r ch => T (512 + r) ch) :=
    Rows.readCov8 (n := 32) (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 512 inb_S8x544x128_S8x32x128_0_512_0 (by omega)
  unfold v2362
  rw [h8]
  funext y
  idx_vars y
  pointwise [k0_pay207]

/-- The halo the point leaves for the next one. -/
theorem cvHalo (hc0 : ¬cond0_0 i) (hc1 : ¬cond0_1 i) (hc2 : cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 520) (l : Fin 128), r.val < 8 → xs2 (ix3 c r l) = TA r.val (128 * c.val + l.val)) {κ' : Kind} {sp' : Space} {v : View sig κ' sp' S8x520x128 .f32} {f : v.ty.Contents (Elt Ideal)} :
    Held v f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.2.2.2.1 (fun y => (y 1).val < 8) (lay fun r ch => TA (512 + r) ch) := by
  unfold kernelRun0_C
  dsimp only
  refine Held.halo _ _ ?_
  have h8 : arg16.view.readCov (HS2_8 (F := Ideal) c arg2 harg2 arg4 harg4 arg5 harg5 arg14 x0 x2 x3) (Rect.unit (s := S8x520x128) ![0, 512, 0] S8x8x128.size inb_S8x520x128_S8x8x128_0_512_0).toLoadRect
      = lay (N := 8) (fun r ch => TA (512 + r) ch) :=
    Rows.readCov8 (n := 8) (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 512 inb_S8x520x128_S8x8x128_0_512_0 (by omega)
  unfold v2366
  rw [h8]
  funext y
  idx_vars y
  pointwise [k0_pay1]

/-- The last rows of the sequence. -/
theorem gbLast (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch) {κ' : Kind} {sp' : Space} {v : View sig κ' sp' S1x30x1024 .f32} {f : v.ty.Contents (Elt Ideal)} :
    Held v f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.2.1 (fun _ => True) (rows3 T 514) := by
  unfold kernelRun0_C
  dsimp only
  refine Held.consC (D := fun y => (y 2).val < 896) ?_ 7 rfl _ _ ?_ fun y hy h2 h => by (try beta_reduce at hy ⊢); clear hy; omega
  swap
  · have h8 : ∀ (inb : ∀ a, (![7, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![7, 514, 0] S1x30x128.size inb).toLoadRect = tile3 T 7 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2445, h8]
    clear h8
    funext y
    idx_vars y
    pointwise [k0_pay206]

  refine Held.consC (D := fun y => (y 2).val < 768) ?_ 6 rfl _ _ ?_ fun y hy h2 h => by (try beta_reduce at hy ⊢); omega
  swap
  · have h8 : ∀ (inb : ∀ a, (![6, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![6, 514, 0] S1x30x128.size inb).toLoadRect = tile3 T 6 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2435, v2436, v2439, h8]
    clear h8
    funext y
    idx_vars y
    pointwise []

  refine Held.consC (D := fun y => (y 2).val < 640) ?_ 5 rfl _ _ ?_ fun y hy h2 h => by (try beta_reduce at hy ⊢); omega
  swap
  · have h8 : ∀ (inb : ∀ a, (![5, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![5, 514, 0] S1x30x128.size inb).toLoadRect = tile3 T 5 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2425, v2426, v2429, h8]
    clear h8
    funext y
    idx_vars y
    pointwise []

  refine Held.consC (D := fun y => (y 2).val < 512) ?_ 4 rfl _ _ ?_ fun y hy h2 h => by (try beta_reduce at hy ⊢); omega
  swap
  · have h8 : ∀ (inb : ∀ a, (![4, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![4, 514, 0] S1x30x128.size inb).toLoadRect = tile3 T 4 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2415, v2416, v2419, h8]
    clear h8
    funext y
    idx_vars y
    pointwise []

  refine Held.consC (D := fun y => (y 2).val < 384) ?_ 3 rfl _ _ ?_ fun y hy h2 h => by (try beta_reduce at hy ⊢); omega
  swap
  · have h8 : ∀ (inb : ∀ a, (![3, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![3, 514, 0] S1x30x128.size inb).toLoadRect = tile3 T 3 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2405, v2406, v2409, h8]
    clear h8
    funext y
    idx_vars y
    pointwise []

  refine Held.consC (D := fun y => (y 2).val < 256) ?_ 2 rfl _ _ ?_ fun y hy h2 h => by (try beta_reduce at hy ⊢); omega
  swap
  · have h8 : ∀ (inb : ∀ a, (![2, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![2, 514, 0] S1x30x128.size inb).toLoadRect = tile3 T 2 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2395, v2396, v2399, h8]
    clear h8
    funext y
    idx_vars y
    pointwise []

  refine Held.consC (D := fun y => (y 2).val < 128) ?_ 1 rfl _ _ ?_ fun y hy h2 h => by (try beta_reduce at hy ⊢); omega
  swap
  · have h8 : ∀ (inb : ∀ a, (![1, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![1, 514, 0] S1x30x128.size inb).toLoadRect = tile3 T 1 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2385, v2386, v2389, h8]
    clear h8
    funext y
    idx_vars y
    pointwise []

  refine Held.consC (D := fun y => False) ?_ 0 rfl _ _ ?_ fun y hy h2 h => by (try beta_reduce at hy ⊢); omega
  swap
  · have h8 : ∀ (inb : ∀ a, (![0, 514, 0] : Fin 3 → ℕ) a + S1x30x128.size a ≤ S8x544x128.size a), arg15.view.readCov (HS1_8 (F := Ideal) c arg2 harg2 arg4 harg4 arg5 harg5 arg14 x0 x2 x3) (Rect.unit (s := S8x544x128) ![0, 514, 0] S1x30x128.size inb).toLoadRect = tile3 T 0 514 :=
      fun inb => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := Rows.none)))))))))))))))) 514 inb (by omega) (by omega)
    simp only [v2375, v2376, v2379, h8]
    clear h8
    funext y
    idx_vars y
    pointwise []

  exact Held.nilC

/-- The last rows of the sequence. -/
theorem cvLast (hc0 : ¬cond0_0 i) (hc1 : ¬cond0_1 i) (hc2 : cond0_2 i) (hU : ∀ (r : Fin 512) (j : Fin 5120), k0_pay47 (F := Ideal) x0 x2 x3 (ix2 r j) = U r.val j.val) (hTA : ∀ r ch, r < 512 → ch < 1024 → TA (8 + r) ch = gate (U r) ch) {κ' : Kind} {sp' : Space} {v : View sig κ' sp' S1x2x1024 .f32} {f : v.ty.Contents (Elt Ideal)} :
    Held v f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4).2.1 (fun _ => True) (rows3 TA 518) := by
  unfold kernelRun0_C
  dsimp only
  refine Held.consC (D := fun y => (y 2).val < 896) ?_ 7 rfl _ _ ?_ fun y hy h2 h => by (try beta_reduce at hy ⊢); clear hy; omega
  swap
  · have h8 : ∀ (inb : ∀ a, (![7, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![7, 518, 0] S1x2x128.size inb).toLoadRect = tile3 TA 7 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2440, v2441, v2444, h8]
    clear h8
    funext y
    idx_vars y
    pointwise []

  refine Held.consC (D := fun y => (y 2).val < 768) ?_ 6 rfl _ _ ?_ fun y hy h2 h => by (try beta_reduce at hy ⊢); omega
  swap
  · have h8 : ∀ (inb : ∀ a, (![6, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![6, 518, 0] S1x2x128.size inb).toLoadRect = tile3 TA 6 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2430, v2431, v2434, h8]
    clear h8
    funext y
    idx_vars y
    pointwise []

  refine Held.consC (D := fun y => (y 2).val < 640) ?_ 5 rfl _ _ ?_ fun y hy h2 h => by (try beta_reduce at hy ⊢); omega
  swap
  · have h8 : ∀ (inb : ∀ a, (![5, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![5, 518, 0] S1x2x128.size inb).toLoadRect = tile3 TA 5 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2420, v2421, v2424, h8]
    clear h8
    funext y
    idx_vars y
    pointwise []

  refine Held.consC (D := fun y => (y 2).val < 512) ?_ 4 rfl _ _ ?_ fun y hy h2 h => by (try beta_reduce at hy ⊢); omega
  swap
  · have h8 : ∀ (inb : ∀ a, (![4, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![4, 518, 0] S1x2x128.size inb).toLoadRect = tile3 TA 4 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2410, v2411, v2414, h8]
    clear h8
    funext y
    idx_vars y
    pointwise []

  refine Held.consC (D := fun y => (y 2).val < 384) ?_ 3 rfl _ _ ?_ fun y hy h2 h => by (try beta_reduce at hy ⊢); omega
  swap
  · have h8 : ∀ (inb : ∀ a, (![3, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![3, 518, 0] S1x2x128.size inb).toLoadRect = tile3 TA 3 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2400, v2401, v2404, h8]
    clear h8
    funext y
    idx_vars y
    pointwise []

  refine Held.consC (D := fun y => (y 2).val < 256) ?_ 2 rfl _ _ ?_ fun y hy h2 h => by (try beta_reduce at hy ⊢); omega
  swap
  · have h8 : ∀ (inb : ∀ a, (![2, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![2, 518, 0] S1x2x128.size inb).toLoadRect = tile3 TA 2 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2390, v2391, v2394, h8]
    clear h8
    funext y
    idx_vars y
    pointwise []

  refine Held.consC (D := fun y => (y 2).val < 128) ?_ 1 rfl _ _ ?_ fun y hy h2 h => by (try beta_reduce at hy ⊢); omega
  swap
  · have h8 : ∀ (inb : ∀ a, (![1, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![1, 518, 0] S1x2x128.size inb).toLoadRect = tile3 TA 1 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2380, v2381, v2384, h8]
    clear h8
    funext y
    idx_vars y
    pointwise []

  refine Held.consC (D := fun y => False) ?_ 0 rfl _ _ ?_ fun y hy h2 h => by (try beta_reduce at hy ⊢); omega
  swap
  · have h8 : ∀ (inb : ∀ a, (![0, 518, 0] : Fin 3 → ℕ) a + S1x2x128.size a ≤ S8x520x128.size a), arg16.view.readCov (HS2_8 (F := Ideal) c arg2 harg2 arg4 harg4 arg5 harg5 arg14 x0 x2 x3) (Rect.unit (s := S8x520x128) ![0, 518, 0] S1x2x128.size inb).toLoadRect = tile3 TA 0 518 :=
      fun inb => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := Rows.none)))))))))))))))) 518 inb (by omega) (by omega)
    simp only [v2370, v2371, v2374, h8]
    clear h8
    funext y
    idx_vars y
    pointwise []

  exact Held.nilC

end Cert.Mix.CaseC

end
-- ==== Proof.Mix.CaseD.lean ====
/- What one grid point of the kernel leaves, case D: the rows of the two sequences, the mixed rows and the halos. -/
module

public import proofs.«01_k».proof.Proof.Gen.KernelIdeal.Frame.RunD
public import proofs.«01_k».proof.Proof.Mix.Tiles

@[expose] public section

set_option maxRecDepth 16384
set_option maxHeartbeats 2000000

noncomputable section

namespace Cert.Mix.CaseD

open Cert.KernelIdeal Cert.KernelIdeal.Gen Cert.KernelIdeal.Gen.kernelRun0_D.sl
open Idealize.ShloMosaic Idealize.ShloMosaic.TcCoe

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

/-- The projection read back at a lane group. -/
theorem readU (hU : ∀ (r : Fin 512) (j : Fin 5120), k0_pay47 (F := Ideal) x0 x2 x3 (ix2 r j) = U r.val j.val) (q : ℕ)
    (inb : ∀ a, (![0, q] : Fin 2 → ℕ) a + S512x128.size a ≤ S512x5120.size a) :
    arg14.view.readCov (HS0_1 (F := Ideal) c arg2 harg2 arg4 harg4 arg5 harg5 x0 x2 x3) (Rect.unit (s := S512x5120) ![0, q] S512x128.size inb).toLoadRect = tile2 U 0 q := by
  refine Held.read2 (D := fun _ => True) ?_ inb fun _ => trivial
  unfold HS0_1
  refine Held.cons2 Held.nil2 _ _ ?_ fun y _ h0 h1 h => by omega
  simp only [View.readAt_eq_ld, harg2.read_unread, harg4.read_unread, harg5.read_unread, ldFull3, ldFull2]
  funext y
  idx_vars y
  rw [hU, tile2_ix, Nat.zero_add, Nat.zero_add]

theorem gb1 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f [⟨Rect.unit (s := S8x544x128) ![0, 0, 0] S8x32x128.size inb_S8x544x128_S8x32x128_0_0_0, k0_pay45 (F := Ideal) (View.readAt (Elt Ideal) arg17.view (Rect.unit ![0, 0, 0] S8x32x128.size inb_S8x32x128_S8x32x128_0_0_0).toLoadRect (harg17.unread xs3))⟩] T 32 h 0) :
    Rows arg15.view f (HS1_2 (F := Ideal) c arg2 harg2 arg4 harg4 arg5 harg5 arg14 arg17 harg17 x0 x2 x3 xs3) T 32 h 1 := by
  unfold HS1_2
  refine Rows.step hb rfl _ _ ?_
  simp only [v34, v35, readU hU]
  funext y
  idx_vars y
  pointwise [k0_pay49]
  simp only [tile3_ix, tile2_ix, Nat.zero_add]
  rw [hT _ _ (by omega) (by omega), glu]
  simp only [← Nat.add_assoc, Nat.reduceAdd, Nat.reduceMul, Nat.zero_add]

theorem gb2 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_2 (F := Ideal) c arg2 harg2 arg4 harg4 arg5 harg5 arg14 arg17 harg17 x0 x2 x3 xs3) T 32 h 1) :
    Rows arg15.view f (HS1_3 (F := Ideal) c arg2 harg2 arg4 harg4 arg5 harg5 arg14 arg17 harg17 x0 x2 x3 xs3) T 32 h 2 := by
  unfold HS1_3
  refine Rows.step hb rfl _ _ ?_
  simp only [r_14, v294, v295, readU hU]
  funext y
  idx_vars y
  pointwise [k0_pay67, k0_pay68]
  simp only [tile3_ix, tile2_ix, Nat.zero_add]
  rw [hT _ _ (by omega) (by omega), glu]
  simp only [← Nat.add_assoc, Nat.reduceAdd, Nat.reduceMul, Nat.zero_add]

theorem gb3 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_3 (F := Ideal) c arg2 harg2 arg4 harg4 arg5 harg5 arg14 arg17 harg17 x0 x2 x3 xs3) T 32 h 2) :
    Rows arg15.view f (HS1_4 (F := Ideal) c arg2 harg2 arg4 harg4 arg5 harg5 arg14 arg17 harg17 x0 x2 x3 xs3) T 32 h 3 := by
  unfold HS1_4
  refine Rows.step hb rfl _ _ ?_
  simp only [v554, v555, readU hU]
  funext y
  idx_vars y
  pointwise [k0_pay85]
  simp only [tile3_ix, tile2_ix, Nat.zero_add]
  rw [hT _ _ (by omega) (by omega), glu]
  simp only [← Nat.add_assoc, Nat.reduceAdd, Nat.reduceMul, Nat.zero_add]

theorem gb4 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_4 (F := Ideal) c arg2 harg2 arg4 harg4 arg5 harg5 arg14 arg17 harg17 x0 x2 x3 xs3) T 32 h 3) :
    Rows arg15.view f (HS1_5 (F := Ideal) c arg2 harg2 arg4 harg4 arg5 harg5 arg14 arg17 harg17 x0 x2 x3 xs3) T 32 h 4 := by
  unfold HS1_5
  refine Rows.step hb rfl _ _ ?_
  simp only [v814, v815, readU hU]
  funext y
  idx_vars y
  pointwise [k0_pay104]
  simp only [tile3_ix, tile2_ix, Nat.zero_add]
  rw [hT _ _ (by omega) (by omega), glu]
  simp only [← Nat.add_assoc, Nat.reduceAdd, Nat.reduceMul, Nat.zero_add]

theorem gb5 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_5 (F := Ideal) c arg2 harg2 arg4 harg4 arg5 harg5 arg14 arg17 harg17 x0 x2 x3 xs3) T 32 h 4) :
    Rows arg15.view f (HS1_6 (F := Ideal) c arg2 harg2 arg4 harg4 arg5 harg5 arg14 arg17 harg17 x0 x2 x3 xs3) T 32 h 5 := by
  unfold HS1_6
  refine Rows.step hb rfl _ _ ?_
  simp only [v1074, v1075, readU hU]
  funext y
  idx_vars y
  pointwise [k0_pay121]
  simp only [tile3_ix, tile2_ix, Nat.zero_add]
  rw [hT _ _ (by omega) (by omega), glu]
  simp only [← Nat.add_assoc, Nat.reduceAdd, Nat.reduceMul, Nat.zero_add]

theorem gb6 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_6 (F := Ideal) c arg2 harg2 arg4 harg4 arg5 harg5 arg14 arg17 harg17 x0 x2 x3 xs3) T 32 h 5) :
    Rows arg15.view f (HS1_7 (F := Ideal) c arg2 harg2 arg4 harg4 arg5 harg5 arg14 arg17 harg17 x0 x2 x3 xs3) T 32 h 6 := by
  unfold HS1_7
  refine Rows.step hb rfl _ _ ?_
  simp only [v1334, v1335, readU hU]
  funext y
  idx_vars y
  pointwise [k0_pay139]
  simp only [tile3_ix, tile2_ix, Nat.zero_add]
  rw [hT _ _ (by omega) (by omega), glu]
  simp only [← Nat.add_assoc, Nat.reduceAdd, Nat.reduceMul, Nat.zero_add]

theorem gb7 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_7 (F := Ideal) c arg2 harg2 arg4 harg4 arg5 harg5 arg14 arg17 harg17 x0 x2 x3 xs3) T 32 h 6) :
    Rows arg15.view f (HS1_8 (F := Ideal) c arg2 harg2 arg4 harg4 arg5 harg5 arg14 arg17 harg17 x0 x2 x3 xs3) T 32 h 7 := by
  unfold HS1_8
  refine Rows.step hb rfl _ _ ?_
  simp only [r_84, v1594, v1595, readU hU]
  funext y
  idx_vars y
  pointwise [k0_pay157, k0_pay158]
  simp only [tile3_ix, tile2_ix, Nat.zero_add]
  rw [hT _ _ (by omega) (by omega), glu]
  simp only [← Nat.add_assoc, Nat.reduceAdd, Nat.reduceMul, Nat.zero_add]

theorem gb8 (hU : ∀ (r : Fin 512) (j : Fin 5120), k0_pay47 (F := Ideal) x0 x2 x3 (ix2 r j) = U r.val j.val) (hT : ∀ r ch, r < 512 → ch < 1024 → T (32 + r) ch = glu (U r) ch) {f : arg15.view.ty.Contents (Elt Ideal)} {h : ℕ}
    (hb : Rows arg15.view f (HS1_8 (F := Ideal) c arg2 harg2 arg4 harg4 arg5 harg5 arg14 arg17 harg17 x0 x2 x3 xs3) T 32 h 7) :
    Rows arg15.view f (HS1_9 (F := Ideal) c arg2 harg2 arg4 harg4 arg5 harg5 arg14 arg17 harg17 x0 x2 x3 xs3) T 32 h 8 := by
  unfold HS1_9
  refine Rows.step hb rfl _ _ ?_
  simp only [v1854, v1855, readU hU]
  funext y
  idx_vars y
  pointwise [k0_pay175]
  simp only [tile3_ix, tile2_ix, Nat.zero_add]
  rw [hT _ _ (by omega) (by omega), glu]
  simp only [← Nat.add_assoc, Nat.reduceAdd, Nat.reduceMul, Nat.zero_add]

theorem cv1 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f [⟨Rect.unit (s := S8x520x128) ![0, 0, 0] S8x8x128.size inb_S8x520x128_S8x8x128_0_0_0, k0_pay46 (F := Ideal) (View.readAt (Elt Ideal) arg18.view (Rect.unit ![0, 0, 0] S8x8x128.size inb_S8x8x128_S8x8x128_0_0_0).toLoadRect (harg18.unread xs4))⟩] TA 8 h 0) :
    Rows arg16.view f (HS2_2 (F := Ideal) c arg2 harg2 arg4 harg4 arg5 harg5 arg14 arg18 harg18 x0 x2 x3 xs4) TA 8 h 1 := by
  unfold HS2_2
  refine Rows.step hb rfl _ _ ?_
  simp only [v32, v33, readU hU]
  funext y
  idx_vars y
  pointwise [k0_pay48]
  simp only [tile3_ix, tile2_ix, Nat.zero_add]
  rw [hTA _ _ (by omega) (by omega), gate]
  simp only [← Nat.add_assoc, Nat.reduceAdd, Nat.reduceMul, Nat.zero_add]

theorem cv2 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_2 (F := Ideal) c arg2 harg2 arg4 harg4 arg5 harg5 arg14 arg18 harg18 x0 x2 x3 xs4) TA 8 h 1) :
    Rows arg16.view f (HS2_3 (F := Ideal) c arg2 harg2 arg4 harg4 arg5 harg5 arg14 arg18 harg18 x0 x2 x3 xs4) TA 8 h 2 := by
  unfold HS2_3
  refine Rows.step hb rfl _ _ ?_
  simp only [v292, v293, readU hU]
  funext y
  idx_vars y
  pointwise [k0_pay66]
  simp only [tile3_ix, tile2_ix, Nat.zero_add]
  rw [hTA _ _ (by omega) (by omega), gate]
  simp only [← Nat.add_assoc, Nat.reduceAdd, Nat.reduceMul, Nat.zero_add]

theorem cv3 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_3 (F := Ideal) c arg2 harg2 arg4 harg4 arg5 harg5 arg14 arg18 harg18 x0 x2 x3 xs4) TA 8 h 2) :
    Rows arg16.view f (HS2_4 (F := Ideal) c arg2 harg2 arg4 harg4 arg5 harg5 arg14 arg18 harg18 x0 x2 x3 xs4) TA 8 h 3 := by
  unfold HS2_4
  refine Rows.step hb rfl _ _ ?_
  simp only [v552, v553, readU hU]
  funext y
  idx_vars y
  pointwise [k0_pay84]
  simp only [tile3_ix, tile2_ix, Nat.zero_add]
  rw [hTA _ _ (by omega) (by omega), gate]
  simp only [← Nat.add_assoc, Nat.reduceAdd, Nat.reduceMul, Nat.zero_add]

theorem cv4 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_4 (F := Ideal) c arg2 harg2 arg4 harg4 arg5 harg5 arg14 arg18 harg18 x0 x2 x3 xs4) TA 8 h 3) :
    Rows arg16.view f (HS2_5 (F := Ideal) c arg2 harg2 arg4 harg4 arg5 harg5 arg14 arg18 harg18 x0 x2 x3 xs4) TA 8 h 4 := by
  unfold HS2_5
  refine Rows.step hb rfl _ _ ?_
  simp only [r_42, v812, v813, readU hU]
  funext y
  idx_vars y
  pointwise [k0_pay102, k0_pay103]
  simp only [tile3_ix, tile2_ix, Nat.zero_add]
  rw [hTA _ _ (by omega) (by omega), gate]
  simp only [← Nat.add_assoc, Nat.reduceAdd, Nat.reduceMul, Nat.zero_add]

theorem cv5 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_5 (F := Ideal) c arg2 harg2 arg4 harg4 arg5 harg5 arg14 arg18 harg18 x0 x2 x3 xs4) TA 8 h 4) :
    Rows arg16.view f (HS2_6 (F := Ideal) c arg2 harg2 arg4 harg4 arg5 harg5 arg14 arg18 harg18 x0 x2 x3 xs4) TA 8 h 5 := by
  unfold HS2_6
  refine Rows.step hb rfl _ _ ?_
  simp only [v1072, v1073, readU hU]
  funext y
  idx_vars y
  pointwise [k0_pay120]
  simp only [tile3_ix, tile2_ix, Nat.zero_add]
  rw [hTA _ _ (by omega) (by omega), gate]
  simp only [← Nat.add_assoc, Nat.reduceAdd, Nat.reduceMul, Nat.zero_add]

theorem cv6 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_6 (F := Ideal) c arg2 harg2 arg4 harg4 arg5 harg5 arg14 arg18 harg18 x0 x2 x3 xs4) TA 8 h 5) :
    Rows arg16.view f (HS2_7 (F := Ideal) c arg2 harg2 arg4 harg4 arg5 harg5 arg14 arg18 harg18 x0 x2 x3 xs4) TA 8 h 6 := by
  unfold HS2_7
  refine Rows.step hb rfl _ _ ?_
  simp only [v1332, v1333, readU hU]
  funext y
  idx_vars y
  pointwise [k0_pay138]
  simp only [tile3_ix, tile2_ix, Nat.zero_add]
  rw [hTA _ _ (by omega) (by omega), gate]
  simp only [← Nat.add_assoc, Nat.reduceAdd, Nat.reduceMul, Nat.zero_add]

theorem cv7 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_7 (F := Ideal) c arg2 harg2 arg4 harg4 arg5 harg5 arg14 arg18 harg18 x0 x2 x3 xs4) TA 8 h 6) :
    Rows arg16.view f (HS2_8 (F := Ideal) c arg2 harg2 arg4 harg4 arg5 harg5 arg14 arg18 harg18 x0 x2 x3 xs4) TA 8 h 7 := by
  unfold HS2_8
  refine Rows.step hb rfl _ _ ?_
  simp only [v1592, v1593, readU hU]
  funext y
  idx_vars y
  pointwise [k0_pay156]
  simp only [tile3_ix, tile2_ix, Nat.zero_add]
  rw [hTA _ _ (by omega) (by omega), gate]
  simp only [← Nat.add_assoc, Nat.reduceAdd, Nat.reduceMul, Nat.zero_add]

theorem cv8 (hU : ∀ (r : Fin 512) (j : Fin 5120), k0_pay47 (F := Ideal) x0 x2 x3 (ix2 r j) = U r.val j.val) (hTA : ∀ r ch, r < 512 → ch < 1024 → TA (8 + r) ch = gate (U r) ch) {f : arg16.view.ty.Contents (Elt Ideal)} {h : ℕ}
    (hb : Rows arg16.view f (HS2_8 (F := Ideal) c arg2 harg2 arg4 harg4 arg5 harg5 arg14 arg18 harg18 x0 x2 x3 xs4) TA 8 h 7) :
    Rows arg16.view f (HS2_9 (F := Ideal) c arg2 harg2 arg4 harg4 arg5 harg5 arg14 arg18 harg18 x0 x2 x3 xs4) TA 8 h 8 := by
  unfold HS2_9
  refine Rows.step hb rfl _ _ ?_
  simp only [v1852, v1853, readU hU]
  funext y
  idx_vars y
  pointwise [k0_pay174]
  simp only [tile3_ix, tile2_ix, Nat.zero_add]
  rw [hTA _ _ (by omega) (by omega), gate]
  simp only [← Nat.add_assoc, Nat.reduceAdd, Nat.reduceMul, Nat.zero_add]

theorem base (hh : ∀ (c : Fin 8) (r : Fin 32) (l : Fin 128), xs3 (ix3 c r l) = T r.val (128 * c.val + l.val)) :
    Rows arg15.view arg15.view.junk [⟨Rect.unit (s := S8x544x128) ![0, 0, 0] S8x32x128.size inb_S8x544x128_S8x32x128_0_0_0,
      k0_pay45 (F := Ideal) (View.readAt (Elt Ideal) arg17.view (Rect.unit ![0, 0, 0] S8x32x128.size inb_S8x32x128_S8x32x128_0_0_0).toLoadRect (harg17.unread xs3))⟩] T 32 0 0 := by
  refine Rows.halo _ _ ?_
  simp only [View.readAt_eq_ld, harg17.read_unread, ldFull3]
  funext y
  idx_vars y
  pointwise [k0_pay45]
  exact hh _ _ _

theorem baseA (hhA : ∀ (c : Fin 8) (r : Fin 8) (l : Fin 128), xs4 (ix3 c r l) = TA r.val (128 * c.val + l.val)) :
    Rows arg16.view arg16.view.junk [⟨Rect.unit (s := S8x520x128) ![0, 0, 0] S8x8x128.size inb_S8x520x128_S8x8x128_0_0_0,
      k0_pay46 (F := Ideal) (View.readAt (Elt Ideal) arg18.view (Rect.unit ![0, 0, 0] S8x8x128.size inb_S8x8x128_S8x8x128_0_0_0).toLoadRect (harg18.unread xs4))⟩] TA 8 0 0 := by
  refine Rows.halo _ _ ?_
  simp only [View.readAt_eq_ld, harg18.read_unread, ldFull3]
  funext y
  idx_vars y
  pointwise [k0_pay46]
  exact hhA _ _ _

/-- The wide convolution of the point's rows. -/
theorem bc (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 32) (l : Fin 128), xs3 (ix3 c r l) = T r.val (128 * c.val + l.val)) (hWB : ∀ (k : Fin 31) (j : Fin 1024), x5 (ix2 k j) = WB k.val j.val) (hBB : ∀ (z : Fin 1) (j : Fin 1024), x6 (ix2 z j) = BB j.val) :
    Held arg19.view arg19.view.junk (HS5_8 (F := Ideal) c arg2 harg2 arg4 harg4 arg5 harg5 arg7 harg7 arg8 harg8 arg14 arg15 arg17 harg17 x0 x2 x3 x5 x6 xs3) (fun _ => True) (flat2 (convB T WB BB 2)) := by
  have hw : ∀ (p q : ℕ) (inb : ∀ a, (![p, q] : Fin 2 → ℕ) a + S1x128.size a ≤ S31x1024.size a), View.readAt (Elt Ideal) arg7.view (Rect.unit (s := S31x1024) ![p, q] S1x128.size inb).toLoadRect (harg7.unread x5) = tile2 WB p q :=
    fun p q inb => by rw [View.readAt_eq_ld, harg7.read_unread]; exact ld2 x5 WB hWB p q inb
  have hs : ∀ (p q : ℕ) (inb : ∀ a, (![p, q] : Fin 2 → ℕ) a + S1x128.size a ≤ S1x1024.size a), View.readAt (Elt Ideal) arg8.view (Rect.unit (s := S1x1024) ![p, q] S1x128.size inb).toLoadRect (harg8.unread x6) = tile2 (fun _ ch => BB ch) p q :=
    fun p q inb => by rw [View.readAt_eq_ld, harg8.read_unread]; exact ld2 x6 (fun _ ch => BB ch) hBB p q inb
  unfold HS5_8
  refine Held.cons2 (D := fun y => (y 1).val < 896) ?_ _ _ ?_ fun y hy h0 h1 h => by (try beta_reduce at hy ⊢); clear hy; omega
  swap
  · clear * - hU hT hh hw hs
    have hgbj : ∀ (o : ℕ) (inb : ∀ a, (![7, o, 0] : Fin 3 → ℕ) a + S1x512x128.size a ≤ S8x544x128.size a), 0 ≤ o → arg15.view.readCov (HS1_9 (F := Ideal) c arg2 harg2 arg4 harg4 arg5 harg5 arg14 arg17 harg17 x0 x2 x3 xs3) (Rect.unit (s := S8x544x128) ![7, o, 0] S1x512x128.size inb).toLoadRect = tile3 T 7 o :=
      fun o inb ho => Rows.readCov (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg17 := harg17) (hh := hh)))))))))))))))))) o inb ho (by omega)
    simp only [r_100, r_101, r_102, r_103, r_104, r_105, r_106, r_107, r_108, r_109, r_110, r_111, v1888, v1894, v1901, v1908, v1915, v1922, v1929, v1936, v1943, v1950, v1957, v1964, v1971, v1978, v1985, v1992, v1999, v2006, v2013, v2020, v2027, v2034, v2041, v2048, v2055, v2062, v2069, v2076, v2083, v2090, v2097, hgbj, hw, hs, Nat.reduceLeDiff, Nat.le_refl, Nat.zero_le]
    clear hgbj hw hs
    funext y
    idx_vars y
    pointwise [k0_pay179, k0_pay180, k0_pay181, k0_pay182, k0_pay183, k0_pay184, k0_pay185, k0_pay186, k0_pay187, k0_pay188, k0_pay189, k0_pay190, k0_pay191]
    simp only [tile3_ix, tile2_ix, convB, chain31, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hT hh hw hs
    have hgbj : ∀ (o : ℕ) (inb : ∀ a, (![6, o, 0] : Fin 3 → ℕ) a + S1x512x128.size a ≤ S8x544x128.size a), 0 ≤ o → arg15.view.readCov (HS1_8 (F := Ideal) c arg2 harg2 arg4 harg4 arg5 harg5 arg14 arg17 harg17 x0 x2 x3 xs3) (Rect.unit (s := S8x544x128) ![6, o, 0] S1x512x128.size inb).toLoadRect = tile3 T 6 o :=
      fun o inb ho => Rows.readCov (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg17 := harg17) (hh := hh)))))))))))))))) o inb ho (by omega)
    simp only [r_85, r_86, r_87, r_88, r_89, r_90, r_91, r_92, r_93, r_94, r_95, r_96, r_97, v1628, v1634, v1641, v1648, v1655, v1662, v1669, v1676, v1683, v1690, v1697, v1704, v1711, v1718, v1725, v1732, v1739, v1746, v1753, v1760, v1767, v1774, v1781, v1788, v1795, v1802, v1809, v1816, v1823, v1830, v1837, hgbj, hw, hs, Nat.reduceLeDiff, Nat.le_refl, Nat.zero_le]
    clear hgbj hw hs
    funext y
    idx_vars y
    pointwise [k0_pay160, k0_pay161, k0_pay162, k0_pay163, k0_pay164, k0_pay165, k0_pay166, k0_pay167, k0_pay168, k0_pay169, k0_pay170, k0_pay171, k0_pay172, k0_pay173]
    simp only [tile3_ix, tile2_ix, convB, chain31, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hT hh hw hs
    have hgbj : ∀ (o : ℕ) (inb : ∀ a, (![5, o, 0] : Fin 3 → ℕ) a + S1x512x128.size a ≤ S8x544x128.size a), 0 ≤ o → arg15.view.readCov (HS1_7 (F := Ideal) c arg2 harg2 arg4 harg4 arg5 harg5 arg14 arg17 harg17 x0 x2 x3 xs3) (Rect.unit (s := S8x544x128) ![5, o, 0] S1x512x128.size inb).toLoadRect = tile3 T 5 o :=
      fun o inb ho => Rows.readCov (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg17 := harg17) (hh := hh)))))))))))))) o inb ho (by omega)
    simp only [r_72, r_73, r_74, r_75, r_76, r_77, r_78, r_79, r_80, r_81, r_82, r_83, v1368, v1374, v1381, v1388, v1395, v1402, v1409, v1416, v1423, v1430, v1437, v1444, v1451, v1458, v1465, v1472, v1479, v1486, v1493, v1500, v1507, v1514, v1521, v1528, v1535, v1542, v1549, v1556, v1563, v1570, v1577, hgbj, hw, hs, Nat.reduceLeDiff, Nat.le_refl, Nat.zero_le]
    clear hgbj hw hs
    funext y
    idx_vars y
    pointwise [k0_pay143, k0_pay144, k0_pay145, k0_pay146, k0_pay147, k0_pay148, k0_pay149, k0_pay150, k0_pay151, k0_pay152, k0_pay153, k0_pay154, k0_pay155]
    simp only [tile3_ix, tile2_ix, convB, chain31, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hT hh hw hs
    have hgbj : ∀ (o : ℕ) (inb : ∀ a, (![4, o, 0] : Fin 3 → ℕ) a + S1x512x128.size a ≤ S8x544x128.size a), 0 ≤ o → arg15.view.readCov (HS1_6 (F := Ideal) c arg2 harg2 arg4 harg4 arg5 harg5 arg14 arg17 harg17 x0 x2 x3 xs3) (Rect.unit (s := S8x544x128) ![4, o, 0] S1x512x128.size inb).toLoadRect = tile3 T 4 o :=
      fun o inb ho => Rows.readCov (gb5 (hU := hU) (hT := hT) (hb := (gb4 (hU := hU) (hT := hT) (hb := (gb3 (hU := hU) (hT := hT) (hb := (gb2 (hU := hU) (hT := hT) (hb := (gb1 (hU := hU) (hT := hT) (hb := (base (harg17 := harg17) (hh := hh)))))))))))) o inb ho (by omega)
    simp only [r_58, r_59, r_60, r_61, r_62, r_63, r_64, r_65, r_66, r_67, r_68, r_69, v1108, v1114, v1121, v1128, v1135, v1142, v1149, v1156, v1163, v1170, v1177, v1184, v1191, v1198, v1205, v1212, v1219, v1226, v1233, v1240, v1247, v1254, v1261, v1268, v1275, v1282, v1289, v1296, v1303, v1310, v1317, hgbj, hw, hs, Nat.reduceLeDiff, Nat.le_refl, Nat.zero_le]
    clear hgbj hw hs
    funext y
    idx_vars y
    pointwise [k0_pay125, k0_pay126, k0_pay127, k0_pay128, k0_pay129, k0_pay130, k0_pay131, k0_pay132, k0_pay133, k0_pay134, k0_pay135, k0_pay136, k0_pay137]
    simp only [tile3_ix, tile2_ix, convB, chain31, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hT hh hw hs
    have hgbj : ∀ (o : ℕ) (inb : ∀ a, (![3, o, 0] : Fin 3 → ℕ) a + S1x512x128.size a ≤ S8x544x128.size a), 0 ≤ o → arg15.view.readCov (HS1_5 (F := Ideal) c arg2 harg2 arg4 harg4 arg5 harg5 arg14 arg17 harg17 x0 x2 x3 xs3) (Rect.unit (s := S8x544x128) ![3, o, 0] S1x512x128.size inb).toLoadRect = tile3 T 3 o :=
      fun o inb ho => Rows.readCov (gb4 (hU := hU) (hT := hT) (hb := (gb3 (hU := hU) (hT := hT) (hb := (gb2 (hU := hU) (hT := hT) (hb := (gb1 (hU := hU) (hT := hT) (hb := (base (harg17 := harg17) (hh := hh)))))))))) o inb ho (by omega)
    simp only [r_43, r_44, r_45, r_46, r_47, r_48, r_49, r_50, r_51, r_52, r_53, r_54, r_55, v1001, v1008, v1015, v1022, v1029, v1036, v1043, v1050, v1057, v848, v854, v861, v868, v875, v882, v889, v896, v903, v910, v917, v924, v931, v938, v945, v952, v959, v966, v973, v980, v987, v994, hgbj, hw, hs, Nat.reduceLeDiff, Nat.le_refl, Nat.zero_le]
    clear hgbj hw hs
    funext y
    idx_vars y
    pointwise [k0_pay106, k0_pay107, k0_pay108, k0_pay109, k0_pay110, k0_pay111, k0_pay112, k0_pay113, k0_pay114, k0_pay115, k0_pay116, k0_pay117, k0_pay118, k0_pay119]
    simp only [tile3_ix, tile2_ix, convB, chain31, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hT hh hw hs
    have hgbj : ∀ (o : ℕ) (inb : ∀ a, (![2, o, 0] : Fin 3 → ℕ) a + S1x512x128.size a ≤ S8x544x128.size a), 0 ≤ o → arg15.view.readCov (HS1_4 (F := Ideal) c arg2 harg2 arg4 harg4 arg5 harg5 arg14 arg17 harg17 x0 x2 x3 xs3) (Rect.unit (s := S8x544x128) ![2, o, 0] S1x512x128.size inb).toLoadRect = tile3 T 2 o :=
      fun o inb ho => Rows.readCov (gb3 (hU := hU) (hT := hT) (hb := (gb2 (hU := hU) (hT := hT) (hb := (gb1 (hU := hU) (hT := hT) (hb := (base (harg17 := harg17) (hh := hh)))))))) o inb ho (by omega)
    simp only [r_30, r_31, r_32, r_33, r_34, r_35, r_36, r_37, r_38, r_39, r_40, r_41, v588, v594, v601, v608, v615, v622, v629, v636, v643, v650, v657, v664, v671, v678, v685, v692, v699, v706, v713, v720, v727, v734, v741, v748, v755, v762, v769, v776, v783, v790, v797, hgbj, hw, hs, Nat.reduceLeDiff, Nat.le_refl, Nat.zero_le]
    clear hgbj hw hs
    funext y
    idx_vars y
    pointwise [k0_pay100, k0_pay101, k0_pay89, k0_pay90, k0_pay91, k0_pay92, k0_pay93, k0_pay94, k0_pay95, k0_pay96, k0_pay97, k0_pay98, k0_pay99]
    simp only [tile3_ix, tile2_ix, convB, chain31, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hT hh hw hs
    have hgbj : ∀ (o : ℕ) (inb : ∀ a, (![1, o, 0] : Fin 3 → ℕ) a + S1x512x128.size a ≤ S8x544x128.size a), 0 ≤ o → arg15.view.readCov (HS1_3 (F := Ideal) c arg2 harg2 arg4 harg4 arg5 harg5 arg14 arg17 harg17 x0 x2 x3 xs3) (Rect.unit (s := S8x544x128) ![1, o, 0] S1x512x128.size inb).toLoadRect = tile3 T 1 o :=
      fun o inb ho => Rows.readCov (gb2 (hU := hU) (hT := hT) (hb := (gb1 (hU := hU) (hT := hT) (hb := (base (harg17 := harg17) (hh := hh)))))) o inb ho (by omega)
    simp only [r_15, r_16, r_17, r_18, r_19, r_20, r_21, r_22, r_23, r_24, r_25, r_26, r_27, v328, v334, v341, v348, v355, v362, v369, v376, v383, v390, v397, v404, v411, v418, v425, v432, v439, v446, v453, v460, v467, v474, v481, v488, v495, v502, v509, v516, v523, v530, v537, hgbj, hw, hs, Nat.reduceLeDiff, Nat.le_refl, Nat.zero_le]
    clear hgbj hw hs
    funext y
    idx_vars y
    pointwise [k0_pay70, k0_pay71, k0_pay72, k0_pay73, k0_pay74, k0_pay75, k0_pay76, k0_pay77, k0_pay78, k0_pay79, k0_pay80, k0_pay81, k0_pay82, k0_pay83]
    simp only [tile3_ix, tile2_ix, convB, chain31, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hT hh hw hs
    have hgbj : ∀ (o : ℕ) (inb : ∀ a, (![0, o, 0] : Fin 3 → ℕ) a + S1x512x128.size a ≤ S8x544x128.size a), 0 ≤ o → arg15.view.readCov (HS1_2 (F := Ideal) c arg2 harg2 arg4 harg4 arg5 harg5 arg14 arg17 harg17 x0 x2 x3 xs3) (Rect.unit (s := S8x544x128) ![0, o, 0] S1x512x128.size inb).toLoadRect = tile3 T 0 o :=
      fun o inb ho => Rows.readCov (gb1 (hU := hU) (hT := hT) (hb := (base (harg17 := harg17) (hh := hh)))) o inb ho (by omega)
    simp only [r_10, r_11, r_12, r_13, r_2, r_3, r_4, r_5, r_6, r_7, r_8, r_9, v102, v109, v116, v123, v130, v137, v144, v151, v158, v165, v172, v179, v186, v193, v200, v207, v214, v221, v228, v235, v242, v249, v256, v263, v270, v277, v68, v74, v81, v88, v95, hgbj, hw, hs, Nat.reduceLeDiff, Nat.le_refl, Nat.zero_le]
    clear hgbj hw hs
    funext y
    idx_vars y
    pointwise [k0_pay53, k0_pay54, k0_pay55, k0_pay56, k0_pay57, k0_pay58, k0_pay59, k0_pay60, k0_pay61, k0_pay62, k0_pay63, k0_pay64, k0_pay65]
    simp only [tile3_ix, tile2_ix, convB, chain31, Fin.val_zero, Nat.reduceAdd, Nat.reduceMul, Nat.zero_add, Nat.add_zero]
  exact Held.nil2

/-- The mixed rows of the point. -/
theorem y (hc0 : ¬cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 32) (l : Fin 128), xs3 (ix3 c r l) = T r.val (128 * c.val + l.val)) (hhA : ∀ (c : Fin 8) (r : Fin 8) (l : Fin 128), xs4 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val)
    {κ' : Kind} {sp' : Space} {v : View sig κ' sp' S512x2048 .bf16} {f : v.ty.Contents (Elt Ideal)} :
    Held v f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4).1 (fun _ => True)
      (flat2 (e := .bf16) fun r => mixed (U r) (convA TA WA 6 r) (convB T WB BB 2 r) GG SS) := by
  have hr : ∀ (o : ℕ) (inb : ∀ a, (![o, 0] : Fin 2 → ℕ) a + S64x1024.size a ≤ S512x1024.size a), arg19.view.readCov (HS5_8 (F := Ideal) c arg2 harg2 arg4 harg4 arg5 harg5 arg7 harg7 arg8 harg8 arg14 arg15 arg17 harg17 x0 x2 x3 x5 x6 xs3) (Rect.unit (s := S512x1024) ![o, 0] S64x1024.size inb).toLoadRect = tile2 (convB T WB BB 2) o 0 :=
    fun o inb => Held.read2 (bc (hU := hU) (hT := hT) (hh := hh) (hWB := hWB) (hBB := hBB)) inb fun _ => trivial
  have hu : ∀ (q : ℕ) (inb : ∀ a, (![0, q] : Fin 2 → ℕ) a + S512x128.size a ≤ S512x5120.size a),
      arg14.view.readCov (HS0_1 (F := Ideal) c arg2 harg2 arg4 harg4 arg5 harg5 x0 x2 x3) (Rect.unit (s := S512x5120) ![0, q] S512x128.size inb).toLoadRect = tile2 U 0 q := readU hU
  have hw : ∀ (p q : ℕ) (inb : ∀ a, (![p, q] : Fin 2 → ℕ) a + S1x128.size a ≤ S3x1024.size a), View.readAt (Elt Ideal) arg6.view (Rect.unit (s := S3x1024) ![p, q] S1x128.size inb).toLoadRect (harg6.unread x4) = tile2 WA p q :=
    fun p q inb => by rw [View.readAt_eq_ld, harg6.read_unread]; exact ld2 x4 WA hWA p q inb
  unfold kernelRun0_D
  dsimp only
  refine Held.cons2 (D := fun y => (y 1).val < 1024 ∨ (y 0).val < 448) ?_ _ _ ?_ fun y hy h0 h1 h => by (try beta_reduce at hy ⊢); clear hy; omega
  swap
  · clear * - hr hG hS
    simp only [v_1, hr, View.readAt_eq_ld, harg9.read_unread, harg10.read_unread, ldFull2]
    clear hr
    funext y
    idx_vars y
    pointwise [k0_pay205]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 384) ?_ _ _ ?_ fun y hy h0 h1 h => by (try beta_reduce at hy ⊢); omega
  swap
  · clear * - hr hG hS
    simp only [v2297, hr, View.readAt_eq_ld, harg9.read_unread, harg10.read_unread, ldFull2]
    clear hr
    funext y
    idx_vars y
    pointwise [k0_pay204]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 320) ?_ _ _ ?_ fun y hy h0 h1 h => by (try beta_reduce at hy ⊢); omega
  swap
  · clear * - hr hG hS
    simp only [r_117, v2266, hr, View.readAt_eq_ld, harg9.read_unread, harg10.read_unread, ldFull2]
    clear hr
    funext y
    idx_vars y
    pointwise [k0_pay202, k0_pay203]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 256) ?_ _ _ ?_ fun y hy h0 h1 h => by (try beta_reduce at hy ⊢); omega
  swap
  · clear * - hr hG hS
    simp only [r_115, r_116, v2235, hr, View.readAt_eq_ld, harg9.read_unread, harg10.read_unread, ldFull2]
    clear hr
    funext y
    idx_vars y
    pointwise [k0_pay199, k0_pay200, k0_pay201]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 192) ?_ _ _ ?_ fun y hy h0 h1 h => by (try beta_reduce at hy ⊢); omega
  swap
  · clear * - hr hG hS
    simp only [v, hr, View.readAt_eq_ld, harg9.read_unread, harg10.read_unread, ldFull2]
    clear hr
    funext y
    idx_vars y
    pointwise [k0_pay198]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 128) ?_ _ _ ?_ fun y hy h0 h1 h => by (try beta_reduce at hy ⊢); omega
  swap
  · clear * - hr hG hS
    simp only [v2173, hr, View.readAt_eq_ld, harg9.read_unread, harg10.read_unread, ldFull2]
    clear hr
    funext y
    idx_vars y
    pointwise [k0_pay197]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 64) ?_ _ _ ?_ fun y hy h0 h1 h => by (try beta_reduce at hy ⊢); omega
  swap
  · clear * - hr hG hS
    simp only [r_114, v2142, hr, View.readAt_eq_ld, harg9.read_unread, harg10.read_unread, ldFull2]
    clear hr
    funext y
    idx_vars y
    pointwise [k0_pay195, k0_pay196]
    simp only [tile2_ix]
    rw [mixed, if_neg (by omega), silu]
    simp only [layerNorm, mean, tile2_ix, hG, hS, Nat.add_sub_cancel_left, Nat.zero_add]
  refine Held.cons2 (D := fun y => (y 1).val < 1024 ∨ (y 0).val < 0) ?_ _ _ ?_ fun y hy h0 h1 h => by (try beta_reduce at hy ⊢); omega
  swap
  · clear * - hr hG hS
    simp only [r_112, r_113, v2111, hr, View.readAt_eq_ld, harg9.read_unread, harg10.read_unread, ldFull2]
    clear hr
    funext y
    idx_vars y
    pointwise [k0_pay192, k0_pay193, k0_pay194]
    simp only [tile2_ix]
    rw [mixed, if_neg (by omega), silu]
    simp only [layerNorm, mean, tile2_ix, hG, hS, Nat.add_sub_cancel_left, Nat.zero_add]
  refine Held.cons2 (D := fun y => (y 1).val < 896) ?_ _ _ ?_ fun y hy h0 h1 h => by (try beta_reduce at hy ⊢); omega
  swap
  · clear * - hU hTA hhA hw hu
    have hcvj : ∀ (o : ℕ) (inb : ∀ a, (![7, o, 0] : Fin 3 → ℕ) a + S1x512x128.size a ≤ S8x520x128.size a), 0 ≤ o → arg16.view.readCov (HS2_9 (F := Ideal) c arg2 harg2 arg4 harg4 arg5 harg5 arg14 arg18 harg18 x0 x2 x3 xs4) (Rect.unit (s := S8x520x128) ![7, o, 0] S1x512x128.size inb).toLoadRect = tile3 TA 7 o :=
      fun o inb ho => Rows.readCov (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))))))))))) o inb ho (by omega)
    simp only [r_98, r_99, v1851, v1865, v1871, v1878, hcvj, hw, hu, Nat.reduceLeDiff, Nat.le_refl, Nat.zero_le]
    clear hcvj hw hu
    funext y
    idx_vars y
    pointwise [k0_pay176, k0_pay177, k0_pay178]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 768) ?_ _ _ ?_ fun y hy h0 h1 h => by (try beta_reduce at hy ⊢); omega
  swap
  · clear * - hU hTA hhA hw hu
    have hcvj : ∀ (o : ℕ) (inb : ∀ a, (![6, o, 0] : Fin 3 → ℕ) a + S1x512x128.size a ≤ S8x520x128.size a), 0 ≤ o → arg16.view.readCov (HS2_8 (F := Ideal) c arg2 harg2 arg4 harg4 arg5 harg5 arg14 arg18 harg18 x0 x2 x3 xs4) (Rect.unit (s := S8x520x128) ![6, o, 0] S1x512x128.size inb).toLoadRect = tile3 TA 6 o :=
      fun o inb ho => Rows.readCov (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))))))))) o inb ho (by omega)
    simp only [v1591, v1605, v1611, v1618, hcvj, hw, hu, Nat.reduceLeDiff, Nat.le_refl, Nat.zero_le]
    clear hcvj hw hu
    funext y
    idx_vars y
    pointwise [k0_pay159]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 640) ?_ _ _ ?_ fun y hy h0 h1 h => by (try beta_reduce at hy ⊢); omega
  swap
  · clear * - hU hTA hhA hw hu
    have hcvj : ∀ (o : ℕ) (inb : ∀ a, (![5, o, 0] : Fin 3 → ℕ) a + S1x512x128.size a ≤ S8x520x128.size a), 0 ≤ o → arg16.view.readCov (HS2_7 (F := Ideal) c arg2 harg2 arg4 harg4 arg5 harg5 arg14 arg18 harg18 x0 x2 x3 xs4) (Rect.unit (s := S8x520x128) ![5, o, 0] S1x512x128.size inb).toLoadRect = tile3 TA 5 o :=
      fun o inb ho => Rows.readCov (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))))))) o inb ho (by omega)
    simp only [r_70, r_71, v1331, v1345, v1351, v1358, hcvj, hw, hu, Nat.reduceLeDiff, Nat.le_refl, Nat.zero_le]
    clear hcvj hw hu
    funext y
    idx_vars y
    pointwise [k0_pay140, k0_pay141, k0_pay142]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 512) ?_ _ _ ?_ fun y hy h0 h1 h => by (try beta_reduce at hy ⊢); omega
  swap
  · clear * - hU hTA hhA hw hu
    have hcvj : ∀ (o : ℕ) (inb : ∀ a, (![4, o, 0] : Fin 3 → ℕ) a + S1x512x128.size a ≤ S8x520x128.size a), 0 ≤ o → arg16.view.readCov (HS2_6 (F := Ideal) c arg2 harg2 arg4 harg4 arg5 harg5 arg14 arg18 harg18 x0 x2 x3 xs4) (Rect.unit (s := S8x520x128) ![4, o, 0] S1x512x128.size inb).toLoadRect = tile3 TA 4 o :=
      fun o inb ho => Rows.readCov (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))))) o inb ho (by omega)
    simp only [r_56, r_57, v1071, v1085, v1091, v1098, hcvj, hw, hu, Nat.reduceLeDiff, Nat.le_refl, Nat.zero_le]
    clear hcvj hw hu
    funext y
    idx_vars y
    pointwise [k0_pay122, k0_pay123, k0_pay124]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 384) ?_ _ _ ?_ fun y hy h0 h1 h => by (try beta_reduce at hy ⊢); omega
  swap
  · clear * - hU hTA hhA hw hu
    have hcvj : ∀ (o : ℕ) (inb : ∀ a, (![3, o, 0] : Fin 3 → ℕ) a + S1x512x128.size a ≤ S8x520x128.size a), 0 ≤ o → arg16.view.readCov (HS2_5 (F := Ideal) c arg2 harg2 arg4 harg4 arg5 harg5 arg14 arg18 harg18 x0 x2 x3 xs4) (Rect.unit (s := S8x520x128) ![3, o, 0] S1x512x128.size inb).toLoadRect = tile3 TA 3 o :=
      fun o inb ho => Rows.readCov (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))) o inb ho (by omega)
    simp only [v811, v825, v831, v838, hcvj, hw, hu, Nat.reduceLeDiff, Nat.le_refl, Nat.zero_le]
    clear hcvj hw hu
    funext y
    idx_vars y
    pointwise [k0_pay105]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 256) ?_ _ _ ?_ fun y hy h0 h1 h => by (try beta_reduce at hy ⊢); omega
  swap
  · clear * - hU hTA hhA hw hu
    have hcvj : ∀ (o : ℕ) (inb : ∀ a, (![2, o, 0] : Fin 3 → ℕ) a + S1x512x128.size a ≤ S8x520x128.size a), 0 ≤ o → arg16.view.readCov (HS2_4 (F := Ideal) c arg2 harg2 arg4 harg4 arg5 harg5 arg14 arg18 harg18 x0 x2 x3 xs4) (Rect.unit (s := S8x520x128) ![2, o, 0] S1x512x128.size inb).toLoadRect = tile3 TA 2 o :=
      fun o inb ho => Rows.readCov (cv3 (hU := hU) (hTA := hTA) (hb := (cv2 (hU := hU) (hTA := hTA) (hb := (cv1 (hU := hU) (hTA := hTA) (hb := (baseA (harg18 := harg18) (hhA := hhA)))))))) o inb ho (by omega)
    simp only [r_28, r_29, v551, v565, v571, v578, hcvj, hw, hu, Nat.reduceLeDiff, Nat.le_refl, Nat.zero_le]
    clear hcvj hw hu
    funext y
    idx_vars y
    pointwise [k0_pay86, k0_pay87, k0_pay88]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => (y 1).val < 128) ?_ _ _ ?_ fun y hy h0 h1 h => by (try beta_reduce at hy ⊢); omega
  swap
  · clear * - hU hTA hhA hw hu
    have hcvj : ∀ (o : ℕ) (inb : ∀ a, (![1, o, 0] : Fin 3 → ℕ) a + S1x512x128.size a ≤ S8x520x128.size a), 0 ≤ o → arg16.view.readCov (HS2_3 (F := Ideal) c arg2 harg2 arg4 harg4 arg5 harg5 arg14 arg18 harg18 x0 x2 x3 xs4) (Rect.unit (s := S8x520x128) ![1, o, 0] S1x512x128.size inb).toLoadRect = tile3 TA 1 o :=
      fun o inb ho => Rows.readCov (cv2 (hU := hU) (hTA := hTA) (hb := (cv1 (hU := hU) (hTA := hTA) (hb := (baseA (harg18 := harg18) (hhA := hhA)))))) o inb ho (by omega)
    simp only [v291, v305, v311, v318, hcvj, hw, hu, Nat.reduceLeDiff, Nat.le_refl, Nat.zero_le]
    clear hcvj hw hu
    funext y
    idx_vars y
    pointwise [k0_pay69]
    simp only [tile2_ix]
    rw [mixed, if_pos (by omega)]
    simp only [tile3_ix, tile2_ix, convA, chain3, Fin.val_zero, Nat.reduceAdd, Nat.reduceMul, Nat.zero_add, Nat.add_zero]
  refine Held.cons2 (D := fun y => False) ?_ _ _ ?_ fun y hy h0 h1 h => by (try beta_reduce at hy ⊢); omega
  swap
  · clear * - hU hTA hhA hw hu
    have hcvj : ∀ (o : ℕ) (inb : ∀ a, (![0, o, 0] : Fin 3 → ℕ) a + S1x512x128.size a ≤ S8x520x128.size a), 0 ≤ o → arg16.view.readCov (HS2_2 (F := Ideal) c arg2 harg2 arg4 harg4 arg5 harg5 arg14 arg18 harg18 x0 x2 x3 xs4) (Rect.unit (s := S8x520x128) ![0, o, 0] S1x512x128.size inb).toLoadRect = tile3 TA 0 o :=
      fun o inb ho => Rows.readCov (cv1 (hU := hU) (hTA := hTA) (hb := (baseA (harg18 := harg18) (hhA := hhA)))) o inb ho (by omega)
    simp only [r, r_1, v31, v45, v51, v58, hcvj, hw, hu, Nat.reduceLeDiff, Nat.le_refl, Nat.zero_le]
    clear hcvj hw hu
    funext y
    idx_vars y
    pointwise [k0_pay50, k0_pay51, k0_pay52]
    simp only [tile2_ix]
    rw [mixed, if_pos (by omega)]
    simp only [tile3_ix, tile2_ix, convA, chain3, Fin.val_zero, Nat.reduceAdd, Nat.reduceMul, Nat.zero_add, Nat.add_zero]
  exact Held.nil2

/-- The halo the point leaves for the next one. -/
theorem gbHalo (hc0 : ¬cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 32) (l : Fin 128), xs3 (ix3 c r l) = T r.val (128 * c.val + l.val)) {κ' : Kind} {sp' : Space} {v : View sig κ' sp' S8x544x128 .f32} {f : v.ty.Contents (Elt Ideal)} :
    Held v f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4).2.2.2.1 (fun y => (y 1).val < 32) (lay fun r ch => T (512 + r) ch) := by
  unfold kernelRun0_D
  dsimp only
  refine Held.halo _ _ ?_
  have h8 : arg15.view.readCov (HS1_9 (F := Ideal) c arg2 harg2 arg4 harg4 arg5 harg5 arg14 arg17 harg17 x0 x2 x3 xs3) (Rect.unit (s := S8x544x128) ![0, 512, 0] S8x32x128.size inb_S8x544x128_S8x32x128_0_512_0).toLoadRect
      = lay (N := 32) (fun r ch => T (512 + r) ch) :=
    Rows.readCov8 (n := 32) (gb8 (hU := hU) (hT := hT) (hb := (gb7 (hU := hU) (hT := hT) (hb := (gb6 (hU := hU) (hT := hT) (hb := (gb5 (hU := hU) (hT := hT) (hb := (gb4 (hU := hU) (hT := hT) (hb := (gb3 (hU := hU) (hT := hT) (hb := (gb2 (hU := hU) (hT := hT) (hb := (gb1 (hU := hU) (hT := hT) (hb := (base (harg17 := harg17) (hh := hh)))))))))))))))))) 512 inb_S8x544x128_S8x32x128_0_512_0 (by omega)
  unfold v2362
  rw [h8]
  funext y
  idx_vars y
  pointwise [k0_pay207]

/-- The halo the point leaves for the next one. -/
theorem cvHalo (hc0 : ¬cond0_0 i) (hc1 : cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 8) (l : Fin 128), xs4 (ix3 c r l) = TA r.val (128 * c.val + l.val)) {κ' : Kind} {sp' : Space} {v : View sig κ' sp' S8x520x128 .f32} {f : v.ty.Contents (Elt Ideal)} :
    Held v f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4).2.2.2.2.1 (fun y => (y 1).val < 8) (lay fun r ch => TA (512 + r) ch) := by
  unfold kernelRun0_D
  dsimp only
  refine Held.halo _ _ ?_
  have h8 : arg16.view.readCov (HS2_9 (F := Ideal) c arg2 harg2 arg4 harg4 arg5 harg5 arg14 arg18 harg18 x0 x2 x3 xs4) (Rect.unit (s := S8x520x128) ![0, 512, 0] S8x8x128.size inb_S8x520x128_S8x8x128_0_512_0).toLoadRect
      = lay (N := 8) (fun r ch => TA (512 + r) ch) :=
    Rows.readCov8 (n := 8) (cv8 (hU := hU) (hTA := hTA) (hb := (cv7 (hU := hU) (hTA := hTA) (hb := (cv6 (hU := hU) (hTA := hTA) (hb := (cv5 (hU := hU) (hTA := hTA) (hb := (cv4 (hU := hU) (hTA := hTA) (hb := (cv3 (hU := hU) (hTA := hTA) (hb := (cv2 (hU := hU) (hTA := hTA) (hb := (cv1 (hU := hU) (hTA := hTA) (hb := (baseA (harg18 := harg18) (hhA := hhA)))))))))))))))))) 512 inb_S8x520x128_S8x8x128_0_512_0 (by omega)
  unfold v2366
  rw [h8]
  funext y
  idx_vars y
  pointwise [k0_pay1]

end Cert.Mix.CaseD

end
-- ==== Proof.Mix.Outs.lean ====
/- What one grid point of the kernel leaves in its result blocks and its buffers, case by case. -/
module

public import proofs.«01_k».proof.Proof.Gen.KernelIdeal.Frame
public import proofs.«01_k».proof.Proof.Mix.CaseA
public import proofs.«01_k».proof.Proof.Mix.CaseB
public import proofs.«01_k».proof.Proof.Mix.CaseC
public import proofs.«01_k».proof.Proof.Mix.CaseD

@[expose] public section

set_option maxRecDepth 16384
set_option maxHeartbeats 1000000

noncomputable section

open Cert.KernelIdeal Cert.KernelIdeal.Gen
open Idealize.ShloMosaic Idealize.ShloMosaic.TcCoe

namespace Cert.Mix.CaseA

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32}
  {T TA U WA WB : ℕ → ℕ → EReal} {BB GG SS : ℕ → EReal}

theorem y_out (hc0 : cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) (hhA : ∀ r ch, r < 8 → ch < 1024 → TA r ch = gate (V (8 + r)) ch) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val) (w) (hw : (fun _ => True) w) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 w = (flat2 (e := .bf16) fun r => mixed (U r) (convA TA WA 6 r) (convB T WB BB 2 r) GG SS) w := by
  unfold out0_A_9
  exact y (v := VO0_9) (f := VO0_9.junk) (hc0 := hc0) (hc1 := hc1) (hc2 := hc2) (hU := hU) (hT := hT) (hTA := hTA) (hV := hV) (hh := hh) (hh2 := hh2) (hhA := hhA) (hWB := hWB) (hBB := hBB) (hWA := hWA) (hG := hG) (hS := hS) w hw

theorem gbHalo_out (hc0 : cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) (w) (hw : (fun y => (y 1).val < 32) w) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 w = (lay fun r ch => T (512 + r) ch) w := by
  unfold sout0_A_1
  exact gbHalo (v := VS0_1) (f := VS0_1.junk) (hc0 := hc0) (hc1 := hc1) (hc2 := hc2) (hU := hU) (hT := hT) (hV := hV) (hh := hh) (hh2 := hh2) w hw

theorem cvHalo_out (hc0 : cond0_0 i) (hc1 : cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) (w) (hw : (fun y => (y 1).val < 8) w) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 w = (lay fun r ch => TA (512 + r) ch) w := by
  unfold sout0_A_2
  exact cvHalo (v := VS0_2) (f := VS0_2.junk) (hc0 := hc0) (hc1 := hc1) (hc2 := hc2) (hU := hU) (hTA := hTA) (hV := hV) (hhA := hhA) w hw

theorem gbMeta_out (hc0 : cond0_0 i) (hc1 : cond0_1 i) (hc2 : ¬cond0_2 i) {V : ℕ → ℕ → EReal} (hV : ∀ (r : Fin 16) (j : Fin 5120), k0_pay2 (F := Ideal) x1 x2 x3 (ix2 r j) = V r.val j.val) (hh : ∀ r ch, r < 16 → T r ch = 0) (hh2 : ∀ r ch, r < 16 → ch < 1024 → T (16 + r) ch = glu (V r) ch) (w) (hw : (fun _ => True) w) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 w = (lay T) w := by
  unfold sout0_A_3
  exact gbMeta (v := VS0_3) (f := VS0_3.junk) (hc0 := hc0) (hc1 := hc1) (hc2 := hc2) (hV := hV) (hh := hh) (hh2 := hh2) w hw

theorem cvMeta_out (hc0 : cond0_0 i) (hc1 : cond0_1 i) (hc2 : ¬cond0_2 i) {V : ℕ → ℕ → EReal} (hV : ∀ (r : Fin 16) (j : Fin 5120), k0_pay2 (F := Ideal) x1 x2 x3 (ix2 r j) = V r.val j.val) (hhA : ∀ r ch, r < 8 → ch < 1024 → TA r ch = gate (V (8 + r)) ch) (w) (hw : (fun _ => True) w) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 w = (lay TA) w := by
  unfold sout0_A_4
  exact cvMeta (v := VS0_4) (f := VS0_4.junk) (hc0 := hc0) (hc1 := hc1) (hc2 := hc2) (hV := hV) (hhA := hhA) w hw

end Cert.Mix.CaseA

namespace Cert.Mix.CaseB

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

theorem y_out (hc0 : ¬cond0_0 i) (hc1 : ¬cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 544) (l : Fin 128), r.val < 32 → xs1 (ix3 c r l) = T r.val (128 * c.val + l.val)) (hhA : ∀ (c : Fin 8) (r : Fin 520) (l : Fin 128), r.val < 8 → xs2 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val) (w) (hw : (fun _ => True) w) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (flat2 (e := .bf16) fun r => mixed (U r) (convA TA WA 6 r) (convB T WB BB 2 r) GG SS) w := by
  unfold out0_B_9
  exact y (v := VO0_9) (f := VO0_9.junk) (hc0 := hc0) (hc1 := hc1) (hc2 := hc2) (hU := hU) (hT := hT) (hTA := hTA) (hh := hh) (hhA := hhA) (hWB := hWB) (hBB := hBB) (hWA := hWA) (hG := hG) (hS := hS) w hw

theorem gbHalo_out (hc0 : ¬cond0_0 i) (hc1 : ¬cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) (w) (hw : (fun y => (y 1).val < 32) w) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (lay fun r ch => T (512 + r) ch) w := by
  unfold sout0_B_1
  exact gbHalo (v := VS0_1) (f := VS0_1.junk) (hc0 := hc0) (hc1 := hc1) (hc2 := hc2) (hU := hU) (hT := hT) (hh := hh) w hw

theorem cvHalo_out (hc0 : ¬cond0_0 i) (hc1 : ¬cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 520) (l : Fin 128), r.val < 8 → xs2 (ix3 c r l) = TA r.val (128 * c.val + l.val)) (w) (hw : (fun y => (y 1).val < 8) w) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (lay fun r ch => TA (512 + r) ch) w := by
  unfold sout0_B_2
  exact cvHalo (v := VS0_2) (f := VS0_2.junk) (hc0 := hc0) (hc1 := hc1) (hc2 := hc2) (hU := hU) (hTA := hTA) (hhA := hhA) w hw

end Cert.Mix.CaseB

namespace Cert.Mix.CaseC

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

theorem y_out (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 544) (l : Fin 128), r.val < 32 → xs1 (ix3 c r l) = T r.val (128 * c.val + l.val)) (hhA : ∀ (c : Fin 8) (r : Fin 520) (l : Fin 128), r.val < 8 → xs2 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val) (w) (hw : (fun _ => True) w) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (flat2 (e := .bf16) fun r => mixed (U r) (convA TA WA 6 r) (convB T WB BB 2 r) GG SS) w := by
  unfold out0_C_9
  exact y (v := VO0_9) (f := VO0_9.junk) (hc0 := hc0) (hc1 := hc1) (hc2 := hc2) (hU := hU) (hT := hT) (hTA := hTA) (hh := hh) (hhA := hhA) (hWB := hWB) (hBB := hBB) (hWA := hWA) (hG := hG) (hS := hS) w hw

theorem cvLast_out (hc0 : ¬cond0_0 i) (hc1 : ¬cond0_1 i) (hc2 : cond0_2 i) (hU : ∀ (r : Fin 512) (j : Fin 5120), k0_pay47 (F := Ideal) x0 x2 x3 (ix2 r j) = U r.val j.val) (hTA : ∀ r ch, r < 512 → ch < 1024 → TA (8 + r) ch = gate (U r) ch) (w) (hw : (fun _ => True) w) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (rows3 TA 518) w := by
  unfold out0_C_10
  exact cvLast (v := VO0_10) (f := VO0_10.junk) (hc0 := hc0) (hc1 := hc1) (hc2 := hc2) (hU := hU) (hTA := hTA) w hw

theorem gbLast_out (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch) (w) (hw : (fun _ => True) w) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (rows3 T 514) w := by
  unfold out0_C_11
  exact gbLast (v := VO0_11) (f := VO0_11.junk) (hc0 := hc0) (hc1 := hc1) (hc2 := hc2) (hU := hU) (hT := hT) w hw

theorem gbHalo_out (hc0 : ¬cond0_0 i) (hc1 : ¬cond0_1 i) (hc2 : cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 544) (l : Fin 128), r.val < 32 → xs1 (ix3 c r l) = T r.val (128 * c.val + l.val)) (w) (hw : (fun y => (y 1).val < 32) w) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (lay fun r ch => T (512 + r) ch) w := by
  unfold sout0_C_1
  exact gbHalo (v := VS0_1) (f := VS0_1.junk) (hc0 := hc0) (hc1 := hc1) (hc2 := hc2) (hU := hU) (hT := hT) (hh := hh) w hw

theorem cvHalo_out (hc0 : ¬cond0_0 i) (hc1 : ¬cond0_1 i) (hc2 : cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 520) (l : Fin 128), r.val < 8 → xs2 (ix3 c r l) = TA r.val (128 * c.val + l.val)) (w) (hw : (fun y => (y 1).val < 8) w) :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs1 xs2 xs3 xs4 w = (lay fun r ch => TA (512 + r) ch) w := by
  unfold sout0_C_2
  exact cvHalo (v := VS0_2) (f := VS0_2.junk) (hc0 := hc0) (hc1 := hc1) (hc2 := hc2) (hU := hU) (hTA := hTA) (hhA := hhA) w hw

end Cert.Mix.CaseC

namespace Cert.Mix.CaseD

variable {c : Dev nD} {i : grid0.Coords} {arg2 : Memref sig .tc .vmem S1x512x2048 .f32} {harg2 : arg2.IsWhole} {arg3 : Memref sig .tc .vmem S16x2048 .f32} {harg3 : arg3.IsWhole} {arg4 : Memref sig .tc .vmem S1x2048 .f32} {harg4 : arg4.IsWhole} {arg5 : Memref sig .tc .vmem S2048x5120 .bf16} {harg5 : arg5.IsWhole} {arg6 : Memref sig .tc .vmem S3x1024 .f32} {harg6 : arg6.IsWhole} {arg7 : Memref sig .tc .vmem S31x1024 .f32} {harg7 : arg7.IsWhole} {arg8 : Memref sig .tc .vmem S1x1024 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S512x2048 .bf16} {harg11 : arg11.IsWhole} {arg12 : Memref sig .tc .vmem S1x2x1024 .f32} {harg12 : arg12.IsWhole} {arg13 : Memref sig .tc .vmem S1x30x1024 .f32} {harg13 : arg13.IsWhole} {arg14 : Memref sig .tc .vmem S512x5120 .f32} {harg14 : arg14.IsWhole} {arg15 : Memref sig .tc .vmem S8x544x128 .f32} {harg15 : arg15.IsWhole} {arg16 : Memref sig .tc .vmem S8x520x128 .f32} {harg16 : arg16.IsWhole} {arg17 : Memref sig .tc .vmem S8x32x128 .f32} {harg17 : arg17.IsWhole} {arg18 : Memref sig .tc .vmem S8x8x128 .f32} {harg18 : arg18.IsWhole} {arg19 : Memref sig .tc .vmem S512x1024 .f32} {harg19 : arg19.IsWhole}
  {x0 : Vec Ideal S1x512x2048 .f32} {x1 : Vec Ideal S16x2048 .f32} {x2 : Vec Ideal S1x2048 .f32} {x3 : Vec Ideal S2048x5120 .bf16} {x4 : Vec Ideal S3x1024 .f32} {x5 : Vec Ideal S31x1024 .f32} {x6 : Vec Ideal S1x1024 .f32} {x7 : Vec Ideal S1x1024 .f32} {x8 : Vec Ideal S1x1024 .f32} {xs1 : Vec Ideal S8x544x128 .f32} {xs2 : Vec Ideal S8x520x128 .f32} {xs3 : Vec Ideal S8x32x128 .f32} {xs4 : Vec Ideal S8x8x128 .f32}
  {T TA U WA WB : ℕ → ℕ → EReal} {BB GG SS : ℕ → EReal}

theorem y_out (hc0 : ¬cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch) (hTA : ∀ r ch, r < 512 → ch < 1024 → TA (8 + r) ch = gate (U r) ch)
    (hh : ∀ (c : Fin 8) (r : Fin 32) (l : Fin 128), xs3 (ix3 c r l) = T r.val (128 * c.val + l.val)) (hhA : ∀ (c : Fin 8) (r : Fin 8) (l : Fin 128), xs4 (ix3 c r l) = TA r.val (128 * c.val + l.val)) (hWB : ∀ (k : Fin 31) (j : Fin 1024), x5 (ix2 k j) = WB k.val j.val) (hBB : ∀ (z : Fin 1) (j : Fin 1024), x6 (ix2 z j) = BB j.val) (hWA : ∀ (k : Fin 3) (j : Fin 1024), x4 (ix2 k j) = WA k.val j.val) (hG : ∀ (z : Fin 1) (j : Fin 1024), x7 (ix2 z j) = GG j.val) (hS : ∀ (z : Fin 1) (j : Fin 1024), x8 (ix2 z j) = SS j.val) (w) (hw : (fun _ => True) w) :
    out0_D_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4 w = (flat2 (e := .bf16) fun r => mixed (U r) (convA TA WA 6 r) (convB T WB BB 2 r) GG SS) w := by
  unfold out0_D_9
  exact y (v := VO0_9) (f := VO0_9.junk) (hc0 := hc0) (hc1 := hc1) (hc2 := hc2) (hU := hU) (hT := hT) (hTA := hTA) (hh := hh) (hhA := hhA) (hWB := hWB) (hBB := hBB) (hWA := hWA) (hG := hG) (hS := hS) w hw

theorem gbHalo_out (hc0 : ¬cond0_0 i) (hc1 : cond0_1 i) (hc2 : ¬cond0_2 i) (hU : ∀ (r : Fin 512) (j : Fin 5120), k0_pay47 (F := Ideal) x0 x2 x3 (ix2 r j) = U r.val j.val) (hT : ∀ r ch, r < 512 → ch < 1024 → T (32 + r) ch = glu (U r) ch)
    (hh : ∀ (c : Fin 8) (r : Fin 32) (l : Fin 128), xs3 (ix3 c r l) = T r.val (128 * c.val + l.val)) (w) (hw : (fun y => (y 1).val < 32) w) :
    sout0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4 w = (lay fun r ch => T (512 + r) ch) w := by
  unfold sout0_D_1
  exact gbHalo (v := VS0_1) (f := VS0_1.junk) (hc0 := hc0) (hc1 := hc1) (hc2 := hc2) (hU := hU) (hT := hT) (hh := hh) w hw

theorem cvHalo_out (hc0 : ¬cond0_0 i) (hc1 : cond0_1 i) (hc2 : ¬cond0_2 i) (hU : ∀ (r : Fin 512) (j : Fin 5120), k0_pay47 (F := Ideal) x0 x2 x3 (ix2 r j) = U r.val j.val) (hTA : ∀ r ch, r < 512 → ch < 1024 → TA (8 + r) ch = gate (U r) ch)
    (hhA : ∀ (c : Fin 8) (r : Fin 8) (l : Fin 128), xs4 (ix3 c r l) = TA r.val (128 * c.val + l.val)) (w) (hw : (fun y => (y 1).val < 8) w) :
    sout0_D_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 xs3 xs4 w = (lay fun r ch => TA (512 + r) ch) w := by
  unfold sout0_D_2
  exact cvHalo (v := VS0_2) (f := VS0_2.junk) (hc0 := hc0) (hc1 := hc1) (hc2 := hc2) (hU := hU) (hTA := hTA) (hhA := hhA) w hw

end Cert.Mix.CaseD

end
-- ==== Proof.Mix.Run.lean ====
/- The prompt mixer's run over its grid: what each point leaves in its results and its buffers. -/
module

public import proofs.«01_k».proof.Proof.Mix.Model
public import proofs.«01_k».proof.Proof.Mix.Blocks
public import proofs.«01_k».proof.Proof.Mix.Outs

@[expose] public section

set_option maxRecDepth 16384

noncomputable section

namespace Cert.Mix

open Cert.KernelIdeal Cert.KernelIdeal.Gen
open Idealize.ShloMosaic Idealize.ShloMosaic.TcCoe

theorem pay47_proj (x : S1x512x2048.Idx → Elt Ideal .f32) (g : S1x2048.Idx → Elt Ideal .f32)
    (w : S2048x5120.Idx → Elt Ideal .bf16) (r : Fin 512) (j : Fin 5120) :
    k0_pay47 (F := Ideal) x g w (ix2 r j)
      = proj (fun k : Fin 2048 => x (ix3 0 r k)) (fun k => g (ix2 0 k)) (fun k => w (ix2 k j)) := by
  pointwise [k0_pay47]
  rfl

theorem pay2_proj (x : S16x2048.Idx → Elt Ideal .f32) (g : S1x2048.Idx → Elt Ideal .f32)
    (w : S2048x5120.Idx → Elt Ideal .bf16) (r : Fin 16) (j : Fin 5120) :
    k0_pay2 (F := Ideal) x g w (ix2 r j)
      = proj (fun k : Fin 2048 => x (ix2 r k)) (fun k => g (ix2 0 k)) (fun k => w (ix2 k j)) := by
  pointwise [k0_pay2]
  rfl

variable (m : (ℓ : Loc nD τ sig) → Buf (Elt Ideal) ℓ) (c : Dev nD)

/-- The arguments of the kernel's program. -/
def kA : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem rowU (t : Fin cfg0.N) (r : Fin 512) (j : Fin 5120) :
    k0_pay47 (F := Ideal) (iblk m c 0 t) (iblk m c 2 t) (iblk m c 3 t) (ix2 r j)
      = (kA m c).inX (t.val / 4) (512 * (t.val % 4) + r.val) j.val := by
  have hN : t.val < 16 := t.isLt
  rw [pay47_proj]
  unfold Args.inX
  congr 1
  · funext k
    rw [blk0 m c t r k ⟨t.val / 4, by omega⟩ ⟨512 * (t.val % 4) + r.val, by omega⟩ rfl rfl]
    exact nat3_of _ _ _ _ rfl rfl rfl
  · funext k
    rw [blk2 m c t 0 0 k]
    exact (nat2_val _ (0 : Fin 1) k).symm
  · funext k
    rw [blk3 m c t 0 k j]
    exact nat3_of _ _ _ _ rfl rfl rfl

theorem rowV (t : Fin cfg0.N) (r : Fin 16) (j : Fin 5120) :
    k0_pay2 (F := Ideal) (iblk m c 1 t) (iblk m c 2 t) (iblk m c 3 t) (ix2 r j) = (kA m c).inM r.val j.val := by
  rw [pay2_proj]
  unfold Args.inM
  congr 1
  · funext k
    rw [blk1 m c t r k]
    exact (nat2_val _ r k).symm
  · funext k
    rw [blk2 m c t 0 0 k]
    exact (nat2_val _ (0 : Fin 1) k).symm
  · funext k
    rw [blk3 m c t 0 k j]
    exact nat3_of _ _ _ _ rfl rfl rfl

theorem colWA (t : Fin cfg0.N) (k : Fin 3) (j : Fin 1024) : iblk m c 4 t (ix2 k j) = (kA m c).wa k.val j.val := by
  rw [blk4 m c t 0 k j]
  exact nat3_of _ _ _ _ rfl rfl rfl

theorem colWB (t : Fin cfg0.N) (k : Fin 31) (j : Fin 1024) : iblk m c 5 t (ix2 k j) = (kA m c).wb k.val j.val := by
  rw [blk5 m c t 0 k j]
  exact nat3_of _ _ _ _ rfl rfl rfl

theorem colBB (t : Fin cfg0.N) (z : Fin 1) (j : Fin 1024) : iblk m c 6 t (ix2 z j) = (kA m c).bb j.val := by
  rw [blk6 m c t z 0 j]
  exact (nat2_val _ (0 : Fin 1) j).symm

theorem colG (t : Fin cfg0.N) (z : Fin 1) (j : Fin 1024) : iblk m c 7 t (ix2 z j) = (kA m c).lg j.val := by
  rw [blk7 m c t z 0 j]
  exact (nat2_val _ (0 : Fin 1) j).symm

theorem colS (t : Fin cfg0.N) (z : Fin 1) (j : Fin 1024) : iblk m c 8 t (ix2 z j) = (kA m c).lb j.val := by
  rw [blk8 m c t z 0 j]
  exact (nat2_val _ (0 : Fin 1) j).symm

/-- The wide sequence as point `(b, i)` sees it: sixteen rows of the past come first. -/
def winB (A : Args) (b i r : ℕ) : ℕ → EReal := A.seqB b (512 * i + r + 14)

/-- The narrow sequence as point `(b, i)` sees it. -/
def winA (A : Args) (b i r : ℕ) : ℕ → EReal := A.seqA b (512 * i + r + 10)

theorem winB_new (A : Args) (b i r ch : ℕ) : winB A b i (32 + r) ch = glu (A.inX b (512 * i + r)) ch := by
  rw [winB, show 512 * i + (32 + r) + 14 = 512 * i + r + 46 by omega, Args.seqB_row]

theorem winA_new (A : Args) (b i r ch : ℕ) : winA A b i (8 + r) ch = gate (A.inX b (512 * i + r)) ch := by
  rw [winA, show 512 * i + (8 + r) + 10 = 512 * i + r + 18 by omega, Args.seqA_row]

/-- The mixed row of a point is the model's. -/
theorem y_win (A : Args) (b i r ch : ℕ) :
    mixed (A.inX b (512 * i + r)) (convA (winA A b i) A.wa 6 r) (convB (winB A b i) A.wb A.bb 2 r) A.lg A.lb ch
      = A.y b (512 * i + r) ch := by
  unfold Args.y winA winB
  rw [convA_shift (A.seqA b) A.wa (512 * i) 10 6 16 r (512 * i + r) (by omega),
    convB_shift (A.seqB b) A.wb A.bb (512 * i) 14 2 16 r (512 * i + r) (by omega)]

/-- What point `t` of the grid leaves behind. -/
structure After (A : Args) (t : ℕ) (S : (S512x2048.Idx → Elt Ideal .bf16) × (S1x2x1024.Idx → Elt Ideal .f32)
    × (S1x30x1024.Idx → Elt Ideal .f32) × (S8x544x128.Idx → Elt Ideal .f32) × (S8x520x128.Idx → Elt Ideal .f32)
    × (S8x32x128.Idx → Elt Ideal .f32) × (S8x8x128.Idx → Elt Ideal .f32)) : Prop where
  y : ∀ (r : Fin 512) (j : Fin 2048), S.1 (ix2 r j) = A.y (t / 4) (512 * (t % 4) + r.val) j.val
  pa : t % 4 = 3 → ∀ (z : Fin 1) (r : Fin 2) (j : Fin 1024), S.2.1 (ix3 z r j) = A.seqA (t / 4) (2064 + r.val) j.val
  pb : t % 4 = 3 → ∀ (z : Fin 1) (r : Fin 30) (j : Fin 1024), S.2.2.1 (ix3 z r j) = A.seqB (t / 4) (2064 + r.val) j.val
  gb : ∀ (k : Fin 8) (r : Fin 544) (l : Fin 128), r.val < 32 →
    S.2.2.2.1 (ix3 k r l) = winB A (t / 4) (t % 4) (512 + r.val) (128 * k.val + l.val)
  cv : ∀ (k : Fin 8) (r : Fin 520) (l : Fin 128), r.val < 8 →
    S.2.2.2.2.1 (ix3 k r l) = winA A (t / 4) (t % 4) (512 + r.val) (128 * k.val + l.val)
  mgb : ∀ (k : Fin 8) (r : Fin 32) (l : Fin 128), S.2.2.2.2.2.1 (ix3 k r l) = A.startB r.val (128 * k.val + l.val)
  mcv : ∀ (k : Fin 8) (r : Fin 8) (l : Fin 128), S.2.2.2.2.2.2 (ix3 k r l) = A.startA r.val (128 * k.val + l.val)

theorem afterA (t : Fin cfg0.N) (h0 : t.val % 16 = 0) (h1 : t.val % 4 = 0) (h2 : ¬t.val % 4 = 3) :
    After (kA m c) t.val (outsAt0 m c t.val t.isLt) := by
  have hi : t.val % 4 = 0 := h1
  have hU := rowU m c t
  have hT : ∀ r ch, r < 512 → ch < 1024 → winB (kA m c) (t.val / 4) (t.val % 4) (32 + r) ch
      = glu ((kA m c).inX (t.val / 4) (512 * (t.val % 4) + r)) ch := fun r ch _ _ => winB_new _ _ _ _ _
  have hTA : ∀ r ch, r < 512 → ch < 1024 → winA (kA m c) (t.val / 4) (t.val % 4) (8 + r) ch
      = gate ((kA m c).inX (t.val / 4) (512 * (t.val % 4) + r)) ch := fun r ch _ _ => winA_new _ _ _ _ _
  have hs : ∀ r ch, r < 32 → winB (kA m c) (t.val / 4) (t.val % 4) r ch = (kA m c).startB r ch := fun r ch hr => by
    rw [winB, hi, show 512 * 0 + r + 14 = r + 14 by omega, Args.seqB_start _ _ _ _ hr]
  have hsA : ∀ r ch, r < 8 → winA (kA m c) (t.val / 4) (t.val % 4) r ch = (kA m c).startA r ch := fun r ch hr => by
    rw [winA, hi, show 512 * 0 + r + 10 = r + 10 by omega, Args.seqA_start _ _ _ _ hr]
  have hV := rowV m c t
  have hh : ∀ r ch, r < 16 → winB (kA m c) (t.val / 4) (t.val % 4) r ch = 0 := fun r ch hr => by
    rw [hs r ch (by omega), Args.startB, if_pos hr]
  have hh2 : ∀ r ch, r < 16 → ch < 1024 → winB (kA m c) (t.val / 4) (t.val % 4) (16 + r) ch = glu ((kA m c).inM r) ch :=
    fun r ch hr _ => by
      rw [hs (16 + r) ch (by omega), Args.startB, if_neg (by omega), show 16 + r - 16 = r by omega]
  have hhA : ∀ r ch, r < 8 → ch < 1024 → winA (kA m c) (t.val / 4) (t.val % 4) r ch = gate ((kA m c).inM (8 + r)) ch :=
    fun r ch hr _ => by rw [hsA r ch hr, Args.startA]
  rw [outsAt0_A m c t h0 h1 h2]
  refine ⟨fun r j => ?_, fun h => absurd h h2, fun h => absurd h h2, fun k r l hr => ?_, fun k r l hr => ?_,
    fun k r l => ?_, fun k r l => ?_⟩
  · dsimp only
    have h9 := CaseA.y_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (U := fun r => (kA m c).inX (t.val / 4) (512 * (t.val % 4) + r))
      (T := winB (kA m c) (t.val / 4) (t.val % 4)) (TA := winA (kA m c) (t.val / 4) (t.val % 4)) (V := (kA m c).inM)
      (WA := (kA m c).wa) (WB := (kA m c).wb) (BB := (kA m c).bb) (GG := (kA m c).lg) (SS := (kA m c).lb) ((hcond0_0 t).mpr h0) ((hcond0_1 t).mpr h1) (fun h => h2 ((hcond0_2 t).mp h))
      hU hT hTA hV hh hh2 hhA (colWB m c t) (colBB m c t) (colWA m c t) (colG m c t) (colS m c t)
      (ix2 r j) trivial
    refine h9.trans ?_
    refine Eq.trans ?_ (y_win (kA m c) (t.val / 4) (t.val % 4) r.val j.val)
    rfl
  · dsimp only
    have h9 := CaseA.gbHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (U := fun r => (kA m c).inX (t.val / 4) (512 * (t.val % 4) + r)) (T := winB (kA m c) (t.val / 4) (t.val % 4)) (V := (kA m c).inM) ((hcond0_0 t).mpr h0) ((hcond0_1 t).mpr h1) (fun h => h2 ((hcond0_2 t).mp h))
      hU hT hV hh hh2 (ix3 k r l) hr
    exact h9
  · dsimp only
    have h9 := CaseA.cvHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (U := fun r => (kA m c).inX (t.val / 4) (512 * (t.val % 4) + r)) (TA := winA (kA m c) (t.val / 4) (t.val % 4)) (V := (kA m c).inM) ((hcond0_0 t).mpr h0) ((hcond0_1 t).mpr h1) (fun h => h2 ((hcond0_2 t).mp h))
      hU hTA hV hhA (ix3 k r l) hr
    exact h9
  · dsimp only
    have h9 := CaseA.gbMeta_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (T := winB (kA m c) (t.val / 4) (t.val % 4)) (V := (kA m c).inM) ((hcond0_0 t).mpr h0) ((hcond0_1 t).mpr h1) (fun h => h2 ((hcond0_2 t).mp h))
      hV hh hh2 (ix3 k r l) trivial
    exact h9.trans (hs r.val _ r.isLt)
  · dsimp only
    have h9 := CaseA.cvMeta_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t)
      (TA := winA (kA m c) (t.val / 4) (t.val % 4)) (V := (kA m c).inM) ((hcond0_0 t).mpr h0) ((hcond0_1 t).mpr h1) (fun h => h2 ((hcond0_2 t).mp h))
      hV hhA (ix3 k r l) trivial
    exact h9.trans (hsA r.val _ r.isLt)

theorem afterD (t : Fin cfg0.N) (h0 : ¬t.val % 16 = 0) (h1 : t.val % 4 = 0) (h2 : ¬t.val % 4 = 3)
    (hp : After (kA m c) (t.val - 1) (outsAt0 m c (t.val - 1) (Nat.lt_of_le_of_lt (Nat.sub_le _ _) t.isLt))) :
    After (kA m c) t.val (outsAt0 m c t.val t.isLt) := by
  have hi : t.val % 4 = 0 := h1
  have hU := rowU m c t
  have hT : ∀ r ch, r < 512 → ch < 1024 → winB (kA m c) (t.val / 4) (t.val % 4) (32 + r) ch
      = glu ((kA m c).inX (t.val / 4) (512 * (t.val % 4) + r)) ch := fun r ch _ _ => winB_new _ _ _ _ _
  have hTA : ∀ r ch, r < 512 → ch < 1024 → winA (kA m c) (t.val / 4) (t.val % 4) (8 + r) ch
      = gate ((kA m c).inX (t.val / 4) (512 * (t.val % 4) + r)) ch := fun r ch _ _ => winA_new _ _ _ _ _
  have hh : ∀ (k : Fin 8) (r : Fin 32) (l : Fin 128),
      (outsAt0 m c (t.val - 1) (Nat.lt_of_le_of_lt (Nat.sub_le _ _) t.isLt)).2.2.2.2.2.1 (ix3 k r l)
        = winB (kA m c) (t.val / 4) (t.val % 4) r.val (128 * k.val + l.val) := fun k r l => by
    rw [hp.mgb k r l, winB, hi, show 512 * 0 + r.val + 14 = r.val + 14 by omega, Args.seqB_start _ _ _ _ r.isLt]
  have hhA : ∀ (k : Fin 8) (r : Fin 8) (l : Fin 128),
      (outsAt0 m c (t.val - 1) (Nat.lt_of_le_of_lt (Nat.sub_le _ _) t.isLt)).2.2.2.2.2.2 (ix3 k r l)
        = winA (kA m c) (t.val / 4) (t.val % 4) r.val (128 * k.val + l.val) := fun k r l => by
    rw [hp.mcv k r l, winA, hi, show 512 * 0 + r.val + 10 = r.val + 10 by omega, Args.seqA_start _ _ _ _ r.isLt]
  rw [outsAt0_D m c t h0 h1 h2]
  refine ⟨fun r j => ?_, fun h => absurd h h2, fun h => absurd h h2, fun k r l hr => ?_, fun k r l hr => ?_,
    hp.mgb, hp.mcv⟩
  · dsimp only
    have h9 := CaseD.y_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r))
      (T := winB (kA m c) (t.val / 4) (t.val % 4)) (TA := winA (kA m c) (t.val / 4) (t.val % 4))
      (WA := (kA m c).wa) (WB := (kA m c).wb) (BB := (kA m c).bb) (GG := (kA m c).lg) (SS := (kA m c).lb) (fun h => h0 ((hcond0_0 t).mp h)) ((hcond0_1 t).mpr h1) (fun h => h2 ((hcond0_2 t).mp h))
      hU hT hTA hh hhA (colWB m c t) (colBB m c t) (colWA m c t) (colG m c t) (colS m c t)
      (ix2 r j) trivial
    refine h9.trans ?_
    refine Eq.trans ?_ (y_win (kA m c) (t.val / 4) (t.val % 4) r.val j.val)
    rfl
  · dsimp only
    have h9 := CaseD.gbHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (T := winB (kA m c) (t.val / 4) (t.val % 4)) (fun h => h0 ((hcond0_0 t).mp h)) ((hcond0_1 t).mpr h1) (fun h => h2 ((hcond0_2 t).mp h))
      hU hT hh (ix3 k r l) hr
    exact h9
  · dsimp only
    have h9 := CaseD.cvHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (TA := winA (kA m c) (t.val / 4) (t.val % 4)) (fun h => h0 ((hcond0_0 t).mp h)) ((hcond0_1 t).mpr h1) (fun h => h2 ((hcond0_2 t).mp h))
      hU hTA hhA (ix3 k r l) hr
    exact h9

/-- The halo a point within a sequence reads is what the point before it left. -/
theorem haloB (t : ℕ) (h1 : ¬t % 4 = 0) (A : Args) (r ch : ℕ) :
    winB A ((t - 1) / 4) ((t - 1) % 4) (512 + r) ch = winB A (t / 4) (t % 4) r ch := by
  unfold winB
  rw [show (t - 1) / 4 = t / 4 by omega, show 512 * ((t - 1) % 4) + (512 + r) + 14 = 512 * (t % 4) + r + 14 by omega]

theorem haloA (t : ℕ) (h1 : ¬t % 4 = 0) (A : Args) (r ch : ℕ) :
    winA A ((t - 1) / 4) ((t - 1) % 4) (512 + r) ch = winA A (t / 4) (t % 4) r ch := by
  unfold winA
  rw [show (t - 1) / 4 = t / 4 by omega, show 512 * ((t - 1) % 4) + (512 + r) + 10 = 512 * (t % 4) + r + 10 by omega]

theorem afterB (t : Fin cfg0.N) (h0 : ¬t.val % 16 = 0) (h1 : ¬t.val % 4 = 0) (h2 : ¬t.val % 4 = 3)
    (hp : After (kA m c) (t.val - 1) (outsAt0 m c (t.val - 1) (Nat.lt_of_le_of_lt (Nat.sub_le _ _) t.isLt))) :
    After (kA m c) t.val (outsAt0 m c t.val t.isLt) := by
  have hU := rowU m c t
  have hT : ∀ r ch, r < 512 → ch < 1024 → winB (kA m c) (t.val / 4) (t.val % 4) (32 + r) ch
      = glu ((kA m c).inX (t.val / 4) (512 * (t.val % 4) + r)) ch := fun r ch _ _ => winB_new _ _ _ _ _
  have hTA : ∀ r ch, r < 512 → ch < 1024 → winA (kA m c) (t.val / 4) (t.val % 4) (8 + r) ch
      = gate ((kA m c).inX (t.val / 4) (512 * (t.val % 4) + r)) ch := fun r ch _ _ => winA_new _ _ _ _ _
  have hh := fun (k : Fin 8) (r : Fin 544) (l : Fin 128) (hr : r.val < 32) =>
    (hp.gb k r l hr).trans (haloB t.val h1 _ _ _)
  have hhA := fun (k : Fin 8) (r : Fin 520) (l : Fin 128) (hr : r.val < 8) =>
    (hp.cv k r l hr).trans (haloA t.val h1 _ _ _)
  rw [outsAt0_B m c t h0 h1 h2]
  refine ⟨fun r j => ?_, fun h => absurd h h2, fun h => absurd h h2, fun k r l hr => ?_, fun k r l hr => ?_,
    hp.mgb, hp.mcv⟩
  · dsimp only
    have h9 := CaseB.y_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r))
      (T := winB (kA m c) (t.val / 4) (t.val % 4)) (TA := winA (kA m c) (t.val / 4) (t.val % 4))
      (WA := (kA m c).wa) (WB := (kA m c).wb) (BB := (kA m c).bb) (GG := (kA m c).lg) (SS := (kA m c).lb) (fun h => h0 ((hcond0_0 t).mp h)) (fun h => h1 ((hcond0_1 t).mp h)) (fun h => h2 ((hcond0_2 t).mp h))
      hU hT hTA hh hhA (colWB m c t) (colBB m c t) (colWA m c t) (colG m c t) (colS m c t)
      (ix2 r j) trivial
    refine h9.trans ?_
    refine Eq.trans ?_ (y_win (kA m c) (t.val / 4) (t.val % 4) r.val j.val)
    rfl
  · dsimp only
    have h9 := CaseB.gbHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (T := winB (kA m c) (t.val / 4) (t.val % 4)) (fun h => h0 ((hcond0_0 t).mp h)) (fun h => h1 ((hcond0_1 t).mp h)) (fun h => h2 ((hcond0_2 t).mp h))
      hU hT hh (ix3 k r l) hr
    exact h9
  · dsimp only
    have h9 := CaseB.cvHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (TA := winA (kA m c) (t.val / 4) (t.val % 4)) (fun h => h0 ((hcond0_0 t).mp h)) (fun h => h1 ((hcond0_1 t).mp h)) (fun h => h2 ((hcond0_2 t).mp h))
      hU hTA hhA (ix3 k r l) hr
    exact h9

theorem afterC (t : Fin cfg0.N) (h0 : ¬t.val % 16 = 0) (h1 : ¬t.val % 4 = 0) (h2 : t.val % 4 = 3)
    (hp : After (kA m c) (t.val - 1) (outsAt0 m c (t.val - 1) (Nat.lt_of_le_of_lt (Nat.sub_le _ _) t.isLt))) :
    After (kA m c) t.val (outsAt0 m c t.val t.isLt) := by
  have hU := rowU m c t
  have hT : ∀ r ch, r < 512 → ch < 1024 → winB (kA m c) (t.val / 4) (t.val % 4) (32 + r) ch
      = glu ((kA m c).inX (t.val / 4) (512 * (t.val % 4) + r)) ch := fun r ch _ _ => winB_new _ _ _ _ _
  have hTA : ∀ r ch, r < 512 → ch < 1024 → winA (kA m c) (t.val / 4) (t.val % 4) (8 + r) ch
      = gate ((kA m c).inX (t.val / 4) (512 * (t.val % 4) + r)) ch := fun r ch _ _ => winA_new _ _ _ _ _
  have hh := fun (k : Fin 8) (r : Fin 544) (l : Fin 128) (hr : r.val < 32) =>
    (hp.gb k r l hr).trans (haloB t.val h1 _ _ _)
  have hhA := fun (k : Fin 8) (r : Fin 520) (l : Fin 128) (hr : r.val < 8) =>
    (hp.cv k r l hr).trans (haloA t.val h1 _ _ _)
  rw [outsAt0_C m c t h0 h1 h2]
  refine ⟨fun r j => ?_, fun _ z r j => ?_, fun _ z r j => ?_, fun k r l hr => ?_, fun k r l hr => ?_,
    hp.mgb, hp.mcv⟩
  · dsimp only
    have h9 := CaseC.y_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r))
      (T := winB (kA m c) (t.val / 4) (t.val % 4)) (TA := winA (kA m c) (t.val / 4) (t.val % 4))
      (WA := (kA m c).wa) (WB := (kA m c).wb) (BB := (kA m c).bb) (GG := (kA m c).lg) (SS := (kA m c).lb) (fun h => h0 ((hcond0_0 t).mp h)) (fun h => h1 ((hcond0_1 t).mp h)) ((hcond0_2 t).mpr h2)
      hU hT hTA hh hhA (colWB m c t) (colBB m c t) (colWA m c t) (colG m c t) (colS m c t)
      (ix2 r j) trivial
    refine h9.trans ?_
    refine Eq.trans ?_ (y_win (kA m c) (t.val / 4) (t.val % 4) r.val j.val)
    rfl
  · dsimp only
    have h9 := CaseC.cvLast_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (TA := winA (kA m c) (t.val / 4) (t.val % 4)) (fun h => h0 ((hcond0_0 t).mp h)) (fun h => h1 ((hcond0_1 t).mp h)) ((hcond0_2 t).mpr h2)
      hU hTA (ix3 z r j) trivial
    refine h9.trans ?_
    show winA (kA m c) (t.val / 4) (t.val % 4) (518 + r.val) j.val = _
    rw [winA, h2, show 512 * 3 + (518 + r.val) + 10 = 2064 + r.val by omega]
  · dsimp only
    have h9 := CaseC.gbLast_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (T := winB (kA m c) (t.val / 4) (t.val % 4)) (fun h => h0 ((hcond0_0 t).mp h)) (fun h => h1 ((hcond0_1 t).mp h)) ((hcond0_2 t).mpr h2)
      hU hT (ix3 z r j) trivial
    refine h9.trans ?_
    show winB (kA m c) (t.val / 4) (t.val % 4) (514 + r.val) j.val = _
    rw [winB, h2, show 512 * 3 + (514 + r.val) + 14 = 2064 + r.val by omega]
  · dsimp only
    have h9 := CaseC.gbHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (T := winB (kA m c) (t.val / 4) (t.val % 4)) (fun h => h0 ((hcond0_0 t).mp h)) (fun h => h1 ((hcond0_1 t).mp h)) ((hcond0_2 t).mpr h2)
      hU hT hh (ix3 k r l) hr
    exact h9
  · dsimp only
    have h9 := CaseC.cvHalo_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := Memref.isWhole_whole _) (arg15 := scM0_1) (harg15 := Memref.isWhole_whole _) (arg16 := scM0_2) (harg16 := Memref.isWhole_whole _) (arg17 := scM0_3) (harg17 := Memref.isWhole_whole _) (arg18 := scM0_4) (harg18 := Memref.isWhole_whole _) (arg19 := scM0_5) (harg19 := Memref.isWhole_whole _)
      (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2.1) (xs3 := (outsAt0 m c (t.val - 1) (Nat.lt_of_le_of_lt (Nat.sub_le _ _) t.isLt)).2.2.2.2.2.1) (xs4 := (outsAt0 m c (t.val - 1) (Nat.lt_of_le_of_lt (Nat.sub_le _ _) t.isLt)).2.2.2.2.2.2)
      (U := fun r => (kA m c).inX (t.val / 4) (512 * (t.val % 4) + r)) (TA := winA (kA m c) (t.val / 4) (t.val % 4)) (fun h => h0 ((hcond0_0 t).mp h)) (fun h => h1 ((hcond0_1 t).mp h)) ((hcond0_2 t).mpr h2)
      hU hTA hhA (ix3 k r l) hr
    exact h9

theorem after (n : ℕ) (hn : n < cfg0.N) : After (kA m c) n (outsAt0 m c n hn) := by
  induction n with
  | zero => exact afterA m c ⟨0, hn⟩ rfl rfl (by dsimp only; omega)
  | succ n ih =>
    have hN : n + 1 < 16 := hn
    have hp := ih (Nat.lt_of_succ_lt hn)
    by_cases h1 : (n + 1) % 4 = 0
    · exact afterD m c ⟨n + 1, hn⟩ (by dsimp only; omega) h1 (by dsimp only; omega) hp
    · by_cases h2 : (n + 1) % 4 = 3
      · exact afterC m c ⟨n + 1, hn⟩ (by dsimp only; omega) h1 h2 hp
      · exact afterB m c ⟨n + 1, hn⟩ (by dsimp only; omega) h1 h2 hp

end Cert.Mix

end
-- ==== Proof.Mix.Out.lean ====
/- The kernel's three results are the mixer's mathematics. -/
module

public import proofs.«01_k».proof.Proof.Mix.Run

@[expose] public section

set_option maxRecDepth 16384

noncomputable section

namespace Cert.Mix

open Cert.KernelIdeal Cert.KernelIdeal.Gen Cert.KernelIdeal.Value
open Idealize.ShloMosaic Idealize.ShloMosaic.TcCoe

variable (m : (ℓ : Loc nD τ sig) → Buf (Elt Ideal) ℓ) (c : Dev nD)

theorem outY (n : Fin 8192) (j : Fin 2048) : G9 m c (ix2 n j) = (kA m c).y (n.val / 2048) (n.val % 2048) j.val := by
  have hp : pt9Of (ix2 n j) = n.val / 512 := by
    show 1 * (n.val / 512 - 0) + 1 * (j.val / 2048 - 0) = _
    omega
  have hl : loc9Of (ix2 n j) = ix2 ⟨n.val % 512, Nat.mod_lt _ (by decide)⟩ j := by
    funext a
    match a with
    | 0 => rfl
    | 1 => exact Fin.ext (Nat.mod_eq_of_lt j.isLt)
  have hN : n.val / 512 < cfg0.N := by
    show n.val / 512 < 16
    omega
  have hb : n.val / 512 / 4 = n.val / 2048 := by omega
  have hi : 512 * (n.val / 512 % 4) + n.val % 512 = n.val % 2048 := by omega
  unfold G9
  rw [dif_pos (by rw [hp]; exact hN), ← outsAt0_sweep m c _ (by rw [hp]; exact hN), hl]
  simp only [hp]
  rw [(after m c _ hN).y, hb, hi]

theorem outA (b : Fin 4) (r : Fin 2) (j : Fin 1024) : G10 m c (ix3 b r j) = (kA m c).seqA b.val (2064 + r.val) j.val := by
  have hp : pt10Of (ix3 b r j) = 4 * b.val + 3 := by
    show 4 * (1 * (b.val / 1 - 0) + 1 * (r.val / 2 - 0) + 1 * (j.val / 1024 - 0)) + 3 = _
    omega
  have hl : loc10Of (ix3 b r j) = ix3 0 r j := by
    funext a
    match a with
    | 0 => exact Fin.ext (Nat.mod_one _)
    | 1 => exact Fin.ext (Nat.mod_eq_of_lt r.isLt)
    | 2 => exact Fin.ext (Nat.mod_eq_of_lt j.isLt)
  have hN : 4 * b.val + 3 < cfg0.N := by
    show 4 * b.val + 3 < 16
    omega
  have hb : (4 * b.val + 3) / 4 = b.val := by omega
  unfold G10
  rw [dif_pos (by rw [hp]; exact hN), ← outsAt0_sweep m c _ (by rw [hp]; exact hN), hl]
  simp only [hp]
  rw [(after m c _ hN).pa (by omega), hb]

theorem outB (b : Fin 4) (r : Fin 30) (j : Fin 1024) : G11 m c (ix3 b r j) = (kA m c).seqB b.val (2064 + r.val) j.val := by
  have hp : pt11Of (ix3 b r j) = 4 * b.val + 3 := by
    show 4 * (1 * (b.val / 1 - 0) + 1 * (r.val / 30 - 0) + 1 * (j.val / 1024 - 0)) + 3 = _
    omega
  have hl : loc11Of (ix3 b r j) = ix3 0 r j := by
    funext a
    match a with
    | 0 => exact Fin.ext (Nat.mod_one _)
    | 1 => exact Fin.ext (Nat.mod_eq_of_lt r.isLt)
    | 2 => exact Fin.ext (Nat.mod_eq_of_lt j.isLt)
  have hN : 4 * b.val + 3 < cfg0.N := by
    show 4 * b.val + 3 < 16
    omega
  have hb : (4 * b.val + 3) / 4 = b.val := by omega
  unfold G11
  rw [dif_pos (by rw [hp]; exact hN), ← outsAt0_sweep m c _ (by rw [hp]; exact hN), hl]
  simp only [hp]
  rw [(after m c _ hN).pb (by omega), hb]

end Cert.Mix

end
-- ==== Proof.Mix.Ref.lean ====
/- The reference's results, element by element: the mixer's mathematics. -/
module

public import proofs.«01_k».proof.Proof.Gen.ReferenceIdeal.Run
public import proofs.«01_k».proof.Proof.Mix.Model

@[expose] public section

set_option maxRecDepth 16384

noncomputable section

namespace Cert.Mix.Ref

open Cert.ReferenceIdeal Cert.ReferenceIdeal.Value
open Idealize.ShloMosaic Idealize.ShloMosaic.TcCoe

variable (V0 : Valuation τ sig (Elt Ideal))

/-- The arguments of the reference's program. -/
def rA : Args :=
  argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))

theorem v2 (b : Fin 4) (n : Fin 2064) (k : Fin 2048) :
    res_main_v2 V0 (ix3 b n k)
      = if n.val < 16 then (rA V0).start n.val k.val else (rA V0).x b.val (n.val - 16) k.val := by
  pointwise [res_main_v2]
  split
  · exact (nat2_val (V0 (Proc.devRef .tc main_arg1)) ⟨n.val, by assumption⟩ k).symm
  · exact nat3_of _ _ _ _ rfl rfl rfl

theorem v20 (k : Fin 3) (j : Fin 1024) : res_main_v20 V0 (ix2 k j) = (rA V0).wa k.val j.val := by
  pointwise [res_main_v20]
  exact nat3_of _ _ _ _ rfl rfl rfl

theorem v21 (k : Fin 31) (j : Fin 1024) : res_main_v21 V0 (ix2 k j) = (rA V0).wb k.val j.val := by
  pointwise [res_main_v21]
  exact nat3_of _ _ _ _ rfl rfl rfl

theorem gain (k : Fin 2048) : V0 (Proc.devRef .tc main_arg2) (ix2 0 k) = (rA V0).gain k.val :=
  (nat2_val (V0 (Proc.devRef .tc main_arg2)) (0 : Fin 1) k).symm

theorem win (k : Fin 2048) (j : Fin 5120) : V0 (Proc.devRef .tc main_arg3) (ix3 0 k j) = (rA V0).win k.val j.val :=
  nat3_of _ _ _ _ rfl rfl rfl

theorem shift (j : Fin 1024) : V0 (Proc.devRef .tc main_arg6) (ix2 0 j) = (rA V0).bb j.val :=
  (nat2_val (V0 (Proc.devRef .tc main_arg6)) (0 : Fin 1) j).symm

theorem lnGain (j : Fin 1024) : V0 (Proc.devRef .tc main_arg7) (ix2 0 j) = (rA V0).lg j.val :=
  (nat2_val (V0 (Proc.devRef .tc main_arg7)) (0 : Fin 1) j).symm

theorem lnShift (j : Fin 1024) : V0 (Proc.devRef .tc main_arg8) (ix2 0 j) = (rA V0).lb j.val :=
  (nat2_val (V0 (Proc.devRef .tc main_arg8)) (0 : Fin 1) j).symm

theorem v25 (b : Fin 4) (n : Fin 2064) (j : Fin 5120) : res_main_v25 V0 (ix3 b n j) = (rA V0).row b.val n.val j.val := by
  pointwise [res_main_v25]
  simp only [v2, gain, win]
  unfold Args.row
  by_cases h : n.val < 16
  · simp only [if_pos h]
    rfl
  · simp only [if_neg h]
    rfl

theorem v32 (b : Fin 4) (n : Fin 2066) (j : Fin 1024) : res_main_v32 V0 (ix3 b n j) = (rA V0).seqA b.val n.val j.val := by
  pointwise [res_main_v32]
  simp only [v25]
  unfold Args.seqA gate
  split <;> rfl

theorem v62 (b : Fin 4) (n : Fin 2094) (j : Fin 1024) : res_main_v62 V0 (ix3 b n j) = (rA V0).seqB b.val n.val j.val := by
  pointwise [res_main_v62]
  simp only [v25]
  unfold Args.seqB glu
  split <;> rfl

/-- One row of the wide convolution's terms. -/
def term (b n j k : ℕ) : EReal := (rA V0).seqB b (k + n) j * (rA V0).wb k j

theorem v138 (b : Fin 4) (n : Fin 2064) (j : Fin 1024) :
    res_main_v138 V0 (ix3 b n j) = (fun f : ℕ → EReal =>
      f 0 + f 1 + f 2 + f 3 + f 4 + f 5 + f 6 + f 7 + f 8 + f 9 + f 10) (term V0 b.val n.val j.val) := by
  pointwise [res_main_v138]
  simp only [v62, v21, term, Nat.zero_add, Fin.val_zero]
  rfl

theorem v215 (b : Fin 4) (n : Fin 2064) (j : Fin 1024) :
    res_main_v215 V0 (ix3 b n j) = (fun f : ℕ → EReal =>
      f 0 + f 1 + f 2 + f 3 + f 4 + f 5 + f 6 + f 7 + f 8 + f 9 + f 10 + f 11 + f 12 + f 13 + f 14 + f 15 + f 16 + f 17
        + f 18 + f 19 + f 20 + f 21) (term V0 b.val n.val j.val) := by
  pointwise [res_main_v215]
  simp only [v138, v62, v21, term, Nat.zero_add, Fin.val_zero]
  rfl

theorem v282 (b : Fin 4) (n : Fin 2064) (j : Fin 1024) :
    res_main_v282 V0 (ix3 b n j) = convB ((rA V0).seqB b.val) (rA V0).wb (rA V0).bb 0 n.val j.val := by
  pointwise [res_main_v282]
  simp only [v215, v62, v21, shift]
  unfold convB chain31
  simp only [term, Nat.zero_add, Nat.add_zero, Fin.val_zero]
  rfl

theorem v306 (b : Fin 4) (n : Fin 2064) (j : Fin 1024) :
    res_main_v306 V0 (ix3 b n j)
      = layerNorm (fun k : Fin 1024 => convB ((rA V0).seqB b.val) (rA V0).wb (rA V0).bb 0 n.val k.val)
          (convB ((rA V0).seqB b.val) (rA V0).wb (rA V0).bb 0 n.val j.val) ((rA V0).lg j.val) ((rA V0).lb j.val) := by
  pointwise [res_main_v306, res_main_v288, res_main_v286]
  simp only [v282, lnGain, lnShift]
  rfl

theorem convB_from (S W : ℕ → ℕ → EReal) (B : ℕ → EReal) (n : ℕ) : convB S W B 0 (16 + n) = convB S W B 16 n := by
  funext ch
  unfold convB
  congr 2
  funext k
  rw [show k + 0 + (16 + n) = k + 16 + n by omega]

theorem convA_from (S W : ℕ → ℕ → EReal) (n ch : ℕ) :
    S (0 + (16 + n)) ch * W 0 ch + S (1 + (16 + n)) ch * W 1 ch + S (2 + (16 + n)) ch * W 2 ch = convA S W 16 n ch := by
  unfold convA chain3
  simp only [← Nat.add_assoc]

theorem row_from (A : Args) (b n : ℕ) : A.row b (16 + n) = A.inX b n := by
  unfold Args.row
  rw [if_neg (by omega), show 16 + n - 16 = n by omega]

end Cert.Mix.Ref

end
-- ==== Proof.Mix.RefRun.lean ====
/- The reference's run: its three results are the mixer's mathematics. -/
module

public import proofs.«01_k».proof.Proof.Mix.Ref

@[expose] public section

set_option maxRecDepth 16384

noncomputable section

namespace Cert.Mix.Ref

open Cert.ReferenceIdeal Cert.ReferenceIdeal.Gen Cert.ReferenceIdeal.Value
open Idealize.ShloMosaic Idealize.ShloMosaic.TcCoe Idealize.SL.Sem

variable (V0 : Valuation τ sig (Elt Ideal))

theorem v317 (n : Fin 8192) (j : Fin 2048) :
    (truncf .bf16 (shapeCast _ (extractStridedSlice S4x2048x2048 ![0, 16, 0] (concatenate S4x2064x2048 2 [⟨S4x2064x1024, (mulf (extractStridedSlice S4x2064x1024 ![0, 0, 0] (res_main_v25 V0) slices_S4x2064x5120_S4x2064x1024_0_0_0) (addf (addf (mulf (extractStridedSlice S4x2064x1024 ![0, 0, 0] (res_main_v32 V0) slices_S4x2066x1024_S4x2064x1024_0_0_0) (broadcastInDim S4x2064x1024 ![0, 1, 2] bcast_S1x1x1024_S4x2064x1024_0_1_2 (broadcastInDim S1x1x1024 ![2] bcast_S1024_S1x1x1024_2 (shapeCast _ (extractStridedSlice S1x1024 ![0, 0] (res_main_v20 V0) slices_S3x1024_S1x1024_0_0) shapeCasts_S1x1024_S1024)))) (mulf (extractStridedSlice S4x2064x1024 ![0, 1, 0] (res_main_v32 V0) slices_S4x2066x1024_S4x2064x1024_0_1_0) (broadcastInDim S4x2064x1024 ![0, 1, 2] bcast_S1x1x1024_S4x2064x1024_0_1_2 (broadcastInDim S1x1x1024 ![2] bcast_S1024_S1x1x1024_2 (shapeCast _ (extractStridedSlice S1x1024 ![1, 0] (res_main_v20 V0) slices_S3x1024_S1x1024_1_0) shapeCasts_S1x1024_S1024))))) (mulf (extractStridedSlice S4x2064x1024 ![0, 2, 0] (res_main_v32 V0) slices_S4x2066x1024_S4x2064x1024_0_2_0) (broadcastInDim S4x2064x1024 ![0, 1, 2] bcast_S1x1x1024_S4x2064x1024_0_1_2 (broadcastInDim S1x1x1024 ![2] bcast_S1024_S1x1x1024_2 (shapeCast _ (extractStridedSlice S1x1024 ![2, 0] (res_main_v20 V0) slices_S3x1024_S1x1024_2_0) shapeCasts_S1x1024_S1024))))))⟩, ⟨S4x2064x1024, (mulf (res_main_v306 V0) (Host.divf (broadcastInDim S4x2064x1024 ![] bcast_S_S4x2064x1024 (constant S_ .f32 0x3F800000#32)) (addf (broadcastInDim S4x2064x1024 ![] bcast_S_S4x2064x1024 (constant S_ .f32 0x3F800000#32)) (Host.exp (Host.negf (res_main_v306 V0))))))⟩] concatenates_S4x2064x1024_S4x2064x1024_S4x2064x2048_d2) slices_S4x2064x2048_S4x2048x2048_0_16_0) shapeCasts_S4x2048x2048_S8192x2048) bitsLt_bf16_f32 : S8192x2048.Idx → Elt Ideal .bf16) (ix2 n j)
      = (rA V0).y (n.val / 2048) (n.val % 2048) j.val := by
  pointwise
  simp only [v25, v32, v20, v306]
  unfold Args.y mixed silu
  simp only [convB_from, row_from]
  split
  · rw [← convA_from, Nat.zero_add]
    rfl
  · rfl

theorem v53 (b : Fin 4) (r : Fin 2) (j : Fin 1024) :
    (extractStridedSlice S4x2x1024 ![0, 2064, 0] (res_main_v32 V0) slices_S4x2066x1024_S4x2x1024_0_2064_0 : S4x2x1024.Idx → Elt Ideal .f32) (ix3 b r j)
      = (rA V0).seqA b.val (2064 + r.val) j.val := by
  pointwise
  rw [v32]

theorem v279 (b : Fin 4) (r : Fin 30) (j : Fin 1024) :
    (extractStridedSlice S4x30x1024 ![0, 2064, 0] (res_main_v62 V0) slices_S4x2094x1024_S4x30x1024_0_2064_0 : S4x30x1024.Idx → Elt Ideal .f32) (ix3 b r j)
      = (rA V0).seqB b.val (2064 + r.val) j.val := by
  pointwise
  rw [v62]

end Cert.Mix.Ref

end
-- ==== Proof.Up.Ring.lean ====
/-
  The kernel's own double buffer of weight blocks: the windows its transfers read and write, what a slot holds, and the
  three steps of its ring (start both halves of a block, wait for them, and take the buffer apart into its four windows).
-/
module

public import proofs.«01_k».proof.Proof.Gen.KernelUpIdeal
public import proofs.«01_k».proof.Proof.Gen.KernelUpIdeal.Skeleton
public import proofs.«01_k».proof.Proof.Gen.KernelUpIdeal.Launch
public import Idealize.ShloMosaic.Lib.Batch
public import Idealize.ShloMosaic.Lib.Ring
public import Idealize.ShloMosaic.Lib.Tactic
public import Idealize.ShloMosaic.Lib.Pipeline.Kit

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' algebra beside the counters the transfers take their tokens from. -/
abbrev UU (nD : Nat) (τ : Topo) : Type := UR sig nD τ × Counters

local notation "𝕄" => MT nD τ sig Unit (Elt F) ℕ (UU nD τ) ℕ

/-- The double buffer's window at offsets `o`, and the weights' window at offsets `p`. -/
abbrev wM (o : Fin 4 → ℕ) (ho : ∀ a, o a + S1x1x2048x1024.size a ≤ S2x2x2048x1024.size a) : Memref sig .tc .vmem S2048x1024 .f32 :=
  ((Memref.whole cc0_scratch0).slice (Rect.unit (s := S2x2x2048x1024) o S1x1x2048x1024.size ho) (fun _ => rfl)).squeeze S2048x1024
    squeezes_S1x1x2048x1024_S2048x1024
abbrev sM (p : Fin 3 → ℕ) (hp : ∀ a, p a + S1x2048x1024.size a ≤ S32x2048x4096.size a) : Memref sig .tc .hbm S2048x1024 .f32 :=
  ((Memref.whole main_v0).slice (Rect.unit (s := S32x2048x4096) p S1x2048x1024.size hp) (fun _ => rfl)).squeeze S2048x1024
    squeezes_S1x2048x1024_S2048x1024

abbrev dO (s h : Fin 2) : Fin 4 → ℕ := ![s.val, h.val, 0, 0]
abbrev gO (e : Fin 32) (j h : Fin 2) : Fin 3 → ℕ := ![e.val, 0, h.val * 2048 + j.val * 1024]

theorem dO_inb (s h : Fin 2) : ∀ a, dO s h a + S1x1x2048x1024.size a ≤ S2x2x2048x1024.size a := by
  fin_cases s <;> fin_cases h <;> decide
theorem gO_inb (e : Fin 32) (j h : Fin 2) : ∀ a, gO e j h a + S1x2048x1024.size a ≤ S32x2048x4096.size a := by
  intro a
  fin_cases a
  · show e.val + 1 ≤ 32
    omega
  · show 0 + 2048 ≤ 2048
    omega
  · show h.val * 2048 + j.val * 1024 + 1024 ≤ 4096
    omega

/-- Slot `s`, half `h` of the double buffer, and half `h` of tile `j` of expert `e`'s weights. -/
abbrev dM (s h : Fin 2) : Memref sig .tc .vmem S2048x1024 .f32 := wM (dO s h) (dO_inb s h)
abbrev gM (e : Fin 32) (j h : Fin 2) : Memref sig .tc .hbm S2048x1024 .f32 := sM (gO e j h) (gO_inb e j h)

abbrev BufD (c : Dev nD) : Type := Buf (Elt F) ((Memref.whole cc0_scratch0).view.loc (c : Thread nD τ))
abbrev BufG (c : Dev nD) : Type := Buf (Elt F) ((Memref.whole main_v0).view.loc (c : Thread nD τ))

/-- The weights a transfer of half `h` of tile `j` of expert `e` carries. -/
def wv (c : Dev nD) (G : BufG (F := F) c) (e : Fin 32) (j h : Fin 2) : S2048x1024.Idx → Elt F .f32 :=
  (gM e j h).view.read (Elt F) G

/-- The two halves read the weights at half the share each. -/
abbrev qh (h : Fin 2) : PosShare TreeShare := if h = 0 then fullShare.left else fullShare.right

/-- A window of the double buffer at any contents, and one holding `w`. -/
def free (c : Dev nD) (s h : Fin 2) : sProp 𝕄 :=
  iprop(∃ f : BufD (F := F) c, (dM s h).view.loc (c : Thread nD τ) ↦[(dM s h).view.set]{fullShare} f)
def held (c : Dev nD) (s h : Fin 2) (w : S2048x1024.Idx → Elt F .f32) : sProp 𝕄 :=
  iprop(∃ f : BufD (F := F) c, ⌜(dM s h).view.read (Elt F) f = w⌝ ∗ (dM s h).view.loc (c : Thread nD τ) ↦[(dM s h).view.set]{fullShare} f)

theorem held_free (c : Dev nD) (s h : Fin 2) (w : S2048x1024.Idx → Elt F .f32) : held (F := F) c s h w ⊢ free c s h := by
  unfold held free
  iintro ⟨%f, -, H⟩
  iexists f
  iexact H

/-- The weights at half `h`'s share: whole, the window a transfer has taken, and the rest. -/
def src (c : Dev nD) (G : BufG (F := F) c) (h : Fin 2) : sProp 𝕄 :=
  (Memref.whole main_v0).view.loc (c : Thread nD τ) ↦{qh h} G
def lent (c : Dev nD) (G : BufG (F := F) c) (e : Fin 32) (j h : Fin 2) : sProp 𝕄 :=
  (gM e j h).view.loc (c : Thread nD τ) ↦[(gM e j h).view.set]{qh h} G
def rest (c : Dev nD) (G : BufG (F := F) c) (e : Fin 32) (j h : Fin 2) : sProp 𝕄 :=
  (Memref.whole main_v0).view.loc (c : Thread nD τ) ↦[Finset.univ \ (gM e j h).view.set]{qh h} G

theorem src_split (c : Dev nD) (G : BufG (F := F) c) (e : Fin 32) (j h : Fin 2) :
    src (F := F) c G h ⊢ iprop(lent c G e j h ∗ rest c G e j h) :=
  (pointsTo_split_subset (Finset.subset_univ _)).1
theorem src_join (c : Dev nD) (G : BufG (F := F) c) (e : Fin 32) (j h : Fin 2) :
    iprop(lent (F := F) c G e j h ∗ rest c G e j h) ⊢ src c G h :=
  (pointsTo_split_subset (Finset.subset_univ _)).2

/-- What the transfers of the two halves deliver. -/
def deliv (c : Dev nD) (G : BufG (F := F) c) (e : Fin 32) (j s : Fin 2) : Fin 2 → sProp 𝕄 :=
  fun h => iprop(held c s h (wv c G e j h) ∗ lent c G e j h)

set_option synthInstance.maxHeartbeats 400000 in
instance deliv_storable (c : Dev nD) (G : BufG (F := F) c) (e : Fin 32) (j s : Fin 2) :
    ∀ t, Storable (upEmb : UEmb _ 𝕄) (deliv c G e j s t) := fun t => by
  unfold deliv held lent
  infer_instance

/-- The slot's semaphore. -/
abbrev sm (s : Fin 2) : DmaSem sig := (fun | 0 => 8 | 1 => 9 : Fin 2 → DmaSem sig) s

/-- One window's units. -/
abbrev NW : ℕ := (dM 0 0).view.dmaCredit

theorem dM_credit (o : Fin 4 → ℕ) (ho : ∀ a, o a + S1x1x2048x1024.size a ≤ S2x2x2048x1024.size a) : (wM o ho).view.dmaCredit = NW := rfl

abbrev batch (c : Dev nD) (G : BufG (F := F) c) (e : Fin 32) (j s : Fin 2) (k u : ℕ) : sProp 𝕄 :=
  Transfers.Batch (countersEmb (U := UU nD τ)) (c : Thread nD τ) (.dma (sm s)) () NW (deliv c G e j s) k u

/-- A block under way into slot `s`: both halves started, nothing waited for, and the weights not lent. -/
def flying (c : Dev nD) (G : BufG (F := F) c) (e : Fin 32) (j s : Fin 2) : sProp 𝕄 :=
  iprop(batch c G e j s 2 0 ∗ rest c G e j 0 ∗ rest c G e j 1)

/-- A block landed in slot `s`. -/
def landed (c : Dev nD) (G : BufG (F := F) c) (e : Fin 32) (j s : Fin 2) : sProp 𝕄 :=
  iprop(held c s 0 (wv c G e j 0) ∗ held c s 1 (wv c G e j 1))

def free2 (c : Dev nD) (s : Fin 2) : sProp 𝕄 := iprop(free (F := F) c s 0 ∗ free c s 1)

theorem landed_free2 (c : Dev nD) (G : BufG (F := F) c) (e : Fin 32) (j s : Fin 2) : landed (F := F) c G e j s ⊢ free2 c s := by
  unfold landed free2
  iintro ⟨H0, H1⟩
  isplitl [H0]
  · iapply (held_free c s 0 _) $$ H0
  · iapply (held_free c s 1 _) $$ H1

local notation "𝒱₀" => Variants.none

/-- Start half `h`. -/
theorem wp_issue (c : Dev nD) (G : BufG (F := F) c) (e : Fin 32) (j s h : Fin 2)
    {o : Fin 4 → ℕ} {ho : ∀ a, o a + S1x1x2048x1024.size a ≤ S2x2x2048x1024.size a} (eo : o = dO s h)
    {p : Fin 3 → ℕ} {hp : ∀ a, p a + S1x2048x1024.size a ≤ S32x2048x4096.size a} (ep : p = gO e j h)
    {sem : SemLoc sig} (es : sem = .dma (sm s)) {h1 : (sM p hp).view.WordExact} {h2 : (wM o ho).view.WordExact}
    {h3 : (DmaTarget.here (wM o ho) : DmaTarget nD τ sig (.tc : Proc τ) .vmem S2048x1024 .f32).Typed .hbm sem}
    {α : Type} {k : PUnit → Prog (TpuEff nD τ sig (Elt F) Λ₀ .tc) α} (Q : α → sProp 𝕄) :
    iprop(src c G h ∗ free c s h ∗ batch c G e j s h.val 0)
      ⊢ iprop((iprop(rest c G e j h ∗ batch c G e j s (h.val + 1) 0) -∗ wp frame (wpE (defs₀ (F := F)) 𝒱₀ c none) Set.univ (k ⟨⟩) Q)
          -∗ wp frame (wpE (defs₀ (F := F)) 𝒱₀ c none) Set.univ (Prog.lift (.enqueueDma (sM p hp) (.here (wM o ho)) sem h1 h2 h3) >>= k) Q) := by
  subst eo; subst ep; subst es
  iintro ⟨HG, HF, HB⟩ Hk
  ihave HG' := (src_split c G e j h) $$ HG
  icases HG' with ⟨HL, HR⟩
  unfold free
  icases HF with ⟨%f, HF⟩
  unfold lent
  iapply (Transfers.wp_dmaBatch (countersEmb (U := UU nD τ)) 𝒱₀ (c : Thread nD τ) none (src := gM e j h) (dst := dM s h) () NW rfl subset_rfl
    (D := deliv c G e j s) (j := h.val) (u := 0) h.isLt (Nat.zero_le _) (by
      unfold deliv held lent
      iintro ⟨H1, H2⟩
      isplitl [H1]
      · iexists ((dM s h).view.write (Elt F) f (ReadAs.same.apply ((gM e j h).view.read (Elt F) G)) Finset.univ)
        isplitr
        · ipureintro
          exact View.read_write_univ _ _
        · iexact H1
      · iexact H2)) $$ [HL HF HB]
  · isplitl [HL]; · iexact HL
    isplitl [HF]; · iexact HF
    iexact HB
  iintro HB
  iapply Hk
  isplitl [HR]; · iexact HR
  iexact HB

/-- Wait for both halves: the slot holds the block, and the weights and the semaphore are back. -/
theorem wp_acquire (c : Dev nD) (G : BufG (F := F) c) (e : Fin 32) (j s : Fin 2) (W : Waits sig Unit)
    {o o' : Fin 4 → ℕ} {ho : ∀ a, o a + S1x1x2048x1024.size a ≤ S2x2x2048x1024.size a}
    {ho' : ∀ a, o' a + S1x1x2048x1024.size a ≤ S2x2x2048x1024.size a}
    {p p' : Fin 3 → ℕ} {hp : ∀ a, p a + S1x2048x1024.size a ≤ S32x2048x4096.size a}
    {hp' : ∀ a, p' a + S1x2048x1024.size a ≤ S32x2048x4096.size a}
    {sem sem' : DmaSem sig} (es : sem = sm s) (es' : sem' = sm s)
    {h1 : (sM p hp).view.WordExact} {h2 : (wM o ho).view.WordExact} {h1' : (sM p' hp').view.WordExact} {h2' : (wM o' ho').view.WordExact}
    {α : Type} {k : PUnit → Prog (TpuEff nD τ sig (Elt F) Λ₀ .tc) α} (Q : α → sProp 𝕄) :
    iprop(flying c G e j s ∗ owes (c : Thread nD τ) 0 W)
      ⊢ iprop((iprop(landed c G e j s ∗ src c G 0 ∗ src c G 1 ∗ semVal ((c : Thread nD τ), .dma (sm s)) 0 ∗ ∃ W, owes (c : Thread nD τ) 0 W)
            -∗ wp frame (wpE (defs₀ (F := F)) 𝒱₀ c none) Set.univ (k ⟨⟩) Q)
          -∗ wp frame (wpE (defs₀ (F := F)) 𝒱₀ c none) Set.univ
              (Prog.lift (.waitDma2 sem (sM p hp) (wM o ho) h1 h2) >>= fun _ => Prog.lift (.waitDma2 sem' (sM p' hp') (wM o' ho') h1' h2') >>= k) Q) := by
  subst es; subst es'
  have hNW : 0 < NW := (dM 0 0).view.amount_pos (.dma (sm s)) (by decide)
  unfold flying
  iintro ⟨⟨HB, HR0, HR1⟩, HO⟩ Hk
  iapply (Transfers.wp_waitBatch (countersEmb (U := UU nD τ)) 𝒱₀ (c : Thread nD τ) none () (dM_credit o ho) (D := deliv c G e j s) (u := 0)
    (by omega)) $$ [HB HO]
  · isplitl [HB] <;> iassumption
  iintro ⟨HB, HO⟩
  iapply (Transfers.wp_waitBatchLast (countersEmb (U := UU nD τ)) 𝒱₀ (c : Thread nD τ) none () (dM_credit o' ho') hNW (D := deliv c G e j s)
    (u := 0 + NW) (by omega)) $$ [HB HO]
  · isplitl [HB] <;> iassumption
  iintro ⟨HD, Hv, HO⟩
  ihave HD' := (show bigSep Finset.univ (deliv c G e j s) ⊢ iprop(deliv c G e j s 0 ∗ deliv c G e j s 1) from by
    rw [Idealize.SL.BI.bigSep_univ_eq_bigSepL [0, 1] (by decide) (by decide) _]; exact .rfl) $$ HD
  unfold deliv
  icases HD' with ⟨⟨H0, HL0⟩, H1, HL1⟩
  iapply Hk
  unfold landed
  isplitl [H0 H1]
  · isplitl [H0]; · iexact H0
    iexact H1
  isplitl [HL0 HR0]
  · iapply (src_join c G e j 0)
    isplitl [HL0]; · iexact HL0
    iexact HR0
  isplitl [HL1 HR1]
  · iapply (src_join c G e j 1)
    isplitl [HL1]; · iexact HL1
    iexact HR1
  isplitl [Hv]; · iexact Hv
  iexists _; iexact HO

/-! ### The double buffer and the weights, whole and in pieces -/

/-- The elements of a window of the double buffer. -/
abbrev dSet (c : Dev nD) (b : Fin 2 × Fin 2) : Finset (Idx ((Memref.whole cc0_scratch0).view.loc (c : Thread nD τ))) :=
  (dM b.1 b.2).view.set

theorem mem_dSet (c : Dev nD) (b : Fin 2 × Fin 2) (i : S2x2x2048x1024.Idx) :
    i ∈ (show Finset S2x2x2048x1024.Idx from dSet c b) ↔ (i 0).val = b.1.val ∧ (i 1).val = b.2.val := by
  have h : (show Finset S2x2x2048x1024.Idx from dSet c b) = (Rect.unit (s := S2x2x2048x1024) (dO b.1 b.2) S1x1x2048x1024.size (dO_inb b.1 b.2)).set := by
    show (View.reshape _ _ _).set = _
    rw [View.set_reshape]
    exact View.set_slice_whole _ _
  rw [h, Rect.mem_set_unit]
  have e2 := (i 2).isLt
  have e3 := (i 3).isLt
  constructor
  · intro H
    have H0 : b.1.val ≤ (i 0).val ∧ (i 0).val < b.1.val + 1 := H 0
    have H1 : b.2.val ≤ (i 1).val ∧ (i 1).val < b.2.val + 1 := H 1
    omega
  · rintro ⟨H0, H1⟩ a
    fin_cases a
    · show b.1.val ≤ (i 0).val ∧ (i 0).val < b.1.val + 1
      omega
    · show b.2.val ≤ (i 1).val ∧ (i 1).val < b.2.val + 1
      omega
    · exact ⟨Nat.zero_le _, by simpa using e2⟩
    · exact ⟨Nat.zero_le _, by simpa using e3⟩

theorem dSet_disj (c : Dev nD) (b b' : Fin 2 × Fin 2) (h : b ≠ b') : Disjoint (dSet c b) (dSet c b') := by
  refine Finset.disjoint_left.mpr fun i hi hi' => h ?_
  have h1 := (mem_dSet c b i).mp hi
  have h2 := (mem_dSet c b' i).mp hi'
  exact Prod.ext (Fin.ext (h1.1.symm.trans h2.1)) (Fin.ext (h1.2.symm.trans h2.2))

theorem dSet_cover (c : Dev nD) : Finset.univ.biUnion (dSet c) = Finset.univ := by
  refine Finset.eq_univ_of_forall fun i => Finset.mem_biUnion.mpr ⟨((show S2x2x2048x1024.Idx from i) 0, (show S2x2x2048x1024.Idx from i) 1), Finset.mem_univ _, ?_⟩
  exact (mem_dSet c _ i).mpr ⟨rfl, rfl⟩

theorem sep4 (P : Fin 2 × Fin 2 → sProp 𝕄) : bigSep Finset.univ P = iprop(P (0, 0) ∗ P (0, 1) ∗ P (1, 0) ∗ P (1, 1)) := by
  rw [Idealize.SL.BI.bigSep_univ_eq_bigSepL [(0, 0), (0, 1), (1, 0), (1, 1)] (by decide) (by decide) _]
  rfl

theorem ring_split (c : Dev nD) (f : BufD (F := F) c) :
    (((Memref.whole cc0_scratch0).view.loc (c : Thread nD τ) ↦{fullShare} f : sProp 𝕄)) ⊢ iprop(free2 (F := F) c 0 ∗ free2 c 1) := by
  rw [Ring.pointsTo_blocks (dSet c) (dSet_disj c) (dSet_cover c) f, sep4]
  unfold free2 free
  iintro ⟨H0, H1, H2, H3⟩
  isplitl [H0 H1]
  · isplitl [H0]; · iexists f; iexact H0
    iexists f; iexact H1
  · isplitl [H2]; · iexists f; iexact H2
    iexists f; iexact H3

theorem ring_join (c : Dev nD) :
    iprop(free2 (F := F) c 0 ∗ free2 c 1) ⊢ (iprop(∃ f : BufD (F := F) c, (Memref.whole cc0_scratch0).view.loc (c : Thread nD τ) ↦{fullShare} f) : sProp 𝕄) := by
  have key : iprop(free2 (F := F) c 0 ∗ free2 c 1)
      ⊢ (bigSep Finset.univ (fun b => iprop(∃ f : BufD (F := F) c, (Memref.whole cc0_scratch0).view.loc (c : Thread nD τ) ↦[dSet c b]{fullShare} f)) : sProp 𝕄) := by
    rw [sep4]
    unfold free2 free
    iintro ⟨⟨H0, H1⟩, H2, H3⟩
    isplitl [H0]; · iexact H0
    isplitl [H1]; · iexact H1
    isplitl [H2]; · iexact H2
    iexact H3
  refine BI.Entails.trans ?_ (Ring.pointsTo_blocks_join_exists (dSet c) (dSet_disj c) (dSet_cover c) (fun _ => Classical.arbitrary _))
  exact key

theorem weights_split (c : Dev nD) (G : BufG (F := F) c) :
    (((Memref.whole main_v0).view.loc (c : Thread nD τ) ↦{fullShare} G : sProp 𝕄)) ⊢ iprop(src (F := F) c G 0 ∗ src c G 1) :=
  (pointsTo_share (PosShare.mem_left_op_right fullShare)).1

end Cert.Up

end
-- ==== Proof.Up.Words.lean ====
/-
  The kernel's words: what the routing's five tables are assumed to say, and every offset, condition and check of the
  kernel's text as a function of the grid point and of those words.
-/
module

public import proofs.«01_k».proof.Proof.Up.Ring

@[expose] public section

noncomputable section

namespace Cert.Up

open Cert.KernelUpIdeal Cert.KernelUpIdeal.Gen
open Idealize.ShloMosaic
open Idealize.ShloMosaic.TcCoe

variable {F : FTy → Type} [FloatOps F]

/-- Position `t` of a table. -/
abbrev ix (t : Fin 99) : S99.Idx := fun a => ⟨t.val, by obtain rfl : a = 0 := Subsingleton.elim _ _; exact t.isLt⟩

/-- The five tables' words. -/
structure Tab where
  te : S99.Idx → BitVec 32
  tb : S99.Idx → BitVec 32
  fl : S99.Idx → BitVec 32
  ne : S99.Idx → BitVec 32
  nv : S99.Idx → BitVec 32

/-- What the routing guarantees of them. -/
structure Tab.OK (T : Tab) : Prop where
  te_lt : ∀ t, (T.te (ix t)).toNat < 32
  tb_lt : ∀ t, (T.tb (ix t)).toNat < 99
  nv_le : ∀ t, (T.nv (ix t)).toNat ≤ 512
  ne_or : ∀ t, (T.ne (ix t)).toNat < 32 ∨ T.ne (ix t) = 4294967295#32
  fl_or : ∀ t, T.fl (ix t) = 0#32 ∨ T.fl (ix t) = 1#32
  same : ∀ (t : Fin 98), T.fl (ix t.succ) = 0#32 → T.te (ix t.succ) = T.te (ix t.castSucc) ∧ T.ne (ix t.succ) = T.ne (ix t.castSucc)
  next : ∀ (t : Fin 98), T.fl (ix t.succ) = 1#32 → T.te (ix t.succ) = T.ne (ix t.castSucc)
  first : T.fl (ix 0) = 1#32
  last : T.ne (ix 98) = 4294967295#32

abbrev gj (i : grid0.Coords) : Fin 2 := i 0
abbrev gt (i : grid0.Coords) : Fin 99 := i 1

theorem toNat_gt (i : grid0.Coords) : (BitVec.ofNat 32 (i 1).val).toNat = (gt i).val := by
  have h : (i 1).val < 99 := (gt i).isLt
  rw [BitVec.toNat_ofNat]
  exact Nat.mod_eq_of_lt (by omega)

/-- A word of a table read where the kernel reads it. -/
theorem read_tab (M : Memref sig .tc .smem S99 .i32) (t : Fin 99) {off : Fin 1 → ℕ} (ho : off = ![t.val])
    (inb : ∀ a, off a + S1.size a ≤ S99.size a) (h1 : (Rect.unit (s := S99) off S1.size inb).shape.numel = 1) (f : M.view.ty.Contents (Elt F)) :
    (M.access (Rect.unit (s := S99) off S1.size inb)).read (Elt F) f (Shape.Idx.first (h1.symm ▸ Nat.one_pos)) = M.view.read (Elt F) f (ix t) := by
  subst ho
  show M.view.read (Elt F) f _ = _
  congr 1
  funext a
  apply Fin.ext
  obtain rfl : a = 0 := Subsingleton.elim _ _
  have : (Shape.Idx.first (s := (Rect.unit (s := S99) ![t.val] S1.size inb).shape) (h1.symm ▸ Nat.one_pos) 0).val < 1 := Fin.isLt _
  show t.val + 1 * _ = t.val
  omega

theorem off1_eq (i : grid0.Coords) : k0_off1 i = ![(gt i).val] := by
  unfold k0_off1; exact congrArg (fun n => ![n]) (toNat_gt i)
theorem off2_eq (i : grid0.Coords) : k0_off2 i = ![(gt i).val] := off1_eq i
theorem off5_eq (i : grid0.Coords) : k0_off5 i = ![(gt i).val] := off1_eq i
theorem off12_eq (i : grid0.Coords) : k0_off12 i = ![(gt i).val] := off1_eq i

/-- The column of tile `j`'s half `h`. -/
theorem col0 : ∀ j : Fin 2, (Scalar.muli (BitVec.ofNat 32 j.val) 1024#32).toNat = (0 : Fin 2).val * 2048 + j.val * 1024 := by decide
theorem col1 : ∀ j : Fin 2, (Scalar.addi 2048#32 (Scalar.muli (BitVec.ofNat 32 j.val) 1024#32)).toNat = (1 : Fin 2).val * 2048 + j.val * 1024 := by decide

theorem off3_eq (i : grid0.Coords) (v : BitVec 32) (h : v.toNat < 32) : k0_off3 i v = gO ⟨v.toNat, h⟩ (gj i) 0 :=
  congrArg (fun n => ![v.toNat, 0, n]) (col0 (gj i))
theorem off4_eq (i : grid0.Coords) (v : BitVec 32) (h : v.toNat < 32) : k0_off4 i v = gO ⟨v.toNat, h⟩ (gj i) 1 :=
  congrArg (fun n => ![v.toNat, 0, n]) (col1 (gj i))
theorem off8_eq (i : grid0.Coords) (v : BitVec 32) (h : v.toNat < 32) : k0_off8 i v = gO ⟨v.toNat, h⟩ (gj i) 0 :=
  congrArg (fun n => ![v.toNat, 0, n]) (col0 (gj i))
theorem off11_eq (i : grid0.Coords) (v : BitVec 32) (h : v.toNat < 32) : k0_off11 i v = gO ⟨v.toNat, h⟩ (gj i) 1 :=
  congrArg (fun n => ![v.toNat, 0, n]) (col1 (gj i))
theorem off15_eq (i : grid0.Coords) (v : BitVec 32) (h : v.toNat < 32) : k0_off15 i v = gO ⟨v.toNat, h⟩ (gj i) 0 :=
  congrArg (fun n => ![v.toNat, 0, n]) (col0 (gj i))
theorem off17_eq (i : grid0.Coords) (v : BitVec 32) (h : v.toNat < 32) : k0_off17 i v = gO ⟨v.toNat, h⟩ (gj i) 1 :=
  congrArg (fun n => ![v.toNat, 0, n]) (col1 (gj i))
theorem off20_eq (i : grid0.Coords) (v : BitVec 32) (h : v.toNat < 32) (hj : gj i = 0) : k0_off20 i v = gO ⟨v.toNat, h⟩ 1 0 := by
  have : (i 0) = (0 : Fin 2) := hj
  unfold k0_off20
  rw [this]
  rfl
theorem off23_eq (i : grid0.Coords) (v : BitVec 32) (h : v.toNat < 32) (hj : gj i = 0) : k0_off23 i v = gO ⟨v.toNat, h⟩ 1 1 := by
  have : (i 0) = (0 : Fin 2) := hj
  unfold k0_off23
  rw [this]
  rfl

/-- The slot's word, and the other slot. -/
abbrev sw (s : Fin 2) : BitVec 32 := BitVec.ofNat 32 s.val
abbrev os (s : Fin 2) : Fin 2 := (fun | 0 => 1 | 1 => 0 : Fin 2 → Fin 2) s

theorem off6_eq : ∀ s : Fin 2, k0_off6 (sw s) = ![s.val] := by intro s; fin_cases s <;> rfl
theorem off9_eq : ∀ s : Fin 2, k0_off9 (sw s) = ![s.val] := off6_eq
theorem off7_eq : ∀ s : Fin 2, k0_off7 (sw s) = dO s 0 := by intro s; fin_cases s <;> rfl
theorem off10_eq : ∀ s : Fin 2, k0_off10 (sw s) = dO s 1 := by intro s; fin_cases s <;> rfl
theorem off13_eq : ∀ s : Fin 2, k0_off13 (sw s) = ![(os s).val] := by intro s; fin_cases s <;> rfl
theorem off14_eq : ∀ s : Fin 2, k0_off14 (sw s) = dO (os s) 0 := by intro s; fin_cases s <;> rfl
theorem off16_eq : ∀ s : Fin 2, k0_off16 (sw s) = dO (os s) 1 := by intro s; fin_cases s <;> rfl
theorem off18_eq : ∀ s : Fin 2, k0_off18 (sw s) = ![(os s).val] := by intro s; fin_cases s <;> rfl
theorem off21_eq : ∀ s : Fin 2, k0_off21 (sw s) = ![(os s).val] := off18_eq
theorem off19_eq : ∀ s : Fin 2, k0_off19 (sw s) = dO (os s) 0 := by intro s; fin_cases s <;> rfl
theorem off22_eq : ∀ s : Fin 2, k0_off22 (sw s) = dO (os s) 1 := by intro s; fin_cases s <;> rfl
theorem flip_eq : ∀ s : Fin 2, Scalar.subi 1#32 (sw s) = sw (os s) := by decide

theorem sem_eq (s : Fin 2) {off : Fin 1 → ℕ} (ho : off = ![s.val]) (inb : ∀ a, off a + S1.size a ≤ S2.size a) :
    ((cc0_scratch1.slice (Rect.unit (s := S2) off S1.size inb)).squeeze S_ squeezes_S1_S_).sem = sm s := by
  subst ho
  revert s
  decide

theorem sO_inb (s : Fin 2) : ∀ a, (![s.val] : Fin 1 → ℕ) a + S1.size a ≤ S2.size a := by fin_cases s <;> decide

/-! The checks, met. -/

theorem chk1 (i : grid0.Coords) (v3 v : BitVec 32) (h : v.toNat < 32) : k0_chk1 i v3 v :=
  ⟨fun _ _ => off3_eq i v h ▸ gO_inb _ _ _, fun _ _ => off4_eq i v h ▸ gO_inb _ _ _⟩
theorem chk2 (v3 : BitVec 32) (s : Fin 2) : k0_chk2 v3 (sw s) :=
  ⟨fun _ => off6_eq s ▸ sO_inb s, fun _ => off7_eq s ▸ dO_inb _ _, fun _ => off9_eq s ▸ sO_inb s, fun _ => off10_eq s ▸ dO_inb _ _⟩
theorem chk3 (i : grid0.Coords) (v3 v : BitVec 32) (h : v.toNat < 32) : k0_chk3 i v3 v :=
  ⟨fun _ => off8_eq i v h ▸ gO_inb _ _ _, fun _ => off11_eq i v h ▸ gO_inb _ _ _⟩

theorem cond4_iff (v : BitVec 32) (h : v.toNat < 32 ∨ v = 4294967295#32) : k0_cond4 v = 1#1 ↔ v.toNat < 32 := by
  rcases h with h | rfl
  · refine ⟨fun _ => h, fun _ => ?_⟩
    have : v = BitVec.ofNat 32 (v.toNat % 32) := by
      apply BitVec.eq_of_toNat_eq
      rw [BitVec.toNat_ofNat]
      omega
    have key : ∀ k : Fin 32, k0_cond4 (BitVec.ofNat 32 k.val) = 1#1 := by decide
    rw [this]
    exact key ⟨v.toNat % 32, Nat.mod_lt _ (by decide)⟩
  · decide

theorem cond5_iff (i : grid0.Coords) (v : BitVec 32) (h : v.toNat < 32 ∨ v = 4294967295#32) :
    k0_cond5 i v = 1#1 ↔ (¬ v.toNat < 32 ∧ gj i = 0) := by
  have hj : ∀ j : Fin 2, i 0 = j → gj i = j := fun j h => h
  rcases h with h | rfl
  · refine ⟨fun hc => ?_, fun hc => absurd h hc.1⟩
    exfalso
    have hs : Scalar.cmpi .slt v 0#32 = 0#1 := by
      have : v = BitVec.ofNat 32 (v.toNat % 32) := by
        apply BitVec.eq_of_toNat_eq
        rw [BitVec.toNat_ofNat]
        omega
      have key : ∀ k : Fin 32, Scalar.cmpi .slt (BitVec.ofNat 32 k.val) 0#32 = 0#1 := by decide
      rw [this]
      exact key ⟨v.toNat % 32, Nat.mod_lt _ (by decide)⟩
    revert hc
    unfold k0_cond5
    dsimp only
    rw [hs]
    generalize Scalar.cmpi .slt (Scalar.addi (BitVec.ofNat 32 (i 0).val) 1#32) 2#32 = b
    revert b
    decide
  · have key : ∀ j : Fin 2, (let v67 : BitVec 32 := Scalar.addi (BitVec.ofNat 32 j.val) 1#32
        Scalar.cmpi .ne (Scalar.extui (Scalar.andi (Scalar.cmpi .slt 4294967295#32 0#32) (Scalar.cmpi .slt v67 2#32)) : BitVec 32) 0#32) = 1#1 ↔ j = 0 := by decide
    exact (key (gj i)).trans ⟨fun h => ⟨by decide, h⟩, fun h => h.2⟩

theorem chk4 (i : grid0.Coords) (v3 : BitVec 32) (s : Fin 2) (v : BitVec 32) (h : v.toNat < 32 ∨ v = 4294967295#32) : k0_chk4 i v3 (sw s) v :=
  ⟨fun _ _ => off13_eq s ▸ sO_inb _, fun _ _ => off14_eq s ▸ dO_inb _ _,
    fun _ h4 => off15_eq i v ((cond4_iff v h).mp h4) ▸ gO_inb _ _ _, fun _ _ => off16_eq s ▸ dO_inb _ _,
    fun _ h4 => off17_eq i v ((cond4_iff v h).mp h4) ▸ gO_inb _ _ _,
    fun _ _ => off18_eq s ▸ sO_inb _, fun _ _ => off19_eq s ▸ dO_inb _ _, fun _ _ => off21_eq s ▸ sO_inb _, fun _ _ => off22_eq s ▸ dO_inb _ _⟩

theorem chk5 (i : grid0.Coords) (v3 v62 v : BitVec 32) (hv : v.toNat < 32) (h : v62.toNat < 32 ∨ v62 = 4294967295#32) : k0_chk5 i v3 v62 v :=
  ⟨fun _ h5 => off20_eq i v hv ((cond5_iff i v62 h).mp h5).2 ▸ gO_inb _ _ _,
    fun _ h5 => off23_eq i v hv ((cond5_iff i v62 h).mp h5).2 ▸ gO_inb _ _ _⟩

theorem cond1_zero : ¬ k0_cond1 0#32 = 1#1 := by decide
theorem cond1_one : k0_cond1 1#32 = 1#1 := by decide

/-- The first grid point. -/
theorem cond2_iff (i : grid0.Coords) : k0_cond2 i = 1#1 ↔ (gj i = 0 ∧ gt i = 0) := by
  have key : ∀ (j : Fin 2) (t : Fin 99), Scalar.cmpi .ne (Scalar.extui (Scalar.andi (Scalar.cmpi .eq (BitVec.ofNat 32 j.val) 0#32)
      (Scalar.cmpi .eq (BitVec.ofNat 32 t.val) 0#32)) : BitVec 32) 0#32 = 1#1 ↔ (j = 0 ∧ t = 0) := by decide +kernel
  exact key (gj i) (gt i)

theorem cond3_iff (i : grid0.Coords) : (Scalar.cmpi .ne (Scalar.extui (Scalar.xori (Scalar.andi (Scalar.cmpi .eq (BitVec.ofNat 32 (i 0).val) 0#32)
      (Scalar.cmpi .eq (BitVec.ofNat 32 (i 1).val) 0#32)) 1#1) : BitVec 32) 0#32 = 1#1) ↔ ¬ (gj i = 0 ∧ gt i = 0) := by
  rw [← cond2_iff]
  unfold k0_cond2
  dsimp only
  generalize Scalar.andi (Scalar.cmpi .eq (BitVec.ofNat 32 (i 0).val) 0#32) (Scalar.cmpi .eq (BitVec.ofNat 32 (i 1).val) 0#32) = b
  revert b
  decide

end Cert.Up

end
-- ==== Proof.Up.Step.lean ====
/-
  The kernel's change of weights at a grid point: at the first one it starts its first block and waits for it, at a later one
  whose flag says so it turns to the other slot and waits for the block started there; then it starts the next block.
-/
module

public import proofs.«01_k».proof.Proof.Up.Words

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A table held, one word of it read. -/
theorem wp_tab (c : Dev nD) {M : Memref sig .tc .smem S99 .i32} (t : Fin 99) {off : Fin 1 → ℕ} (ho : off = ![t.val])
    {inb : ∀ a, off a + S1.size a ≤ S99.size a} {h1 : (Rect.unit (s := S99) off S1.size inb).shape.numel = 1} {hp : (EltTy.i32).packing = 1}
    {f : Buf (Elt F) (M.view.loc (c : Thread nD τ))} {w : Elt F .i32} (hw : M.view.read (Elt F) f (ix t) = w) {α : Type} {k : Elt F .i32 → Prog (TpuEff nD τ sig (Elt F) Λ₀ .tc) α} (Q : α → sProp 𝕄) :
    pt c M f ⊢ iprop((pt c M f -∗ WP c (k w) Q)
      -∗ WP c (smemLoad M (Rect.unit (s := S99) off S1.size inb) h1 hp >>= k) Q) := by
  iintro Ht Hk
  iapply (wp_smemLoadElt 𝒱₀ (c : Thread nD τ) none Set.univ (m := M) (r := Rect.unit (s := S99) off S1.size inb)
    (hw := View.loads_smem_one hp h1) (Finset.subset_univ _)) $$ Ht
  iintro Ht
  rw [read_tab M t ho inb h1 f, hw]
  iapply Hk
  iexact Ht

theorem wp_asm (c : Dev nD) {P : Prop} {d : Decidable P} (h : P) {α : Type} {k : PLift P → Prog (TpuEff nD τ sig (Elt F) Λ₀ .tc) α} (Q : α → sProp 𝕄) :
    WP c (k ⟨h⟩) Q ⊢ WP c (Prog.lift (.assume P d) >>= k) Q :=
  wp_assume 𝒱₀ (c : Thread nD τ) none Set.univ h

/-- A program in two parts: the first to a statement between, the second from it. -/
theorem wp_cut (c : Dev nD) {α β : Type} {p : Prog (TpuEff nD τ sig (Elt F) Λ₀ .tc) α} {k : α → Prog (TpuEff nD τ sig (Elt F) Λ₀ .tc) β}
    {P : sProp 𝕄} (R : α → sProp 𝕄) {Q : β → sProp 𝕄} (h1 : P ⊢ WP c p R) (h2 : ∀ a, R a ⊢ WP c (k a) Q) :
    P ⊢ WP c (p >>= k) Q := by
  show P ⊢ wp frame _ Set.univ (p >>= k) Q
  rw [wp_bind frame (wpE (defs₀ (F := F)) 𝒱₀ (c : Thread nD τ) none) Set.univ p k Q]
  exact h1.trans (wp_mono frame (wpE (defs₀ (F := F)) 𝒱₀ (c : Thread nD τ) none) Set.univ h2)

theorem wp_pure (c : Dev nD) {α : Type} (a : α) (Q : α → sProp 𝕄) : Q a ⊢ WP c (pure a) Q :=
  le_wp_ret frame (wpE (defs₀ (F := F)) 𝒱₀ (c : Thread nD τ) none) Set.univ a Q

/-- The slot's word. -/
abbrev slotW (c : Dev nD) (w : BitVec 32) : sProp 𝕄 :=
  pt (F := F) c (Memref.whole cc0_scratch2) (fun _ => w)

theorem s1_eq (y y' : S1.Idx) : y = y' := by
  funext a
  apply Fin.ext
  have e : S1.size a = 1 := by revert a; decide
  have h1 := (y a).isLt
  have h2 := (y' a).isLt
  have h1' : (y a).val < 1 := by rw [← e]; exact h1
  have h2' : (y' a).val < 1 := by rw [← e]; exact h2
  omega

/-- The only index of a one-element array. -/
abbrev z1 : S1.Idx := Shape.Idx.first (by decide)

theorem slot_any (c : Dev nD) (f : S1.Idx → BitVec 32) :
    pt (F := F) c (Memref.whole cc0_scratch2) f ⊢ (iprop(∃ w, slotW (F := F) c w) : sProp 𝕄) := by
  iintro H
  iexists (f z1)
  have e : f = fun _ => f z1 := funext fun y => congrArg f (s1_eq y z1)
  rw [e]
  iexact H

theorem wp_slotRead (c : Dev nD) (w : BitVec 32)
    {inb : ∀ a, (![0] : Fin 1 → ℕ) a + S1.size a ≤ S1.size a} {h1 : (Rect.unit (s := S1) ![0] S1.size inb).shape.numel = 1} {hp : (EltTy.i32).packing = 1}
    {α : Type} {k : Elt F .i32 → Prog (TpuEff nD τ sig (Elt F) Λ₀ .tc) α} (Q : α → sProp 𝕄) :
    slotW c w ⊢ iprop((slotW c w -∗ WP c (k w) Q)
      -∗ WP c (smemLoad (Memref.whole cc0_scratch2) (Rect.unit (s := S1) ![0] S1.size inb) h1 hp >>= k) Q) := by
  iintro Ht Hk
  iapply (wp_smemLoadElt 𝒱₀ (c : Thread nD τ) none Set.univ (m := Memref.whole cc0_scratch2) (r := Rect.unit (s := S1) ![0] S1.size inb)
    (hw := View.loads_smem_one hp h1) (Finset.subset_univ _)) $$ Ht
  iintro Ht
  iapply Hk
  iexact Ht

theorem wp_slotWrite (c : Dev nD) (w w' : BitVec 32)
    {inb : ∀ a, (![0] : Fin 1 → ℕ) a + S1.size a ≤ S1.size a}
    {hx : ((Memref.whole cc0_scratch2).access (Rect.unit (s := S1) ![0] S1.size inb) : View sig (.tc : Proc τ).kind _ _ _).Stores Finset.univ}
    {hm : Finset.univ = Finset.univ ∨ ∀ a, (Rect.unit (s := S1) ![0] S1.size inb).stride a = 1}
    {α : Type} {k : PUnit → Prog (TpuEff nD τ sig (Elt F) Λ₀ .tc) α} (Q : α → sProp 𝕄) :
    slotW c w ⊢ iprop((slotW c w' -∗ WP c (k ⟨⟩) Q)
      -∗ WP c (Prog.lift (.store (Memref.whole cc0_scratch2) (Rect.unit (s := S1) ![0] S1.size inb) (fun _ => w') Finset.univ hx hm) >>= k) Q) := by
  have h := wp_store (Γ := .empty) (defs := defs₀ (F := F)) 𝒱₀ (c : Thread nD τ) none Set.univ (Q := Q) (m := Memref.whole cc0_scratch2) (r := Rect.unit (s := S1) ![0] S1.size inb)
    (w := fun _ => w') (Mk := Finset.univ) (hx := hx) (hm := hm) (k := k) (f := fun _ => w) (S := Finset.univ) (Finset.subset_univ _)
  have e : ((Memref.whole cc0_scratch2).access (Rect.unit (s := S1) ![0] S1.size inb)).write (Elt F) (fun _ => w) (fun _ => w') Finset.univ = (fun _ => w' : S1.Idx → BitVec 32) := by
    funext y
    have hy : y = ((Memref.whole cc0_scratch2).access (Rect.unit (s := S1) ![0] S1.size inb)).emb z1 := s1_eq _ _
    rw [hy, View.write_emb_of_mem _ _ (Finset.mem_univ _)]
    rfl
  rw [e] at h
  exact h

/-- The tables, held whole. -/
def tabs (c : Dev nD) (T : Tab) : sProp 𝕄 :=
  iprop(pt (F := F) c (Memref.whole main_arg0) T.te ∗ pt (F := F) c (Memref.whole main_arg1) T.tb ∗ pt (F := F) c (Memref.whole main_arg2) T.fl
    ∗ pt (F := F) c (Memref.whole main_arg3) T.ne ∗ pt (F := F) c (Memref.whole main_arg4) T.nv)

/-- The expert a word names. -/
abbrev ex (v : BitVec 32) (h : v.toNat < 32) : Fin 32 := ⟨v.toNat, h⟩

/-- The slot not in use: empty, or a block under way into it. -/
def other (c : Dev nD) (G : BufG (F := F) c) (s : Fin 2) : Option (Fin 32 × Fin 2) → sProp 𝕄
  | none => iprop(src c G 0 ∗ src c G 1 ∗ free2 c s ∗ semVal ((c : Thread nD τ), .dma (sm s)) 0)
  | some (e, j) => flying c G e j s

/-- Slot `s` in use, holding tile `j` of expert `e`. -/
def ring (c : Dev nD) (G : BufG (F := F) c) (s : Fin 2) (e : Fin 32) (j : Fin 2) (n : Option (Fin 32 × Fin 2)) : sProp 𝕄 :=
  iprop(slotW (F := F) c (sw s) ∗ landed c G e j s ∗ semVal ((c : Thread nD τ), .dma (sm s)) 0 ∗ other c G (os s) n)

/-- Nothing started yet. -/
def fresh (c : Dev nD) (G : BufG (F := F) c) : sProp 𝕄 :=
  iprop((∃ w, slotW (F := F) c w) ∗ src c G 0 ∗ src c G 1 ∗ free2 c 0 ∗ free2 c 1
    ∗ semVal ((c : Thread nD τ), .dma (sm 0)) 0 ∗ semVal ((c : Thread nD τ), .dma (sm 1)) 0)

/-- Before the wait: the block on its way into slot `s`, the other slot empty. -/
def waiting (c : Dev nD) (G : BufG (F := F) c) (s : Fin 2) (e : Fin 32) (j : Fin 2) : sProp 𝕄 :=
  iprop(slotW (F := F) c (sw s) ∗ flying c G e j s ∗ free2 c (os s) ∗ semVal ((c : Thread nD τ), .dma (sm (os s))) 0)

/-- Start a whole block into an empty slot. -/
theorem wp_issue2 (c : Dev nD) (G : BufG (F := F) c) (e : Fin 32) (j s : Fin 2)
    {o o' : Fin 4 → ℕ} {ho : ∀ a, o a + S1x1x2048x1024.size a ≤ S2x2x2048x1024.size a} (eo : o = dO s 0)
    {ho' : ∀ a, o' a + S1x1x2048x1024.size a ≤ S2x2x2048x1024.size a} (eo' : o' = dO s 1)
    {p p' : Fin 3 → ℕ} {hp : ∀ a, p a + S1x2048x1024.size a ≤ S32x2048x4096.size a} (ep : p = gO e j 0)
    {hp' : ∀ a, p' a + S1x2048x1024.size a ≤ S32x2048x4096.size a} (ep' : p' = gO e j 1)
    {sem sem' : DmaSem sig} (es : sem = sm s) (es' : sem' = sm s)
    {h1 : (sM p hp).view.WordExact} {h2 : (wM o ho).view.WordExact} {h1' : (sM p' hp').view.WordExact} {h2' : (wM o' ho').view.WordExact}
    {h3 : (DmaTarget.here (wM o ho) : DmaTarget nD τ sig (.tc : Proc τ) .vmem S2048x1024 .f32).Typed .hbm (.dma sem)}
    {h3' : (DmaTarget.here (wM o' ho') : DmaTarget nD τ sig (.tc : Proc τ) .vmem S2048x1024 .f32).Typed .hbm (.dma sem')}
    {α : Type} {k : PUnit → Prog (TpuEff nD τ sig (Elt F) Λ₀ .tc) α} (Q : α → sProp 𝕄) :
    iprop(src c G 0 ∗ src c G 1 ∗ free2 c s ∗ semVal ((c : Thread nD τ), .dma (sm s)) 0)
      ⊢ iprop((flying c G e j s -∗ WP c (k ⟨⟩) Q)
          -∗ WP c (Prog.lift (.enqueueDma (sM p hp) (.here (wM o ho)) (.dma sem) h1 h2 h3)
              >>= fun _ => Prog.lift (.enqueueDma (sM p' hp') (.here (wM o' ho')) (.dma sem') h1' h2' h3') >>= k) Q) := by
  unfold free2
  iintro ⟨HG0, HG1, ⟨HF0, HF1⟩, Hv⟩ Hk
  imod (Transfers.batch_alloc' (Lvl := ℕ) (countersEmb (U := UU nD τ)) (c : Thread nD τ) () NW (deliv c G e j s) (sm := .dma (sm s)) (E := Set.univ)) $$ Hv with HB
  iapply (wp_issue c G e j s 0 eo ep (congrArg SemLoc.dma es) (h1 := h1) (h2 := h2) (h3 := h3) Q) $$ [HG0 HF0 HB]
  · isplitl [HG0]; · iexact HG0
    isplitl [HF0]; · iexact HF0
    iexact HB
  iintro ⟨HR0, HB⟩
  iapply (wp_issue c G e j s 1 eo' ep' (congrArg SemLoc.dma es') (h1 := h1') (h2 := h2') (h3 := h3') Q) $$ [HG1 HF1 HB]
  · isplitl [HG1]; · iexact HG1
    isplitl [HF1]; · iexact HF1
    iexact HB
  iintro ⟨HR1, HB⟩
  iapply Hk
  unfold flying
  isplitl [HB]; · iexact HB
  isplitl [HR0]; · iexact HR0
  iexact HR1

end Cert.Up

end
-- ==== Proof.Up.Access.lean ====
/-
  Loads and stores of what is held: a window by its contents, a landed half by the weights it holds.
-/
module

public import proofs.«01_k».proof.Proof.Up.Step
public import Idealize.ShloMosaic.Lib.Pipeline.Value

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

/-- A load from a window held at `X`. -/
theorem wp_ld (c : Dev nD) {sh : Shape} {e : EltTy} {M : Memref sig .tc .vmem sh e} {r : LoadRect sh} {hl : M.view.LoadsAt r}
    {X : sh.Idx → Elt F e} {α : Type} {k : (r.shape.Idx → Elt F e) → Prog (TpuEff nD τ sig (Elt F) Λ₀ .tc) α} (Q : α → sProp 𝕄) :
    owns (c : Thread nD τ) M fullShare X
      ⊢ iprop((owns (c : Thread nD τ) M fullShare X -∗ WP c (k fun x => X (r.idx x)) Q) -∗ WP c (Prog.lift (.load M r hl) >>= k) Q) := by
  unfold owns
  iintro ⟨%f, %hf, H⟩ Hk
  iapply (wp_load 𝒱₀ (c : Thread nD τ) none Set.univ (m := M) (r := r) (hl := hl) (S := M.view.set) (View.setOn_subset_set _ _)) $$ H
  iintro H
  have e : M.view.readAt (Elt F) r f = fun x => X (r.idx x) := by
    funext x
    rw [View.readAt_apply, hf]
  rw [e]
  iapply Hk
  iexists f
  isplitr; · ipureintro; exact hf
  iexact H

/-- A store into a window: what it leaves is any contents that agree with the payload on the rectangle and with the
    old contents elsewhere. -/
theorem wp_st (c : Dev nD) {sh : Shape} {e : EltTy} {M : Memref sig .tc .vmem sh e} {r : Rect sh} {w : r.shape.Idx → Elt F e}
    {hx : (M.access r).Stores Finset.univ} {hm : Finset.univ = Finset.univ ∨ ∀ a, r.stride a = 1}
    {X : sh.Idx → Elt F e} (Y : sh.Idx → Elt F e) (hin : ∀ z, Y (r.emb z) = w z) (hout : ∀ x, x ∉ r.set → Y x = X x)
    {α : Type} {k : PUnit → Prog (TpuEff nD τ sig (Elt F) Λ₀ .tc) α} (Q : α → sProp 𝕄) :
    owns (c : Thread nD τ) M fullShare X
      ⊢ iprop((owns (c : Thread nD τ) M fullShare Y -∗ WP c (k ⟨⟩) Q)
          -∗ WP c (Prog.lift (.store M r w Finset.univ hx hm) >>= k) Q) := by
  unfold owns
  iintro ⟨%f, %hf, H⟩ Hk
  have e : M.view.read (Elt F) ((M.access r).write (Elt F) f w Finset.univ) = Y := by
    funext x
    by_cases hx : x ∈ r.set
    · obtain ⟨z, -, rfl⟩ := Finset.mem_map.mp (r.map_emb_univ.symm ▸ hx)
      rw [hin]
      exact View.read_slice_write_emb r f w (Finset.mem_univ z)
    · rw [hout x hx, ← hf]
      exact View.read_slice_write_of_not_mem r f w Finset.univ (r.map_emb_univ.symm ▸ hx)
  iapply (wp_store 𝒱₀ (c : Thread nD τ) none Set.univ (m := M) (r := r) (w := w) (Mk := Finset.univ) (hx := hx) (hm := hm) (S := M.view.set) (View.set_slice_subset M.view r)) $$ H
  iintro H
  iapply Hk
  iexists _
  isplitr; · ipureintro; exact e
  iexact H

/-- A landed half as the body reads it. -/
def unsq (w : S2048x1024.Idx → Elt F .f32) : Vec F S1x1x2048x1024 .f32 :=
  shapeCast S1x1x2048x1024 w (by decide)

theorem shapeCast_unsq (w : S2048x1024.Idx → Elt F .f32) (h) : shapeCast S2048x1024 (unsq w) h = w :=
  shapeCast_shapeCast w _ h

theorem wp_ldW (c : Dev nD) (s h : Fin 2) {w : S2048x1024.Idx → Elt F .f32} {off : Fin 4 → ℕ} (ho : off = dO s h)
    {inb : ∀ a, off a + S1x1x2048x1024.size a ≤ S2x2x2048x1024.size a}
    {hl : (Memref.whole cc0_scratch0).view.LoadsAt (Rect.unit (s := S2x2x2048x1024) off S1x1x2048x1024.size inb).toLoadRect}
    {α : Type} {k : (S1x1x2048x1024.Idx → Elt F .f32) → Prog (TpuEff nD τ sig (Elt F) Λ₀ .tc) α} (Q : α → sProp 𝕄) :
    held c s h w ⊢ iprop((held c s h w -∗ WP c (k (unsq w)) Q)
      -∗ WP c (Prog.lift (.load (Memref.whole cc0_scratch0) (Rect.unit (s := S2x2x2048x1024) off S1x1x2048x1024.size inb).toLoadRect hl) >>= k) Q) := by
  subst ho
  unfold held
  iintro ⟨%f, %hf, H⟩ Hk
  iapply (wp_load_rect 𝒱₀ (c : Thread nD τ) none Set.univ (m := Memref.whole cc0_scratch0) (r := Rect.unit (s := S2x2x2048x1024) (dO s h) S1x1x2048x1024.size inb) (hl := hl)
    (S := (dM s h).view.set) (by
      exact (View.set_reshape ((View.whole cc0_scratch0).slice (Rect.unit (s := S2x2x2048x1024) (dO s h) S1x1x2048x1024.size inb)) (s' := S2048x1024) (show S2048x1024.numel = S1x1x2048x1024.numel by decide)).ge)) $$ H
  iintro H
  have e : ((Memref.whole cc0_scratch0).access (Rect.unit (s := S2x2x2048x1024) (dO s h) S1x1x2048x1024.size inb)).read (Elt F) f = unsq w := by
    rw [← hf]
    exact (shapeCast_shapeCast (s := S1x1x2048x1024) (t := S2048x1024) _ (by decide) (by decide)).symm
  rw [e]
  iapply Hk
  iexists f
  isplitr; · ipureintro; exact hf
  iexact H

end Cert.Up

end
-- ==== Proof.Up.Compute.lean ====
/-
  What a grid point computes into its tile of the result: for each number of live blocks of 128 rows, the rows of the
  product with the expert's tile of the weights, and zeros below.
-/
module

public import proofs.«01_k».proof.Proof.Up.Access

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

theorem wp_bnd (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp frame _ Set.univ (p >>= k) Q
  rw [wp_bind frame (wpE (defs₀ (F := F)) 𝒱₀ (c : Thread nD τ) none) Set.univ p k Q]

theorem off24_eq : ∀ s : Fin 2, k0_off24 (sw s) = dO s 0 := by intro s; fin_cases s <;> rfl
theorem off25_eq : ∀ s : Fin 2, k0_off25 (sw s) = dO s 1 := by intro s; fin_cases s <;> rfl
theorem off26_eq : ∀ s : Fin 2, k0_off26 (sw s) = dO s 0 := by intro s; fin_cases s <;> rfl
theorem off27_eq : ∀ s : Fin 2, k0_off27 (sw s) = dO s 1 := by intro s; fin_cases s <;> rfl
theorem off28_eq : ∀ s : Fin 2, k0_off28 (sw s) = dO s 0 := by intro s; fin_cases s <;> rfl
theorem off29_eq : ∀ s : Fin 2, k0_off29 (sw s) = dO s 1 := by intro s; fin_cases s <;> rfl
theorem off30_eq : ∀ s : Fin 2, k0_off30 (sw s) = dO s 0 := by intro s; fin_cases s <;> rfl
theorem off31_eq : ∀ s : Fin 2, k0_off31 (sw s) = dO s 1 := by intro s; fin_cases s <;> rfl

abbrev XT : Type := S4096x128.Idx → BitVec 32
abbrev BT : Type := S1x1x1024.Idx → F .f32
abbrev WT : Type := S2048x1024.Idx → F .f32

/-- A tile's bias as the body reads it. -/
def ldB (b : BT (F := F)) : Vec F S1x1x1024 .f32 :=
  fun x => b ((Rect.unit (s := S1x1x1024) ![0, 0, 0] S1x1x1024.size inb_S1x1x1024_S1x1x1024_0_0_0).toLoadRect.idx x)

theorem mem_rows {n o : ℕ} {inb : ∀ a, (![o, 0] : Fin 2 → ℕ) a + (![n, 1024] : Fin 2 → ℕ) a ≤ S512x1024.size a} (x : S512x1024.Idx) :
    x ∈ (Rect.unit (s := S512x1024) ![o, 0] ![n, 1024] inb).set ↔ o ≤ (x 0).val ∧ (x 0).val < o + n := by
  rw [Rect.mem_set_unit]
  have e1 : (x 1).val < 1024 := (x 1).isLt
  constructor
  · intro H
    exact H 0
  · intro H a
    match a with
    | ⟨0, _⟩ => exact H
    | ⟨1, _⟩ => exact ⟨Nat.zero_le _, by show (x 1).val < 0 + 1024; omega⟩

def ldX128_0 (X : XT) : Vec F S128x128 .i32 :=
  fun x => X ((⟨![0, 0], S128x128.size, ![8, 1], inb_S4096x128_S128x128_0_0_s_8_1⟩ : LoadRect S4096x128).idx x)
def ldX128_1 (X : XT) : Vec F S128x128 .i32 :=
  fun x => X ((⟨![1, 0], S128x128.size, ![8, 1], inb_S4096x128_S128x128_1_0_s_8_1⟩ : LoadRect S4096x128).idx x)
def ldX128_2 (X : XT) : Vec F S128x128 .i32 :=
  fun x => X ((⟨![2, 0], S128x128.size, ![8, 1], inb_S4096x128_S128x128_2_0_s_8_1⟩ : LoadRect S4096x128).idx x)
def ldX128_3 (X : XT) : Vec F S128x128 .i32 :=
  fun x => X ((⟨![3, 0], S128x128.size, ![8, 1], inb_S4096x128_S128x128_3_0_s_8_1⟩ : LoadRect S4096x128).idx x)
def ldX128_4 (X : XT) : Vec F S128x128 .i32 :=
  fun x => X ((⟨![4, 0], S128x128.size, ![8, 1], inb_S4096x128_S128x128_4_0_s_8_1⟩ : LoadRect S4096x128).idx x)
def ldX128_5 (X : XT) : Vec F S128x128 .i32 :=
  fun x => X ((⟨![5, 0], S128x128.size, ![8, 1], inb_S4096x128_S128x128_5_0_s_8_1⟩ : LoadRect S4096x128).idx x)
def ldX128_6 (X : XT) : Vec F S128x128 .i32 :=
  fun x => X ((⟨![6, 0], S128x128.size, ![8, 1], inb_S4096x128_S128x128_6_0_s_8_1⟩ : LoadRect S4096x128).idx x)
def ldX128_7 (X : XT) : Vec F S128x128 .i32 :=
  fun x => X ((⟨![7, 0], S128x128.size, ![8, 1], inb_S4096x128_S128x128_7_0_s_8_1⟩ : LoadRect S4096x128).idx x)

def act128 (X : XT) (wg wu : WT (F := F)) (bg bu : BT (F := F)) : FVec F S128x1024 .bf16 :=
  k0_pay2 (k0_pay17 (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32)
    (k0_pay18 (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32 (unsq wg)) (ldB bg) (unsq wu) (ldB bu)

def row128 (y : S512x1024.Idx) (h : (y 0).val < 128) : S128x1024.Idx := fun a =>
  match a with
  | ⟨0, _⟩ => ⟨(y 0).val, h⟩
  | ⟨1, _⟩ => ⟨(y 1).val, (y 1).isLt⟩

def put128 (A : FVec F S128x1024 .bf16) : FVec F S512x1024 .bf16 :=
  fun y => if h : (y 0).val < 128 then A (row128 y h) else Scalar.ofBits .bf16 0x0000#16

theorem row128_emb (z : S128x1024.Idx) (h) :
    row128 ((Rect.unit (s := S512x1024) ![0, 0] S128x1024.size inb_S512x1024_S128x1024_0_0).emb z) h = z := by
  funext a
  match a with
  | ⟨0, _⟩ => exact Fin.ext (show 0 + 1 * (z 0).val = (z 0).val by omega)
  | ⟨1, _⟩ => exact Fin.ext (show 0 + 1 * (z 1).val = (z 1).val by omega)

theorem in_128 (A : FVec F S128x1024 .bf16) (z : S128x1024.Idx) :
    put128 A ((Rect.unit (s := S512x1024) ![0, 0] S128x1024.size inb_S512x1024_S128x1024_0_0).emb z) = A z := by
  have h : ((Rect.unit (s := S512x1024) ![0, 0] S128x1024.size inb_S512x1024_S128x1024_0_0).emb z 0).val < 128 := by
    show 0 + 1 * (z 0).val < 128
    have : (z 0).val < 128 := (z 0).isLt
    omega
  unfold put128
  rw [dif_pos h, row128_emb]

def mid128 (A : FVec F S128x1024 .bf16) (Z : S512x1024.Idx → F .bf16) : S512x1024.Idx → F .bf16 :=
  fun y => if (y 0).val < 128 then put128 A y else Z y

theorem in1_128 (A : FVec F S128x1024 .bf16) (Z : S512x1024.Idx → F .bf16) (z : S128x1024.Idx) :
    mid128 A Z ((Rect.unit (s := S512x1024) ![0, 0] S128x1024.size inb_S512x1024_S128x1024_0_0).emb z) = A z := by
  have h : ((Rect.unit (s := S512x1024) ![0, 0] S128x1024.size inb_S512x1024_S128x1024_0_0).emb z 0).val < 128 := by
    show 0 + 1 * (z 0).val < 128
    have : (z 0).val < 128 := (z 0).isLt
    omega
  unfold mid128
  rw [if_pos h, in_128]

theorem out1_128 (A : FVec F S128x1024 .bf16) (Z : S512x1024.Idx → F .bf16) (x : S512x1024.Idx)
    (h : x ∉ (Rect.unit (s := S512x1024) ![0, 0] S128x1024.size inb_S512x1024_S128x1024_0_0).set) : mid128 A Z x = Z x := by
  refine if_neg fun hx => h ((mem_rows (n := 128) x).mpr ⟨Nat.zero_le _, by omega⟩)

theorem in2_128 (A : FVec F S128x1024 .bf16) (z : S384x1024.Idx) :
    put128 A ((Rect.unit (s := S512x1024) ![128, 0] S384x1024.size inb_S512x1024_S384x1024_128_0).emb z) = k0_pay3 (F := F) z := by
  have h : ¬((Rect.unit (s := S512x1024) ![128, 0] S384x1024.size inb_S512x1024_S384x1024_128_0).emb z 0).val < 128 := by
    show ¬(128 + 1 * (z 0).val < 128)
    omega
  unfold put128
  rw [dif_neg h]
  rfl

theorem out2_128 (A : FVec F S128x1024 .bf16) (Z : S512x1024.Idx → F .bf16) (x : S512x1024.Idx)
    (h : x ∉ (Rect.unit (s := S512x1024) ![128, 0] S384x1024.size inb_S512x1024_S384x1024_128_0).set) : put128 A x = mid128 A Z x := by
  have e : (x 0).val < 128 := by
    by_contra hx
    have : (x 0).val < 512 := (x 0).isLt
    exact h ((mem_rows (n := 384) x).mpr ⟨by omega, by omega⟩)
  exact (if_pos e).symm

theorem chk_128 (v1 : BitVec 32) (s : Fin 2) : k0_chk6 v1 (sw s) := by
  fin_cases s <;> exact ⟨fun _ => by decide, fun _ => by decide⟩

/-- The case's program. -/
def prog128 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) (k0_h7 : k0_cond7 v1 = 1#1)
    (K : Prog (TpuEff nD τ sig (Elt F) Λ₀ .tc) PUnit) : Prog (TpuEff nD τ sig (Elt F) Λ₀ .tc) PUnit := do
  let ⟨v33, k0_hw6, v38, v39, v40, v41, v44, v47, v50, v53, v56, v59, v62, v65, c_m65536_i32_26⟩ : Σ' (v33 : Elt F .i32) (k0_hw6 : k0_chk6 v1 v33) (v38 : Vec F S128x128 .i32) (v39 : Vec F S128x128 .i32) (v40 : Vec F S128x128 .i32) (v41 : Vec F S128x128 .i32) (v44 : FVec F S128x128 .f32) (v47 : FVec F S128x128 .f32) (v50 : FVec F S128x128 .f32) (v53 : FVec F S128x128 .f32) (v56 : FVec F S128x128 .f32) (v59 : FVec F S128x128 .f32) (v62 : FVec F S128x128 .f32) (v65 : FVec F S128x128 .f32), BitVec 32 ← k0_part2 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1
  let ⟨v106, v110, v111⟩ : Σ' (v106 : FVec F S128x2048 .bf16) (v110 : FVec F S128x1024 .f32), Vec F S1x1x1024 .f32 ← k0_part3 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1 k0_h7 v33 k0_hw6 v38 v39 v40 v41 v44 v47 v50 v53 v56 v59 v62 v65 c_m65536_i32_26
  let v116 : Vec F S1x1x2048x1024 .f32 ← Prog.lift (.load (Memref.whole cc0_scratch0) (Rect.unit (s := S2x2x2048x1024) (k0_off25 v33) S1x1x2048x1024.size (k0_off25_inb v1 v33 k0_hw6 k0_h7)).toLoadRect (View.loadsAt_vmem h_S1x1x2048x1024))
  let v119 : Vec F S1x1x1024 .f32 ← Prog.lift (.load arg9 (Rect.unit (s := S1x1x1024) ![0, 0, 0] S1x1x1024.size inb_S1x1x1024_S1x1x1024_0_0_0).toLoadRect (View.loadsAt_vmem h_S1x1x1024))
  let v137 : Vec F S128x1024 .bf16 ← Prog.lift (.load arg11 (Rect.unit (s := S512x1024) ![0, 0] S128x1024.size inb_S512x1024_S128x1024_0_0).toLoadRect (View.loadsAt_vmem h_S128x1024))
  Prog.lift (.store arg11 (Rect.unit (s := S512x1024) ![0, 0] S128x1024.size inb_S512x1024_S128x1024_0_0) (k0_pay2 v106 v110 v111 v116 v119) Finset.univ (View.stores_vmem h_S128x1024 (harg11.storeExact_slice rfl _ packedbf16_S512x1024_S128x1024_0_0) (fun _ => rfl)) (.inl rfl))
  let v139 : Vec F S384x1024 .bf16 ← Prog.lift (.load arg11 (Rect.unit (s := S512x1024) ![128, 0] S384x1024.size inb_S512x1024_S384x1024_128_0).toLoadRect (View.loadsAt_vmem h_S384x1024))
  Prog.lift (.store arg11 (Rect.unit (s := S512x1024) ![128, 0] S384x1024.size inb_S512x1024_S384x1024_128_0) (k0_pay3 (F := F)) Finset.univ (View.stores_vmem h_S384x1024 (harg11.storeExact_slice rfl _ packedbf16_S512x1024_S384x1024_128_0) (fun _ => rfl)) (.inl rfl))
  K

theorem wp_128 (c : Dev nD) (G : BufG (F := F) c) (e : Fin 32) (j s : Fin 2) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (v1 : BitVec 32) (hc : k0_cond7 v1 = 1#1)
    (K : Prog (TpuEff nD τ sig (Elt F) Λ₀ .tc) PUnit) (X : XT) (bg bu : BT (F := F)) (Z : S512x1024.Idx → F .bf16) (Q : PUnit → sProp 𝕄) :
    iprop(slotW (F := F) c (sw s) ∗ landed c G e j s ∗ owns (c : Thread nD τ) arg7 fullShare X ∗ owns (c : Thread nD τ) arg8 fullShare bg
        ∗ owns (c : Thread nD τ) arg9 fullShare bu ∗ owns (c : Thread nD τ) arg11 fullShare Z
        ∗ ((slotW (F := F) c (sw s) ∗ landed c G e j s ∗ owns (c : Thread nD τ) arg7 fullShare X ∗ owns (c : Thread nD τ) arg8 fullShare bg
            ∗ owns (c : Thread nD τ) arg9 fullShare bu ∗ owns (c : Thread nD τ) arg11 fullShare (put128 (act128 X (wv c G e j 0) (wv c G e j 1) bg bu))) -∗ WP c K Q))
      ⊢ WP c (prog128 i arg7 harg7 arg8 harg8 arg9 harg9 arg11 harg11 v1 hc K) Q := by
  unfold prog128 landed
  rw [k0_part2_eq_skeleton, k0_part3_eq_skeleton]
  unfold k0_part2_skel k0_part3_skel
  iintro ⟨Hs, ⟨Hg, Hu⟩, HX, HB, HU, HZ, Hk⟩
  iapply (wp_bnd c)
  iapply (wp_slotRead c (sw s)) $$ Hs
  iintro Hs
  iapply (wp_asm c (chk_128 v1 s))
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_pure c)
  dsimp only
  iapply (wp_bnd c)
  iapply (wp_ldW c s 0 (off24_eq s)) $$ Hg
  iintro Hg
  iapply (wp_ld c) $$ HB
  iintro HB
  iapply (wp_pure c)
  dsimp only
  iapply (wp_ldW c s 1 (off25_eq s)) $$ Hu
  iintro Hu
  iapply (wp_ld c) $$ HU
  iintro HU
  iapply (wp_ld c) $$ HZ
  iintro HZ
  iapply (wp_st c (mid128 (act128 X (wv c G e j 0) (wv c G e j 1) bg bu) Z) (in1_128 _ Z) (out1_128 _ Z)) $$ HZ
  iintro HZ
  iapply (wp_ld c) $$ HZ
  iintro HZ
  iapply (wp_st c (put128 (act128 X (wv c G e j 0) (wv c G e j 1) bg bu)) (in2_128 _) (out2_128 _ Z)) $$ HZ
  iintro HZ
  iapply Hk
  isplitl [Hs]; · iexact Hs
  isplitl [Hg Hu]
  · isplitl [Hg]; · iexact Hg
    iexact Hu
  isplitl [HX]; · iexact HX
  isplitl [HB]; · iexact HB
  isplitl [HU]; · iexact HU
  iexact HZ

def ldX256_0 (X : XT) : Vec F S256x128 .i32 :=
  fun x => X ((⟨![0, 0], S256x128.size, ![8, 1], inb_S4096x128_S256x128_0_0_s_8_1⟩ : LoadRect S4096x128).idx x)
def ldX256_1 (X : XT) : Vec F S256x128 .i32 :=
  fun x => X ((⟨![1, 0], S256x128.size, ![8, 1], inb_S4096x128_S256x128_1_0_s_8_1⟩ : LoadRect S4096x128).idx x)
def ldX256_2 (X : XT) : Vec F S256x128 .i32 :=
  fun x => X ((⟨![2, 0], S256x128.size, ![8, 1], inb_S4096x128_S256x128_2_0_s_8_1⟩ : LoadRect S4096x128).idx x)
def ldX256_3 (X : XT) : Vec F S256x128 .i32 :=
  fun x => X ((⟨![3, 0], S256x128.size, ![8, 1], inb_S4096x128_S256x128_3_0_s_8_1⟩ : LoadRect S4096x128).idx x)
def ldX256_4 (X : XT) : Vec F S256x128 .i32 :=
  fun x => X ((⟨![4, 0], S256x128.size, ![8, 1], inb_S4096x128_S256x128_4_0_s_8_1⟩ : LoadRect S4096x128).idx x)
def ldX256_5 (X : XT) : Vec F S256x128 .i32 :=
  fun x => X ((⟨![5, 0], S256x128.size, ![8, 1], inb_S4096x128_S256x128_5_0_s_8_1⟩ : LoadRect S4096x128).idx x)
def ldX256_6 (X : XT) : Vec F S256x128 .i32 :=
  fun x => X ((⟨![6, 0], S256x128.size, ![8, 1], inb_S4096x128_S256x128_6_0_s_8_1⟩ : LoadRect S4096x128).idx x)
def ldX256_7 (X : XT) : Vec F S256x128 .i32 :=
  fun x => X ((⟨![7, 0], S256x128.size, ![8, 1], inb_S4096x128_S256x128_7_0_s_8_1⟩ : LoadRect S4096x128).idx x)

def act256 (X : XT) (wg wu : WT (F := F)) (bg bu : BT (F := F)) : FVec F S256x1024 .bf16 :=
  k0_pay4 (k0_pay27 (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32)
    (k0_pay28 (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32 (unsq wg)) (ldB bg) (unsq wu) (ldB bu)

def row256 (y : S512x1024.Idx) (h : (y 0).val < 256) : S256x1024.Idx := fun a =>
  match a with
  | ⟨0, _⟩ => ⟨(y 0).val, h⟩
  | ⟨1, _⟩ => ⟨(y 1).val, (y 1).isLt⟩

def put256 (A : FVec F S256x1024 .bf16) : FVec F S512x1024 .bf16 :=
  fun y => if h : (y 0).val < 256 then A (row256 y h) else Scalar.ofBits .bf16 0x0000#16

theorem row256_emb (z : S256x1024.Idx) (h) :
    row256 ((Rect.unit (s := S512x1024) ![0, 0] S256x1024.size inb_S512x1024_S256x1024_0_0).emb z) h = z := by
  funext a
  match a with
  | ⟨0, _⟩ => exact Fin.ext (show 0 + 1 * (z 0).val = (z 0).val by omega)
  | ⟨1, _⟩ => exact Fin.ext (show 0 + 1 * (z 1).val = (z 1).val by omega)

theorem in_256 (A : FVec F S256x1024 .bf16) (z : S256x1024.Idx) :
    put256 A ((Rect.unit (s := S512x1024) ![0, 0] S256x1024.size inb_S512x1024_S256x1024_0_0).emb z) = A z := by
  have h : ((Rect.unit (s := S512x1024) ![0, 0] S256x1024.size inb_S512x1024_S256x1024_0_0).emb z 0).val < 256 := by
    show 0 + 1 * (z 0).val < 256
    have : (z 0).val < 256 := (z 0).isLt
    omega
  unfold put256
  rw [dif_pos h, row256_emb]

def mid256 (A : FVec F S256x1024 .bf16) (Z : S512x1024.Idx → F .bf16) : S512x1024.Idx → F .bf16 :=
  fun y => if (y 0).val < 256 then put256 A y else Z y

theorem in1_256 (A : FVec F S256x1024 .bf16) (Z : S512x1024.Idx → F .bf16) (z : S256x1024.Idx) :
    mid256 A Z ((Rect.unit (s := S512x1024) ![0, 0] S256x1024.size inb_S512x1024_S256x1024_0_0).emb z) = A z := by
  have h : ((Rect.unit (s := S512x1024) ![0, 0] S256x1024.size inb_S512x1024_S256x1024_0_0).emb z 0).val < 256 := by
    show 0 + 1 * (z 0).val < 256
    have : (z 0).val < 256 := (z 0).isLt
    omega
  unfold mid256
  rw [if_pos h, in_256]

theorem out1_256 (A : FVec F S256x1024 .bf16) (Z : S512x1024.Idx → F .bf16) (x : S512x1024.Idx)
    (h : x ∉ (Rect.unit (s := S512x1024) ![0, 0] S256x1024.size inb_S512x1024_S256x1024_0_0).set) : mid256 A Z x = Z x := by
  refine if_neg fun hx => h ((mem_rows (n := 256) x).mpr ⟨Nat.zero_le _, by omega⟩)

theorem in2_256 (A : FVec F S256x1024 .bf16) (z : S256x1024.Idx) :
    put256 A ((Rect.unit (s := S512x1024) ![256, 0] S256x1024.size inb_S512x1024_S256x1024_256_0).emb z) = k0_pay5 (F := F) z := by
  have h : ¬((Rect.unit (s := S512x1024) ![256, 0] S256x1024.size inb_S512x1024_S256x1024_256_0).emb z 0).val < 256 := by
    show ¬(256 + 1 * (z 0).val < 256)
    omega
  unfold put256
  rw [dif_neg h]
  rfl

theorem out2_256 (A : FVec F S256x1024 .bf16) (Z : S512x1024.Idx → F .bf16) (x : S512x1024.Idx)
    (h : x ∉ (Rect.unit (s := S512x1024) ![256, 0] S256x1024.size inb_S512x1024_S256x1024_256_0).set) : put256 A x = mid256 A Z x := by
  have e : (x 0).val < 256 := by
    by_contra hx
    have : (x 0).val < 512 := (x 0).isLt
    exact h ((mem_rows (n := 256) x).mpr ⟨by omega, by omega⟩)
  exact (if_pos e).symm

theorem chk_256 (v1 : BitVec 32) (s : Fin 2) : k0_chk7 v1 (sw s) := by
  fin_cases s <;> exact ⟨fun _ => by decide, fun _ => by decide⟩

/-- The case's program. -/
def prog256 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) (k0_h8 : k0_cond8 v1 = 1#1)
    (K : Prog (TpuEff nD τ sig (Elt F) Λ₀ .tc) PUnit) : Prog (TpuEff nD τ sig (Elt F) Λ₀ .tc) PUnit := do
  let ⟨v33, k0_hw7, v38, v39, v40, v41, v44, v47, v50, v53, v56, v59, v62, v65, c_m65536_i32_26⟩ : Σ' (v33 : Elt F .i32) (k0_hw7 : k0_chk7 v1 v33) (v38 : Vec F S256x128 .i32) (v39 : Vec F S256x128 .i32) (v40 : Vec F S256x128 .i32) (v41 : Vec F S256x128 .i32) (v44 : FVec F S256x128 .f32) (v47 : FVec F S256x128 .f32) (v50 : FVec F S256x128 .f32) (v53 : FVec F S256x128 .f32) (v56 : FVec F S256x128 .f32) (v59 : FVec F S256x128 .f32) (v62 : FVec F S256x128 .f32) (v65 : FVec F S256x128 .f32), BitVec 32 ← k0_part4 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1
  let ⟨v106, v110, v111⟩ : Σ' (v106 : FVec F S256x2048 .bf16) (v110 : FVec F S256x1024 .f32), Vec F S1x1x1024 .f32 ← k0_part5 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1 k0_h8 v33 k0_hw7 v38 v39 v40 v41 v44 v47 v50 v53 v56 v59 v62 v65 c_m65536_i32_26
  let v116 : Vec F S1x1x2048x1024 .f32 ← Prog.lift (.load (Memref.whole cc0_scratch0) (Rect.unit (s := S2x2x2048x1024) (k0_off27 v33) S1x1x2048x1024.size (k0_off27_inb v1 v33 k0_hw7 k0_h8)).toLoadRect (View.loadsAt_vmem h_S1x1x2048x1024))
  let v119 : Vec F S1x1x1024 .f32 ← Prog.lift (.load arg9 (Rect.unit (s := S1x1x1024) ![0, 0, 0] S1x1x1024.size inb_S1x1x1024_S1x1x1024_0_0_0).toLoadRect (View.loadsAt_vmem h_S1x1x1024))
  let v137 : Vec F S256x1024 .bf16 ← Prog.lift (.load arg11 (Rect.unit (s := S512x1024) ![0, 0] S256x1024.size inb_S512x1024_S256x1024_0_0).toLoadRect (View.loadsAt_vmem h_S256x1024))
  Prog.lift (.store arg11 (Rect.unit (s := S512x1024) ![0, 0] S256x1024.size inb_S512x1024_S256x1024_0_0) (k0_pay4 v106 v110 v111 v116 v119) Finset.univ (View.stores_vmem h_S256x1024 (harg11.storeExact_slice rfl _ packedbf16_S512x1024_S256x1024_0_0) (fun _ => rfl)) (.inl rfl))
  let v139 : Vec F S256x1024 .bf16 ← Prog.lift (.load arg11 (Rect.unit (s := S512x1024) ![256, 0] S256x1024.size inb_S512x1024_S256x1024_256_0).toLoadRect (View.loadsAt_vmem h_S256x1024))
  Prog.lift (.store arg11 (Rect.unit (s := S512x1024) ![256, 0] S256x1024.size inb_S512x1024_S256x1024_256_0) (k0_pay5 (F := F)) Finset.univ (View.stores_vmem h_S256x1024 (harg11.storeExact_slice rfl _ packedbf16_S512x1024_S256x1024_256_0) (fun _ => rfl)) (.inl rfl))
  K

theorem wp_256 (c : Dev nD) (G : BufG (F := F) c) (e : Fin 32) (j s : Fin 2) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (v1 : BitVec 32) (hc : k0_cond8 v1 = 1#1)
    (K : Prog (TpuEff nD τ sig (Elt F) Λ₀ .tc) PUnit) (X : XT) (bg bu : BT (F := F)) (Z : S512x1024.Idx → F .bf16) (Q : PUnit → sProp 𝕄) :
    iprop(slotW (F := F) c (sw s) ∗ landed c G e j s ∗ owns (c : Thread nD τ) arg7 fullShare X ∗ owns (c : Thread nD τ) arg8 fullShare bg
        ∗ owns (c : Thread nD τ) arg9 fullShare bu ∗ owns (c : Thread nD τ) arg11 fullShare Z
        ∗ ((slotW (F := F) c (sw s) ∗ landed c G e j s ∗ owns (c : Thread nD τ) arg7 fullShare X ∗ owns (c : Thread nD τ) arg8 fullShare bg
            ∗ owns (c : Thread nD τ) arg9 fullShare bu ∗ owns (c : Thread nD τ) arg11 fullShare (put256 (act256 X (wv c G e j 0) (wv c G e j 1) bg bu))) -∗ WP c K Q))
      ⊢ WP c (prog256 i arg7 harg7 arg8 harg8 arg9 harg9 arg11 harg11 v1 hc K) Q := by
  unfold prog256 landed
  rw [k0_part4_eq_skeleton, k0_part5_eq_skeleton]
  unfold k0_part4_skel k0_part5_skel
  iintro ⟨Hs, ⟨Hg, Hu⟩, HX, HB, HU, HZ, Hk⟩
  iapply (wp_bnd c)
  iapply (wp_slotRead c (sw s)) $$ Hs
  iintro Hs
  iapply (wp_asm c (chk_256 v1 s))
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_pure c)
  dsimp only
  iapply (wp_bnd c)
  iapply (wp_ldW c s 0 (off26_eq s)) $$ Hg
  iintro Hg
  iapply (wp_ld c) $$ HB
  iintro HB
  iapply (wp_pure c)
  dsimp only
  iapply (wp_ldW c s 1 (off27_eq s)) $$ Hu
  iintro Hu
  iapply (wp_ld c) $$ HU
  iintro HU
  iapply (wp_ld c) $$ HZ
  iintro HZ
  iapply (wp_st c (mid256 (act256 X (wv c G e j 0) (wv c G e j 1) bg bu) Z) (in1_256 _ Z) (out1_256 _ Z)) $$ HZ
  iintro HZ
  iapply (wp_ld c) $$ HZ
  iintro HZ
  iapply (wp_st c (put256 (act256 X (wv c G e j 0) (wv c G e j 1) bg bu)) (in2_256 _) (out2_256 _ Z)) $$ HZ
  iintro HZ
  iapply Hk
  isplitl [Hs]; · iexact Hs
  isplitl [Hg Hu]
  · isplitl [Hg]; · iexact Hg
    iexact Hu
  isplitl [HX]; · iexact HX
  isplitl [HB]; · iexact HB
  isplitl [HU]; · iexact HU
  iexact HZ

def ldX384_0 (X : XT) : Vec F S384x128 .i32 :=
  fun x => X ((⟨![0, 0], S384x128.size, ![8, 1], inb_S4096x128_S384x128_0_0_s_8_1⟩ : LoadRect S4096x128).idx x)
def ldX384_1 (X : XT) : Vec F S384x128 .i32 :=
  fun x => X ((⟨![1, 0], S384x128.size, ![8, 1], inb_S4096x128_S384x128_1_0_s_8_1⟩ : LoadRect S4096x128).idx x)
def ldX384_2 (X : XT) : Vec F S384x128 .i32 :=
  fun x => X ((⟨![2, 0], S384x128.size, ![8, 1], inb_S4096x128_S384x128_2_0_s_8_1⟩ : LoadRect S4096x128).idx x)
def ldX384_3 (X : XT) : Vec F S384x128 .i32 :=
  fun x => X ((⟨![3, 0], S384x128.size, ![8, 1], inb_S4096x128_S384x128_3_0_s_8_1⟩ : LoadRect S4096x128).idx x)
def ldX384_4 (X : XT) : Vec F S384x128 .i32 :=
  fun x => X ((⟨![4, 0], S384x128.size, ![8, 1], inb_S4096x128_S384x128_4_0_s_8_1⟩ : LoadRect S4096x128).idx x)
def ldX384_5 (X : XT) : Vec F S384x128 .i32 :=
  fun x => X ((⟨![5, 0], S384x128.size, ![8, 1], inb_S4096x128_S384x128_5_0_s_8_1⟩ : LoadRect S4096x128).idx x)
def ldX384_6 (X : XT) : Vec F S384x128 .i32 :=
  fun x => X ((⟨![6, 0], S384x128.size, ![8, 1], inb_S4096x128_S384x128_6_0_s_8_1⟩ : LoadRect S4096x128).idx x)
def ldX384_7 (X : XT) : Vec F S384x128 .i32 :=
  fun x => X ((⟨![7, 0], S384x128.size, ![8, 1], inb_S4096x128_S384x128_7_0_s_8_1⟩ : LoadRect S4096x128).idx x)

def act384 (X : XT) (wg wu : WT (F := F)) (bg bu : BT (F := F)) : FVec F S384x1024 .bf16 :=
  k0_pay6 (k0_pay37 (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32)
    (k0_pay38 (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32 (unsq wg)) (ldB bg) (unsq wu) (ldB bu)

def row384 (y : S512x1024.Idx) (h : (y 0).val < 384) : S384x1024.Idx := fun a =>
  match a with
  | ⟨0, _⟩ => ⟨(y 0).val, h⟩
  | ⟨1, _⟩ => ⟨(y 1).val, (y 1).isLt⟩

def put384 (A : FVec F S384x1024 .bf16) : FVec F S512x1024 .bf16 :=
  fun y => if h : (y 0).val < 384 then A (row384 y h) else Scalar.ofBits .bf16 0x0000#16

theorem row384_emb (z : S384x1024.Idx) (h) :
    row384 ((Rect.unit (s := S512x1024) ![0, 0] S384x1024.size inb_S512x1024_S384x1024_0_0).emb z) h = z := by
  funext a
  match a with
  | ⟨0, _⟩ => exact Fin.ext (show 0 + 1 * (z 0).val = (z 0).val by omega)
  | ⟨1, _⟩ => exact Fin.ext (show 0 + 1 * (z 1).val = (z 1).val by omega)

theorem in_384 (A : FVec F S384x1024 .bf16) (z : S384x1024.Idx) :
    put384 A ((Rect.unit (s := S512x1024) ![0, 0] S384x1024.size inb_S512x1024_S384x1024_0_0).emb z) = A z := by
  have h : ((Rect.unit (s := S512x1024) ![0, 0] S384x1024.size inb_S512x1024_S384x1024_0_0).emb z 0).val < 384 := by
    show 0 + 1 * (z 0).val < 384
    have : (z 0).val < 384 := (z 0).isLt
    omega
  unfold put384
  rw [dif_pos h, row384_emb]

def mid384 (A : FVec F S384x1024 .bf16) (Z : S512x1024.Idx → F .bf16) : S512x1024.Idx → F .bf16 :=
  fun y => if (y 0).val < 384 then put384 A y else Z y

theorem in1_384 (A : FVec F S384x1024 .bf16) (Z : S512x1024.Idx → F .bf16) (z : S384x1024.Idx) :
    mid384 A Z ((Rect.unit (s := S512x1024) ![0, 0] S384x1024.size inb_S512x1024_S384x1024_0_0).emb z) = A z := by
  have h : ((Rect.unit (s := S512x1024) ![0, 0] S384x1024.size inb_S512x1024_S384x1024_0_0).emb z 0).val < 384 := by
    show 0 + 1 * (z 0).val < 384
    have : (z 0).val < 384 := (z 0).isLt
    omega
  unfold mid384
  rw [if_pos h, in_384]

theorem out1_384 (A : FVec F S384x1024 .bf16) (Z : S512x1024.Idx → F .bf16) (x : S512x1024.Idx)
    (h : x ∉ (Rect.unit (s := S512x1024) ![0, 0] S384x1024.size inb_S512x1024_S384x1024_0_0).set) : mid384 A Z x = Z x := by
  refine if_neg fun hx => h ((mem_rows (n := 384) x).mpr ⟨Nat.zero_le _, by omega⟩)

theorem in2_384 (A : FVec F S384x1024 .bf16) (z : S128x1024.Idx) :
    put384 A ((Rect.unit (s := S512x1024) ![384, 0] S128x1024.size inb_S512x1024_S128x1024_384_0).emb z) = k0_pay7 (F := F) z := by
  have h : ¬((Rect.unit (s := S512x1024) ![384, 0] S128x1024.size inb_S512x1024_S128x1024_384_0).emb z 0).val < 384 := by
    show ¬(384 + 1 * (z 0).val < 384)
    omega
  unfold put384
  rw [dif_neg h]
  rfl

theorem out2_384 (A : FVec F S384x1024 .bf16) (Z : S512x1024.Idx → F .bf16) (x : S512x1024.Idx)
    (h : x ∉ (Rect.unit (s := S512x1024) ![384, 0] S128x1024.size inb_S512x1024_S128x1024_384_0).set) : put384 A x = mid384 A Z x := by
  have e : (x 0).val < 384 := by
    by_contra hx
    have : (x 0).val < 512 := (x 0).isLt
    exact h ((mem_rows (n := 128) x).mpr ⟨by omega, by omega⟩)
  exact (if_pos e).symm

theorem chk_384 (v1 : BitVec 32) (s : Fin 2) : k0_chk8 v1 (sw s) := by
  fin_cases s <;> exact ⟨fun _ => by decide, fun _ => by decide⟩

/-- The case's program. -/
def prog384 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) (k0_h9 : k0_cond9 v1 = 1#1)
    (K : Prog (TpuEff nD τ sig (Elt F) Λ₀ .tc) PUnit) : Prog (TpuEff nD τ sig (Elt F) Λ₀ .tc) PUnit := do
  let ⟨v33, k0_hw8, v38, v39, v40, v41, v44, v47, v50, v53, v56, v59, v62, v65, c_m65536_i32_26⟩ : Σ' (v33 : Elt F .i32) (k0_hw8 : k0_chk8 v1 v33) (v38 : Vec F S384x128 .i32) (v39 : Vec F S384x128 .i32) (v40 : Vec F S384x128 .i32) (v41 : Vec F S384x128 .i32) (v44 : FVec F S384x128 .f32) (v47 : FVec F S384x128 .f32) (v50 : FVec F S384x128 .f32) (v53 : FVec F S384x128 .f32) (v56 : FVec F S384x128 .f32) (v59 : FVec F S384x128 .f32) (v62 : FVec F S384x128 .f32) (v65 : FVec F S384x128 .f32), BitVec 32 ← k0_part6 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1
  let ⟨v106, v110, v111⟩ : Σ' (v106 : FVec F S384x2048 .bf16) (v110 : FVec F S384x1024 .f32), Vec F S1x1x1024 .f32 ← k0_part7 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1 k0_h9 v33 k0_hw8 v38 v39 v40 v41 v44 v47 v50 v53 v56 v59 v62 v65 c_m65536_i32_26
  let v116 : Vec F S1x1x2048x1024 .f32 ← Prog.lift (.load (Memref.whole cc0_scratch0) (Rect.unit (s := S2x2x2048x1024) (k0_off29 v33) S1x1x2048x1024.size (k0_off29_inb v1 v33 k0_hw8 k0_h9)).toLoadRect (View.loadsAt_vmem h_S1x1x2048x1024))
  let v119 : Vec F S1x1x1024 .f32 ← Prog.lift (.load arg9 (Rect.unit (s := S1x1x1024) ![0, 0, 0] S1x1x1024.size inb_S1x1x1024_S1x1x1024_0_0_0).toLoadRect (View.loadsAt_vmem h_S1x1x1024))
  let v137 : Vec F S384x1024 .bf16 ← Prog.lift (.load arg11 (Rect.unit (s := S512x1024) ![0, 0] S384x1024.size inb_S512x1024_S384x1024_0_0).toLoadRect (View.loadsAt_vmem h_S384x1024))
  Prog.lift (.store arg11 (Rect.unit (s := S512x1024) ![0, 0] S384x1024.size inb_S512x1024_S384x1024_0_0) (k0_pay6 v106 v110 v111 v116 v119) Finset.univ (View.stores_vmem h_S384x1024 (harg11.storeExact_slice rfl _ packedbf16_S512x1024_S384x1024_0_0) (fun _ => rfl)) (.inl rfl))
  let v139 : Vec F S128x1024 .bf16 ← Prog.lift (.load arg11 (Rect.unit (s := S512x1024) ![384, 0] S128x1024.size inb_S512x1024_S128x1024_384_0).toLoadRect (View.loadsAt_vmem h_S128x1024))
  Prog.lift (.store arg11 (Rect.unit (s := S512x1024) ![384, 0] S128x1024.size inb_S512x1024_S128x1024_384_0) (k0_pay7 (F := F)) Finset.univ (View.stores_vmem h_S128x1024 (harg11.storeExact_slice rfl _ packedbf16_S512x1024_S128x1024_384_0) (fun _ => rfl)) (.inl rfl))
  K

theorem wp_384 (c : Dev nD) (G : BufG (F := F) c) (e : Fin 32) (j s : Fin 2) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (v1 : BitVec 32) (hc : k0_cond9 v1 = 1#1)
    (K : Prog (TpuEff nD τ sig (Elt F) Λ₀ .tc) PUnit) (X : XT) (bg bu : BT (F := F)) (Z : S512x1024.Idx → F .bf16) (Q : PUnit → sProp 𝕄) :
    iprop(slotW (F := F) c (sw s) ∗ landed c G e j s ∗ owns (c : Thread nD τ) arg7 fullShare X ∗ owns (c : Thread nD τ) arg8 fullShare bg
        ∗ owns (c : Thread nD τ) arg9 fullShare bu ∗ owns (c : Thread nD τ) arg11 fullShare Z
        ∗ ((slotW (F := F) c (sw s) ∗ landed c G e j s ∗ owns (c : Thread nD τ) arg7 fullShare X ∗ owns (c : Thread nD τ) arg8 fullShare bg
            ∗ owns (c : Thread nD τ) arg9 fullShare bu ∗ owns (c : Thread nD τ) arg11 fullShare (put384 (act384 X (wv c G e j 0) (wv c G e j 1) bg bu))) -∗ WP c K Q))
      ⊢ WP c (prog384 i arg7 harg7 arg8 harg8 arg9 harg9 arg11 harg11 v1 hc K) Q := by
  unfold prog384 landed
  rw [k0_part6_eq_skeleton, k0_part7_eq_skeleton]
  unfold k0_part6_skel k0_part7_skel
  iintro ⟨Hs, ⟨Hg, Hu⟩, HX, HB, HU, HZ, Hk⟩
  iapply (wp_bnd c)
  iapply (wp_slotRead c (sw s)) $$ Hs
  iintro Hs
  iapply (wp_asm c (chk_384 v1 s))
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_pure c)
  dsimp only
  iapply (wp_bnd c)
  iapply (wp_ldW c s 0 (off28_eq s)) $$ Hg
  iintro Hg
  iapply (wp_ld c) $$ HB
  iintro HB
  iapply (wp_pure c)
  dsimp only
  iapply (wp_ldW c s 1 (off29_eq s)) $$ Hu
  iintro Hu
  iapply (wp_ld c) $$ HU
  iintro HU
  iapply (wp_ld c) $$ HZ
  iintro HZ
  iapply (wp_st c (mid384 (act384 X (wv c G e j 0) (wv c G e j 1) bg bu) Z) (in1_384 _ Z) (out1_384 _ Z)) $$ HZ
  iintro HZ
  iapply (wp_ld c) $$ HZ
  iintro HZ
  iapply (wp_st c (put384 (act384 X (wv c G e j 0) (wv c G e j 1) bg bu)) (in2_384 _) (out2_384 _ Z)) $$ HZ
  iintro HZ
  iapply Hk
  isplitl [Hs]; · iexact Hs
  isplitl [Hg Hu]
  · isplitl [Hg]; · iexact Hg
    iexact Hu
  isplitl [HX]; · iexact HX
  isplitl [HB]; · iexact HB
  isplitl [HU]; · iexact HU
  iexact HZ

def ldX512_0 (X : XT) : Vec F S512x128 .i32 :=
  fun x => X ((⟨![0, 0], S512x128.size, ![8, 1], inb_S4096x128_S512x128_0_0_s_8_1⟩ : LoadRect S4096x128).idx x)
def ldX512_1 (X : XT) : Vec F S512x128 .i32 :=
  fun x => X ((⟨![1, 0], S512x128.size, ![8, 1], inb_S4096x128_S512x128_1_0_s_8_1⟩ : LoadRect S4096x128).idx x)
def ldX512_2 (X : XT) : Vec F S512x128 .i32 :=
  fun x => X ((⟨![2, 0], S512x128.size, ![8, 1], inb_S4096x128_S512x128_2_0_s_8_1⟩ : LoadRect S4096x128).idx x)
def ldX512_3 (X : XT) : Vec F S512x128 .i32 :=
  fun x => X ((⟨![3, 0], S512x128.size, ![8, 1], inb_S4096x128_S512x128_3_0_s_8_1⟩ : LoadRect S4096x128).idx x)
def ldX512_4 (X : XT) : Vec F S512x128 .i32 :=
  fun x => X ((⟨![4, 0], S512x128.size, ![8, 1], inb_S4096x128_S512x128_4_0_s_8_1⟩ : LoadRect S4096x128).idx x)
def ldX512_5 (X : XT) : Vec F S512x128 .i32 :=
  fun x => X ((⟨![5, 0], S512x128.size, ![8, 1], inb_S4096x128_S512x128_5_0_s_8_1⟩ : LoadRect S4096x128).idx x)
def ldX512_6 (X : XT) : Vec F S512x128 .i32 :=
  fun x => X ((⟨![6, 0], S512x128.size, ![8, 1], inb_S4096x128_S512x128_6_0_s_8_1⟩ : LoadRect S4096x128).idx x)
def ldX512_7 (X : XT) : Vec F S512x128 .i32 :=
  fun x => X ((⟨![7, 0], S512x128.size, ![8, 1], inb_S4096x128_S512x128_7_0_s_8_1⟩ : LoadRect S4096x128).idx x)

def act512 (X : XT) (wg wu : WT (F := F)) (bg bu : BT (F := F)) : FVec F S512x1024 .bf16 :=
  k0_pay8 (k0_pay47 (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32)
    (k0_pay48 (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32 (unsq wg)) (ldB bg) (unsq wu) (ldB bu)

def row512 (y : S512x1024.Idx) (h : (y 0).val < 512) : S512x1024.Idx := fun a =>
  match a with
  | ⟨0, _⟩ => ⟨(y 0).val, h⟩
  | ⟨1, _⟩ => ⟨(y 1).val, (y 1).isLt⟩

def put512 (A : FVec F S512x1024 .bf16) : FVec F S512x1024 .bf16 :=
  fun y => if h : (y 0).val < 512 then A (row512 y h) else Scalar.ofBits .bf16 0x0000#16

theorem row512_emb (z : S512x1024.Idx) (h) :
    row512 ((Rect.unit (s := S512x1024) ![0, 0] S512x1024.size inb_S512x1024_S512x1024_0_0).emb z) h = z := by
  funext a
  match a with
  | ⟨0, _⟩ => exact Fin.ext (show 0 + 1 * (z 0).val = (z 0).val by omega)
  | ⟨1, _⟩ => exact Fin.ext (show 0 + 1 * (z 1).val = (z 1).val by omega)

theorem in_512 (A : FVec F S512x1024 .bf16) (z : S512x1024.Idx) :
    put512 A ((Rect.unit (s := S512x1024) ![0, 0] S512x1024.size inb_S512x1024_S512x1024_0_0).emb z) = A z := by
  have h : ((Rect.unit (s := S512x1024) ![0, 0] S512x1024.size inb_S512x1024_S512x1024_0_0).emb z 0).val < 512 := by
    show 0 + 1 * (z 0).val < 512
    have : (z 0).val < 512 := (z 0).isLt
    omega
  unfold put512
  rw [dif_pos h, row512_emb]

theorem out_512 (A : FVec F S512x1024 .bf16) (Z : S512x1024.Idx → F .bf16) (x : S512x1024.Idx)
    (h : x ∉ (Rect.unit (s := S512x1024) ![0, 0] S512x1024.size inb_S512x1024_S512x1024_0_0).set) : put512 A x = Z x := by
  have : (x 0).val < 512 := (x 0).isLt
  exact absurd ((mem_rows (n := 512) x).mpr ⟨Nat.zero_le _, by omega⟩) h

theorem chk_512 (v1 : BitVec 32) (s : Fin 2) : k0_chk9 v1 (sw s) := by
  fin_cases s <;> exact ⟨fun _ => by decide, fun _ => by decide⟩

/-- The case's program. -/
def prog512 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) (k0_h10 : k0_cond10 v1 = 1#1)
    (K : Prog (TpuEff nD τ sig (Elt F) Λ₀ .tc) PUnit) : Prog (TpuEff nD τ sig (Elt F) Λ₀ .tc) PUnit := do
  let ⟨v33, k0_hw9, v38, v39, v40, v41, v44, v47, v50, v53, v56, v59, v62, v65, c_m65536_i32_26⟩ : Σ' (v33 : Elt F .i32) (k0_hw9 : k0_chk9 v1 v33) (v38 : Vec F S512x128 .i32) (v39 : Vec F S512x128 .i32) (v40 : Vec F S512x128 .i32) (v41 : Vec F S512x128 .i32) (v44 : FVec F S512x128 .f32) (v47 : FVec F S512x128 .f32) (v50 : FVec F S512x128 .f32) (v53 : FVec F S512x128 .f32) (v56 : FVec F S512x128 .f32) (v59 : FVec F S512x128 .f32) (v62 : FVec F S512x128 .f32) (v65 : FVec F S512x128 .f32), BitVec 32 ← k0_part8 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1
  let ⟨v106, v110, v111⟩ : Σ' (v106 : FVec F S512x2048 .bf16) (v110 : FVec F S512x1024 .f32), Vec F S1x1x1024 .f32 ← k0_part9 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) v1 k0_h10 v33 k0_hw9 v38 v39 v40 v41 v44 v47 v50 v53 v56 v59 v62 v65 c_m65536_i32_26
  let v116 : Vec F S1x1x2048x1024 .f32 ← Prog.lift (.load (Memref.whole cc0_scratch0) (Rect.unit (s := S2x2x2048x1024) (k0_off31 v33) S1x1x2048x1024.size (k0_off31_inb v1 v33 k0_hw9 k0_h10)).toLoadRect (View.loadsAt_vmem h_S1x1x2048x1024))
  let v119 : Vec F S1x1x1024 .f32 ← Prog.lift (.load arg9 (Rect.unit (s := S1x1x1024) ![0, 0, 0] S1x1x1024.size inb_S1x1x1024_S1x1x1024_0_0_0).toLoadRect (View.loadsAt_vmem h_S1x1x1024))
  let v137 : Vec F S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay8 v106 v110 v111 v116 v119) Finset.univ (View.stores_vmem h_S512x1024 (harg11.storeExact_slice rfl _ packedbf16_S512x1024_S512x1024_0_0) (fun _ => rfl)) (.inl rfl))
  K

theorem wp_512 (c : Dev nD) (G : BufG (F := F) c) (e : Fin 32) (j s : Fin 2) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (v1 : BitVec 32) (hc : k0_cond10 v1 = 1#1)
    (K : Prog (TpuEff nD τ sig (Elt F) Λ₀ .tc) PUnit) (X : XT) (bg bu : BT (F := F)) (Z : S512x1024.Idx → F .bf16) (Q : PUnit → sProp 𝕄) :
    iprop(slotW (F := F) c (sw s) ∗ landed c G e j s ∗ owns (c : Thread nD τ) arg7 fullShare X ∗ owns (c : Thread nD τ) arg8 fullShare bg
        ∗ owns (c : Thread nD τ) arg9 fullShare bu ∗ owns (c : Thread nD τ) arg11 fullShare Z
        ∗ ((slotW (F := F) c (sw s) ∗ landed c G e j s ∗ owns (c : Thread nD τ) arg7 fullShare X ∗ owns (c : Thread nD τ) arg8 fullShare bg
            ∗ owns (c : Thread nD τ) arg9 fullShare bu ∗ owns (c : Thread nD τ) arg11 fullShare (put512 (act512 X (wv c G e j 0) (wv c G e j 1) bg bu))) -∗ WP c K Q))
      ⊢ WP c (prog512 i arg7 harg7 arg8 harg8 arg9 harg9 arg11 harg11 v1 hc K) Q := by
  unfold prog512 landed
  rw [k0_part8_eq_skeleton, k0_part9_eq_skeleton]
  unfold k0_part8_skel k0_part9_skel
  iintro ⟨Hs, ⟨Hg, Hu⟩, HX, HB, HU, HZ, Hk⟩
  iapply (wp_bnd c)
  iapply (wp_slotRead c (sw s)) $$ Hs
  iintro Hs
  iapply (wp_asm c (chk_512 v1 s))
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_ld c) $$ HX
  iintro HX
  iapply (wp_pure c)
  dsimp only
  iapply (wp_bnd c)
  iapply (wp_ldW c s 0 (off30_eq s)) $$ Hg
  iintro Hg
  iapply (wp_ld c) $$ HB
  iintro HB
  iapply (wp_pure c)
  dsimp only
  iapply (wp_ldW c s 1 (off31_eq s)) $$ Hu
  iintro Hu
  iapply (wp_ld c) $$ HU
  iintro HU
  iapply (wp_ld c) $$ HZ
  iintro HZ
  iapply (wp_st c (put512 (act512 X (wv c G e j 0) (wv c G e j 1) bg bu)) (in_512 _) (out_512 _ Z)) $$ HZ
  iintro HZ
  iapply Hk
  isplitl [Hs]; · iexact Hs
  isplitl [Hg Hu]
  · isplitl [Hg]; · iexact Hg
    iexact Hu
  isplitl [HX]; · iexact HX
  isplitl [HB]; · iexact HB
  isplitl [HU]; · iexact HU
  iexact HZ

end Cert.Up

end
-- ==== Proof.Up.Advance.lean ====
/-
  The advance of the weights at a grid point whose flag is set: the first block started, the slot changed, the block
  waited for, the next one started.
-/
module

public import proofs.«01_k».proof.Proof.Up.Step

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

/-- The first grid point. -/
abbrev isFirst (i : grid0.Coords) : Prop := gj i = 0 ∧ gt i = 0

/-- The ring before a point whose flag is set. -/
def before (c : Dev nD) (G : BufG (F := F) c) (i : grid0.Coords) (e : Fin 32) : sProp 𝕄 :=
  iprop((⌜isFirst i⌝ ∗ fresh c G) ∨ (⌜¬ isFirst i⌝ ∗ ∃ s e0 j0, ring c G s e0 j0 (some (e, gj i))))

/-- After the first block is started. -/
def started (c : Dev nD) (G : BufG (F := F) c) (i : grid0.Coords) (e : Fin 32) : sProp 𝕄 :=
  iprop((⌜isFirst i⌝ ∗ waiting c G 0 e (gj i)) ∨ (⌜¬ isFirst i⌝ ∗ ∃ s e0 j0, ring c G s e0 j0 (some (e, gj i))))

/-- The block that is started after the wait, if the table names one. -/
def nextOf (v : BitVec 32) (j : Fin 2) : Option (Fin 32 × Fin 2) :=
  if h : v.toNat < 32 then some (ex v h, j) else none

theorem os_os : ∀ s : Fin 2, os (os s) = s := by decide

/-- The part from the wait on. -/
def tailProg (i : grid0.Coords) (v3 : BitVec 32) (hv3 : k0_cond1 v3 = 1#1) :
    Prog (TpuEff nD τ sig (Elt F) Λ₀ .tc) (Σ' (v41 : Elt F .i32) (v62 : Elt F .i32), k0_chk4 i v3 v41 v62) := do
  let v41 : Elt F .i32 ← smemLoad (Memref.whole cc0_scratch2) (Rect.unit (s := S1) ![0] S1.size inb_S1_S1_0) numel1_S1 rfl
  have k0_hw2 : k0_chk2 v3 v41 := (← Prog.lift (TpuEff.assume (k0_chk2 v3 v41) (k0_chk2.dec v3 v41))).down
  let v43 : Elt F .i32 ← smemLoad (Memref.whole main_arg0) (Rect.unit (s := S99) (k0_off5 i) S1.size (k0_off5_inb i)) numel1_S1 rfl
  have k0_hw3 : k0_chk3 i v3 v43 := (← Prog.lift (TpuEff.assume (k0_chk3 i v3 v43) (k0_chk3.dec i v3 v43))).down
  let v49 : DmaSems sig S1 := cc0_scratch1.slice (Rect.unit (s := S2) (k0_off6 v41) S1.size (k0_off6_inb v3 v41 k0_hw2 hv3))
  let v50 : DmaSems sig S_ := v49.squeeze S_ squeezes_S1_S_
  let v51 : Memref sig .tc .vmem S1x1x2048x1024 .f32 := (Memref.whole cc0_scratch0).slice (Rect.unit (s := S2x2x2048x1024) (k0_off7 v41) S1x1x2048x1024.size (k0_off7_inb v3 v41 k0_hw2 hv3)) (fun _ => rfl)
  let v52 : Memref sig .tc .vmem S2048x1024 .f32 := v51.squeeze S2048x1024 squeezes_S1x1x2048x1024_S2048x1024
  let v53 : Memref sig .tc .hbm S1x2048x1024 .f32 := (Memref.whole main_v0).slice (Rect.unit (s := S32x2048x4096) (k0_off8 i v43) S1x2048x1024.size (k0_off8_inb i v3 v43 k0_hw3 hv3)) (fun _ => rfl)
  let v54 : Memref sig .tc .hbm S2048x1024 .f32 := v53.squeeze S2048x1024 squeezes_S1x2048x1024_S2048x1024
  Prog.lift (.waitDma2 v50.sem v54 v52 ((View.wordExact_bits rfl).reshape _ _) ((View.wordExact_bits rfl).reshape _ _))
  let v55 : DmaSems sig S1 := cc0_scratch1.slice (Rect.unit (s := S2) (k0_off9 v41) S1.size (k0_off9_inb v3 v41 k0_hw2 hv3))
  let v56 : DmaSems sig S_ := v55.squeeze S_ squeezes_S1_S_
  let v57 : Memref sig .tc .vmem S1x1x2048x1024 .f32 := (Memref.whole cc0_scratch0).slice (Rect.unit (s := S2x2x2048x1024) (k0_off10 v41) S1x1x2048x1024.size (k0_off10_inb v3 v41 k0_hw2 hv3)) (fun _ => rfl)
  let v58 : Memref sig .tc .vmem S2048x1024 .f32 := v57.squeeze S2048x1024 squeezes_S1x1x2048x1024_S2048x1024
  let v59 : Memref sig .tc .hbm S1x2048x1024 .f32 := (Memref.whole main_v0).slice (Rect.unit (s := S32x2048x4096) (k0_off11 i v43) S1x2048x1024.size (k0_off11_inb i v3 v43 k0_hw3 hv3)) (fun _ => rfl)
  let v60 : Memref sig .tc .hbm S2048x1024 .f32 := v59.squeeze S2048x1024 squeezes_S1x2048x1024_S2048x1024
  Prog.lift (.waitDma2 v56.sem v60 v58 ((View.wordExact_bits rfl).reshape _ _) ((View.wordExact_bits rfl).reshape _ _))
  let v62 : Elt F .i32 ← smemLoad (Memref.whole main_arg3) (Rect.unit (s := S99) (k0_off12 i) S1.size (k0_off12_inb i)) numel1_S1 rfl
  have k0_hw4 : k0_chk4 i v3 v41 v62 := (← Prog.lift (TpuEff.assume (k0_chk4 i v3 v41 v62) (k0_chk4.dec i v3 v41 v62))).down
  if k0_h4 : k0_cond4 v62 = 1#1 then do
    let v78 : DmaSems sig S1 := cc0_scratch1.slice (Rect.unit (s := S2) (k0_off13 v41) S1.size (k0_off13_inb i v3 v41 v62 k0_hw4 hv3 k0_h4))
    let v79 : DmaSems sig S_ := v78.squeeze S_ squeezes_S1_S_
    let v80 : Memref sig .tc .vmem S1x1x2048x1024 .f32 := (Memref.whole cc0_scratch0).slice (Rect.unit (s := S2x2x2048x1024) (k0_off14 v41) S1x1x2048x1024.size (k0_off14_inb i v3 v41 v62 k0_hw4 hv3 k0_h4)) (fun _ => rfl)
    let v81 : Memref sig .tc .vmem S2048x1024 .f32 := v80.squeeze S2048x1024 squeezes_S1x1x2048x1024_S2048x1024
    let v82 : Memref sig .tc .hbm S1x2048x1024 .f32 := (Memref.whole main_v0).slice (Rect.unit (s := S32x2048x4096) (k0_off15 i v62) S1x2048x1024.size (k0_off15_inb i v3 v41 v62 k0_hw4 hv3 k0_h4)) (fun _ => rfl)
    let v83 : Memref sig .tc .hbm S2048x1024 .f32 := v82.squeeze S2048x1024 squeezes_S1x2048x1024_S2048x1024
    Prog.lift (.enqueueDma v83 (.here v81) (.dma v79.sem) ((View.wordExact_bits rfl).reshape _ _) ((View.wordExact_bits rfl).reshape _ _) ⟨Or.inl rfl, trivial⟩)
    let v84 : DmaSems sig S1 := cc0_scratch1.slice (Rect.unit (s := S2) (k0_off13 v41) S1.size (k0_off13_inb i v3 v41 v62 k0_hw4 hv3 k0_h4))
    let v85 : DmaSems sig S_ := v84.squeeze S_ squeezes_S1_S_
    let v86 : Memref sig .tc .vmem S1x1x2048x1024 .f32 := (Memref.whole cc0_scratch0).slice (Rect.unit (s := S2x2x2048x1024) (k0_off16 v41) S1x1x2048x1024.size (k0_off16_inb i v3 v41 v62 k0_hw4 hv3 k0_h4)) (fun _ => rfl)
    let v87 : Memref sig .tc .vmem S2048x1024 .f32 := v86.squeeze S2048x1024 squeezes_S1x1x2048x1024_S2048x1024
    let v88 : Memref sig .tc .hbm S1x2048x1024 .f32 := (Memref.whole main_v0).slice (Rect.unit (s := S32x2048x4096) (k0_off17 i v62) S1x2048x1024.size (k0_off17_inb i v3 v41 v62 k0_hw4 hv3 k0_h4)) (fun _ => rfl)
    let v89 : Memref sig .tc .hbm S2048x1024 .f32 := v88.squeeze S2048x1024 squeezes_S1x2048x1024_S2048x1024
    Prog.lift (.enqueueDma v89 (.here v87) (.dma v85.sem) ((View.wordExact_bits rfl).reshape _ _) ((View.wordExact_bits rfl).reshape _ _) ⟨Or.inl rfl, trivial⟩)
    pure ⟨⟩
  else do
    pure ⟨⟩
  pure ⟨v41, v62, k0_hw4⟩

theorem tail_wp (c : Dev nD) (G : BufG (F := F) c) (T : Tab) (hT : T.OK) (i : grid0.Coords) (v3 : BitVec 32) (hv3 : k0_cond1 v3 = 1#1) (s : Fin 2)
    (Q : (Σ' (v41 : Elt F .i32) (v62 : Elt F .i32), k0_chk4 i v3 v41 v62) → sProp 𝕄) :
    iprop(tabs c T ∗ waiting c G s (ex (T.te (ix (gt i))) (hT.te_lt _)) (gj i) ∗ (∃ W, owes (c : Thread nD τ) 0 W)
      ∗ (∀ s : Fin 2, (tabs c T ∗ ring c G s (ex (T.te (ix (gt i))) (hT.te_lt _)) (gj i) (nextOf (T.ne (ix (gt i))) (gj i)) ∗ (∃ W, owes (c : Thread nD τ) 0 W))
          -∗ Q ⟨sw s, T.ne (ix (gt i)), chk4 i v3 s _ (hT.ne_or _)⟩))
      ⊢ WP c (tailProg i v3 hv3) Q := by
  unfold tailProg tabs waiting
  dsimp only
  iintro ⟨⟨Hte, Htb, Hfl, Hne, Hnv⟩, ⟨Hs, Hf, Hfree, Hsem⟩, ⟨%W, HO⟩, Hk⟩
  iapply (wp_slotRead c (sw s)) $$ Hs
  iintro Hs
  iapply (wp_asm c (chk2 v3 s))
  iapply (wp_tab c (gt i) (off5_eq i) (w := T.te (ix (gt i))) rfl) $$ Hte
  iintro Hte
  iapply (wp_asm c (chk3 i v3 _ (hT.te_lt _)))
  iapply (wp_acquire c G (ex (T.te (ix (gt i))) (hT.te_lt _)) (gj i) s W (sem_eq s (off6_eq s) _) (sem_eq s (off9_eq s) _)) $$ [Hf HO]
  · isplitl [Hf]; · iexact Hf
    iexact HO
  iintro ⟨Hl, HG0, HG1, Hv, HO⟩
  iapply (wp_tab c (gt i) (off12_eq i) (w := T.ne (ix (gt i))) rfl) $$ Hne
  iintro Hne
  iapply (wp_asm c (chk4 i v3 s _ (hT.ne_or _)))
  by_cases h4 : (T.ne (ix (gt i))).toNat < 32
  · have h4' : k0_cond4 (T.ne (ix (gt i))) = 1#1 := (cond4_iff _ (hT.ne_or _)).mpr h4
    have hn : nextOf (T.ne (ix (gt i))) (gj i) = some (ex (T.ne (ix (gt i))) h4, gj i) := dif_pos h4
    rw [hn]
    rw [dif_pos h4']
    iapply (wp_issue2 c G (ex (T.ne (ix (gt i))) h4) (gj i) (os s) (off14_eq s) (off16_eq s) (off15_eq i _ h4) (off17_eq i _ h4)
      (sem_eq (os s) (off13_eq s) _) (sem_eq (os s) (off13_eq s) _)) $$ [HG0 HG1 Hfree Hsem]
    · isplitl [HG0]; · iexact HG0
      isplitl [HG1]; · iexact HG1
      isplitl [Hfree]; · iexact Hfree
      iexact Hsem
    iintro Hf
    iapply (wp_pure c)
    iapply Hk $$ %s
    isplitl [Hte Htb Hfl Hne Hnv]
    · isplitl [Hte]; · iexact Hte
      isplitl [Htb]; · iexact Htb
      isplitl [Hfl]; · iexact Hfl
      isplitl [Hne]; · iexact Hne
      iexact Hnv
    isplitr [HO]
    · unfold ring other
      isplitl [Hs]; · iexact Hs
      isplitl [Hl]; · iexact Hl
      isplitl [Hv]; · iexact Hv
      iexact Hf
    iexact HO
  · have h4' : ¬ k0_cond4 (T.ne (ix (gt i))) = 1#1 := fun h => h4 ((cond4_iff _ (hT.ne_or _)).mp h)
    have hn : nextOf (T.ne (ix (gt i))) (gj i) = none := dif_neg h4
    rw [hn]
    rw [dif_neg h4']
    iapply (wp_pure c)
    iapply Hk $$ %s
    isplitl [Hte Htb Hfl Hne Hnv]
    · isplitl [Hte]; · iexact Hte
      isplitl [Htb]; · iexact Htb
      isplitl [Hfl]; · iexact Hfl
      isplitl [Hne]; · iexact Hne
      iexact Hnv
    isplitr [HO]
    · unfold ring other
      isplitl [Hs]; · iexact Hs
      isplitl [Hl]; · iexact Hl
      isplitl [Hv]; · iexact Hv
      isplitl [HG0]; · iexact HG0
      isplitl [HG1]; · iexact HG1
      isplitl [Hfree]; · iexact Hfree
      iexact Hsem
    iexact HO

theorem part1_wp (c : Dev nD) (G : BufG (F := F) c) (T : Tab) (hT : T.OK) (i : grid0.Coords)
    (arg7 : Memref sig .tc .vmem S4096x128 .i32) (h7 : arg7.IsWhole) (arg8 : Memref sig .tc .vmem S1x1x1024 .f32) (h8 : arg8.IsWhole)
    (arg9 : Memref sig .tc .vmem S1x1x1024 .f32) (h9 : arg9.IsWhole) (arg11 : Memref sig .tc .vmem S512x1024 .bf16) (h11 : arg11.IsWhole)
    (v3 : BitVec 32) (hv3 : k0_cond1 v3 = 1#1)
    (g0 : (Memref.whole main_arg0).IsWhole) (g1 : (Memref.whole main_arg1).IsWhole) (g2 : (Memref.whole main_arg2).IsWhole)
    (g3 : (Memref.whole main_arg3).IsWhole) (g4 : (Memref.whole main_arg4).IsWhole) (gw : (Memref.whole main_v0).IsWhole)
    (gs : (Memref.whole cc0_scratch0).IsWhole) (gl : (Memref.whole cc0_scratch2).IsWhole)
    (Q : (Σ' (v41 : Elt F .i32) (v62 : Elt F .i32), k0_chk4 i v3 v41 v62) → sProp 𝕄) :
    iprop(tabs c T ∗ before c G i (ex (T.te (ix (gt i))) (hT.te_lt _)) ∗ (∃ W, owes (c : Thread nD τ) 0 W)
      ∗ (∀ s : Fin 2, (tabs c T ∗ ring c G s (ex (T.te (ix (gt i))) (hT.te_lt _)) (gj i) (nextOf (T.ne (ix (gt i))) (gj i)) ∗ (∃ W, owes (c : Thread nD τ) 0 W))
          -∗ Q ⟨sw s, T.ne (ix (gt i)), chk4 i v3 s _ (hT.ne_or _)⟩))
      ⊢ WP c (k0_part1 i (Memref.whole main_arg0) g0 (Memref.whole main_arg1) g1 (Memref.whole main_arg2) g2 (Memref.whole main_arg3) g3 (Memref.whole main_arg4) g4
          arg7 h7 arg8 h8 arg9 h9 (Memref.whole main_v0) gw arg11 h11 (Memref.whole cc0_scratch0) gs cc0_scratch1 (Memref.whole cc0_scratch2) gl
          (BitVec.ofNat 32 (i 0).val) (BitVec.ofNat 32 (i 1).val) v3 hv3) Q := by
  rw [k0_part1_eq_skeleton]
  unfold k0_part1_skel
  dsimp only
  by_cases hi : isFirst i
  · have c2 := (cond2_iff i).mpr hi
    have c3 : ¬ _ := fun h => (cond3_iff i).mp h hi
    rw [dif_pos c2, dif_neg c3]
    unfold before fresh
    iintro ⟨Ht, HB, HO, Hk⟩
    icases HB with (⟨-, ⟨⟨%w, Hs⟩, HG0, HG1, Hf0, Hf1, Hv0, Hv1⟩⟩ | ⟨%hn, HB⟩)
    · iapply (wp_slotRead c w) $$ Hs
      iintro Hs
      iapply (wp_slotWrite c w 0#32) $$ Hs
      iintro Hs
      unfold tabs
      icases Ht with ⟨Hte, Htb, Hfl, Hne, Hnv⟩
      iapply (wp_tab c (gt i) (off2_eq i) (w := T.te (ix (gt i))) rfl) $$ Hte
      iintro Hte
      iapply (wp_asm c (chk1 i v3 _ (hT.te_lt _)))
      iapply (wp_issue2 c G (ex (T.te (ix (gt i))) (hT.te_lt _)) (gj i) 0 rfl rfl (off3_eq i _ (hT.te_lt _)) (off4_eq i _ (hT.te_lt _))
        (sem_eq 0 rfl _) (sem_eq 0 rfl _)) $$ [HG0 HG1 Hf0 Hv0]
      · isplitl [HG0]; · iexact HG0
        isplitl [HG1]; · iexact HG1
        isplitl [Hf0]; · iexact Hf0
        iexact Hv0
      iintro Hf
      iapply (tail_wp c G T hT i v3 hv3 0 Q)
      isplitl [Hte Htb Hfl Hne Hnv]
      · unfold tabs
        isplitl [Hte]; · iexact Hte
        isplitl [Htb]; · iexact Htb
        isplitl [Hfl]; · iexact Hfl
        isplitl [Hne]; · iexact Hne
        iexact Hnv
      isplitl [Hs Hf Hf1 Hv1]
      · unfold waiting
        isplitl [Hs]; · iexact Hs
        isplitl [Hf]; · iexact Hf
        isplitl [Hf1]; · iexact Hf1
        iexact Hv1
      isplitl [HO]; · iexact HO
      iintro %s H
      iapply Hk $$ %s
      iexact H
    · exact absurd hi hn
  · have c2 : ¬ _ := fun h => hi ((cond2_iff i).mp h)
    have c3 := (cond3_iff i).mpr hi
    rw [dif_neg c2, dif_pos c3]
    unfold before ring other
    iintro ⟨Ht, HB, HO, Hk⟩
    icases HB with (⟨%hn, HB⟩ | ⟨-, ⟨%s, %e0, %j0, Hs, Hl, Hv, Hf⟩⟩)
    · exact absurd hn hi
    · iapply (wp_slotRead c (sw s)) $$ Hs
      iintro Hs
      iapply (wp_slotRead c (sw s)) $$ Hs
      iintro Hs
      iapply (wp_slotWrite c (sw s) _) $$ Hs
      iintro Hs
      rw [flip_eq s]
      iapply (tail_wp c G T hT i v3 hv3 (os s) Q)
      isplitl [Ht]; · iexact Ht
      isplitl [Hs Hl Hv Hf]
      · unfold waiting
        rw [os_os]
        isplitl [Hs]; · iexact Hs
        isplitl [Hf]; · iexact Hf
        isplitl [Hl]; · iapply (landed_free2 c G e0 j0 s); iexact Hl
        iexact Hv
      isplitl [HO]; · iexact HO
      iintro %s H
      iapply Hk $$ %s
      iexact H

end Cert.Up

end
-- ==== Proof.Up.Body.lean ====
/-
  One grid point of the kernel: the weights' ring advanced when the flag is set, and the tile of the result.
-/
module

public import proofs.«01_k».proof.Proof.Up.Compute
public import proofs.«01_k».proof.Proof.Up.Advance

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

/-- The block under way after a point: the next expert's, or, after the last one of the first column, the first one's of
    the second column. -/
def nxt (T : Tab) (hT : T.OK) (i : grid0.Coords) : Option (Fin 32 × Fin 2) :=
  if h : (T.ne (ix (gt i))).toNat < 32 then some (ex (T.ne (ix (gt i))) h, gj i)
  else if gj i = 0 then some (ex (T.te (ix 0)) (hT.te_lt 0), 1) else none

/-- The part under the flag, then `K`. -/
def progA (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v3 : BitVec 32)
    (K : Prog (TpuEff nD τ sig (Elt F) Λ₀ .tc) PUnit) : Prog (TpuEff nD τ sig (Elt F) Λ₀ .tc) PUnit := do
  let arg0 : BitVec 32 := BitVec.ofNat 32 (i 0).val
  let arg1 : BitVec 32 := BitVec.ofNat 32 (i 1).val
  if k0_h1 : k0_cond1 v3 = 1#1 then do
    let ⟨v41, v62, k0_hw4⟩ : Σ' (v41 : Elt F .i32) (v62 : Elt F .i32), k0_chk4 i v3 v41 v62 ← k0_part1 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 (Memref.whole main_v0) (Memref.isWhole_whole _) arg11 harg11 (Memref.whole cc0_scratch0) (Memref.isWhole_whole _) cc0_scratch1 (Memref.whole cc0_scratch2) (Memref.isWhole_whole _) arg0 arg1 v3 k0_h1
    if k0_h5 : k0_cond5 i v62 = 1#1 then do
      let v72 : Elt F .i32 ← smemLoad (Memref.whole main_arg0) (Rect.unit (s := S99) ![0] S1.size inb_S99_S1_0) numel1_S1 rfl
      have k0_hw5 : k0_chk5 i v3 v62 v72 := (← Prog.lift (TpuEff.assume (k0_chk5 i v3 v62 v72) (k0_chk5.dec i v3 v62 v72))).down
      let v80 : DmaSems sig S1 := cc0_scratch1.slice (Rect.unit (s := S2) (k0_off18 v41) S1.size (k0_off18_inb i v3 v41 v62 k0_hw4 k0_h1 k0_h5))
      let v81 : DmaSems sig S_ := v80.squeeze S_ squeezes_S1_S_
      let v82 : Memref sig .tc .vmem S1x1x2048x1024 .f32 := (Memref.whole cc0_scratch0).slice (Rect.unit (s := S2x2x2048x1024) (k0_off19 v41) S1x1x2048x1024.size (k0_off19_inb i v3 v41 v62 k0_hw4 k0_h1 k0_h5)) (fun _ => rfl)
      let v83 : Memref sig .tc .vmem S2048x1024 .f32 := v82.squeeze S2048x1024 squeezes_S1x1x2048x1024_S2048x1024
      let v84 : Memref sig .tc .hbm S1x2048x1024 .f32 := (Memref.whole main_v0).slice (Rect.unit (s := S32x2048x4096) (k0_off20 i v72) S1x2048x1024.size (k0_off20_inb i v3 v62 v72 k0_hw5 k0_h1 k0_h5)) (fun _ => rfl)
      let v85 : Memref sig .tc .hbm S2048x1024 .f32 := v84.squeeze S2048x1024 squeezes_S1x2048x1024_S2048x1024
      Prog.lift (.enqueueDma v85 (.here v83) (.dma v81.sem) ((View.wordExact_bits rfl).reshape _ _) ((View.wordExact_bits rfl).reshape _ _) ⟨Or.inl rfl, trivial⟩)
      let v86 : DmaSems sig S1 := cc0_scratch1.slice (Rect.unit (s := S2) (k0_off21 v41) S1.size (k0_off21_inb i v3 v41 v62 k0_hw4 k0_h1 k0_h5))
      let v87 : DmaSems sig S_ := v86.squeeze S_ squeezes_S1_S_
      let v88 : Memref sig .tc .vmem S1x1x2048x1024 .f32 := (Memref.whole cc0_scratch0).slice (Rect.unit (s := S2x2x2048x1024) (k0_off22 v41) S1x1x2048x1024.size (k0_off22_inb i v3 v41 v62 k0_hw4 k0_h1 k0_h5)) (fun _ => rfl)
      let v89 : Memref sig .tc .vmem S2048x1024 .f32 := v88.squeeze S2048x1024 squeezes_S1x1x2048x1024_S2048x1024
      let v90 : Memref sig .tc .hbm S1x2048x1024 .f32 := (Memref.whole main_v0).slice (Rect.unit (s := S32x2048x4096) (k0_off23 i v72) S1x2048x1024.size (k0_off23_inb i v3 v62 v72 k0_hw5 k0_h1 k0_h5)) (fun _ => rfl)
      let v91 : Memref sig .tc .hbm S2048x1024 .f32 := v90.squeeze S2048x1024 squeezes_S1x2048x1024_S2048x1024
      Prog.lift (.enqueueDma v91 (.here v89) (.dma v87.sem) ((View.wordExact_bits rfl).reshape _ _) ((View.wordExact_bits rfl).reshape _ _) ⟨Or.inl rfl, trivial⟩)
      pure ⟨⟩
    else do
      pure ⟨⟩
    pure ⟨⟩
  else do
    pure ⟨⟩
  K

def progR10 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) :
    Prog (TpuEff nD τ sig (Elt F) Λ₀ .tc) PUnit :=
  if h : k0_cond10 v1 = 1#1 then prog512 i arg7 harg7 arg8 harg8 arg9 harg9 arg11 harg11 v1 h (pure ⟨⟩) else (pure ⟨⟩)

def progR9 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) :
    Prog (TpuEff nD τ sig (Elt F) Λ₀ .tc) PUnit :=
  if h : k0_cond9 v1 = 1#1 then prog384 i arg7 harg7 arg8 harg8 arg9 harg9 arg11 harg11 v1 h (progR10 i arg7 harg7 arg8 harg8 arg9 harg9 arg11 harg11 v1) else (progR10 i arg7 harg7 arg8 harg8 arg9 harg9 arg11 harg11 v1)

def progR8 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) :
    Prog (TpuEff nD τ sig (Elt F) Λ₀ .tc) PUnit :=
  if h : k0_cond8 v1 = 1#1 then prog256 i arg7 harg7 arg8 harg8 arg9 harg9 arg11 harg11 v1 h (progR9 i arg7 harg7 arg8 harg8 arg9 harg9 arg11 harg11 v1) else (progR9 i arg7 harg7 arg8 harg8 arg9 harg9 arg11 harg11 v1)

def progR7 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) :
    Prog (TpuEff nD τ sig (Elt F) Λ₀ .tc) PUnit :=
  if h : k0_cond7 v1 = 1#1 then prog128 i arg7 harg7 arg8 harg8 arg9 harg9 arg11 harg11 v1 h (progR8 i arg7 harg7 arg8 harg8 arg9 harg9 arg11 harg11 v1) else (progR8 i arg7 harg7 arg8 harg8 arg9 harg9 arg11 harg11 v1)

def progR6 (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole) (v1 : BitVec 32) :
    Prog (TpuEff nD τ sig (Elt F) Λ₀ .tc) PUnit := do
  if k0_h6 : k0_cond6 v1 = 1#1 then do
    let v34 : Vec F S512x1024 .bf16 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay1 (F := F)) Finset.univ (View.stores_vmem h_S512x1024 (harg11.storeExact_slice rfl _ packedbf16_S512x1024_S512x1024_0_0) (fun _ => rfl)) (.inl rfl))
    pure ⟨⟩
  else do
    pure ⟨⟩
  progR7 i arg7 harg7 arg8 harg8 arg9 harg9 arg11 harg11 v1

theorem body_eq (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (g0 : (Memref.whole main_arg0).IsWhole) (g1 : (Memref.whole main_arg1).IsWhole) (g2 : (Memref.whole main_arg2).IsWhole)
    (g3 : (Memref.whole main_arg3).IsWhole) (g4 : (Memref.whole main_arg4).IsWhole) (gw : (Memref.whole main_v0).IsWhole)
    (gs : (Memref.whole cc0_scratch0).IsWhole) (gl : (Memref.whole cc0_scratch2).IsWhole) :
    cc0_moe_up_skel (F := F) i (Memref.whole main_arg0) g0 (Memref.whole main_arg1) g1 (Memref.whole main_arg2) g2 (Memref.whole main_arg3) g3 (Memref.whole main_arg4) g4
          arg7 harg7 arg8 harg8 arg9 harg9 (Memref.whole main_v0) gw arg11 harg11 (Memref.whole cc0_scratch0) gs cc0_scratch1 (Memref.whole cc0_scratch2) gl
      = (smemLoad (Memref.whole main_arg4) (Rect.unit (s := S99) (k0_off1 i) S1.size (k0_off1_inb i)) numel1_S1 rfl >>= fun v1 =>
          smemLoad (Memref.whole main_arg2) (Rect.unit (s := S99) (k0_off1 i) S1.size (k0_off1_inb i)) numel1_S1 rfl >>= fun v3 =>
            progA i arg7 harg7 arg8 harg8 arg9 harg9 arg11 harg11 v3 (progR6 i arg7 harg7 arg8 harg8 arg9 harg9 arg11 harg11 v1)) := rfl

theorem adv_wp (c : Dev nD) (G : BufG (F := F) c) (T : Tab) (hT : T.OK) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (hf : T.fl (ix (gt i)) = 1#32) (K : Prog (TpuEff nD τ sig (Elt F) Λ₀ .tc) PUnit) (Q : PUnit → sProp 𝕄) :
    iprop(tabs c T ∗ before c G i (ex (T.te (ix (gt i))) (hT.te_lt _)) ∗ (∃ W, owes (c : Thread nD τ) 0 W)
      ∗ (∀ s : Fin 2, (tabs c T ∗ ring c G s (ex (T.te (ix (gt i))) (hT.te_lt _)) (gj i) (nxt T hT i) ∗ (∃ W, owes (c : Thread nD τ) 0 W))
          -∗ WP c K Q))
      ⊢ WP c (progA i arg7 harg7 arg8 harg8 arg9 harg9 arg11 harg11 (T.fl (ix (gt i))) K) Q := by
  have h1 : k0_cond1 (T.fl (ix (gt i))) = 1#1 := hf ▸ cond1_one
  unfold progA
  dsimp only
  rw [dif_pos h1]
  iintro ⟨Ht, HB, HO, Hk⟩
  iapply (wp_bnd c)
  iapply (part1_wp c G T hT i arg7 harg7 arg8 harg8 arg9 harg9 arg11 harg11 _ h1)
  isplitl [Ht]; · iexact Ht
  isplitl [HB]; · iexact HB
  isplitl [HO]; · iexact HO
  iintro %s ⟨Ht, HR, HO⟩
  dsimp only
  by_cases h5 : k0_cond5 i (T.ne (ix (gt i))) = 1#1
  · have h5' := (cond5_iff i _ (hT.ne_or _)).mp h5
    have e1 : nextOf (T.ne (ix (gt i))) (gj i) = none := dif_neg h5'.1
    have e2 : nxt T hT i = some (ex (T.te (ix 0)) (hT.te_lt 0), 1) := (dif_neg h5'.1).trans (if_pos h5'.2)
    rw [e1, e2, dif_pos h5]
    unfold tabs ring other
    icases Ht with ⟨Hte, Htb, Hfl, Hne, Hnv⟩
    icases HR with ⟨Hs, Hl, Hv, HG0, HG1, Hfree, Hsem⟩
    iapply (wp_tab c 0 rfl (w := T.te (ix 0)) rfl) $$ Hte
    iintro Hte
    iapply (wp_asm c (chk5 i _ _ _ (hT.te_lt 0) (hT.ne_or _)))
    iapply (wp_issue2 c G (ex (T.te (ix 0)) (hT.te_lt 0)) 1 (os s) (off19_eq s) (off22_eq s) (off20_eq i _ (hT.te_lt 0) h5'.2) (off23_eq i _ (hT.te_lt 0) h5'.2)
      (sem_eq (os s) (off18_eq s) _) (sem_eq (os s) (off21_eq s) _)) $$ [HG0 HG1 Hfree Hsem]
    · isplitl [HG0]; · iexact HG0
      isplitl [HG1]; · iexact HG1
      isplitl [Hfree]; · iexact Hfree
      iexact Hsem
    iintro Hf
    iapply Hk $$ %s
    isplitl [Hte Htb Hfl Hne Hnv]
    · isplitl [Hte]; · iexact Hte
      isplitl [Htb]; · iexact Htb
      isplitl [Hfl]; · iexact Hfl
      isplitl [Hne]; · iexact Hne
      iexact Hnv
    isplitr [HO]
    · isplitl [Hs]; · iexact Hs
      isplitl [Hl]; · iexact Hl
      isplitl [Hv]; · iexact Hv
      iexact Hf
    iexact HO
  · have e : nextOf (T.ne (ix (gt i))) (gj i) = nxt T hT i := by
      unfold nextOf nxt
      by_cases h : (T.ne (ix (gt i))).toNat < 32
      · rw [dif_pos h, dif_pos h]
      · rw [dif_neg h, dif_neg h, if_neg fun hj => h5 ((cond5_iff i _ (hT.ne_or _)).mpr ⟨h, hj⟩)]
    rw [e, dif_neg h5]
    iapply Hk $$ %s
    isplitl [Ht]; · iexact Ht
    isplitl [HR]; · iexact HR
    iexact HO

theorem skip_wp (c : Dev nD) (T : Tab) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (hf : T.fl (ix (gt i)) = 0#32) (K : Prog (TpuEff nD τ sig (Elt F) Λ₀ .tc) PUnit) (Q : PUnit → sProp 𝕄) :
    WP c K Q ⊢ WP c (progA i arg7 harg7 arg8 harg8 arg9 harg9 arg11 harg11 (T.fl (ix (gt i))) K) Q := by
  have h1 : ¬ k0_cond1 (T.fl (ix (gt i))) = 1#1 := hf ▸ cond1_zero
  unfold progA
  dsimp only
  rw [dif_neg h1]

/-! The number of live rows, by cases. -/

theorem conds : ∀ k : Fin 513, (k0_cond6 (BitVec.ofNat 32 k.val) = 1#1 ↔ k.val = 0)
    ∧ (k0_cond7 (BitVec.ofNat 32 k.val) = 1#1 ↔ 0 < k.val ∧ k.val ≤ 128)
    ∧ (k0_cond8 (BitVec.ofNat 32 k.val) = 1#1 ↔ 128 < k.val ∧ k.val ≤ 256)
    ∧ (k0_cond9 (BitVec.ofNat 32 k.val) = 1#1 ↔ 256 < k.val ∧ k.val ≤ 384)
    ∧ (k0_cond10 (BitVec.ofNat 32 k.val) = 1#1 ↔ 384 < k.val) := by decide +kernel

theorem conds' (v : BitVec 32) (h : v.toNat ≤ 512) : (k0_cond6 v = 1#1 ↔ v.toNat = 0)
    ∧ (k0_cond7 v = 1#1 ↔ 0 < v.toNat ∧ v.toNat ≤ 128)
    ∧ (k0_cond8 v = 1#1 ↔ 128 < v.toNat ∧ v.toNat ≤ 256)
    ∧ (k0_cond9 v = 1#1 ↔ 256 < v.toNat ∧ v.toNat ≤ 384)
    ∧ (k0_cond10 v = 1#1 ↔ 384 < v.toNat) := by
  have e : v = BitVec.ofNat 32 v.toNat := by
    apply BitVec.eq_of_toNat_eq
    rw [BitVec.toNat_ofNat]
    have := v.isLt
    omega
  have := conds ⟨v.toNat, by omega⟩
  simp only [← e] at this
  exact this

/-- What a grid point leaves in its tile of the result. -/
def outVal (v : BitVec 32) (X : XT) (wg wu : WT (F := F)) (bg bu : BT (F := F)) : S512x1024.Idx → F .bf16 :=
  if v.toNat = 0 then k0_pay1 (F := F)
  else if v.toNat ≤ 128 then put128 (act128 X wg wu bg bu)
  else if v.toNat ≤ 256 then put256 (act256 X wg wu bg bu)
  else if v.toNat ≤ 384 then put384 (act384 X wg wu bg bu)
  else put512 (act512 X wg wu bg bu)

theorem full_emb (z : S512x1024.Idx) :
    (Rect.unit (s := S512x1024) ![0, 0] S512x1024.size inb_S512x1024_S512x1024_0_0).emb z = z := by
  funext a
  match a with
  | ⟨0, _⟩ => exact Fin.ext (show 0 + 1 * (z 0).val = (z 0).val by omega)
  | ⟨1, _⟩ => exact Fin.ext (show 0 + 1 * (z 1).val = (z 1).val by omega)

theorem full_mem (x : S512x1024.Idx) : x ∈ (Rect.unit (s := S512x1024) ![0, 0] S512x1024.size inb_S512x1024_S512x1024_0_0).set := by
  have : (x 0).val < 512 := (x 0).isLt
  exact (mem_rows (n := 512) x).mpr ⟨Nat.zero_le _, by omega⟩

theorem pay1_in (z : S512x1024.Idx) :
    k0_pay1 (F := F) ((Rect.unit (s := S512x1024) ![0, 0] S512x1024.size inb_S512x1024_S512x1024_0_0).emb z) = k0_pay1 (F := F) z := by
  rw [full_emb]

theorem pay1_out (Z : S512x1024.Idx → F .bf16) (x : S512x1024.Idx)
    (h : x ∉ (Rect.unit (s := S512x1024) ![0, 0] S512x1024.size inb_S512x1024_S512x1024_0_0).set) : k0_pay1 (F := F) x = Z x :=
  absurd (full_mem x) h

theorem rest_wp (c : Dev nD) (G : BufG (F := F) c) (e : Fin 32) (j s : Fin 2) (i : grid0.Coords) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (v1 : BitVec 32) (hv : v1.toNat ≤ 512) (X : XT) (bg bu : BT (F := F)) (Z : S512x1024.Idx → F .bf16) (Q : PUnit → sProp 𝕄) :
    iprop(slotW (F := F) c (sw s) ∗ landed c G e j s ∗ owns (c : Thread nD τ) arg7 fullShare X ∗ owns (c : Thread nD τ) arg8 fullShare bg
        ∗ owns (c : Thread nD τ) arg9 fullShare bu ∗ owns (c : Thread nD τ) arg11 fullShare Z
        ∗ ((slotW (F := F) c (sw s) ∗ landed c G e j s ∗ owns (c : Thread nD τ) arg7 fullShare X ∗ owns (c : Thread nD τ) arg8 fullShare bg
            ∗ owns (c : Thread nD τ) arg9 fullShare bu ∗ owns (c : Thread nD τ) arg11 fullShare (outVal v1 X (wv c G e j 0) (wv c G e j 1) bg bu)) -∗ Q ⟨⟩))
      ⊢ WP c (progR6 i arg7 harg7 arg8 harg8 arg9 harg9 arg11 harg11 v1) Q := by
  obtain ⟨c6, c7, c8, c9, c10⟩ := conds' v1 hv
  unfold progR6
  dsimp only
  by_cases h0 : v1.toNat = 0
  · have o : outVal v1 X (wv c G e j 0) (wv c G e j 1) bg bu = k0_pay1 (F := F) := if_pos h0
    rw [o, dif_pos (c6.mpr h0)]
    iintro ⟨Hs, Hl, HX, HB, HU, HZ, Hk⟩
    iapply (wp_ld c) $$ HZ
    iintro HZ
    iapply (wp_st c (k0_pay1 (F := F)) pay1_in (pay1_out Z)) $$ HZ
    iintro HZ
    unfold progR7
    rw [dif_neg fun h => by have := c7.mp h; omega]
    unfold progR8
    rw [dif_neg fun h => by have := c8.mp h; omega]
    unfold progR9
    rw [dif_neg fun h => by have := c9.mp h; omega]
    unfold progR10
    rw [dif_neg fun h => by have := c10.mp h; omega]
    iapply (wp_pure c)
    iapply Hk
    isplitl [Hs]; · iexact Hs
    isplitl [Hl]; · iexact Hl
    isplitl [HX]; · iexact HX
    isplitl [HB]; · iexact HB
    isplitl [HU]; · iexact HU
    iexact HZ
  rw [dif_neg fun h => h0 (c6.mp h)]
  by_cases h128 : v1.toNat ≤ 128
  · have o : outVal v1 X (wv c G e j 0) (wv c G e j 1) bg bu = put128 (act128 X (wv c G e j 0) (wv c G e j 1) bg bu) := (if_neg h0).trans (if_pos h128)
    rw [o]
    unfold progR7
    rw [dif_pos (c7.mpr (by omega))]
    iintro ⟨Hs, Hl, HX, HB, HU, HZ, Hk⟩
    iapply (wp_128 c G e j s i arg7 harg7 arg8 harg8 arg9 harg9 arg11 harg11 v1 (c7.mpr (by omega)) _ X bg bu Z Q)
    isplitl [Hs]; · iexact Hs
    isplitl [Hl]; · iexact Hl
    isplitl [HX]; · iexact HX
    isplitl [HB]; · iexact HB
    isplitl [HU]; · iexact HU
    isplitl [HZ]; · iexact HZ
    iintro H
    unfold progR8
    rw [dif_neg fun h => by have := c8.mp h; omega]
    unfold progR9
    rw [dif_neg fun h => by have := c9.mp h; omega]
    unfold progR10
    rw [dif_neg fun h => by have := c10.mp h; omega]
    iapply (wp_pure c)
    iapply Hk
    iexact H
  by_cases h256 : v1.toNat ≤ 256
  · have o : outVal v1 X (wv c G e j 0) (wv c G e j 1) bg bu = put256 (act256 X (wv c G e j 0) (wv c G e j 1) bg bu) := (if_neg h0).trans ((if_neg h128).trans (if_pos h256))
    rw [o]
    unfold progR7
    rw [dif_neg fun h => by have := c7.mp h; omega]
    unfold progR8
    rw [dif_pos (c8.mpr (by omega))]
    iintro ⟨Hs, Hl, HX, HB, HU, HZ, Hk⟩
    iapply (wp_256 c G e j s i arg7 harg7 arg8 harg8 arg9 harg9 arg11 harg11 v1 (c8.mpr (by omega)) _ X bg bu Z Q)
    isplitl [Hs]; · iexact Hs
    isplitl [Hl]; · iexact Hl
    isplitl [HX]; · iexact HX
    isplitl [HB]; · iexact HB
    isplitl [HU]; · iexact HU
    isplitl [HZ]; · iexact HZ
    iintro H
    unfold progR9
    rw [dif_neg fun h => by have := c9.mp h; omega]
    unfold progR10
    rw [dif_neg fun h => by have := c10.mp h; omega]
    iapply (wp_pure c)
    iapply Hk
    iexact H
  by_cases h384 : v1.toNat ≤ 384
  · have o : outVal v1 X (wv c G e j 0) (wv c G e j 1) bg bu = put384 (act384 X (wv c G e j 0) (wv c G e j 1) bg bu) := (if_neg h0).trans ((if_neg h128).trans ((if_neg h256).trans (if_pos h384)))
    rw [o]
    unfold progR7
    rw [dif_neg fun h => by have := c7.mp h; omega]
    unfold progR8
    rw [dif_neg fun h => by have := c8.mp h; omega]
    unfold progR9
    rw [dif_pos (c9.mpr (by omega))]
    iintro ⟨Hs, Hl, HX, HB, HU, HZ, Hk⟩
    iapply (wp_384 c G e j s i arg7 harg7 arg8 harg8 arg9 harg9 arg11 harg11 v1 (c9.mpr (by omega)) _ X bg bu Z Q)
    isplitl [Hs]; · iexact Hs
    isplitl [Hl]; · iexact Hl
    isplitl [HX]; · iexact HX
    isplitl [HB]; · iexact HB
    isplitl [HU]; · iexact HU
    isplitl [HZ]; · iexact HZ
    iintro H
    unfold progR10
    rw [dif_neg fun h => by have := c10.mp h; omega]
    iapply (wp_pure c)
    iapply Hk
    iexact H
  have o : outVal v1 X (wv c G e j 0) (wv c G e j 1) bg bu = put512 (act512 X (wv c G e j 0) (wv c G e j 1) bg bu) := (if_neg h0).trans ((if_neg h128).trans ((if_neg h256).trans ((if_neg h384))))
  rw [o]
  unfold progR7
  rw [dif_neg fun h => by have := c7.mp h; omega]
  unfold progR8
  rw [dif_neg fun h => by have := c8.mp h; omega]
  unfold progR9
  rw [dif_neg fun h => by have := c9.mp h; omega]
  unfold progR10
  rw [dif_pos (c10.mpr (by omega))]
  iintro ⟨Hs, Hl, HX, HB, HU, HZ, Hk⟩
  iapply (wp_512 c G e j s i arg7 harg7 arg8 harg8 arg9 harg9 arg11 harg11 v1 (c10.mpr (by omega)) _ X bg bu Z Q)
  isplitl [Hs]; · iexact Hs
  isplitl [Hl]; · iexact Hl
  isplitl [HX]; · iexact HX
  isplitl [HB]; · iexact HB
  isplitl [HU]; · iexact HU
  isplitl [HZ]; · iexact HZ
  iintro H
  iapply (wp_pure c)
  iapply Hk
  iexact H

end Cert.Up

end
-- ==== Proof.Up.Point.lean ====
/-
  One grid point: the state of the kernel's own double buffer before it and after it, and the point's run between the two.
-/
module

public import proofs.«01_k».proof.Proof.Up.Body

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "𝒱₀" => Variants.none

/-! ## The order of the grid's points -/

theorem coords_val : ∀ t : Fin grid0.N, (grid0.coords t 0).val = t.val / 99 ∧ (grid0.coords t 1).val = t.val % 99 := by
  decide +kernel

theorem first_iff (t : Fin grid0.N) : isFirst (grid0.coords t) ↔ t.val = 0 := by
  obtain ⟨h0, h1⟩ := coords_val t
  constructor
  · rintro ⟨a, b⟩
    have a' : (grid0.coords t 0).val = 0 := congrArg Fin.val a
    have b' : (grid0.coords t 1).val = 0 := congrArg Fin.val b
    omega
  · intro h
    exact ⟨Fin.ext (show (grid0.coords t 0).val = 0 by omega), Fin.ext (show (grid0.coords t 1).val = 0 by omega)⟩

/-- The point before a point: in the same row, or the last one of the row before. -/
theorem prev_point (p : ℕ) (h : p < grid0.N) (h' : p + 1 < grid0.N) :
    (∃ k : Fin 98, gt (grid0.coords ⟨p + 1, h'⟩) = k.succ ∧ gt (grid0.coords ⟨p, h⟩) = k.castSucc ∧ gj (grid0.coords ⟨p + 1, h'⟩) = gj (grid0.coords ⟨p, h⟩))
      ∨ (gt (grid0.coords ⟨p + 1, h'⟩) = 0 ∧ gt (grid0.coords ⟨p, h⟩) = 98 ∧ gj (grid0.coords ⟨p + 1, h'⟩) = 1 ∧ gj (grid0.coords ⟨p, h⟩) = 0) := by
  obtain ⟨a0, a1⟩ := coords_val ⟨p + 1, h'⟩
  obtain ⟨b0, b1⟩ := coords_val ⟨p, h⟩
  dsimp only at a0 a1 b0 b1
  have hN : p + 1 < 198 := N_0 ▸ h'
  by_cases hm : p % 99 = 98
  · right
    exact ⟨Fin.ext (show (grid0.coords ⟨p + 1, h'⟩ 1).val = 0 by omega), Fin.ext (show (grid0.coords ⟨p, h⟩ 1).val = 98 by omega),
      Fin.ext (show (grid0.coords ⟨p + 1, h'⟩ 0).val = 1 by omega), Fin.ext (show (grid0.coords ⟨p, h⟩ 0).val = 0 by omega)⟩
  · left
    refine ⟨⟨p % 99, by omega⟩, Fin.ext (show (grid0.coords ⟨p + 1, h'⟩ 1).val = p % 99 + 1 by omega),
      Fin.ext (show (grid0.coords ⟨p, h⟩ 1).val = p % 99 by omega), Fin.ext (show (grid0.coords ⟨p + 1, h'⟩ 0).val = (grid0.coords ⟨p, h⟩ 0).val by omega)⟩

/-! ## The state between two points -/

/-- The ring after point `i`. -/
def ringAt (c : Dev nD) (G : BufG (F := F) c) (T : Tab) (hT : T.OK) (i : grid0.Coords) : sProp 𝕄 :=
  iprop(∃ s, ring c G s (ex (T.te (ix (gt i))) (hT.te_lt _)) (gj i) (nxt T hT i))

/-- Before point `n`: nothing started, or the ring after the point before. -/
def Inv (c : Dev nD) (G : BufG (F := F) c) (T : Tab) (hT : T.OK) : (n : ℕ) → n ≤ grid0.N → sProp 𝕄
  | 0, _ => iprop(tabs c T ∗ fresh c G)
  | p + 1, h => iprop(tabs c T ∗ ringAt c G T hT (grid0.coords ⟨p, h⟩))

/-- The next block, as a function of the words it reads. -/
def nxtF (v : BitVec 32) (j : Fin 2) (e : Fin 32) : Option (Fin 32 × Fin 2) :=
  if h : v.toNat < 32 then some (ex v h, j) else if j = 0 then some (e, 1) else none

theorem nxt_eq (T : Tab) (hT : T.OK) (i : grid0.Coords) : nxt T hT i = nxtF (T.ne (ix (gt i))) (gj i) (ex (T.te (ix 0)) (hT.te_lt 0)) := rfl

/-- At a point whose flag is clear the ring is already that point's. -/
theorem inv_stay (c : Dev nD) (G : BufG (F := F) c) (T : Tab) (hT : T.OK) (t : Fin grid0.N) (hf : T.fl (ix (gt (grid0.coords t))) = 0#32) :
    Inv c G T hT t.val (Nat.le_of_lt t.isLt) ⊢ iprop(tabs c T ∗ ringAt c G T hT (grid0.coords t)) := by
  obtain ⟨n, hn⟩ := t
  cases n with
  | zero =>
    exfalso
    have h0 : gt (grid0.coords ⟨0, hn⟩) = 0 := ((first_iff ⟨0, hn⟩).mpr rfl).2
    rw [h0, hT.first] at hf
    exact absurd hf (by decide)
  | succ p =>
    rcases prev_point p (Nat.lt_of_succ_lt hn) hn with ⟨k, e1, e2, e3⟩ | ⟨e1, -, -, -⟩
    · rw [e1] at hf
      obtain ⟨s1, s2⟩ := hT.same k hf
      have hx : nxt T hT (grid0.coords ⟨p + 1, hn⟩) = nxt T hT (grid0.coords ⟨p, Nat.lt_of_succ_lt hn⟩) := by
        rw [nxt_eq, nxt_eq, e3, e1, e2, s2]
      have he : ex (T.te (ix (gt (grid0.coords ⟨p + 1, hn⟩)))) (hT.te_lt _) = ex (T.te (ix (gt (grid0.coords ⟨p, Nat.lt_of_succ_lt hn⟩)))) (hT.te_lt _) := by
        apply Fin.ext
        show (T.te _).toNat = (T.te _).toNat
        rw [e1, e2, s1]
      show iprop(tabs c T ∗ ringAt c G T hT (grid0.coords ⟨p, Nat.lt_of_succ_lt hn⟩)) ⊢ _
      unfold ringAt
      rw [hx, he, e3]
    · exfalso
      rw [e1, hT.first] at hf
      exact absurd hf (by decide)

/-- At a point whose flag is set the ring awaits that point's block. -/
theorem inv_turn (c : Dev nD) (G : BufG (F := F) c) (T : Tab) (hT : T.OK) (t : Fin grid0.N) (hf : T.fl (ix (gt (grid0.coords t))) = 1#32) :
    Inv c G T hT t.val (Nat.le_of_lt t.isLt)
      ⊢ iprop(tabs c T ∗ before c G (grid0.coords t) (ex (T.te (ix (gt (grid0.coords t)))) (hT.te_lt _))) := by
  obtain ⟨n, hn⟩ := t
  cases n with
  | zero =>
    show iprop(tabs c T ∗ fresh c G) ⊢ _
    unfold before
    iintro ⟨Ht, Hf⟩
    isplitl [Ht]; · iexact Ht
    ileft
    isplitr; · ipureintro; exact (first_iff ⟨0, hn⟩).mpr rfl
    iexact Hf
  | succ p =>
    have key : nxt T hT (grid0.coords ⟨p, Nat.lt_of_succ_lt hn⟩)
        = some (ex (T.te (ix (gt (grid0.coords ⟨p + 1, hn⟩)))) (hT.te_lt _), gj (grid0.coords ⟨p + 1, hn⟩)) := by
      rw [nxt_eq]
      unfold nxtF
      rcases prev_point p (Nat.lt_of_succ_lt hn) hn with ⟨k, e1, e2, e3⟩ | ⟨e1, e2, e3, e4⟩
      · rw [e1] at hf
        have hs := hT.next k hf
        have hlt : (T.ne (ix (gt (grid0.coords ⟨p, Nat.lt_of_succ_lt hn⟩)))).toNat < 32 := by
          rw [e2, ← hs]
          exact hT.te_lt _
        rw [dif_pos hlt, e3]
        refine congrArg some (Prod.ext (Fin.ext ?_) rfl)
        show (T.ne _).toNat = (T.te _).toNat
        rw [e1, e2, hs]
      · have hlt : ¬ (T.ne (ix (gt (grid0.coords ⟨p, Nat.lt_of_succ_lt hn⟩)))).toNat < 32 := by
          rw [e2, hT.last]
          decide
        rw [dif_neg hlt, if_pos e4, e3]
        refine congrArg some (Prod.ext (Fin.ext ?_) rfl)
        show (T.te _).toNat = (T.te _).toNat
        rw [e1]
    show iprop(tabs c T ∗ ringAt c G T hT (grid0.coords ⟨p, Nat.lt_of_succ_lt hn⟩)) ⊢ _
    unfold ringAt before
    rw [key]
    iintro ⟨Ht, ⟨%s, Hr⟩⟩
    isplitl [Ht]; · iexact Ht
    iright
    isplitr; · ipureintro; exact fun h => absurd ((first_iff ⟨p + 1, hn⟩).mp h) (Nat.succ_ne_zero p)
    iexists s
    iexists _
    iexists _
    iexact Hr

/-- The rest of a point, the ring standing at it. -/
theorem point_rest (c : Dev nD) (G : BufG (F := F) c) (T : Tab) (hT : T.OK) (i : grid0.Coords) (s : Fin 2) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (X : XT) (bg bu : BT (F := F)) (Z : S512x1024.Idx → F .bf16) (Q : PUnit → sProp 𝕄) :
    iprop(tabs c T ∗ ring c G s (ex (T.te (ix (gt i))) (hT.te_lt _)) (gj i) (nxt T hT i) ∗ (∃ W, owes (c : Thread nD τ) 0 W)
        ∗ owns (c : Thread nD τ) arg7 fullShare X ∗ owns (c : Thread nD τ) arg8 fullShare bg ∗ owns (c : Thread nD τ) arg9 fullShare bu ∗ owns (c : Thread nD τ) arg11 fullShare Z
        ∗ ((tabs c T ∗ ringAt c G T hT i ∗ (∃ W, owes (c : Thread nD τ) 0 W)
            ∗ owns (c : Thread nD τ) arg7 fullShare X ∗ owns (c : Thread nD τ) arg8 fullShare bg ∗ owns (c : Thread nD τ) arg9 fullShare bu
            ∗ owns (c : Thread nD τ) arg11 fullShare (outVal (T.nv (ix (gt i))) X (wv c G (ex (T.te (ix (gt i))) (hT.te_lt _)) (gj i) 0) (wv c G (ex (T.te (ix (gt i))) (hT.te_lt _)) (gj i) 1) bg bu)) -∗ Q ⟨⟩))
      ⊢ WP c (progR6 i arg7 harg7 arg8 harg8 arg9 harg9 arg11 harg11 (T.nv (ix (gt i)))) Q := by
  unfold ringAt ring
  iintro ⟨Ht, ⟨Hs, Hl, Hv, Ho⟩, HO, H7, H8, H9, H11, Hk⟩
  iapply (rest_wp c G (ex (T.te (ix (gt i))) (hT.te_lt _)) (gj i) s i arg7 harg7 arg8 harg8 arg9 harg9 arg11 harg11 (T.nv (ix (gt i))) (hT.nv_le _) X bg bu Z Q)
  isplitl [Hs]; · iexact Hs
  isplitl [Hl]; · iexact Hl
  isplitl [H7]; · iexact H7
  isplitl [H8]; · iexact H8
  isplitl [H9]; · iexact H9
  isplitl [H11]; · iexact H11
  iintro ⟨Hs, Hl, H7, H8, H9, H11⟩
  iapply Hk
  isplitl [Ht]; · iexact Ht
  isplitl [Hs Hl Hv Ho]
  · iexists s
    isplitl [Hs]; · iexact Hs
    isplitl [Hl]; · iexact Hl
    isplitl [Hv]; · iexact Hv
    iexact Ho
  isplitl [HO]; · iexact HO
  isplitl [H7]; · iexact H7
  isplitl [H8]; · iexact H8
  isplitl [H9]; · iexact H9
  iexact H11

/-- ONE GRID POINT. -/
theorem point_wp (c : Dev nD) (G : BufG (F := F) c) (T : Tab) (hT : T.OK) (t : Fin grid0.N) (arg7 : Memref sig .tc .vmem S4096x128 .i32) (harg7 : arg7.IsWhole) (arg8 : Memref sig .tc .vmem S1x1x1024 .f32) (harg8 : arg8.IsWhole)
    (arg9 : Memref sig .tc .vmem S1x1x1024 .f32) (harg9 : arg9.IsWhole) (arg11 : Memref sig .tc .vmem S512x1024 .bf16) (harg11 : arg11.IsWhole)
    (g0 : (Memref.whole main_arg0).IsWhole) (g1 : (Memref.whole main_arg1).IsWhole) (g2 : (Memref.whole main_arg2).IsWhole)
    (g3 : (Memref.whole main_arg3).IsWhole) (g4 : (Memref.whole main_arg4).IsWhole) (gw : (Memref.whole main_v0).IsWhole)
    (gs : (Memref.whole cc0_scratch0).IsWhole) (gl : (Memref.whole cc0_scratch2).IsWhole)
    (X : XT) (bg bu : BT (F := F)) (Z : S512x1024.Idx → F .bf16) (Q : PUnit → sProp 𝕄) :
    iprop(Inv c G T hT t.val (Nat.le_of_lt t.isLt) ∗ (∃ W, owes (c : Thread nD τ) 0 W)
        ∗ owns (c : Thread nD τ) arg7 fullShare X ∗ owns (c : Thread nD τ) arg8 fullShare bg ∗ owns (c : Thread nD τ) arg9 fullShare bu ∗ owns (c : Thread nD τ) arg11 fullShare Z
        ∗ ((Inv c G T hT (t.val + 1) t.isLt ∗ (∃ W, owes (c : Thread nD τ) 0 W)
            ∗ owns (c : Thread nD τ) arg7 fullShare X ∗ owns (c : Thread nD τ) arg8 fullShare bg ∗ owns (c : Thread nD τ) arg9 fullShare bu
            ∗ owns (c : Thread nD τ) arg11 fullShare (outVal (T.nv (ix (gt (grid0.coords t)))) X (wv c G (ex (T.te (ix (gt (grid0.coords t)))) (hT.te_lt _)) (gj (grid0.coords t)) 0)
                (wv c G (ex (T.te (ix (gt (grid0.coords t)))) (hT.te_lt _)) (gj (grid0.coords t)) 1) bg bu)) -∗ Q ⟨⟩))
      ⊢ WP c (cc0_moe_up (F := F) (grid0.coords t) (Memref.whole main_arg0) g0 (Memref.whole main_arg1) g1 (Memref.whole main_arg2) g2 (Memref.whole main_arg3) g3 (Memref.whole main_arg4) g4
          arg7 harg7 arg8 harg8 arg9 harg9 (Memref.whole main_v0) gw arg11 harg11 (Memref.whole cc0_scratch0) gs cc0_scratch1 (Memref.whole cc0_scratch2) gl) Q := by
  rw [cc0_moe_up_eq_skeleton, body_eq]
  have hI : Inv c G T hT (t.val + 1) t.isLt = iprop(tabs c T ∗ ringAt c G T hT (grid0.coords t)) := rfl
  rw [hI]
  generalize hi : grid0.coords t = i
  have loads : ∀ (P : sProp 𝕄), (iprop(tabs c T ∗ P) ⊢ WP c (progA i arg7 harg7 arg8 harg8 arg9 harg9 arg11 harg11 (T.fl (ix (gt i))) (progR6 i arg7 harg7 arg8 harg8 arg9 harg9 arg11 harg11 (T.nv (ix (gt i))))) Q)
      → (iprop(tabs c T ∗ P) ⊢ WP c (smemLoad (Memref.whole main_arg4) (Rect.unit (s := S99) (k0_off1 i) S1.size (k0_off1_inb i)) numel1_S1 rfl >>= fun v1 =>
          smemLoad (Memref.whole main_arg2) (Rect.unit (s := S99) (k0_off1 i) S1.size (k0_off1_inb i)) numel1_S1 rfl >>= fun v3 =>
            progA i arg7 harg7 arg8 harg8 arg9 harg9 arg11 harg11 v3 (progR6 i arg7 harg7 arg8 harg8 arg9 harg9 arg11 harg11 v1)) Q) := by
    intro P hP
    have hP' := hP
    unfold tabs at hP' ⊢
    iintro ⟨⟨Hte, Htb, Hfl, Hne, Hnv⟩, HP⟩
    iapply (wp_tab c (gt i) (off1_eq i) (w := T.nv (ix (gt i))) rfl) $$ Hnv
    iintro Hnv
    iapply (wp_tab c (gt i) (off1_eq i) (w := T.fl (ix (gt i))) rfl) $$ Hfl
    iintro Hfl
    iapply hP'
    isplitr [HP]
    · isplitl [Hte]; · iexact Hte
      isplitl [Htb]; · iexact Htb
      isplitl [Hfl]; · iexact Hfl
      isplitl [Hne]; · iexact Hne
      iexact Hnv
    iexact HP
  rcases hT.fl_or (gt i) with hf | hf
  · refine (sep_mono (inv_stay c G T hT t (by rw [hi]; exact hf)) .rfl).trans ?_
    rw [hi]
    have A := fun hA => loads iprop(ringAt c G T hT i ∗ (∃ W, owes (c : Thread nD τ) 0 W)
        ∗ owns (c : Thread nD τ) arg7 fullShare X ∗ owns (c : Thread nD τ) arg8 fullShare bg ∗ owns (c : Thread nD τ) arg9 fullShare bu ∗ owns (c : Thread nD τ) arg11 fullShare Z
        ∗ (((tabs c T ∗ ringAt c G T hT i) ∗ (∃ W, owes (c : Thread nD τ) 0 W)
            ∗ owns (c : Thread nD τ) arg7 fullShare X ∗ owns (c : Thread nD τ) arg8 fullShare bg ∗ owns (c : Thread nD τ) arg9 fullShare bu
            ∗ owns (c : Thread nD τ) arg11 fullShare (outVal (T.nv (ix (gt i))) X (wv c G (ex (T.te (ix (gt i))) (hT.te_lt _)) (gj i) 0) (wv c G (ex (T.te (ix (gt i))) (hT.te_lt _)) (gj i) 1) bg bu)) -∗ Q ⟨⟩)) hA
    refine BIBase.Entails.trans ?_ (A ?_)
    · iintro ⟨⟨Ht, Hr⟩, HO, H7, H8, H9, H11, Hk⟩
      isplitl [Ht]; · iexact Ht
      isplitl [Hr]; · iexact Hr
      isplitl [HO]; · iexact HO
      isplitl [H7]; · iexact H7
      isplitl [H8]; · iexact H8
      isplitl [H9]; · iexact H9
      isplitl [H11]; · iexact H11
      iexact Hk
    · refine BIBase.Entails.trans ?_ (skip_wp c T i arg7 harg7 arg8 harg8 arg9 harg9 arg11 harg11 hf _ Q)
      have hr : ringAt c G T hT i ⊢ iprop(∃ s, ring c G s (ex (T.te (ix (gt i))) (hT.te_lt _)) (gj i) (nxt T hT i)) := .rfl
      iintro ⟨Ht, Hr, HO, H7, H8, H9, H11, Hk⟩
      ihave Hr := hr $$ Hr
      icases Hr with ⟨%s, Hr⟩
      iapply (point_rest c G T hT i s arg7 harg7 arg8 harg8 arg9 harg9 arg11 harg11 X bg bu Z Q)
      isplitl [Ht]; · iexact Ht
      isplitl [Hr]; · iexact Hr
      isplitl [HO]; · iexact HO
      isplitl [H7]; · iexact H7
      isplitl [H8]; · iexact H8
      isplitl [H9]; · iexact H9
      isplitl [H11]; · iexact H11
      iintro ⟨Ht, Hr, HO, H7, H8, H9, H11⟩
      iapply Hk
      isplitl [Ht Hr]
      · isplitl [Ht]; · iexact Ht
        iexact Hr
      isplitl [HO]; · iexact HO
      isplitl [H7]; · iexact H7
      isplitl [H8]; · iexact H8
      isplitl [H9]; · iexact H9
      iexact H11
  · refine (sep_mono (inv_turn c G T hT t (by rw [hi]; exact hf)) .rfl).trans ?_
    rw [hi]
    have A := fun hA => loads iprop(before c G i (ex (T.te (ix (gt i))) (hT.te_lt _)) ∗ (∃ W, owes (c : Thread nD τ) 0 W)
        ∗ owns (c : Thread nD τ) arg7 fullShare X ∗ owns (c : Thread nD τ) arg8 fullShare bg ∗ owns (c : Thread nD τ) arg9 fullShare bu ∗ owns (c : Thread nD τ) arg11 fullShare Z
        ∗ (((tabs c T ∗ ringAt c G T hT i) ∗ (∃ W, owes (c : Thread nD τ) 0 W)
            ∗ owns (c : Thread nD τ) arg7 fullShare X ∗ owns (c : Thread nD τ) arg8 fullShare bg ∗ owns (c : Thread nD τ) arg9 fullShare bu
            ∗ owns (c : Thread nD τ) arg11 fullShare (outVal (T.nv (ix (gt i))) X (wv c G (ex (T.te (ix (gt i))) (hT.te_lt _)) (gj i) 0) (wv c G (ex (T.te (ix (gt i))) (hT.te_lt _)) (gj i) 1) bg bu)) -∗ Q ⟨⟩)) hA
    refine BIBase.Entails.trans ?_ (A ?_)
    · iintro ⟨⟨Ht, Hr⟩, HO, H7, H8, H9, H11, Hk⟩
      isplitl [Ht]; · iexact Ht
      isplitl [Hr]; · iexact Hr
      isplitl [HO]; · iexact HO
      isplitl [H7]; · iexact H7
      isplitl [H8]; · iexact H8
      isplitl [H9]; · iexact H9
      isplitl [H11]; · iexact H11
      iexact Hk
    · iintro ⟨Ht, Hr, HO, H7, H8, H9, H11, Hk⟩
      iapply (adv_wp c G T hT i arg7 harg7 arg8 harg8 arg9 harg9 arg11 harg11 hf _ Q)
      isplitl [Ht]; · iexact Ht
      isplitl [Hr]; · iexact Hr
      isplitl [HO]; · iexact HO
      iintro %s ⟨Ht, Hr, HO⟩
      iapply (point_rest c G T hT i s arg7 harg7 arg8 harg8 arg9 harg9 arg11 harg11 X bg bu Z Q)
      isplitl [Ht]; · iexact Ht
      isplitl [Hr]; · iexact Hr
      isplitl [HO]; · iexact HO
      isplitl [H7]; · iexact H7
      isplitl [H8]; · iexact H8
      isplitl [H9]; · iexact H9
      isplitl [H11]; · iexact H11
      iintro ⟨Ht, Hr, HO, H7, H8, H9, H11⟩
      iapply Hk
      isplitl [Ht Hr]
      · isplitl [Ht]; · iexact Ht
        iexact Hr
      isplitl [HO]; · iexact HO
      isplitl [H7]; · iexact H7
      isplitl [H8]; · iexact H8
      isplitl [H9]; · iexact H9
      iexact H11

/-- After the last point nothing is under way: everything comes back. -/
theorem inv_end (c : Dev nD) (G : BufG (F := F) c) (T : Tab) (hT : T.OK) (n : ℕ) (hn : n = 198) (h : n ≤ grid0.N) :
    Inv c G T hT n h ⊢ iprop(tabs c T ∗ (∃ w, slotW (F := F) c w) ∗ free2 c 0 ∗ free2 c 1
      ∗ semVal ((c : Thread nD τ), .dma (sm 0)) 0 ∗ semVal ((c : Thread nD τ), .dma (sm 1)) 0) := by
  subst hn
  have e : nxt T hT (grid0.coords ⟨197, h⟩) = none := by
    obtain ⟨a0, a1⟩ := coords_val ⟨197, h⟩
    dsimp only at a0 a1
    have e1 : gt (grid0.coords ⟨197, h⟩) = 98 := Fin.ext (show (grid0.coords ⟨197, h⟩ 1).val = 98 by omega)
    have e0 : gj (grid0.coords ⟨197, h⟩) = 1 := Fin.ext (show (grid0.coords ⟨197, h⟩ 0).val = 1 by omega)
    rw [nxt_eq, e1, e0, hT.last]
    unfold nxtF
    rw [dif_neg (by decide), if_neg (by decide)]
  show iprop(tabs c T ∗ ringAt c G T hT (grid0.coords ⟨197, h⟩)) ⊢ _
  unfold ringAt ring
  rw [e]
  unfold other
  iintro ⟨Ht, ⟨%s, Hs, Hl, Hv, -, -, Hf, Hw⟩⟩
  isplitl [Ht]; · iexact Ht
  isplitl [Hs]; · iexists _; iexact Hs
  ihave Hl := (landed_free2 c G _ _ s) $$ Hl
  fin_cases s
  · isplitl [Hl]; · iexact Hl
    isplitl [Hf]; · iexact Hf
    isplitl [Hv]; · iexact Hv
    iexact Hw
  · isplitl [Hf]; · iexact Hf
    isplitl [Hl]; · iexact Hl
    isplitl [Hw]; · iexact Hw
    iexact Hv

end Cert.Up

end
-- ==== Proof.Up.Data.lean ====
/-
  The pipeline at the tables the region reads: their admissibility, what every window's staging buffer holds before and
  after each point, and the body obligation.
-/
module

public import proofs.«01_k».proof.Proof.Up.Point

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
local notation "𝒱₀" => Variants.none

/-! ## The tables -/

/-- The five tables as the region reads them. -/
def pfT (T : Tab) : pre0.Contents (Elt F) := fun
  | ⟨0, _⟩ => T.te
  | ⟨1, _⟩ => T.tb
  | ⟨2, _⟩ => T.fl
  | ⟨3, _⟩ => T.ne
  | ⟨4, _⟩ => T.nv
  | ⟨_ + 5, h⟩ => absurd h (Nat.not_lt.2 (Nat.le_add_left _ _))

theorem emb_ix (t : Fin 99) {off : Fin 1 → ℕ} (ho : off = ![t.val]) (inb : ∀ a, off a + S1.size a ≤ S99.size a)
    (h1 : (Rect.unit (s := S99) off S1.size inb).shape.numel = 1) :
    (Rect.unit (s := S99) off S1.size inb).emb (Shape.Idx.first (h1.symm ▸ Nat.one_pos)) = ix t := by
  subst ho
  funext a
  apply Fin.ext
  obtain rfl : a = 0 := Subsingleton.elim _ _
  have : (Shape.Idx.first (s := (Rect.unit (s := S99) ![t.val] S1.size inb).shape) (h1.symm ▸ Nat.one_pos) 0).val < 1 := Fin.isLt _
  show t.val + 1 * _ = t.val
  omega

theorem gj_word : ∀ j : Fin 2, (BitVec.ofNat 32 j.val).toNat = j.val := by decide
theorem gj_word2 : ∀ j : Fin 2, (Scalar.addi 2#32 (BitVec.ofNat 32 j.val)).toNat = 2 + j.val := by decide

theorem t0 (T : Tab) (i : grid0.Coords) : cc0_transform_0 k0_off1_inb numel1_S1 (pfT (F := F) T) i = ![(T.tb (ix (gt i))).toNat, 0] :=
  congrArg (fun y => ![(T.tb y).toNat, 0]) (emb_ix (gt i) (off1_eq i) (k0_off1_inb i) numel1_S1)
theorem t1 (T : Tab) (i : grid0.Coords) : cc0_transform_1 k0_off1_inb numel1_S1 (pfT (F := F) T) i = ![(T.te (ix (gt i))).toNat, 0, (gj i).val] :=
  (congrArg (fun y => ![(T.te y).toNat, 0, (BitVec.ofNat 32 (gj i).val).toNat]) (emb_ix (gt i) (off1_eq i) (k0_off1_inb i) numel1_S1)).trans
    (by rw [gj_word])
theorem t2 (T : Tab) (i : grid0.Coords) : cc0_transform_2 k0_off1_inb numel1_S1 (pfT (F := F) T) i = ![(T.te (ix (gt i))).toNat, 0, 2 + (gj i).val] :=
  (congrArg (fun y => ![(T.te y).toNat, 0, (Scalar.addi 2#32 (BitVec.ofNat 32 (gj i).val)).toNat]) (emb_ix (gt i) (off1_eq i) (k0_off1_inb i) numel1_S1)).trans
    (by rw [gj_word2])

/-- The tables pass the region's side condition. -/
theorem okT (T : Tab) (hT : T.OK) : ok0 (pfT (F := F) T) := by
  unfold ok0
  refine ⟨fun i => ⟨?_, .inl rfl⟩, fun i => ⟨?_, .inl rfl⟩, fun i => ⟨?_, .inl rfl⟩⟩
  · rw [t0]
    have h := hT.tb_lt (gt i)
    intro a
    fin_cases a
    · show ((T.tb (ix (gt i))).toNat + 1) * 4096 ≤ 405504
      omega
    · show (0 + 1) * 128 ≤ 128
      omega
  · rw [t1]
    have h := hT.te_lt (gt i)
    have hj := (gj i).isLt
    intro a
    fin_cases a
    · show ((T.te (ix (gt i))).toNat + 1) * 1 ≤ 32
      omega
    · show (0 + 1) * 1 ≤ 1
      omega
    · show ((gj i).val + 1) * 1024 ≤ 4096
      omega
  · rw [t2]
    have h := hT.te_lt (gt i)
    have hj := (gj i).isLt
    intro a
    fin_cases a
    · show ((T.te (ix (gt i))).toNat + 1) * 1 ≤ 32
      omega
    · show (0 + 1) * 1 ≤ 1
      omega
    · show (2 + (gj i).val + 1) * 1024 ≤ 4096
      omega

abbrev admT (T : Tab) (hT : T.OK) : (pcfg0 (F := F)).Adm := ⟨pfT T, okT T hT⟩
abbrev admF (T : Tab) (hT : T.OK) : (p : Fin 1) → (pcfgs (F := F) p).Adm := fun _ => admT T hT

/-- The output is stored at every point. -/
theorem idle3 (T : Tab) (hT : T.OK) (i : grid0.Coords) : idle0 (pfT (F := F) T) 3 i = false := by
  have e : (pfT (F := F) T).atD 4 (k0_off1 i) = T.nv (ix (gt i)) := by
    have hb : ∀ a : Fin 1, k0_off1 i a + 1 ≤ S99.size a := by
      intro a
      obtain rfl : a = 0 := Subsingleton.elim _ _
      exact k0_off1_inb i 0
    refine (dif_pos hb).trans ?_
    have hy : (fun a => ⟨k0_off1 i a, hb a⟩ : S99.Idx) = ix (gt i) := by
      funext a
      apply Fin.ext
      obtain rfl : a = (0 : Fin 1) := Subsingleton.elim _ _
      show k0_off1 i 0 = (gt i).val
      rw [off1_eq]
      rfl
    exact congrArg T.nv hy
  show (!(k0_cond6 ((pfT (F := F) T).atD 4 (k0_off1 i)) == 1#1) && !(k0_cond7 ((pfT (F := F) T).atD 4 (k0_off1 i)) == 1#1)
    && !(k0_cond8 ((pfT (F := F) T).atD 4 (k0_off1 i)) == 1#1) && !(k0_cond9 ((pfT (F := F) T).atD 4 (k0_off1 i)) == 1#1)
    && !(k0_cond10 ((pfT (F := F) T).atD 4 (k0_off1 i)) == 1#1)) = false
  rw [e]
  generalize T.nv (ix (gt i)) = v, hT.nv_le (gt i) = hv
  obtain ⟨c6, c7, c8, c9, c10⟩ := conds' v hv
  rcases (show v.toNat = 0 ∨ (0 < v.toNat ∧ v.toNat ≤ 128) ∨ (128 < v.toNat ∧ v.toNat ≤ 256) ∨ (256 < v.toNat ∧ v.toNat ≤ 384) ∨ 384 < v.toNat by omega)
    with h | h | h | h | h
  · rw [c6.mpr h]; rfl
  · rw [c7.mpr h]; simp
  · rw [c8.mpr h]; simp
  · rw [c9.mpr h]; simp
  · rw [c10.mpr h]; simp

/-! ## The pipeline's proof data -/

section Data

variable (c : Dev nD) (V : (b : Ref sig .tc) → Buf (Elt F) ((c : Thread nD τ).loc b)) (T : Tab) (hT : T.OK)

/-- The windows' arrays. -/
def arrA (w : Fin 4) : Buf (Elt F) (((cfg0 (admT (F := F) T hT)).win w).arr.view.loc (c : Thread nD τ)) := V (Pipeline.arrRef spec0 w)

/-- A window's block of its array at a point. -/
def rd {cfg : Cfg sig Λ₀} {c : Dev nD} (A : (w : Fin cfg.W) → Buf (Elt F) ((cfg.win w).arr.view.loc (c : Thread nD τ))) (w : Fin cfg.W) (t : Fin cfg.N) :
    ((cfg.win w).xblock (cfg.grid.coords t)).Idx → Elt F (cfg.win w).elt :=
  ((cfg.win w).blk t).view.read (Elt F) (A w)

/-- The blocks the three input windows stage at a point. -/
def blkX (t : Fin grid0.N) : XT := rd (cfg := cfg0 (admT (F := F) T hT)) (arrA c V T hT) 0 t
def blkG (t : Fin grid0.N) : BT (F := F) := rd (cfg := cfg0 (admT (F := F) T hT)) (arrA c V T hT) 1 t
def blkU (t : Fin grid0.N) : BT (F := F) := rd (cfg := cfg0 (admT (F := F) T hT)) (arrA c V T hT) 2 t

/-- The expert at a point. -/
abbrev exT (t : Fin grid0.N) : Fin 32 := ex (T.te (ix (gt (grid0.coords t)))) (hT.te_lt _)

/-- What the output's staging buffer holds after a point. -/
def outT (t : Fin grid0.N) : S512x1024.Idx → F .bf16 :=
  outVal (T.nv (ix (gt (grid0.coords t)))) (blkX c V T hT t) (wv c (V main_v0) (exT T hT t) (gj (grid0.coords t)) 0)
    (wv c (V main_v0) (exT T hT t) (gj (grid0.coords t)) 1) (blkG c V T hT t) (blkU c V T hT t)

def dat0 : Dat τ (Elt F) Unit ℕ (UU nD τ) ℕ (cfg0 (admT (F := F) T hT)) c where
  A w := arrA c V T hT w
  after w t := match w with
    | ⟨0, _⟩ => blkX c V T hT t
    | ⟨1, _⟩ => blkG c V T hT t
    | ⟨2, _⟩ => blkU c V T hT t
    | ⟨3, _⟩ => outT c V T hT t
  Φ t := Inv c (V main_v0) T hT t.val (Nat.le_of_lt_succ t.isLt)
  q w := Pipeline.shareOf spec0 w
  owed _ := 0

theorem before0 (t : Fin grid0.N) (d) : (dat0 c V T hT).before 0 t d = blkX c V T hT t :=
  (Pipeline.Dat.before_in_eq_fetched (dat0 c V T hT) 0 rfl (fun _ => rfl) (fun _ _ _ => rfl) (fun _ => rfl) t d)
theorem before1 (t : Fin grid0.N) (d) : (dat0 c V T hT).before 1 t d = blkG c V T hT t :=
  (Pipeline.Dat.before_in_eq_fetched (dat0 c V T hT) 1 rfl (fun _ => rfl) (fun _ _ _ => rfl) (fun _ => rfl) t d)
theorem before2 (t : Fin grid0.N) (d) : (dat0 c V T hT).before 2 t d = blkU c V T hT t :=
  (Pipeline.Dat.before_in_eq_fetched (dat0 c V T hT) 2 rfl (fun _ => rfl) (fun _ _ _ => rfl) (fun _ => rfl) t d)

/-- What a staging buffer holds once the body has stored into it is what the loop asks of it. -/
theorem leaves {cfg : Cfg sig Λ₀} (dat : Dat τ (Elt F) Unit ℕ (UU nD τ) ℕ cfg c) (w : Fin cfg.W) (t : Fin cfg.N)
    (h : cfg.idle w (cfg.grid.coords t) = false) :
    (owns (c : Thread nD τ) ((cfg.win w).stage (cfg.slots t w)) fullShare (dat.after w t) : sProp 𝕄) ⊢ dat.leavesExact w t := by
  unfold Pipeline.Dat.leavesExact
  rw [h]

set_option backward.isDefEq.respectTransparency.types false in
theorem body_obligation : BodyObligation (dat0 c V T hT) (defs₀ (F := F)) 𝒱₀ () Set.univ := fun t => by
  show _ ⊢ wp frame _ Set.univ _ fun _ => iprop((dat0 c V T hT).Φ t.succ ∗ (dat0 c V T hT).owesAt () t.succ
    ∗ bigSep Finset.univ fun w => (dat0 c V T hT).leavesExact w t)
  rw [bigSep_W0, bigSep_W0]
  have hΦ : (dat0 c V T hT).Φ t.castSucc = Inv c (V main_v0) T hT t.val (Nat.le_of_lt t.isLt) :=
    Pipeline.Dat.Φ_castSucc (Inv c (V main_v0) T hT) t
  rw [hΦ, show (dat0 c V T hT).Φ t.succ = Inv c (V main_v0) T hT (t.val + 1) t.isLt from rfl]
  unfold Pipeline.Dat.owesAt Pipeline.owesWithin
  rw [show (dat0 c V T hT).owed t.castSucc = 0 from rfl, show (dat0 c V T hT).owed t.succ = 0 from rfl]
  iintro ⟨HI, ⟨%W, -, HO⟩, ⟨%d0, H0⟩, ⟨%d1, H1⟩, ⟨%d2, H2⟩, ⟨%d3, H3⟩⟩
  rw [before0, before1, before2]
  iapply (point_wp c (V main_v0) T hT t (spec0_0.stage ((cfg0 (admT (F := F) T hT)).slots t 0)) (hstage0_0 (((cfg0 (admT (F := F) T hT)).slots t 0).cast nbuf0_0))
    (spec0_1.stage ((cfg0 (admT (F := F) T hT)).slots t 1)) (hstage0_1 (((cfg0 (admT (F := F) T hT)).slots t 1).cast nbuf0_1))
    (spec0_2.stage ((cfg0 (admT (F := F) T hT)).slots t 2)) (hstage0_2 (((cfg0 (admT (F := F) T hT)).slots t 2).cast nbuf0_2))
    (spec0_3.stage ((cfg0 (admT (F := F) T hT)).slots t 3)) (hstage0_3 (((cfg0 (admT (F := F) T hT)).slots t 3).cast nbuf0_3))
    (Memref.isWhole_whole _) (Memref.isWhole_whole _) (Memref.isWhole_whole _) (Memref.isWhole_whole _) (Memref.isWhole_whole _) (Memref.isWhole_whole _)
    (Memref.isWhole_whole _) (Memref.isWhole_whole _)
    (blkX c V T hT t) (blkG c V T hT t) (blkU c V T hT t) ((dat0 c V T hT).before 3 t d3))
  isplitl [HI]; · iexact HI
  isplitl [HO]; · iexists W; iexact HO
  isplitl [H0]; · iexact H0
  isplitl [H1]; · iexact H1
  isplitl [H2]; · iexact H2
  isplitl [H3]; · iexact H3
  iintro ⟨HI, ⟨%W', HO⟩, H0, H1, H2, H3⟩
  isplitl [HI]; · iexact HI
  isplitl [HO]
  · iexists W'
    isplitr; · ipureintro; exact fun _ _ => Or.inl trivial
    iexact HO
  isplitl [H0]; · iapply (leaves c (dat0 c V T hT) (0 : Fin 4) t rfl); iexact H0
  isplitl [H1]; · iapply (leaves c (dat0 c V T hT) (1 : Fin 4) t rfl); iexact H1
  isplitl [H2]; · iapply (leaves c (dat0 c V T hT) (2 : Fin 4) t rfl); iexact H2
  iapply (leaves c (dat0 c V T hT) (3 : Fin 4) t (idle3 T hT _)); iexact H3

end Data

end Cert.Up

end
-- ==== Proof.Up.Region.lean ====
/-
  The whole program's run: three host operations, then the region; the arguments end as launched and the result at what
  the pipeline's proof data compute.
-/
module

public import proofs.«01_k».proof.Proof.Up.Data
public import Idealize.ShloMosaic.Lib.Pipeline.Regions

@[expose] public section

set_option synthInstance.maxSize 4096

noncomputable section

namespace Cert.Up

open Cert.KernelUpIdeal Cert.KernelUpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

variable (m : (ℓ : Loc nD τ sig) → Buf (Elt F) ℓ) (ρ : Dev nD → PrngReg)

/-! ## Before the region -/

/-- The buffers at launch, and when the region is entered. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

theorem not_written (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

theorem V_kept (c : Dev nD) (b : Ref sig .tc) (hb : b ≠ main_v0 ∧ b ≠ main_v1 ∧ b ≠ main_v2) : V m ρ c b = m ((c : Thread nD τ).loc b) :=
  StableHlo.after_of_forall_not_mem (b := Proc.devRef .tc b) hostOps0 (V₀ m ρ c) (not_written b hb)

def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The tables at launch -/

/-- The tables, on the one device. -/
def TT : Tab where
  te := m (((0 : Dev nD) : Thread nD τ).loc main_arg0)
  tb := m (((0 : Dev nD) : Thread nD τ).loc main_arg1)
  fl := m (((0 : Dev nD) : Thread nD τ).loc main_arg2)
  ne := m (((0 : Dev nD) : Thread nD τ).loc main_arg3)
  nv := m (((0 : Dev nD) : Thread nD τ).loc main_arg4)

theorem pf_eq (c : Dev nD) : (fun k => V m ρ c (pre0.ref k)) = pfT (F := F) (TT m) := by
  obtain rfl : c = 0 := Subsingleton.elim _ _
  funext k
  match k with
  | ⟨0, _⟩ => exact V_kept m ρ 0 main_arg0 (by decide)
  | ⟨1, _⟩ => exact V_kept m ρ 0 main_arg1 (by decide)
  | ⟨2, _⟩ => exact V_kept m ρ 0 main_arg2 (by decide)
  | ⟨3, _⟩ => exact V_kept m ρ 0 main_arg3 (by decide)
  | ⟨4, _⟩ => exact V_kept m ρ 0 main_arg4 (by decide)
  | ⟨n + 5, h⟩ => exact absurd h (Nat.not_lt.2 (Nat.le_add_left _ _))

/-- The tables the region holds are the five points-to. -/
theorem pref_tabs (c : Dev nD) (T : Tab) :
    (Pipeline.prefHeld pre0 c (fun _ => fullShare) (pfT (F := F) T) : sProp 𝕄) = tabs c T := by
  unfold Pipeline.prefHeld
  rw [show (bigSep Finset.univ fun k : Fin pre0.K => ((c : Thread nD τ).loc (pre0.ref k)) ↦{fullShare} pfT (F := F) T k : sProp 𝕄) = _ from
    bigSep_univ_eq_bigSepL [(0 : Fin 5), (1 : Fin 5), (2 : Fin 5), (3 : Fin 5), (4 : Fin 5)] (by decide) (by decide) _]
  rfl

/-! ## The region -/

variable (hT : (TT m).OK)

def dats (p : Fin 1) (c : Dev nD) : Dat τ (Elt F) Unit ℕ (UU nD τ) ℕ (Pipeline.pin (pcfgs (F := F)) (admF (TT m) hT) p) c :=
  dat0 c (V m ρ c) (TT m) hT

theorem A_eq (c : Dev nD) (w : Fin 4) : (dats m ρ hT 0 c).A w = V m ρ c (Pipeline.arrRef spec0 w) := rfl

/-- The kernel's two semaphores. -/
abbrev osem : Fin 2 → SemLoc sig := fun k => .dma (sm k)
theorem ownSemFacts : Pipeline.OwnSemFacts spec0 osem := by decide

abbrev sems0 (c : Dev nD) : sProp 𝕄 := iprop(semVal ((c : Thread nD τ), osem 0) 0 ∗ semVal ((c : Thread nD τ), osem 1) 0)

omit [FloatOps F] in
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

def u₀ : UU nD τ := (initOf (Pipeline.cells (Pipeline.pin (pcfgs (F := F)) (admF (TT m) hT)) (cellOf_inj (admF (TT m) hT)))
  (Pipeline.launchToks (Pipeline.pin (pcfgs (F := F)) (admF (TT m) hT)) (cellOf_inj (admF (TT m) hT))), 1)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- What the region leaves: the arrays at their final contents, the tables, and the two arguments no window stages. -/
abbrev Tₙ (c : Dev nD) : sProp 𝕄 :=
  iprop((dats m ρ hT 0 c).arrays ((dats m ρ hT 0 c).arrAt · grid0.N) ∗ tabs c (TT m)
    ∗ (((c : Thread nD τ).loc main_arg6) ↦{fullShare} V m ρ c main_arg6) ∗ (((c : Thread nD τ).loc main_arg7) ↦{fullShare} V m ρ c main_arg7))

theorem split_entry (c : Dev nD) : (unscopedBufs c (V m ρ c) : sProp 𝕄)
    ⊢ iprop((dats m ρ hT 0 c).arrays ((dats m ρ hT 0 c).arrAt · 0) ∗ Pipeline.prefHeld pre0 c (fun _ => fullShare) (pfT (F := F) (TT m))
      ∗ (((c : Thread nD τ).loc main_arg6) ↦{fullShare} V m ρ c main_arg6) ∗ (((c : Thread nD τ).loc main_arg7) ↦{fullShare} V m ρ c main_arg7)
      ∗ (((c : Thread nD τ).loc main_v0) ↦{fullShare} V m ρ c main_v0) ∗ (((c : Thread nD τ).loc main_v1) ↦{fullShare} V m ρ c main_v1)) := by
  have h := Pipeline.arrays_of_unscopedBufs_shared (pcfgs (F := F)) (admF (TT m) hT) (dats m ρ hT) (p := 0) winFacts₀0 sharedIn0 arr_whole0 c
    (fun w _ => rfl) (V m ρ c) (A_eq m ρ hT c)
  have h2 : (Pipeline.unscopedRest spec0 c (V m ρ c) : sProp 𝕄) = _ := Pipeline.unscopedRest_split (pre := pre0) preFacts0 c (V m ρ c)
  rw [unscopedRestP0_eq, pf_eq] at h2
  exact h.trans (sep_mono .rfl (Entails.of_eq h2))

/-- The region's entry: the invariant at the first point. -/
theorem enter (c : Dev nD) (G : BufG (F := F) c) (T : Tab) (hT : T.OK) (h : 0 ≤ grid0.N) :
    iprop(((((c : Thread nD τ).loc main_v0) ↦{fullShare} G) ∗ sems0 (F := F) c) ∗ Pipeline.prefHeld pre0 c (fun _ => fullShare) (pfT (F := F) T)
        ∗ Pipeline.scopedRest (Ix := Unit) (Name := ℕ) (U := UU nD τ) (Lvl := ℕ) (Val := Elt F) spec0 c)
      ⊢ Inv c G T hT 0 h := by
  rw [pref_tabs, scopedRest0_eq]
  show _ ⊢ iprop(tabs c T ∗ fresh c G)
  unfold fresh
  have hw : ((((c : Thread nD τ).loc main_v0) ↦{fullShare} G : sProp 𝕄)) ⊢ iprop(src c G 0 ∗ src c G 1) := weights_split c G
  iintro ⟨⟨HG, Hs0, Hs1⟩, Ht, ⟨%f, Hf⟩, ⟨%l, Hl⟩⟩
  have hr : ((((c : Thread nD τ).loc cc0_scratch0) ↦{fullShare} f : sProp 𝕄)) ⊢ iprop(free2 c 0 ∗ free2 c 1) := ring_split c f
  have hl : ((((c : Thread nD τ).loc cc0_scratch2) ↦{fullShare} l : sProp 𝕄)) ⊢ (iprop(∃ w, slotW (F := F) c w) : sProp 𝕄) := slot_any c l
  ihave HG := hw $$ HG
  icases HG with ⟨HG0, HG1⟩
  ihave Hf := hr $$ Hf
  icases Hf with ⟨Hf0, Hf1⟩
  ihave Hl := hl $$ Hl
  isplitl [Ht]; · iexact Ht
  isplitl [Hl]; · iexact Hl
  isplitl [HG0]; · iexact HG0
  isplitl [HG1]; · iexact HG1
  isplitl [Hf0]; · iexact Hf0
  isplitl [Hf1]; · iexact Hf1
  isplitl [Hs0]; · iexact Hs0
  iexact Hs1

/-- Its exit. -/
theorem leave (c : Dev nD) (G : BufG (F := F) c) (T : Tab) (hT : T.OK) (n : ℕ) (hn : n = 198) (h : n ≤ grid0.N) :
    Inv c G T hT n h ⊢ iprop(tabs c T ∗ sems0 (F := F) c ∗ Pipeline.scopedRest (Ix := Unit) (Name := ℕ) (U := UU nD τ) (Lvl := ℕ) (Val := Elt F) spec0 c) := by
  refine (inv_end c G T hT n hn h).trans ?_
  rw [scopedRest0_eq]
  have hj : iprop(free2 c 0 ∗ free2 c 1) ⊢ (iprop(∃ f : Buf (Elt F) ((c : Thread nD τ).loc cc0_scratch0), ((c : Thread nD τ).loc cc0_scratch0) ↦{fullShare} f) : sProp 𝕄) := ring_join c
  iintro ⟨Ht, ⟨%w, Hl⟩, Hf0, Hf1, Hs0, Hs1⟩
  isplitl [Ht]; · iexact Ht
  isplitl [Hs0 Hs1]
  · isplitl [Hs0]; · iexact Hs0
    iexact Hs1
  isplitl [Hf0 Hf1]
  · iapply hj
    isplitl [Hf0]; · iexact Hf0
    iexact Hf1
  iexists _
  iexact Hl

set_option backward.isDefEq.respectTransparency.types false in
def reg0 : Pipeline.RegionSeg (pcfgs (F := F)) (admF (TT m) hT) (dats m ρ hT) () defs₀ 𝒱₀ L lv 0 where
  win := winFacts₀0
  block_pos := block_pos0
  stage_whole := stage_whole0
  K := Fin 2
  osem := osem
  ho := ownSemFacts
  hbody c := (body_obligation c (V m ρ c) (TT m) hT).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ hT c ∗ R c)
  X c := iprop((((c : Thread nD τ).loc main_v0) ↦{fullShare} V m ρ c main_v0) ∗ sems0 c)
  Y c := tabs c (TT m)
  Z c := iprop((((c : Thread nD τ).loc main_arg6) ↦{fullShare} V m ρ c main_arg6) ∗ (((c : Thread nD τ).loc main_arg7) ↦{fullShare} V m ρ c main_arg7))
  hentry c := by
    rw [show StableHlo.held (c : Thread nD τ) ucRefs (StableHlo.after hostOps0 (V₀ m ρ c)) = unscopedBufs c (V m ρ c) from (unscopedBufs_held c _).symm,
      ownSems0_eq]
    iintro ⟨⟨Hub, HO⟩, Hos, -⟩
    ihave H := (split_entry m ρ hT c) $$ Hub
    icases H with ⟨Ha, Hp, H6, H7, H0, -⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    isplitl [H6]; · iexact H6
    iexact H7
  hin c := enter c (V m ρ c main_v0) (TT m) hT (Nat.zero_le _)
  hout c := by
    rw [ownSems0_eq]
    exact leave c (V m ρ c main_v0) (TT m) hT grid0.N N_0 (Nat.le_refl _)
  hexit c := by
    iintro ⟨Ha, HO, HY, HZ⟩
    imodintro
    isplitr [HO]
    · isplitl [Ha]; · iexact Ha
      isplitl [HY]; · iexact HY
      iexact HZ
    · unfold Pipeline.Dat.owesAt Pipeline.owesWithin
      icases HO with ⟨%W, -, HO⟩; iexists W; iexact HO

abbrev segs : List (Pipeline.Seg (pcfgs (F := F)) (admF (TT m) hT) (dats m ρ hT) () defs₀ 𝒱₀ L lv) := [.host (seg0 m ρ), .region (reg0 m ρ hT)]

/-- The result, as the pipeline's proof data compute it. -/
def outA (c : Dev nD) : Buf (Elt F) ((c : Thread nD τ).loc main_v3) := (dats m ρ hT 0 c).arrAt (3 : Fin 4) grid0.N

/-- How the program ends. -/
def QY (c : Dev nD) (s : MemSt nD τ sig (Elt F)) : Prop :=
  s.mem ((c : Thread nD τ).loc main_v3) = outA m ρ hT c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

theorem read_end (c : Dev nD) (s' : Phys nD τ sig (Elt F)) : iprop(Tₙ m ρ hT c ∗ SI s') ⊢ (iprop(⌜QY m ρ hT c s'.mem⌝ ∗ SI s') : sProp 𝕄) := by
  dsimp only [Tₙ]
  have ha : ((dats m ρ hT 0 c).arrays ((dats m ρ hT 0 c).arrAt · grid0.N) : sProp 𝕄) = _ :=
    Pipeline.Dat.arrays_arrShares (dats m ρ hT 0 c) arr_whole0 _
  have h5 : (dats m ρ hT 0 c).arrAt (0 : Fin 4) grid0.N = V m ρ c main_arg5 := (dats m ρ hT 0 c).arrAt_in (0 : Fin 4) rfl _
  rw [ha, V_kept m ρ c main_arg6 (by decide), V_kept m ρ c main_arg7 (by decide)]
  unfold Pipeline.arrShares tabs
  rw [bigSep_W0]
  iintro ⟨⟨⟨Ha0, -, -, Ha3⟩, ⟨T0, T1, T2, T3, T4⟩, H6, H7⟩, HSI⟩
  icombine HSI Ha0 gives %k5
  icombine HSI Ha3 gives %kr
  icombine HSI T0 gives %k0
  icombine HSI T1 gives %k1
  icombine HSI T2 gives %k2
  icombine HSI T3 gives %k3
  icombine HSI T4 gives %k4
  icombine HSI H6 gives %k6
  icombine HSI H7 gives %k7
  isplitr
  · ipureintro
    have hc : c = 0 := Subsingleton.elim _ _
    refine ⟨Buf.eq_of_forall_mem_univ kr, ?_, ?_, ?_, ?_, ?_, ?_, Buf.eq_of_forall_mem_univ k6, Buf.eq_of_forall_mem_univ k7⟩
    · subst hc; exact Buf.eq_of_forall_mem_univ k0
    · subst hc; exact Buf.eq_of_forall_mem_univ k1
    · subst hc; exact Buf.eq_of_forall_mem_univ k2
    · subst hc; exact Buf.eq_of_forall_mem_univ k3
    · subst hc; exact Buf.eq_of_forall_mem_univ k4
    · exact ((Buf.eq_of_forall_mem_univ k5).trans h5).trans (V_kept m ρ c main_arg5 (by decide))
  iexact HSI

set_option backward.isDefEq.respectTransparency.types false in
/-- THE RUN. -/
theorem run_main : θ_run defs (onTc (τ := τ) (main (F := F))) (s₀ m ρ) (fun r => (∀ c, QY m ρ hT c r.2) ∧ r.2.sem = fun _ => 0) :=
  Pipeline.θ_run_regions_kit_sems (pcfgs (F := F)) (admF (TT m) hT) (dats m ρ hT) () (cellOf_inj (admF (TT m) hT)) EP defs₀ 𝒱₀ L lv m ρ main (segs m ρ hT)
    (fun c Q => by rw [main_segs (admF (TT m) hT) (dats m ρ hT) () 𝒱₀ L lv (seg0 m ρ) (reg0 m ρ hT) rfl c])
    (by simp only [Pipeline.Seg.pipes_host, Pipeline.Seg.pipes_region, Pipeline.Seg.pipes_nil]; decide) (O₀ := 0) (hL := fun _ _ => rfl) (G := fun _ => iprop(emp)) (u₀ := u₀ m hT)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ hT)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := QY m ρ hT)
    (hfin := fun c s' => (read_end m ρ hT c s').trans fupd_intro)
    (hQ := fun _ h hz => ⟨h, funext fun g => hz g (.inr (by revert g; decide))⟩)

end Cert.Up

end
-- ==== Proof.Up.Pre.lean ====
/-
  What the precondition says of the tables' words.
-/
module

public import proofs.«01_k».proof.Proof.Up.Words
public import proofs.«01_k».proof.Pre_tables_ok

@[expose] public section

noncomputable section

namespace Cert.Up

open Idealize.ShloMosaic
open Cert.Pre_tables_ok (S99 S98 S1)

variable {F : FTy → Type} [FloatOps F] [Cert.Pre_tables_ok.Facts]

theorem and_one (a b : BitVec 1) : IntOp.andi a b = 1#1 ↔ a = 1#1 ∧ b = 1#1 := by revert a b; decide
theorem sge_one (x y : BitVec 32) : IntOp.cmpi .sge x y = 1#1 ↔ y.sle x = true := by
  show BitVec.ofBool (y.sle x) = 1#1 ↔ _; cases y.sle x <;> decide
theorem sle_one (x y : BitVec 32) : IntOp.cmpi .sle x y = 1#1 ↔ x.sle y = true := by
  show BitVec.ofBool (x.sle y) = 1#1 ↔ _; cases x.sle y <;> decide
theorem slt_one (x y : BitVec 32) : IntOp.cmpi .slt x y = 1#1 ↔ x.slt y = true := by
  show BitVec.ofBool (x.slt y) = 1#1 ↔ _; cases x.slt y <;> decide
theorem eq_one (x y : BitVec 32) : IntOp.cmpi .eq x y = 1#1 ↔ x = y := by
  show BitVec.ofBool (x == y) = 1#1 ↔ _
  rw [← beq_iff_eq (a := x) (b := y)]
  cases (x == y) <;> decide

theorem between (x : BitVec 32) (n : ℕ) (hn : n < 2 ^ 31) (h0 : (0#32).sle x = true) (h1 : x.sle (BitVec.ofNat 32 n) = true) : x.toNat ≤ n := by
  have e : (BitVec.ofNat 32 n).toNat = n := by rw [BitVec.toNat_ofNat]; exact Nat.mod_eq_of_lt (by omega)
  simp only [BitVec.sle, decide_eq_true_eq, BitVec.toInt, e, BitVec.toNat_ofNat] at h0 h1
  have := x.isLt
  split at h1 <;> split at h0 <;> omega

theorem neg_or (x : BitVec 32) (h0 : (4294967295#32).sle x = true) (h1 : x.sle 31#32 = true) : x.toNat < 32 ∨ x = 4294967295#32 := by
  simp only [BitVec.sle, decide_eq_true_eq, BitVec.toInt, BitVec.toNat_ofNat] at h0 h1
  have := x.isLt
  by_cases hx : x.toNat = 4294967295
  · exact .inr (BitVec.eq_of_toNat_eq hx)
  · left
    repeat' (first | split at h0 | split at h1)
    all_goals omega

theorem neg_of_lt (x : BitVec 32) (h0 : (4294967295#32).sle x = true) (h1 : x.slt 0#32 = true) : x = 4294967295#32 := by
  simp only [BitVec.sle, BitVec.slt, decide_eq_true_eq, BitVec.toInt, BitVec.toNat_ofNat] at h0 h1
  have := x.isLt
  apply BitVec.eq_of_toNat_eq
  show x.toNat = 4294967295
  repeat' (first | split at h0 | split at h1)
  all_goals omega

theorem one_or (x : BitVec 32) (h : x.toNat ≤ 1) : x = 0#32 ∨ x = 1#32 := by
  rcases Nat.le_one_iff_eq_zero_or_eq_one.1 h with h | h
  · exact .inl (BitVec.eq_of_toNat_eq h)
  · exact .inr (BitVec.eq_of_toNat_eq h)

/-- THE PRECONDITION, read. -/
theorem tab_ok (te tb fl ne nv : IVec S99 32) (xs : IVec Cert.Pre_tables_ok.S405504x128 32) (w : FVec F Cert.Pre_tables_ok.S1x32x2048x4096 .f32)
    (b : FVec F Cert.Pre_tables_ok.S1x32x4096 .f32)
    (h : (Cert.Pre_tables_ok.fn (F := F) te tb fl ne nv xs w b).1 = (fun _ => 1#1)
      ∧ (Cert.Pre_tables_ok.fn (F := F) te tb fl ne nv xs w b).2.1 = (fun _ => 1#1)
      ∧ (Cert.Pre_tables_ok.fn (F := F) te tb fl ne nv xs w b).2.2.1 = (fun _ => 1#1)
      ∧ (Cert.Pre_tables_ok.fn (F := F) te tb fl ne nv xs w b).2.2.2.1 = (fun _ => 1#1)
      ∧ (Cert.Pre_tables_ok.fn (F := F) te tb fl ne nv xs w b).2.2.2.2 = (fun _ => 1#1)) : Tab.OK ⟨te, tb, fl, ne, nv⟩ := by
  obtain ⟨h1, h2, h3, h4, h5⟩ := h
  have p1 := fun t : Fin 99 => congrFun h1 (ix t)
  have p2 := fun t : Fin 99 => congrFun h2 (ix t)
  have p3 := fun t : Fin 98 => congrFun h3 (fun a => ⟨t.val, by obtain rfl : a = 0 := Subsingleton.elim _ _; exact t.isLt⟩)
  have p4 := congrFun h4 (fun a => ⟨0, by obtain rfl : a = 0 := Subsingleton.elim _ _; decide⟩)
  have p5 := congrFun h5 (fun a => ⟨0, by obtain rfl : a = 0 := Subsingleton.elim _ _; decide⟩)
  simp only [Cert.Pre_tables_ok.fn, Cert.Pre_tables_ok.fn_part1, Cert.Pre_tables_ok.fn_part2, constantI, broadcastInDim, cmpi, andi, and_one, sge_one,
    sle_one] at p1 p2
  have e1 (T : IVec S99 32) (t : Fin 98) : extractStridedSlice S98 ![1] T Cert.Pre_tables_ok.Facts.slices_S99_S98_1
      (fun a => ⟨t.val, by obtain rfl : a = 0 := Subsingleton.elim _ _; exact t.isLt⟩) = T (ix t.succ) := by
    refine congrArg T (funext fun a => Fin.ext ?_)
    obtain rfl : a = 0 := Subsingleton.elim _ _
    exact Nat.add_comm 1 _
  have e0 (T : IVec S99 32) (t : Fin 98) : extractStridedSlice S98 ![0] T Cert.Pre_tables_ok.Facts.slices_S99_S98_0
      (fun a => ⟨t.val, by obtain rfl : a = 0 := Subsingleton.elim _ _; exact t.isLt⟩) = T (ix t.castSucc) := by
    refine congrArg T (funext fun a => Fin.ext ?_)
    obtain rfl : a = 0 := Subsingleton.elim _ _
    exact Nat.zero_add _
  simp only [Cert.Pre_tables_ok.fn, Cert.Pre_tables_ok.fn_part1, Cert.Pre_tables_ok.fn_part2, Cert.Pre_tables_ok.fn_where, constantI, broadcastInDim, cmpi, andi,
    select, e1, e0] at p3
  have z (T : IVec S99 32) : extractStridedSlice S1 ![0] T Cert.Pre_tables_ok.Facts.slices_S99_S1_0
      (fun a => ⟨0, by obtain rfl : a = 0 := Subsingleton.elim _ _; decide⟩) = T (ix 0) := by
    refine congrArg T (funext fun a => Fin.ext ?_)
    obtain rfl : a = 0 := Subsingleton.elim _ _
    rfl
  have l (T : IVec S99 32) : extractStridedSlice S1 ![98] T Cert.Pre_tables_ok.Facts.slices_S99_S1_98
      (fun a => ⟨0, by obtain rfl : a = 0 := Subsingleton.elim _ _; decide⟩) = T (ix 98) := by
    refine congrArg T (funext fun a => Fin.ext ?_)
    obtain rfl : a = 0 := Subsingleton.elim _ _
    rfl
  simp only [Cert.Pre_tables_ok.fn, Cert.Pre_tables_ok.fn_part1, Cert.Pre_tables_ok.fn_part2, constantI, broadcastInDim, cmpi, z, l] at p4 p5
  rw [eq_one] at p4
  rw [slt_one] at p5
  have hfl : ∀ t, fl (ix t) = 0#32 ∨ fl (ix t) = 1#32 := fun t => one_or _ (between _ 1 (by decide) (p2 t).1.2 (p2 t).2)
  refine ⟨fun t => Nat.lt_succ_of_le (between _ 31 (by decide) (p1 t).1.1.1.1.1 (p1 t).1.1.1.1.2),
    fun t => Nat.lt_succ_of_le (between _ 98 (by decide) (p1 t).1.1.1.2 (p1 t).1.1.2), fun t => between _ 512 (by decide) (p1 t).1.2 (p1 t).2,
    fun t => neg_or _ (p2 t).1.1.1 (p2 t).1.1.2, hfl, fun t ht => ?_, fun t ht => ?_, p4, neg_of_lt _ (p2 98).1.1.1 p5⟩
  · have q := p3 t
    have ht : fl (ix t.succ) = 0#32 := ht
    rw [ht] at q
    have q : IntOp.andi _ _ = 1#1 := q
    rw [and_one, eq_one, eq_one] at q
    exact q
  · have q := p3 t
    have ht : fl (ix t.succ) = 1#32 := ht
    rw [ht] at q
    have q : IntOp.cmpi .eq _ _ = 1#1 := q
    exact (eq_one _ _).1 q

end Cert.Up

end
-- ==== Proof.Up.Frames.lean ====
/-
  The two kernels' frames, from the one run.
-/
module

public import proofs.«01_k».proof.Defs
public import proofs.«01_k».proof.Proof.Up.Region
public import proofs.«01_k».proof.Proof.Up.Pre
public import proofs.«01_k».proof.Proof.Gen.KernelUp
public import proofs.«01_k».proof.Proof.Gen.Pre_tables_ok

@[expose] public section

noncomputable section

namespace Cert.Up

open Idealize.ShloMosaic Idealize.ShloMosaic.TcCoe Idealize.SL.Sem

theorem ok_ideal (m : (ℓ : Loc Cert.KernelUpIdeal.nD Cert.KernelUpIdeal.τ Cert.KernelUpIdeal.sig) → Buf (Elt Ideal) ℓ) (h : Cert.Pre_KernelUpIdeal m) :
    (TT (F := Ideal) m).OK := tab_ok (F := Ideal) _ _ _ _ _ _ _ _ (h 0)

theorem frame_ideal : Cert.quiescent_KernelUpIdeal := fun m ρ hp =>
  (θ_run Cert.KernelUpIdeal.defs _ _).mono (fun _ h => ⟨fun c => (h.1 c).2, h.2⟩) (run_main (F := Ideal) m ρ (ok_ideal m hp))

theorem ok_bits (m : (ℓ : Loc Cert.KernelUp.nD Cert.KernelUp.τ Cert.KernelUp.sig) → Buf (Elt Bits) ℓ) (h : Cert.Pre_KernelUp m) :
    (TT (F := Bits) m).OK := tab_ok (F := Bits) _ _ _ _ _ _ _ _ (h 0)

set_option smartUnfolding false in
set_option maxRecDepth 8192 in
set_option maxHeartbeats 8000000 in
theorem frame_bits : Cert.quiescent_KernelUp := fun m ρ hp =>
  (θ_run Cert.KernelUpIdeal.defs _ _).mono (fun _ h => ⟨fun c => (h.1 c).2, h.2⟩) (run_main (F := Bits) m ρ (ok_bits m hp))

end Cert.Up

end
-- ==== Proof.Up.Model.lean ====
/-
  The expert layer's first product as mathematics: a row's packed words split into halves, its product with an expert's
  columns, and the gated unit.
-/
module

public import proofs.«01_k».proof.Proof.Up.Body
public import Idealize.ShloMosaic.Lib.Pointwise
public import Idealize.ShloMosaic.Lib.Pipeline.Value

@[expose] public section

set_option maxRecDepth 16384

noncomputable section

namespace Cert.Up

open Idealize.ShloMosaic Idealize.ShloMosaic.TcCoe

/-- The float in a word's upper half. -/
def hi (w : BitVec 32) : EReal := Ideal.ofBits FTy.f32 (w &&& 4294901760#32)

/-- The float in a word's lower half. -/
def lo (w : BitVec 32) : EReal := Ideal.ofBits FTy.f32 (w <<< 16)

/-- An array of words read at natural numbers. -/
def word {R : ℕ} (X : (⟨2, ![R, 128]⟩ : Shape).Idx → BitVec 32) (i q : ℕ) : BitVec 32 :=
  if h : i < R ∧ q < 128 then X (ix2 ⟨i, h.1⟩ ⟨q, h.2⟩) else 0#32

theorem word_of {R : ℕ} (X : (⟨2, ![R, 128]⟩ : Shape).Idx → BitVec 32) (i : Fin R) (q : Fin 128) {i' q' : ℕ}
    (hi : i.val = i') (hq : q.val = q') : X (ix2 i q) = word X i' q' := by
  subst hi hq;
  have e : word X i.val q.val = X (ix2 i q) := dif_pos ⟨i.isLt, q.isLt⟩
  exact e.symm

/-- Entry `k` of row `r`: eight rows of words hold the row's 1024 upper halves, then its 1024 lower halves. -/
def xv {R : ℕ} (X : (⟨2, ![R, 128]⟩ : Shape).Idx → BitVec 32) (r k : ℕ) : EReal :=
  if k < 1024 then hi (word X (8 * r + k / 128) (k % 128)) else lo (word X (8 * r + (k - 1024) / 128) (k % 128))

/-- A row's product with a column, and the bias. -/
def lin (x : ℕ → EReal) (w : Fin 2048 → EReal) (b : EReal) : EReal := ∑ k : Fin 2048, x k.val * w k + b

/-- The clamped gated unit. -/
def glu (g u : EReal) : EReal :=
  min g (Ideal.ofBits FTy.f32 1088421888#32) *
      Ideal.logistic (Ideal.ofBits FTy.f32 1071242019#32 * min g (Ideal.ofBits FTy.f32 1088421888#32)) *
    (min (Ideal.ofBits FTy.f32 1088421888#32) (max (Ideal.ofBits FTy.f32 3235905536#32) u) + 1)

/-- Sixteen pieces of 128 columns side by side, at a column. -/
theorem cat16 {n : ℕ} {α : Type} (f : Fin 16 → (⟨2, ![n, 128]⟩ : Shape).Idx → α) (h) (p : Fin n) (k : Fin 2048) :
    concatenate (⟨2, ![n, 2048]⟩ : Shape) 1 (List.ofFn fun i : Fin 16 => (⟨⟨2, ![n, 128]⟩, f i⟩ : (s : Shape) × (s.Idx → α))) h (ix2 p k)
      = f ⟨k.val / 128, by omega⟩ (ix2 p ⟨k.val % 128, by omega⟩) :=
  concatenate_ofFn_apply (t := ⟨2, ![n, 2048]⟩) (s₁ := ⟨2, ![n, 128]⟩) (1 : Fin 2) f h rfl 128 rfl (ix2 p k) ⟨k.val / 128, by omega⟩ rfl
    (ix2 p ⟨k.val % 128, by omega⟩) rfl (fun b hb => by
    match b with
    | ⟨0, _⟩ => rfl
    | ⟨1, _⟩ => exact absurd rfl hb)

/-- Every eighth row of a tile's words. -/
theorem ldx {n k : ℕ} (inb) (X : XT) (p : Fin n) (q : Fin 128) (hn : n ≤ 512) (hk : k < 8) :
    X ((⟨![k, 0], ![n, 128], ![8, 1], inb⟩ : LoadRect Cert.KernelUpIdeal.S4096x128).idx (ix2 p q))
      = word X (8 * p.val + k) q.val := by
  refine Eq.trans (congrArg X ?_) (word_of (R := 4096) X ⟨8 * p.val + k, by omega⟩ q rfl rfl)
  funext a
  match a with
  | ⟨0, _⟩ => exact Fin.ext (show k + 8 * p.val = 8 * p.val + k by omega)
  | ⟨1, _⟩ => exact Fin.ext (show 0 + 1 * q.val = q.val by omega)

theorem hi_eq (w : BitVec 32) : (FloatOps.ofBits FTy.f32 (IntOp.andi w 4294901760#32) : Ideal FTy.f32) = hi w := rfl
theorem lo_eq (w : BitVec 32) : (FloatOps.ofBits FTy.f32 (IntOp.shli .vector w 16#32) : Ideal FTy.f32) = lo w := rfl

end Cert.Up

end
-- ==== Proof.Up.Act128.lean ====
/-
  What a grid point's body stores, row by row, as the model's numbers.
-/
module

public import proofs.«01_k».proof.Proof.Up.Model

@[expose] public section

set_option maxRecDepth 16384

noncomputable section

namespace Cert.Up

open Cert.KernelUpIdeal Cert.KernelUpIdeal.Gen
open Idealize.ShloMosaic Idealize.ShloMosaic.TcCoe

/-- The upper halves of a block of words, as floats. -/
def hv128 (v : Vec Ideal S128x128 .i32) : FVec Ideal S128x128 .bf16 :=
  truncf .bf16 (bitcastToFloat .f32 (andi v (broadcast S128x128 4294901760#32)) : FVec Ideal S128x128 .f32) bitsLt_bf16_f32

/-- The lower halves of a block of words, as floats. -/
def lv128 (v : Vec Ideal S128x128 .i32) : FVec Ideal S128x128 .bf16 :=
  truncf .bf16 (bitcastToFloat .f32 (shli v (broadcast S128x128 16#32)) : FVec Ideal S128x128 .f32) bitsLt_bf16_f32

/-- The sixteen pieces of a block's rows. -/
def ps128 (X : XT) : Fin 16 → S128x128.Idx → EReal :=
  ![hv128 (ldX128_0 X), hv128 (ldX128_1 X), hv128 (ldX128_2 X), hv128 (ldX128_3 X), hv128 (ldX128_4 X), hv128 (ldX128_5 X), hv128 (ldX128_6 X), hv128 (ldX128_7 X), lv128 (ldX128_0 X), lv128 (ldX128_1 X), lv128 (ldX128_2 X), lv128 (ldX128_3 X), lv128 (ldX128_4 X), lv128 (ldX128_5 X), lv128 (ldX128_6 X), lv128 (ldX128_7 X)]

theorem ld128_0_at (X : XT) (p : Fin 128) (q : Fin 128) : ldX128_0 (F := Ideal) X (ix2 p q) = word X (8 * p.val + 0) q.val :=
  ldx inb_S4096x128_S128x128_0_0_s_8_1 X p q (by decide) (by decide)
theorem ld128_1_at (X : XT) (p : Fin 128) (q : Fin 128) : ldX128_1 (F := Ideal) X (ix2 p q) = word X (8 * p.val + 1) q.val :=
  ldx inb_S4096x128_S128x128_1_0_s_8_1 X p q (by decide) (by decide)
theorem ld128_2_at (X : XT) (p : Fin 128) (q : Fin 128) : ldX128_2 (F := Ideal) X (ix2 p q) = word X (8 * p.val + 2) q.val :=
  ldx inb_S4096x128_S128x128_2_0_s_8_1 X p q (by decide) (by decide)
theorem ld128_3_at (X : XT) (p : Fin 128) (q : Fin 128) : ldX128_3 (F := Ideal) X (ix2 p q) = word X (8 * p.val + 3) q.val :=
  ldx inb_S4096x128_S128x128_3_0_s_8_1 X p q (by decide) (by decide)
theorem ld128_4_at (X : XT) (p : Fin 128) (q : Fin 128) : ldX128_4 (F := Ideal) X (ix2 p q) = word X (8 * p.val + 4) q.val :=
  ldx inb_S4096x128_S128x128_4_0_s_8_1 X p q (by decide) (by decide)
theorem ld128_5_at (X : XT) (p : Fin 128) (q : Fin 128) : ldX128_5 (F := Ideal) X (ix2 p q) = word X (8 * p.val + 5) q.val :=
  ldx inb_S4096x128_S128x128_5_0_s_8_1 X p q (by decide) (by decide)
theorem ld128_6_at (X : XT) (p : Fin 128) (q : Fin 128) : ldX128_6 (F := Ideal) X (ix2 p q) = word X (8 * p.val + 6) q.val :=
  ldx inb_S4096x128_S128x128_6_0_s_8_1 X p q (by decide) (by decide)
theorem ld128_7_at (X : XT) (p : Fin 128) (q : Fin 128) : ldX128_7 (F := Ideal) X (ix2 p q) = word X (8 * p.val + 7) q.val :=
  ldx inb_S4096x128_S128x128_7_0_s_8_1 X p q (by decide) (by decide)

theorem ps128_at (X : XT) (p : Fin 128) (q : Fin 128) : ∀ j : Fin 16, ps128 X j (ix2 p q)
    = if j.val < 8 then hi (word X (8 * p.val + j.val) q.val) else lo (word X (8 * p.val + (j.val - 8)) q.val)
  | ⟨0, _⟩ => (congrArg hi (ld128_0_at X p q)).trans (if_pos (show 0 < 8 by decide)).symm
  | ⟨1, _⟩ => (congrArg hi (ld128_1_at X p q)).trans (if_pos (show 1 < 8 by decide)).symm
  | ⟨2, _⟩ => (congrArg hi (ld128_2_at X p q)).trans (if_pos (show 2 < 8 by decide)).symm
  | ⟨3, _⟩ => (congrArg hi (ld128_3_at X p q)).trans (if_pos (show 3 < 8 by decide)).symm
  | ⟨4, _⟩ => (congrArg hi (ld128_4_at X p q)).trans (if_pos (show 4 < 8 by decide)).symm
  | ⟨5, _⟩ => (congrArg hi (ld128_5_at X p q)).trans (if_pos (show 5 < 8 by decide)).symm
  | ⟨6, _⟩ => (congrArg hi (ld128_6_at X p q)).trans (if_pos (show 6 < 8 by decide)).symm
  | ⟨7, _⟩ => (congrArg hi (ld128_7_at X p q)).trans (if_pos (show 7 < 8 by decide)).symm
  | ⟨8, _⟩ => (congrArg lo (ld128_0_at X p q)).trans (if_neg (show ¬ 8 < 8 by decide)).symm
  | ⟨9, _⟩ => (congrArg lo (ld128_1_at X p q)).trans (if_neg (show ¬ 9 < 8 by decide)).symm
  | ⟨10, _⟩ => (congrArg lo (ld128_2_at X p q)).trans (if_neg (show ¬ 10 < 8 by decide)).symm
  | ⟨11, _⟩ => (congrArg lo (ld128_3_at X p q)).trans (if_neg (show ¬ 11 < 8 by decide)).symm
  | ⟨12, _⟩ => (congrArg lo (ld128_4_at X p q)).trans (if_neg (show ¬ 12 < 8 by decide)).symm
  | ⟨13, _⟩ => (congrArg lo (ld128_5_at X p q)).trans (if_neg (show ¬ 13 < 8 by decide)).symm
  | ⟨14, _⟩ => (congrArg lo (ld128_6_at X p q)).trans (if_neg (show ¬ 14 < 8 by decide)).symm
  | ⟨15, _⟩ => (congrArg lo (ld128_7_at X p q)).trans (if_neg (show ¬ 15 < 8 by decide)).symm
  | ⟨_ + 16, h⟩ => absurd h (Nat.not_lt.2 (Nat.le_add_left _ _))

theorem pay17_eq (X : XT) : k0_pay17 (F := Ideal) (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32
    = concatenate S128x2048 1 (List.ofFn fun i : Fin 16 => (⟨S128x128, ps128 X i⟩ : (s : Shape) × (s.Idx → EReal))) concatenates_S128x128_S128x128_S128x128_S128x128_S128x128_S128x128_S128x128_S128x128_S128x128_S128x128_S128x128_S128x128_S128x128_S128x128_S128x128_S128x128_S128x2048_d1 := rfl

theorem rows128 (X : XT) (p : Fin 128) (k : Fin 2048) : k0_pay17 (F := Ideal) (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32 (ix2 p k) = xv X p.val k.val := by
  rw [pay17_eq]
  refine (cat16 (ps128 X) _ p k).trans ((ps128_at X p _ _).trans ?_)
  unfold xv
  by_cases h : k.val < 1024
  · rw [if_pos h, if_pos (show k.val / 128 < 8 by omega)]
  · rw [if_neg h, if_neg (show ¬ k.val / 128 < 8 by omega)]
    refine congrArg lo (congrArg₂ (word X) (congrArg (8 * p.val + ·) ?_) rfl)
    show k.val / 128 - 8 = (k.val - 1024) / 128
    omega

theorem pay18_at (X : XT) (w : WT (F := Ideal)) (p : Fin 128) (n : Fin 1024) :
    k0_pay18 (F := Ideal) (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32 (unsq w) (ix2 p n) = ∑ k : Fin 2048, xv X p.val k.val * w (ix2 k n) := by
  unfold k0_pay18
  generalize hV : k0_pay17 (F := Ideal) (ldX128_4 X) (ldX128_5 X) (ldX128_6 X) (ldX128_7 X) (k0_pay9 (ldX128_0 X)) (k0_pay10 (ldX128_0 X)) (k0_pay11 (ldX128_1 X)) (k0_pay12 (ldX128_1 X)) (k0_pay13 (ldX128_2 X)) (k0_pay14 (ldX128_2 X)) (k0_pay15 (ldX128_3 X)) (k0_pay16 (ldX128_3 X)) 4294901760#32 = V
  have hr : ∀ k : Fin 2048, V (ix2 p k) = xv X p.val k.val := fun k => by rw [← hV]; exact rows128 X p k
  rw [shapeCast_unsq]
  pointwise []
  exact Finset.sum_congr rfl fun k _ => congrArg (· * w (ix2 k n)) (hr k)

theorem pay2_at (V : FVec Ideal S128x2048 .bf16) (A : FVec Ideal S128x1024 .f32) (bg bu : BT (F := Ideal)) (w : WT (F := Ideal))
    (p : Fin 128) (n : Fin 1024) : k0_pay2 (F := Ideal) V A (ldB bg) (unsq w) (ldB bu) (ix2 p n)
      = glu (A (ix2 p n) + bg (ix3 0 0 n)) (∑ k : Fin 2048, V (ix2 p k) * w (ix2 k n) + bu (ix3 0 0 n)) := by
  unfold k0_pay2
  rw [shapeCast_unsq]
  have e : ∀ b : BT (F := Ideal), ldB b (ix3 0 0 n) = b (ix3 0 0 n) := fun b => congrArg b (by
    funext a
    match a with
    | ⟨0, _⟩ => rfl
    | ⟨1, _⟩ => rfl
    | ⟨2, _⟩ => exact Fin.ext (show 0 + 1 * n.val = n.val by omega))
  pointwise []
  rw [e bg, e bu]
  rfl

theorem act128_at (X : XT) (wg wu : WT (F := Ideal)) (bg bu : BT (F := Ideal)) (p : Fin 128) (n : Fin 1024) :
    act128 (F := Ideal) X wg wu bg bu (ix2 p n)
      = glu (lin (xv X p.val) (fun k => wg (ix2 k n)) (bg (ix3 0 0 n))) (lin (xv X p.val) (fun k => wu (ix2 k n)) (bu (ix3 0 0 n))) := by
  refine (pay2_at _ _ bg bu wu p n).trans ?_
  exact congrArg₂ glu (congrArg (· + bg (ix3 0 0 n)) (pay18_at X wg p n))
    (congrArg (· + bu (ix3 0 0 n)) (Finset.sum_congr rfl fun k _ => congrArg (· * wu (ix2 k n)) (rows128 X p k)))

end Cert.Up

end
-- ==== Proof.Up.Act256.lean ====
/-
  What a grid point's body stores, row by row, as the model's numbers.
-/
module

public import proofs.«01_k».proof.Proof.Up.Model

@[expose] public section

set_option maxRecDepth 16384

noncomputable section

namespace Cert.Up

open Cert.KernelUpIdeal Cert.KernelUpIdeal.Gen
open Idealize.ShloMosaic Idealize.ShloMosaic.TcCoe

/-- The upper halves of a block of words, as floats. -/
def hv256 (v : Vec Ideal S256x128 .i32) : FVec Ideal S256x128 .bf16 :=
  truncf .bf16 (bitcastToFloat .f32 (andi v (broadcast S256x128 4294901760#32)) : FVec Ideal S256x128 .f32) bitsLt_bf16_f32

/-- The lower halves of a block of words, as floats. -/
def lv256 (v : Vec Ideal S256x128 .i32) : FVec Ideal S256x128 .bf16 :=
  truncf .bf16 (bitcastToFloat .f32 (shli v (broadcast S256x128 16#32)) : FVec Ideal S256x128 .f32) bitsLt_bf16_f32

/-- The sixteen pieces of a block's rows. -/
def ps256 (X : XT) : Fin 16 → S256x128.Idx → EReal :=
  ![hv256 (ldX256_0 X), hv256 (ldX256_1 X), hv256 (ldX256_2 X), hv256 (ldX256_3 X), hv256 (ldX256_4 X), hv256 (ldX256_5 X), hv256 (ldX256_6 X), hv256 (ldX256_7 X), lv256 (ldX256_0 X), lv256 (ldX256_1 X), lv256 (ldX256_2 X), lv256 (ldX256_3 X), lv256 (ldX256_4 X), lv256 (ldX256_5 X), lv256 (ldX256_6 X), lv256 (ldX256_7 X)]

theorem ld256_0_at (X : XT) (p : Fin 256) (q : Fin 128) : ldX256_0 (F := Ideal) X (ix2 p q) = word X (8 * p.val + 0) q.val :=
  ldx inb_S4096x128_S256x128_0_0_s_8_1 X p q (by decide) (by decide)
theorem ld256_1_at (X : XT) (p : Fin 256) (q : Fin 128) : ldX256_1 (F := Ideal) X (ix2 p q) = word X (8 * p.val + 1) q.val :=
  ldx inb_S4096x128_S256x128_1_0_s_8_1 X p q (by decide) (by decide)
theorem ld256_2_at (X : XT) (p : Fin 256) (q : Fin 128) : ldX256_2 (F := Ideal) X (ix2 p q) = word X (8 * p.val + 2) q.val :=
  ldx inb_S4096x128_S256x128_2_0_s_8_1 X p q (by decide) (by decide)
theorem ld256_3_at (X : XT) (p : Fin 256) (q : Fin 128) : ldX256_3 (F := Ideal) X (ix2 p q) = word X (8 * p.val + 3) q.val :=
  ldx inb_S4096x128_S256x128_3_0_s_8_1 X p q (by decide) (by decide)
theorem ld256_4_at (X : XT) (p : Fin 256) (q : Fin 128) : ldX256_4 (F := Ideal) X (ix2 p q) = word X (8 * p.val + 4) q.val :=
  ldx inb_S4096x128_S256x128_4_0_s_8_1 X p q (by decide) (by decide)
theorem ld256_5_at (X : XT) (p : Fin 256) (q : Fin 128) : ldX256_5 (F := Ideal) X (ix2 p q) = word X (8 * p.val + 5) q.val :=
  ldx inb_S4096x128_S256x128_5_0_s_8_1 X p q (by decide) (by decide)
theorem ld256_6_at (X : XT) (p : Fin 256) (q : Fin 128) : ldX256_6 (F := Ideal) X (ix2 p q) = word X (8 * p.val + 6) q.val :=
  ldx inb_S4096x128_S256x128_6_0_s_8_1 X p q (by decide) (by decide)
theorem ld256_7_at (X : XT) (p : Fin 256) (q : Fin 128) : ldX256_7 (F := Ideal) X (ix2 p q) = word X (8 * p.val + 7) q.val :=
  ldx inb_S4096x128_S256x128_7_0_s_8_1 X p q (by decide) (by decide)

theorem ps256_at (X : XT) (p : Fin 256) (q : Fin 128) : ∀ j : Fin 16, ps256 X j (ix2 p q)
    = if j.val < 8 then hi (word X (8 * p.val + j.val) q.val) else lo (word X (8 * p.val + (j.val - 8)) q.val)
  | ⟨0, _⟩ => (congrArg hi (ld256_0_at X p q)).trans (if_pos (show 0 < 8 by decide)).symm
  | ⟨1, _⟩ => (congrArg hi (ld256_1_at X p q)).trans (if_pos (show 1 < 8 by decide)).symm
  | ⟨2, _⟩ => (congrArg hi (ld256_2_at X p q)).trans (if_pos (show 2 < 8 by decide)).symm
  | ⟨3, _⟩ => (congrArg hi (ld256_3_at X p q)).trans (if_pos (show 3 < 8 by decide)).symm
  | ⟨4, _⟩ => (congrArg hi (ld256_4_at X p q)).trans (if_pos (show 4 < 8 by decide)).symm
  | ⟨5, _⟩ => (congrArg hi (ld256_5_at X p q)).trans (if_pos (show 5 < 8 by decide)).symm
  | ⟨6, _⟩ => (congrArg hi (ld256_6_at X p q)).trans (if_pos (show 6 < 8 by decide)).symm
  | ⟨7, _⟩ => (congrArg hi (ld256_7_at X p q)).trans (if_pos (show 7 < 8 by decide)).symm
  | ⟨8, _⟩ => (congrArg lo (ld256_0_at X p q)).trans (if_neg (show ¬ 8 < 8 by decide)).symm
  | ⟨9, _⟩ => (congrArg lo (ld256_1_at X p q)).trans (if_neg (show ¬ 9 < 8 by decide)).symm
  | ⟨10, _⟩ => (congrArg lo (ld256_2_at X p q)).trans (if_neg (show ¬ 10 < 8 by decide)).symm
  | ⟨11, _⟩ => (congrArg lo (ld256_3_at X p q)).trans (if_neg (show ¬ 11 < 8 by decide)).symm
  | ⟨12, _⟩ => (congrArg lo (ld256_4_at X p q)).trans (if_neg (show ¬ 12 < 8 by decide)).symm
  | ⟨13, _⟩ => (congrArg lo (ld256_5_at X p q)).trans (if_neg (show ¬ 13 < 8 by decide)).symm
  | ⟨14, _⟩ => (congrArg lo (ld256_6_at X p q)).trans (if_neg (show ¬ 14 < 8 by decide)).symm
  | ⟨15, _⟩ => (congrArg lo (ld256_7_at X p q)).trans (if_neg (show ¬ 15 < 8 by decide)).symm
  | ⟨_ + 16, h⟩ => absurd h (Nat.not_lt.2 (Nat.le_add_left _ _))

theorem pay27_eq (X : XT) : k0_pay27 (F := Ideal) (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32
    = concatenate S256x2048 1 (List.ofFn fun i : Fin 16 => (⟨S256x128, ps256 X i⟩ : (s : Shape) × (s.Idx → EReal))) concatenates_S256x128_S256x128_S256x128_S256x128_S256x128_S256x128_S256x128_S256x128_S256x128_S256x128_S256x128_S256x128_S256x128_S256x128_S256x128_S256x128_S256x2048_d1 := rfl

theorem rows256 (X : XT) (p : Fin 256) (k : Fin 2048) : k0_pay27 (F := Ideal) (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32 (ix2 p k) = xv X p.val k.val := by
  rw [pay27_eq]
  refine (cat16 (ps256 X) _ p k).trans ((ps256_at X p _ _).trans ?_)
  unfold xv
  by_cases h : k.val < 1024
  · rw [if_pos h, if_pos (show k.val / 128 < 8 by omega)]
  · rw [if_neg h, if_neg (show ¬ k.val / 128 < 8 by omega)]
    refine congrArg lo (congrArg₂ (word X) (congrArg (8 * p.val + ·) ?_) rfl)
    show k.val / 128 - 8 = (k.val - 1024) / 128
    omega

theorem pay28_at (X : XT) (w : WT (F := Ideal)) (p : Fin 256) (n : Fin 1024) :
    k0_pay28 (F := Ideal) (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32 (unsq w) (ix2 p n) = ∑ k : Fin 2048, xv X p.val k.val * w (ix2 k n) := by
  unfold k0_pay28
  generalize hV : k0_pay27 (F := Ideal) (ldX256_4 X) (ldX256_5 X) (ldX256_6 X) (ldX256_7 X) (k0_pay19 (ldX256_0 X)) (k0_pay20 (ldX256_0 X)) (k0_pay21 (ldX256_1 X)) (k0_pay22 (ldX256_1 X)) (k0_pay23 (ldX256_2 X)) (k0_pay24 (ldX256_2 X)) (k0_pay25 (ldX256_3 X)) (k0_pay26 (ldX256_3 X)) 4294901760#32 = V
  have hr : ∀ k : Fin 2048, V (ix2 p k) = xv X p.val k.val := fun k => by rw [← hV]; exact rows256 X p k
  rw [shapeCast_unsq]
  pointwise []
  exact Finset.sum_congr rfl fun k _ => congrArg (· * w (ix2 k n)) (hr k)

theorem pay4_at (V : FVec Ideal S256x2048 .bf16) (A : FVec Ideal S256x1024 .f32) (bg bu : BT (F := Ideal)) (w : WT (F := Ideal))
    (p : Fin 256) (n : Fin 1024) : k0_pay4 (F := Ideal) V A (ldB bg) (unsq w) (ldB bu) (ix2 p n)
      = glu (A (ix2 p n) + bg (ix3 0 0 n)) (∑ k : Fin 2048, V (ix2 p k) * w (ix2 k n) + bu (ix3 0 0 n)) := by
  unfold k0_pay4
  rw [shapeCast_unsq]
  have e : ∀ b : BT (F := Ideal), ldB b (ix3 0 0 n) = b (ix3 0 0 n) := fun b => congrArg b (by
    funext a
    match a with
    | ⟨0, _⟩ => rfl
    | ⟨1, _⟩ => rfl
    | ⟨2, _⟩ => exact Fin.ext (show 0 + 1 * n.val = n.val by omega))
  pointwise []
  rw [e bg, e bu]
  rfl

theorem act256_at (X : XT) (wg wu : WT (F := Ideal)) (bg bu : BT (F := Ideal)) (p : Fin 256) (n : Fin 1024) :
    act256 (F := Ideal) X wg wu bg bu (ix2 p n)
      = glu (lin (xv X p.val) (fun k => wg (ix2 k n)) (bg (ix3 0 0 n))) (lin (xv X p.val) (fun k => wu (ix2 k n)) (bu (ix3 0 0 n))) := by
  refine (pay4_at _ _ bg bu wu p n).trans ?_
  exact congrArg₂ glu (congrArg (· + bg (ix3 0 0 n)) (pay28_at X wg p n))
    (congrArg (· + bu (ix3 0 0 n)) (Finset.sum_congr rfl fun k _ => congrArg (· * wu (ix2 k n)) (rows256 X p k)))

end Cert.Up

end
-- ==== Proof.Up.Act384.lean ====
/-
  What a grid point's body stores, row by row, as the model's numbers.
-/
module

public import proofs.«01_k».proof.Proof.Up.Model

@[expose] public section

set_option maxRecDepth 16384

noncomputable section

namespace Cert.Up

open Cert.KernelUpIdeal Cert.KernelUpIdeal.Gen
open Idealize.ShloMosaic Idealize.ShloMosaic.TcCoe

/-- The upper halves of a block of words, as floats. -/
def hv384 (v : Vec Ideal S384x128 .i32) : FVec Ideal S384x128 .bf16 :=
  truncf .bf16 (bitcastToFloat .f32 (andi v (broadcast S384x128 4294901760#32)) : FVec Ideal S384x128 .f32) bitsLt_bf16_f32

/-- The lower halves of a block of words, as floats. -/
def lv384 (v : Vec Ideal S384x128 .i32) : FVec Ideal S384x128 .bf16 :=
  truncf .bf16 (bitcastToFloat .f32 (shli v (broadcast S384x128 16#32)) : FVec Ideal S384x128 .f32) bitsLt_bf16_f32

/-- The sixteen pieces of a block's rows. -/
def ps384 (X : XT) : Fin 16 → S384x128.Idx → EReal :=
  ![hv384 (ldX384_0 X), hv384 (ldX384_1 X), hv384 (ldX384_2 X), hv384 (ldX384_3 X), hv384 (ldX384_4 X), hv384 (ldX384_5 X), hv384 (ldX384_6 X), hv384 (ldX384_7 X), lv384 (ldX384_0 X), lv384 (ldX384_1 X), lv384 (ldX384_2 X), lv384 (ldX384_3 X), lv384 (ldX384_4 X), lv384 (ldX384_5 X), lv384 (ldX384_6 X), lv384 (ldX384_7 X)]

theorem ld384_0_at (X : XT) (p : Fin 384) (q : Fin 128) : ldX384_0 (F := Ideal) X (ix2 p q) = word X (8 * p.val + 0) q.val :=
  ldx inb_S4096x128_S384x128_0_0_s_8_1 X p q (by decide) (by decide)
theorem ld384_1_at (X : XT) (p : Fin 384) (q : Fin 128) : ldX384_1 (F := Ideal) X (ix2 p q) = word X (8 * p.val + 1) q.val :=
  ldx inb_S4096x128_S384x128_1_0_s_8_1 X p q (by decide) (by decide)
theorem ld384_2_at (X : XT) (p : Fin 384) (q : Fin 128) : ldX384_2 (F := Ideal) X (ix2 p q) = word X (8 * p.val + 2) q.val :=
  ldx inb_S4096x128_S384x128_2_0_s_8_1 X p q (by decide) (by decide)
theorem ld384_3_at (X : XT) (p : Fin 384) (q : Fin 128) : ldX384_3 (F := Ideal) X (ix2 p q) = word X (8 * p.val + 3) q.val :=
  ldx inb_S4096x128_S384x128_3_0_s_8_1 X p q (by decide) (by decide)
theorem ld384_4_at (X : XT) (p : Fin 384) (q : Fin 128) : ldX384_4 (F := Ideal) X (ix2 p q) = word X (8 * p.val + 4) q.val :=
  ldx inb_S4096x128_S384x128_4_0_s_8_1 X p q (by decide) (by decide)
theorem ld384_5_at (X : XT) (p : Fin 384) (q : Fin 128) : ldX384_5 (F := Ideal) X (ix2 p q) = word X (8 * p.val + 5) q.val :=
  ldx inb_S4096x128_S384x128_5_0_s_8_1 X p q (by decide) (by decide)
theorem ld384_6_at (X : XT) (p : Fin 384) (q : Fin 128) : ldX384_6 (F := Ideal) X (ix2 p q) = word X (8 * p.val + 6) q.val :=
  ldx inb_S4096x128_S384x128_6_0_s_8_1 X p q (by decide) (by decide)
theorem ld384_7_at (X : XT) (p : Fin 384) (q : Fin 128) : ldX384_7 (F := Ideal) X (ix2 p q) = word X (8 * p.val + 7) q.val :=
  ldx inb_S4096x128_S384x128_7_0_s_8_1 X p q (by decide) (by decide)

theorem ps384_at (X : XT) (p : Fin 384) (q : Fin 128) : ∀ j : Fin 16, ps384 X j (ix2 p q)
    = if j.val < 8 then hi (word X (8 * p.val + j.val) q.val) else lo (word X (8 * p.val + (j.val - 8)) q.val)
  | ⟨0, _⟩ => (congrArg hi (ld384_0_at X p q)).trans (if_pos (show 0 < 8 by decide)).symm
  | ⟨1, _⟩ => (congrArg hi (ld384_1_at X p q)).trans (if_pos (show 1 < 8 by decide)).symm
  | ⟨2, _⟩ => (congrArg hi (ld384_2_at X p q)).trans (if_pos (show 2 < 8 by decide)).symm
  | ⟨3, _⟩ => (congrArg hi (ld384_3_at X p q)).trans (if_pos (show 3 < 8 by decide)).symm
  | ⟨4, _⟩ => (congrArg hi (ld384_4_at X p q)).trans (if_pos (show 4 < 8 by decide)).symm
  | ⟨5, _⟩ => (congrArg hi (ld384_5_at X p q)).trans (if_pos (show 5 < 8 by decide)).symm
  | ⟨6, _⟩ => (congrArg hi (ld384_6_at X p q)).trans (if_pos (show 6 < 8 by decide)).symm
  | ⟨7, _⟩ => (congrArg hi (ld384_7_at X p q)).trans (if_pos (show 7 < 8 by decide)).symm
  | ⟨8, _⟩ => (congrArg lo (ld384_0_at X p q)).trans (if_neg (show ¬ 8 < 8 by decide)).symm
  | ⟨9, _⟩ => (congrArg lo (ld384_1_at X p q)).trans (if_neg (show ¬ 9 < 8 by decide)).symm
  | ⟨10, _⟩ => (congrArg lo (ld384_2_at X p q)).trans (if_neg (show ¬ 10 < 8 by decide)).symm
  | ⟨11, _⟩ => (congrArg lo (ld384_3_at X p q)).trans (if_neg (show ¬ 11 < 8 by decide)).symm
  | ⟨12, _⟩ => (congrArg lo (ld384_4_at X p q)).trans (if_neg (show ¬ 12 < 8 by decide)).symm
  | ⟨13, _⟩ => (congrArg lo (ld384_5_at X p q)).trans (if_neg (show ¬ 13 < 8 by decide)).symm
  | ⟨14, _⟩ => (congrArg lo (ld384_6_at X p q)).trans (if_neg (show ¬ 14 < 8 by decide)).symm
  | ⟨15, _⟩ => (congrArg lo (ld384_7_at X p q)).trans (if_neg (show ¬ 15 < 8 by decide)).symm
  | ⟨_ + 16, h⟩ => absurd h (Nat.not_lt.2 (Nat.le_add_left _ _))

theorem pay37_eq (X : XT) : k0_pay37 (F := Ideal) (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32
    = concatenate S384x2048 1 (List.ofFn fun i : Fin 16 => (⟨S384x128, ps384 X i⟩ : (s : Shape) × (s.Idx → EReal))) concatenates_S384x128_S384x128_S384x128_S384x128_S384x128_S384x128_S384x128_S384x128_S384x128_S384x128_S384x128_S384x128_S384x128_S384x128_S384x128_S384x128_S384x2048_d1 := rfl

theorem rows384 (X : XT) (p : Fin 384) (k : Fin 2048) : k0_pay37 (F := Ideal) (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32 (ix2 p k) = xv X p.val k.val := by
  rw [pay37_eq]
  refine (cat16 (ps384 X) _ p k).trans ((ps384_at X p _ _).trans ?_)
  unfold xv
  by_cases h : k.val < 1024
  · rw [if_pos h, if_pos (show k.val / 128 < 8 by omega)]
  · rw [if_neg h, if_neg (show ¬ k.val / 128 < 8 by omega)]
    refine congrArg lo (congrArg₂ (word X) (congrArg (8 * p.val + ·) ?_) rfl)
    show k.val / 128 - 8 = (k.val - 1024) / 128
    omega

theorem pay38_at (X : XT) (w : WT (F := Ideal)) (p : Fin 384) (n : Fin 1024) :
    k0_pay38 (F := Ideal) (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32 (unsq w) (ix2 p n) = ∑ k : Fin 2048, xv X p.val k.val * w (ix2 k n) := by
  unfold k0_pay38
  generalize hV : k0_pay37 (F := Ideal) (ldX384_4 X) (ldX384_5 X) (ldX384_6 X) (ldX384_7 X) (k0_pay29 (ldX384_0 X)) (k0_pay30 (ldX384_0 X)) (k0_pay31 (ldX384_1 X)) (k0_pay32 (ldX384_1 X)) (k0_pay33 (ldX384_2 X)) (k0_pay34 (ldX384_2 X)) (k0_pay35 (ldX384_3 X)) (k0_pay36 (ldX384_3 X)) 4294901760#32 = V
  have hr : ∀ k : Fin 2048, V (ix2 p k) = xv X p.val k.val := fun k => by rw [← hV]; exact rows384 X p k
  rw [shapeCast_unsq]
  pointwise []
  exact Finset.sum_congr rfl fun k _ => congrArg (· * w (ix2 k n)) (hr k)

theorem pay6_at (V : FVec Ideal S384x2048 .bf16) (A : FVec Ideal S384x1024 .f32) (bg bu : BT (F := Ideal)) (w : WT (F := Ideal))
    (p : Fin 384) (n : Fin 1024) : k0_pay6 (F := Ideal) V A (ldB bg) (unsq w) (ldB bu) (ix2 p n)
      = glu (A (ix2 p n) + bg (ix3 0 0 n)) (∑ k : Fin 2048, V (ix2 p k) * w (ix2 k n) + bu (ix3 0 0 n)) := by
  unfold k0_pay6
  rw [shapeCast_unsq]
  have e : ∀ b : BT (F := Ideal), ldB b (ix3 0 0 n) = b (ix3 0 0 n) := fun b => congrArg b (by
    funext a
    match a with
    | ⟨0, _⟩ => rfl
    | ⟨1, _⟩ => rfl
    | ⟨2, _⟩ => exact Fin.ext (show 0 + 1 * n.val = n.val by omega))
  pointwise []
  rw [e bg, e bu]
  rfl

theorem act384_at (X : XT) (wg wu : WT (F := Ideal)) (bg bu : BT (F := Ideal)) (p : Fin 384) (n : Fin 1024) :
    act384 (F := Ideal) X wg wu bg bu (ix2 p n)
      = glu (lin (xv X p.val) (fun k => wg (ix2 k n)) (bg (ix3 0 0 n))) (lin (xv X p.val) (fun k => wu (ix2 k n)) (bu (ix3 0 0 n))) := by
  refine (pay6_at _ _ bg bu wu p n).trans ?_
  exact congrArg₂ glu (congrArg (· + bg (ix3 0 0 n)) (pay38_at X wg p n))
    (congrArg (· + bu (ix3 0 0 n)) (Finset.sum_congr rfl fun k _ => congrArg (· * wu (ix2 k n)) (rows384 X p k)))

end Cert.Up

end
-- ==== Proof.Up.Act512.lean ====
/-
  What a grid point's body stores, row by row, as the model's numbers.
-/
module

public import proofs.«01_k».proof.Proof.Up.Model

@[expose] public section

set_option maxRecDepth 16384

noncomputable section

namespace Cert.Up

open Cert.KernelUpIdeal Cert.KernelUpIdeal.Gen
open Idealize.ShloMosaic Idealize.ShloMosaic.TcCoe

/-- The upper halves of a block of words, as floats. -/
def hv512 (v : Vec Ideal S512x128 .i32) : FVec Ideal S512x128 .bf16 :=
  truncf .bf16 (bitcastToFloat .f32 (andi v (broadcast S512x128 4294901760#32)) : FVec Ideal S512x128 .f32) bitsLt_bf16_f32

/-- The lower halves of a block of words, as floats. -/
def lv512 (v : Vec Ideal S512x128 .i32) : FVec Ideal S512x128 .bf16 :=
  truncf .bf16 (bitcastToFloat .f32 (shli v (broadcast S512x128 16#32)) : FVec Ideal S512x128 .f32) bitsLt_bf16_f32

/-- The sixteen pieces of a block's rows. -/
def ps512 (X : XT) : Fin 16 → S512x128.Idx → EReal :=
  ![hv512 (ldX512_0 X), hv512 (ldX512_1 X), hv512 (ldX512_2 X), hv512 (ldX512_3 X), hv512 (ldX512_4 X), hv512 (ldX512_5 X), hv512 (ldX512_6 X), hv512 (ldX512_7 X), lv512 (ldX512_0 X), lv512 (ldX512_1 X), lv512 (ldX512_2 X), lv512 (ldX512_3 X), lv512 (ldX512_4 X), lv512 (ldX512_5 X), lv512 (ldX512_6 X), lv512 (ldX512_7 X)]

theorem ld512_0_at (X : XT) (p : Fin 512) (q : Fin 128) : ldX512_0 (F := Ideal) X (ix2 p q) = word X (8 * p.val + 0) q.val :=
  ldx inb_S4096x128_S512x128_0_0_s_8_1 X p q (by decide) (by decide)
theorem ld512_1_at (X : XT) (p : Fin 512) (q : Fin 128) : ldX512_1 (F := Ideal) X (ix2 p q) = word X (8 * p.val + 1) q.val :=
  ldx inb_S4096x128_S512x128_1_0_s_8_1 X p q (by decide) (by decide)
theorem ld512_2_at (X : XT) (p : Fin 512) (q : Fin 128) : ldX512_2 (F := Ideal) X (ix2 p q) = word X (8 * p.val + 2) q.val :=
  ldx inb_S4096x128_S512x128_2_0_s_8_1 X p q (by decide) (by decide)
theorem ld512_3_at (X : XT) (p : Fin 512) (q : Fin 128) : ldX512_3 (F := Ideal) X (ix2 p q) = word X (8 * p.val + 3) q.val :=
  ldx inb_S4096x128_S512x128_3_0_s_8_1 X p q (by decide) (by decide)
theorem ld512_4_at (X : XT) (p : Fin 512) (q : Fin 128) : ldX512_4 (F := Ideal) X (ix2 p q) = word X (8 * p.val + 4) q.val :=
  ldx inb_S4096x128_S512x128_4_0_s_8_1 X p q (by decide) (by decide)
theorem ld512_5_at (X : XT) (p : Fin 512) (q : Fin 128) : ldX512_5 (F := Ideal) X (ix2 p q) = word X (8 * p.val + 5) q.val :=
  ldx inb_S4096x128_S512x128_5_0_s_8_1 X p q (by decide) (by decide)
theorem ld512_6_at (X : XT) (p : Fin 512) (q : Fin 128) : ldX512_6 (F := Ideal) X (ix2 p q) = word X (8 * p.val + 6) q.val :=
  ldx inb_S4096x128_S512x128_6_0_s_8_1 X p q (by decide) (by decide)
theorem ld512_7_at (X : XT) (p : Fin 512) (q : Fin 128) : ldX512_7 (F := Ideal) X (ix2 p q) = word X (8 * p.val + 7) q.val :=
  ldx inb_S4096x128_S512x128_7_0_s_8_1 X p q (by decide) (by decide)

theorem ps512_at (X : XT) (p : Fin 512) (q : Fin 128) : ∀ j : Fin 16, ps512 X j (ix2 p q)
    = if j.val < 8 then hi (word X (8 * p.val + j.val) q.val) else lo (word X (8 * p.val + (j.val - 8)) q.val)
  | ⟨0, _⟩ => (congrArg hi (ld512_0_at X p q)).trans (if_pos (show 0 < 8 by decide)).symm
  | ⟨1, _⟩ => (congrArg hi (ld512_1_at X p q)).trans (if_pos (show 1 < 8 by decide)).symm
  | ⟨2, _⟩ => (congrArg hi (ld512_2_at X p q)).trans (if_pos (show 2 < 8 by decide)).symm
  | ⟨3, _⟩ => (congrArg hi (ld512_3_at X p q)).trans (if_pos (show 3 < 8 by decide)).symm
  | ⟨4, _⟩ => (congrArg hi (ld512_4_at X p q)).trans (if_pos (show 4 < 8 by decide)).symm
  | ⟨5, _⟩ => (congrArg hi (ld512_5_at X p q)).trans (if_pos (show 5 < 8 by decide)).symm
  | ⟨6, _⟩ => (congrArg hi (ld512_6_at X p q)).trans (if_pos (show 6 < 8 by decide)).symm
  | ⟨7, _⟩ => (congrArg hi (ld512_7_at X p q)).trans (if_pos (show 7 < 8 by decide)).symm
  | ⟨8, _⟩ => (congrArg lo (ld512_0_at X p q)).trans (if_neg (show ¬ 8 < 8 by decide)).symm
  | ⟨9, _⟩ => (congrArg lo (ld512_1_at X p q)).trans (if_neg (show ¬ 9 < 8 by decide)).symm
  | ⟨10, _⟩ => (congrArg lo (ld512_2_at X p q)).trans (if_neg (show ¬ 10 < 8 by decide)).symm
  | ⟨11, _⟩ => (congrArg lo (ld512_3_at X p q)).trans (if_neg (show ¬ 11 < 8 by decide)).symm
  | ⟨12, _⟩ => (congrArg lo (ld512_4_at X p q)).trans (if_neg (show ¬ 12 < 8 by decide)).symm
  | ⟨13, _⟩ => (congrArg lo (ld512_5_at X p q)).trans (if_neg (show ¬ 13 < 8 by decide)).symm
  | ⟨14, _⟩ => (congrArg lo (ld512_6_at X p q)).trans (if_neg (show ¬ 14 < 8 by decide)).symm
  | ⟨15, _⟩ => (congrArg lo (ld512_7_at X p q)).trans (if_neg (show ¬ 15 < 8 by decide)).symm
  | ⟨_ + 16, h⟩ => absurd h (Nat.not_lt.2 (Nat.le_add_left _ _))

theorem pay47_eq (X : XT) : k0_pay47 (F := Ideal) (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32
    = concatenate S512x2048 1 (List.ofFn fun i : Fin 16 => (⟨S512x128, ps512 X i⟩ : (s : Shape) × (s.Idx → EReal))) concatenates_S512x128_S512x128_S512x128_S512x128_S512x128_S512x128_S512x128_S512x128_S512x128_S512x128_S512x128_S512x128_S512x128_S512x128_S512x128_S512x128_S512x2048_d1 := rfl

theorem rows512 (X : XT) (p : Fin 512) (k : Fin 2048) : k0_pay47 (F := Ideal) (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32 (ix2 p k) = xv X p.val k.val := by
  rw [pay47_eq]
  refine (cat16 (ps512 X) _ p k).trans ((ps512_at X p _ _).trans ?_)
  unfold xv
  by_cases h : k.val < 1024
  · rw [if_pos h, if_pos (show k.val / 128 < 8 by omega)]
  · rw [if_neg h, if_neg (show ¬ k.val / 128 < 8 by omega)]
    refine congrArg lo (congrArg₂ (word X) (congrArg (8 * p.val + ·) ?_) rfl)
    show k.val / 128 - 8 = (k.val - 1024) / 128
    omega

theorem pay48_at (X : XT) (w : WT (F := Ideal)) (p : Fin 512) (n : Fin 1024) :
    k0_pay48 (F := Ideal) (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32 (unsq w) (ix2 p n) = ∑ k : Fin 2048, xv X p.val k.val * w (ix2 k n) := by
  unfold k0_pay48
  generalize hV : k0_pay47 (F := Ideal) (ldX512_4 X) (ldX512_5 X) (ldX512_6 X) (ldX512_7 X) (k0_pay39 (ldX512_0 X)) (k0_pay40 (ldX512_0 X)) (k0_pay41 (ldX512_1 X)) (k0_pay42 (ldX512_1 X)) (k0_pay43 (ldX512_2 X)) (k0_pay44 (ldX512_2 X)) (k0_pay45 (ldX512_3 X)) (k0_pay46 (ldX512_3 X)) 4294901760#32 = V
  have hr : ∀ k : Fin 2048, V (ix2 p k) = xv X p.val k.val := fun k => by rw [← hV]; exact rows512 X p k
  rw [shapeCast_unsq]
  pointwise []
  exact Finset.sum_congr rfl fun k _ => congrArg (· * w (ix2 k n)) (hr k)

theorem pay8_at (V : FVec Ideal S512x2048 .bf16) (A : FVec Ideal S512x1024 .f32) (bg bu : BT (F := Ideal)) (w : WT (F := Ideal))
    (p : Fin 512) (n : Fin 1024) : k0_pay8 (F := Ideal) V A (ldB bg) (unsq w) (ldB bu) (ix2 p n)
      = glu (A (ix2 p n) + bg (ix3 0 0 n)) (∑ k : Fin 2048, V (ix2 p k) * w (ix2 k n) + bu (ix3 0 0 n)) := by
  unfold k0_pay8
  rw [shapeCast_unsq]
  have e : ∀ b : BT (F := Ideal), ldB b (ix3 0 0 n) = b (ix3 0 0 n) := fun b => congrArg b (by
    funext a
    match a with
    | ⟨0, _⟩ => rfl
    | ⟨1, _⟩ => rfl
    | ⟨2, _⟩ => exact Fin.ext (show 0 + 1 * n.val = n.val by omega))
  pointwise []
  rw [e bg, e bu]
  rfl

theorem act512_at (X : XT) (wg wu : WT (F := Ideal)) (bg bu : BT (F := Ideal)) (p : Fin 512) (n : Fin 1024) :
    act512 (F := Ideal) X wg wu bg bu (ix2 p n)
      = glu (lin (xv X p.val) (fun k => wg (ix2 k n)) (bg (ix3 0 0 n))) (lin (xv X p.val) (fun k => wu (ix2 k n)) (bu (ix3 0 0 n))) := by
  refine (pay8_at _ _ bg bu wu p n).trans ?_
  exact congrArg₂ glu (congrArg (· + bg (ix3 0 0 n)) (pay48_at X wg p n))
    (congrArg (· + bu (ix3 0 0 n)) (Finset.sum_congr rfl fun k _ => congrArg (· * wu (ix2 k n)) (rows512 X p k)))

end Cert.Up

end
-- ==== Proof.Up.Out.lean ====
/-
  What a grid point leaves of the result, row by row: the gated product in the live rows of its tile, zero in the dead ones.
-/
module

public import proofs.«01_k».proof.Proof.Up.Act128
public import proofs.«01_k».proof.Proof.Up.Act256
public import proofs.«01_k».proof.Proof.Up.Act384
public import proofs.«01_k».proof.Proof.Up.Act512

@[expose] public section

noncomputable section

namespace Cert.Up

open Cert.KernelUpIdeal Cert.KernelUpIdeal.Gen
open Idealize.ShloMosaic Idealize.ShloMosaic.TcCoe

theorem zero16 : (Scalar.ofBits .bf16 0x0000#16 : Ideal .bf16) = (0 : EReal) := by
  have h : (constant (F := Ideal) S1 .bf16 0x0000#16) (ix1 0) = (0 : EReal) := by pointwise []
  exact h

/-- The number at a row and a column, were the row live. -/
def cell (X : XT) (wg wu : WT (F := Ideal)) (bg bu : BT (F := Ideal)) (p : Fin 512) (n : Fin 1024) : EReal :=
  glu (lin (xv X p.val) (fun k => wg (ix2 k n)) (bg (ix3 0 0 n))) (lin (xv X p.val) (fun k => wu (ix2 k n)) (bu (ix3 0 0 n)))

theorem put128_at (X : XT) (wg wu : WT (F := Ideal)) (bg bu : BT (F := Ideal)) (p : Fin 512) (n : Fin 1024) :
    put128 (act128 X wg wu bg bu) (ix2 p n) = if p.val < 128 then cell X wg wu bg bu p n else 0 := by
  unfold put128
  by_cases h : p.val < 128
  · rw [if_pos h]
    have e : row128 (ix2 p n) h = ix2 ⟨p.val, h⟩ n := by
      funext a
      match a with
      | ⟨0, _⟩ => rfl
      | ⟨1, _⟩ => rfl
    refine (dif_pos h).trans ?_
    rw [e]
    exact act128_at X wg wu bg bu ⟨p.val, h⟩ n
  · rw [if_neg h]
    exact (dif_neg h).trans zero16

theorem put256_at (X : XT) (wg wu : WT (F := Ideal)) (bg bu : BT (F := Ideal)) (p : Fin 512) (n : Fin 1024) :
    put256 (act256 X wg wu bg bu) (ix2 p n) = if p.val < 256 then cell X wg wu bg bu p n else 0 := by
  unfold put256
  by_cases h : p.val < 256
  · rw [if_pos h]
    have e : row256 (ix2 p n) h = ix2 ⟨p.val, h⟩ n := by
      funext a
      match a with
      | ⟨0, _⟩ => rfl
      | ⟨1, _⟩ => rfl
    refine (dif_pos h).trans ?_
    rw [e]
    exact act256_at X wg wu bg bu ⟨p.val, h⟩ n
  · rw [if_neg h]
    exact (dif_neg h).trans zero16

theorem put384_at (X : XT) (wg wu : WT (F := Ideal)) (bg bu : BT (F := Ideal)) (p : Fin 512) (n : Fin 1024) :
    put384 (act384 X wg wu bg bu) (ix2 p n) = if p.val < 384 then cell X wg wu bg bu p n else 0 := by
  unfold put384
  by_cases h : p.val < 384
  · rw [if_pos h]
    have e : row384 (ix2 p n) h = ix2 ⟨p.val, h⟩ n := by
      funext a
      match a with
      | ⟨0, _⟩ => rfl
      | ⟨1, _⟩ => rfl
    refine (dif_pos h).trans ?_
    rw [e]
    exact act384_at X wg wu bg bu ⟨p.val, h⟩ n
  · rw [if_neg h]
    exact (dif_neg h).trans zero16

theorem put512_at (X : XT) (wg wu : WT (F := Ideal)) (bg bu : BT (F := Ideal)) (p : Fin 512) (n : Fin 1024) :
    put512 (act512 X wg wu bg bu) (ix2 p n) = if p.val < 512 then cell X wg wu bg bu p n else 0 := by
  unfold put512
  by_cases h : p.val < 512
  · rw [if_pos h]
    have e : row512 (ix2 p n) h = ix2 ⟨p.val, h⟩ n := by
      funext a
      match a with
      | ⟨0, _⟩ => rfl
      | ⟨1, _⟩ => rfl
    refine (dif_pos h).trans ?_
    rw [e]
    exact act512_at X wg wu bg bu ⟨p.val, h⟩ n
  · rw [if_neg h]
    exact (dif_neg h).trans zero16

theorem outVal_at (v : BitVec 32) (hv : v.toNat ≤ 512) (X : XT) (wg wu : WT (F := Ideal)) (bg bu : BT (F := Ideal)) (p : Fin 512) (n : Fin 1024) :
    outVal v X wg wu bg bu (ix2 p n) = if 128 * (p.val / 128) < v.toNat then cell X wg wu bg bu p n else 0 := by
  unfold outVal
  split
  · rw [if_neg (by omega)]; exact zero16
  split
  · rw [put128_at]; exact if_congr (by omega) rfl rfl
  split
  · rw [put256_at]; exact if_congr (by omega) rfl rfl
  split
  · rw [put384_at]; exact if_congr (by omega) rfl rfl
  · rw [put512_at]; exact if_congr (by omega) rfl rfl

end Cert.Up

end
-- ==== Proof.Up.Blocks.lean ====
/-
  The blocks a grid point reads, at coordinates of the arrays the program was launched with.
-/
module

public import proofs.«01_k».proof.Proof.Up.Region
public import proofs.«01_k».proof.Proof.Up.Out
public import Idealize.ShloMosaic.Lib.Pipeline.ValueKit
public import Idealize.ShloMosaic.Lib.StableHlo.RunRead
public import Idealize.ShloMosaic.Lib.ValueLayout
public import Idealize.ShloMosaic.Lib.Pointwise

@[expose] public section

set_option synthInstance.maxSize 4096

noncomputable section

namespace Cert.Up

open Cert.KernelUpIdeal Cert.KernelUpIdeal.Gen
open Idealize.ShloMosaic Idealize.ShloMosaic.TcCoe
open Idealize.ShloMosaic.StableHlo

variable (m : (ℓ : Loc nD τ sig) → Buf (Elt Ideal) ℓ) (ρ : Dev nD → PrngReg)

theorem host0 (c : Dev nD) : V (F := Ideal) m ρ c main_v0 = (shapeCast S32x2048x4096 (V₀ (F := Ideal) m ρ c (Proc.devRef .tc main_arg6) : S1x32x2048x4096.Idx → EReal) shapeCasts_S1x32x2048x4096_S32x2048x4096 : S32x2048x4096.Idx → EReal) := by
  unfold V hostOps0
  after_reads_simp
  rfl

theorem host2 (c : Dev nD) : V (F := Ideal) m ρ c main_v2 = broadcastInDim S32x1x4096 ![0, 2] bcast_S32x4096_S32x1x4096_0_2 (shapeCast S32x4096 (V₀ (F := Ideal) m ρ c (Proc.devRef .tc main_arg7) : S1x32x4096.Idx → EReal) shapeCasts_S1x32x4096_S32x4096) := by
  unfold V hostOps0
  after_reads_simp
  rfl

theorem host0_at (c : Dev nD) (e : Fin 32) (k : Fin 2048) (n : Fin 4096) :
    (V (F := Ideal) m ρ c main_v0 : S32x2048x4096.Idx → EReal) (ix3 e k n) = (m ((c : Thread nD τ).loc main_arg6) : S1x32x2048x4096.Idx → EReal) (ix4 0 e k n) := by
  rw [host0]
  generalize hw : (V₀ (F := Ideal) m ρ c (Proc.devRef .tc main_arg6) : S1x32x2048x4096.Idx → EReal) = w
  have hm : (m ((c : Thread nD τ).loc main_arg6) : S1x32x2048x4096.Idx → EReal) = w := hw
  rw [hm]
  pointwise []

theorem host2_at (c : Dev nD) (e : Fin 32) (n : Fin 4096) :
    (V (F := Ideal) m ρ c main_v2 : S32x1x4096.Idx → EReal) (ix3 e 0 n) = (m ((c : Thread nD τ).loc main_arg7) : S1x32x4096.Idx → EReal) (ix3 0 e n) := by
  rw [host2]
  generalize hw : (V₀ (F := Ideal) m ρ c (Proc.devRef .tc main_arg7) : S1x32x4096.Idx → EReal) = w
  have hm : (m ((c : Thread nD τ).loc main_arg7) : S1x32x4096.Idx → EReal) = w := hw
  rw [hm]
  pointwise []

theorem wv_at (c : Dev nD) (G : BufG (F := Ideal) c) (e : Fin 32) (j h : Fin 2) (k : Fin 2048) (n : Fin 1024) :
    wv (F := Ideal) c G e j h (ix2 k n) = (G : S32x2048x4096.Idx → EReal) (ix3 e k ⟨h.val * 2048 + j.val * 1024 + n.val, by omega⟩) := by
  refine congrArg (G : S32x2048x4096.Idx → EReal) (?_ : (gM e j h).view.emb (ix2 k n) = _)
  have q : Shape.reshapeEquiv (squeezes_S1x2048x1024_S2048x1024).numel_eq (ix2 k n : S2048x1024.Idx) = ix3 (⟨0, Nat.one_pos⟩ : Fin 1) k n :=
    ValueIdx.reshapeEquiv_ix2_1ab _ k n
  refine (congrArg (Rect.unit (s := S32x2048x4096) (gO e j h) S1x2048x1024.size (gO_inb e j h)).emb q).trans ?_
  funext a
  apply Fin.ext
  fin_cases a
  · show e.val + 1 * 0 = e.val
    omega
  · show 0 + 1 * k.val = k.val
    omega
  · show h.val * 2048 + j.val * 1024 + 1 * n.val = h.val * 2048 + j.val * 1024 + n.val
    omega

variable (c : Dev nD) (V : (b : Ref sig .tc) → Buf (Elt Ideal) ((c : Thread nD τ).loc b)) (T : Tab) (hT : T.OK) (t : Fin grid0.N)

theorem blkX_at (i : Fin 4096) (q : Fin 128) :
    blkX (F := Ideal) c V T hT t (ix2 i q) = (V main_arg5 : S405504x128.Idx → BitVec 32)
      (ix2 ⟨(T.tb (ix (gt (grid0.coords t)))).toNat * 4096 + i.val, by have := hT.tb_lt (gt (grid0.coords t)); omega⟩ q) := by
  refine congrArg (V main_arg5 : S405504x128.Idx → BitVec 32) (?_ : (((cfg0 (admT (F := Ideal) T hT)).win 0).blk t).view.emb (ix2 i q) = _)
  have e := t0 (F := Ideal) T (grid0.coords t)
  funext a
  apply Fin.ext
  refine (Pipeline.Window.rect_emb_val ((cfg0 (admT (F := Ideal) T hT)).win 0) t (ix2 i q) a rfl).trans ?_
  show cc0_transform_0 k0_off1_inb numel1_S1 (pfT (F := Ideal) T) (grid0.coords t) a * S4096x128.size a + _ = _
  rw [e]
  fin_cases a
  · rfl
  · show 0 * 128 + q.val = q.val
    omega

theorem blkG_at (n : Fin 1024) :
    blkG (F := Ideal) c V T hT t (ix3 0 0 n) = (V main_v2 : S32x1x4096.Idx → EReal)
      (ix3 (exT T hT t) 0 ⟨(gj (grid0.coords t)).val * 1024 + n.val, by have : (gj (grid0.coords t)).val < 2 := (gj (grid0.coords t)).isLt; omega⟩) := by
  refine congrArg (V main_v2 : S32x1x4096.Idx → EReal) (?_ : (((cfg0 (admT (F := Ideal) T hT)).win 1).blk t).view.emb (ix3 0 0 n) = _)
  have e := t1 (F := Ideal) T (grid0.coords t)
  funext a
  apply Fin.ext
  refine (Pipeline.Window.rect_emb_val ((cfg0 (admT (F := Ideal) T hT)).win 1) t (ix3 0 0 n) a rfl).trans ?_
  show cc0_transform_1 k0_off1_inb numel1_S1 (pfT (F := Ideal) T) (grid0.coords t) a * S1x1x1024.size a + _ = _
  rw [e]
  fin_cases a
  · show (T.te (ix (gt (grid0.coords t)))).toNat * 1 + 0 = (T.te (ix (gt (grid0.coords t)))).toNat
    omega
  · rfl
  · rfl

theorem blkU_at (n : Fin 1024) :
    blkU (F := Ideal) c V T hT t (ix3 0 0 n) = (V main_v2 : S32x1x4096.Idx → EReal)
      (ix3 (exT T hT t) 0 ⟨(2 + (gj (grid0.coords t)).val) * 1024 + n.val, by have : (gj (grid0.coords t)).val < 2 := (gj (grid0.coords t)).isLt; omega⟩) := by
  refine congrArg (V main_v2 : S32x1x4096.Idx → EReal) (?_ : (((cfg0 (admT (F := Ideal) T hT)).win 2).blk t).view.emb (ix3 0 0 n) = _)
  have e := t2 (F := Ideal) T (grid0.coords t)
  funext a
  apply Fin.ext
  refine (Pipeline.Window.rect_emb_val ((cfg0 (admT (F := Ideal) T hT)).win 2) t (ix3 0 0 n) a rfl).trans ?_
  show cc0_transform_2 k0_off1_inb numel1_S1 (pfT (F := Ideal) T) (grid0.coords t) a * S1x1x1024.size a + _ = _
  rw [e]
  fin_cases a
  · show (T.te (ix (gt (grid0.coords t)))).toNat * 1 + 0 = (T.te (ix (gt (grid0.coords t)))).toNat
    omega
  · rfl
  · rfl

end Cert.Up
end
-- ==== Proof.Up.Gather.lean ====
/-
  The reference's three gathers at an index: a slab, or a row, of the operand at the place a table names.
-/
module

public import Idealize.ShloMosaic.Lib.Pointwise
public import Idealize.ShloMosaic.Lib.Pipeline.Value

@[expose] public section

noncomputable section

namespace Cert.Up

open Idealize.ShloMosaic

variable {α : Type}

/-- Whole slabs of a rank-3 operand, one per entry of a table. -/
abbrev slabDims (N A B M : ℕ) (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

theorem gather_slab {N A B M w : ℕ} (hN : 0 < N) (wf) (x : (⟨3, ![N, A, B]⟩ : Shape).Idx → α) (idx : IVec ⟨2, ![M, 1]⟩ w)
    (t : Fin M) (a : Fin A) (b : Fin B) :
    Host.gather (slabDims N A B M wf) x idx (ix3 t a b)
      = x (ix3 ⟨min (idx (ix2 t 0)).toInt.toNat (N - 1), by omega⟩ a b) := by
  unfold Host.gather
  refine congrArg x ?_
  funext d
  refine Fin.ext ?_
  show (slabDims N A B M wf).start (ix3 t a b) idx d + (slabDims N A B M wf).batchCoord (ix3 t a b) d
    + (slabDims N A B M wf).offCoord (ix3 t a b) d = _
  rw [GatherDims.batchCoord_eq_zero _ _ _ List.not_mem_nil, Nat.add_zero]
  have h3 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B M wf).startIndexMap from List.mem_singleton.mpr rfl)]
    have hsi : (slabDims N A B M wf).siIdx (ix3 t a b) ⟨List.idxOf (0 : Fin 3) (slabDims N A B M wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start GatherDims.offCoord
    rw [dif_neg (show (1 : Fin 3) ∉ [(0 : Fin 3)] by decide),
      dif_pos ((GatherDims.mem_sKept (slabDims N A B M wf) (1 : Fin 3)).mpr ⟨show (1 : Fin 3) ∉ [(0 : Fin 3)] by decide, List.not_mem_nil⟩), Nat.zero_add]
    rfl
  · unfold GatherDims.start GatherDims.offCoord
    rw [dif_neg (show (2 : Fin 3) ∉ [(0 : Fin 3)] by decide),
      dif_pos ((GatherDims.mem_sKept (slabDims N A B M wf) (2 : Fin 3)).mpr ⟨show (2 : Fin 3) ∉ [(0 : Fin 3)] by decide, List.not_mem_nil⟩), Nat.zero_add]
    rfl

/-- Whole rows of a rank-2 operand, one per entry of a table. -/
abbrev lineDims (N A M : ℕ) (wf : GatherDims.WF ⟨2, ![N, A]⟩ ⟨2, ![M, 1]⟩ ⟨2, ![M, A]⟩ [1] [0] [] [0] [] 1 ![1, A]) :
    GatherDims ⟨2, ![N, A]⟩ ⟨2, ![M, 1]⟩ ⟨2, ![M, A]⟩ where
  offsetDims := [1]
  collapsedSliceDims := [0]
  operandBatchingDims := []
  startIndicesBatchingDims := []
  startIndexMap := [0]
  indexVectorDim := 1
  sliceSizes := ![1, A]
  wf := wf

theorem gather_line {N A M w : ℕ} (hN : 0 < N) (wf) (x : (⟨2, ![N, A]⟩ : Shape).Idx → α) (idx : IVec ⟨2, ![M, 1]⟩ w)
    (t : Fin M) (a : Fin A) :
    Host.gather (lineDims N A M wf) x idx (ix2 t a) = x (ix2 ⟨min (idx (ix2 t 0)).toInt.toNat (N - 1), by omega⟩ a) := by
  unfold Host.gather
  refine congrArg x ?_
  funext d
  refine Fin.ext ?_
  show (lineDims N A M wf).start (ix2 t a) idx d + (lineDims N A M wf).batchCoord (ix2 t a) d
    + (lineDims N A M wf).offCoord (ix2 t a) d = _
  rw [GatherDims.batchCoord_eq_zero _ _ _ List.not_mem_nil, Nat.add_zero]
  have h2 : d = 0 ∨ d = 1 := by
    match d with
    | ⟨0, _⟩ => exact Or.inl rfl
    | ⟨1, _⟩ => exact Or.inr rfl
  rcases h2 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (lineDims N A M wf).startIndexMap from List.mem_singleton.mpr rfl)]
    have hsi : (lineDims N A M wf).siIdx (ix2 t a) ⟨List.idxOf (0 : Fin 2) (lineDims N A M wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start GatherDims.offCoord
    rw [dif_neg (show (1 : Fin 2) ∉ [(0 : Fin 2)] by decide),
      dif_pos ((GatherDims.mem_sKept (lineDims N A M wf) (1 : Fin 2)).mpr ⟨show (1 : Fin 2) ∉ [(0 : Fin 2)] by decide, List.not_mem_nil⟩), Nat.zero_add]
    rfl

/-- A small number is not taken for a negative one. -/
theorem slt_zero (v : BitVec 32) (h : v.toNat < 1024) : IntOp.cmpi .slt v 0#32 = 0#1 := by
  have e : v.slt 0#32 = false := by
    rw [BitVec.slt_eq_decide, decide_eq_false_iff_not, BitVec.toInt_eq_toNat_cond]
    split
    · simp
    · omega
  show BitVec.ofBool (v.slt 0#32) = 0#1
  rw [e]; rfl

theorem toInt_small (v : BitVec 32) (h : v.toNat < 1024) : v.toInt.toNat = v.toNat := by
  rw [BitVec.toInt_eq_toNat_cond]
  split
  · exact Int.toNat_natCast _
  · omega

/-- The mask's comparison. -/
theorem live_iff (c : Fin 4) (v : BitVec 32) (h : v.toNat ≤ 512) :
    IntOp.cmpi .slt (IntOp.muli 128#32 (BitVec.ofNat 32 c.val)) v = 1#1 ↔ 128 * c.val < v.toNat := by
  have e : IntOp.muli 128#32 (BitVec.ofNat 32 c.val) = BitVec.ofNat 32 (128 * c.val) := by
    revert c; decide
  rw [e]
  have e2 : (BitVec.ofNat 32 (128 * c.val)).toNat = 128 * c.val := by
    rw [BitVec.toNat_ofNat]; omega
  show BitVec.ofBool ((BitVec.ofNat 32 (128 * c.val)).slt v) = 1#1 ↔ _
  have e3 : (BitVec.ofNat 32 (128 * c.val)).slt v = decide (128 * c.val < v.toNat) := by
    rw [BitVec.slt_eq_decide, BitVec.toInt_eq_toNat_cond, BitVec.toInt_eq_toNat_cond, e2]
    rw [if_pos (by omega), if_pos (by omega)]
    exact decide_eq_decide.mpr Int.ofNat_lt
  rw [e3]
  by_cases hc : 128 * c.val < v.toNat
  · rw [decide_eq_true hc]; exact ⟨fun _ => hc, fun _ => rfl⟩
  · rw [decide_eq_false hc]; exact ⟨fun h => absurd h (by decide), fun h => absurd h hc⟩

end Cert.Up

end
-- ==== Proof.Up.Ref.lean ====
/-
  The reference at an index, as the model's numbers.
-/
module

public import proofs.«01_k».proof.Proof.Up.Model
public import proofs.«01_k».proof.Proof.Up.Gather
public import proofs.«01_k».proof.Proof.Gen.ReferenceUpIdeal.Run

@[expose] public section

set_option maxRecDepth 16384

noncomputable section

namespace Cert.Up.Ref

open Cert.ReferenceUpIdeal Cert.ReferenceUpIdeal.Gen Cert.ReferenceUpIdeal.Value
open Idealize.ShloMosaic Idealize.ShloMosaic.TcCoe

abbrev TX : Type := S405504x128.Idx → BitVec 32
abbrev TW : Type := S1x32x2048x4096.Idx → EReal
abbrev TB : Type := S1x32x4096.Idx → EReal
abbrev TI : Type := S99.Idx → BitVec 32

/-- The rows, unpacked. -/
def rX (x : TX) : FVec Ideal S50688x2048 .bf16 :=
  concatenate S50688x2048 1 [⟨S50688x1024, (truncf .bf16 (bitcastToFloat (F := Ideal) .f32 (andi (shapeCast _ x shapeCasts_S405504x128_S50688x1024) (broadcastInDim S50688x1024 ![] bcast_S_S50688x1024 (constantI S_ 32 4294901760#32)))) bitsLt_bf16_f32)⟩, ⟨S50688x1024, (truncf .bf16 (bitcastToFloat (F := Ideal) .f32 (Host.shli (shapeCast _ x shapeCasts_S405504x128_S50688x1024) (broadcastInDim S50688x1024 ![] bcast_S_S50688x1024 (constantI S_ 32 16#32)))) bitsLt_bf16_f32)⟩] concatenates_S50688x1024_S50688x1024_S50688x2048_d1

/-- A table as start indices of an array of `N` entries. -/
def rI (N : BitVec 32) (v : TI) : IVec S99x1 32 :=
  broadcastInDim S99x1 ![0] bcast_S99_S99x1_0 (select (cmpi .slt v (broadcastInDim S99 ![] bcast_S_S99 (constantI S_ 32 0#32))) (addi v (broadcastInDim S99 ![] bcast_S_S99 (constantI S_ 32 N))) v)

def gX (x : TX) (tb : TI) : FVec Ideal S99x512x2048 .bf16 :=
  Host.gather gather_S99x512x2048_S99x1_S99x512x2048_12_0_n_n_0_1_15122048 (shapeCast _ (rX x) shapeCasts_S50688x2048_S99x512x2048) (rI 99#32 tb)
def gW (w : TW) (te : TI) : FVec Ideal S99x2048x4096 .f32 :=
  Host.gather gather_S32x2048x4096_S99x1_S99x2048x4096_12_0_n_n_0_1_120484096 (shapeCast _ w shapeCasts_S1x32x2048x4096_S32x2048x4096 : FVec Ideal S32x2048x4096 .f32) (rI 32#32 te)
def gB (b : TB) (te : TI) : FVec Ideal S99x4096 .f32 :=
  Host.gather gather_S32x4096_S99x1_S99x4096_1_0_n_n_0_1_14096 (shapeCast _ b shapeCasts_S1x32x4096_S32x4096 : FVec Ideal S32x4096 .f32) (rI 32#32 te)

/-- The product and the bias, every tile. -/
def rL (X : FVec Ideal S99x512x2048 .bf16) (W : FVec Ideal S99x2048x4096 .f32) (B : FVec Ideal S99x4096 .f32) : FVec Ideal S99x512x4096 .f32 :=
  addf (Host.dotGeneral dot_S99x512x2048_S99x2048x4096_S99x512x4096_2_1_1_2_0_0 none X W)
    (broadcastInDim S99x512x4096 ![0, 1, 2] bcast_S99x1x4096_S99x512x4096_0_1_2 (broadcastInDim S99x1x4096 ![0, 2] bcast_S99x4096_S99x1x4096_0_2 B))

/-- The live rows of every tile. -/
def rM (nv : TI) : IVec S99x512x1 1 :=
  shapeCast _ (cmpi .slt (muli (broadcastInDim S99x4x128 ![] bcast_S_S99x4x128 (constantI S_ 32 128#32)) (iotaInDim S99x4x128 32 1)) (broadcastInDim S99x4x128 ![0, 1, 2] bcast_S99x1x1_S99x4x128_0_1_2 (broadcastInDim S99x1x1 ![0] bcast_S99_S99x1x1_0 nv))) shapeCasts_S99x4x128_S99x512x1

/-- The gated unit, every tile. -/
def rG (L : FVec Ideal S99x512x4096 .f32) : FVec Ideal S99x512x2048 .bf16 :=
  truncf .bf16 (mulf (mulf (minimumf (extractStridedSlice S99x512x2048 ![0, 0, 0] L slices_S99x512x4096_S99x512x2048_0_0_0) (broadcastInDim S99x512x2048 ![] bcast_S_S99x512x2048 (constant S_ .f32 0x40E00000#32))) (Host.divf (broadcastInDim S99x512x2048 ![] bcast_S_S99x512x2048 (constant S_ .f32 0x3F800000#32)) (addf (broadcastInDim S99x512x2048 ![] bcast_S_S99x512x2048 (constant S_ .f32 0x3F800000#32)) (Host.exp (Host.negf (mulf (broadcastInDim S99x512x2048 ![] bcast_S_S99x512x2048 (constant S_ .f32 0x3FD9DB23#32)) (minimumf (extractStridedSlice S99x512x2048 ![0, 0, 0] L slices_S99x512x4096_S99x512x2048_0_0_0) (broadcastInDim S99x512x2048 ![] bcast_S_S99x512x2048 (constant S_ .f32 0x40E00000#32))))))))) (addf (minimumf (broadcastInDim S99x512x2048 ![] bcast_S_S99x512x2048 (id (constant S_ .f32 0x40E00000#32))) (maximumf (broadcastInDim S99x512x2048 ![] bcast_S_S99x512x2048 (id (constant S_ .f32 0xC0E00000#32))) (extractStridedSlice S99x512x2048 ![0, 0, 2048] L slices_S99x512x4096_S99x512x2048_0_0_2048))) (broadcastInDim S99x512x2048 ![] bcast_S_S99x512x2048 (constant S_ .f32 0x3F800000#32)))) bitsLt_bf16_f32

def rO (M : IVec S99x512x1 1) (G : FVec Ideal S99x512x2048 .bf16) : FVec Ideal S50688x2048 .bf16 :=
  shapeCast _ (select (broadcastInDim S99x512x2048 ![0, 1, 2] bcast_S99x512x1_S99x512x2048_0_1_2 M) G (broadcastInDim S99x512x2048 ![] bcast_S_S99x512x2048 (constant S_ .bf16 0x0000#16))) shapeCasts_S99x512x2048_S50688x2048

theorem res_eq (m : (ℓ : Loc nD τ sig) → Buf (Elt Ideal) ℓ) (c : Dev nD) : res_main_v65 (F := Ideal) m c
    = rO (rM (m ((c.tc : Thread nD τ).loc main_arg4))) (rG (rL (gX (m ((c.tc : Thread nD τ).loc main_arg5)) (m ((c.tc : Thread nD τ).loc main_arg1)))
        (gW (m ((c.tc : Thread nD τ).loc main_arg6)) (m ((c.tc : Thread nD τ).loc main_arg0))) (gB (m ((c.tc : Thread nD τ).loc main_arg7)) (m ((c.tc : Thread nD τ).loc main_arg0))))) := rfl

theorem rX_at (x : TX) (r : Fin 50688) (k : Fin 2048) : rX x (ix2 r k) = xv x r.val k.val := by
  unfold xv
  pointwise [rX]
  split
  · exact congrArg hi (word_of x _ _ (show r.val * 8 + k.val / 128 = 8 * r.val + k.val / 128 by omega) rfl)
  · exact congrArg lo (word_of x _ _ (show r.val * 8 + (k.val - 1024) / 128 = 8 * r.val + (k.val - 1024) / 128 by omega)
      (show (k.val - 1024) % 128 = k.val % 128 by omega))

theorem rI_at (N : BitVec 32) (v : TI) (t : Fin 99) (h : (v (ix1 t)).toNat < 1024) : rI N v (ix2 t 0) = v (ix1 t) := by
  pointwise [rI]
  rw [slt_zero _ h]
  rfl

theorem gX_at (x : TX) (tb : TI) (t : Fin 99) (p : Fin 512) (k : Fin 2048) (h : (tb (ix1 t)).toNat < 99) :
    gX x tb (ix3 t p k) = xv x (512 * (tb (ix1 t)).toNat + p.val) k.val := by
  have h9 := gather_slab (N := 99) (A := 512) (B := 2048) (M := 99) (by decide) gather_S99x512x2048_S99x1_S99x512x2048_12_0_n_n_0_1_15122048_wf
    (shapeCast S99x512x2048 (rX x) shapeCasts_S50688x2048_S99x512x2048) (rI 99#32 tb) t p k
  refine h9.trans ?_
  have e : (⟨min (rI 99#32 tb (ix2 t 0)).toInt.toNat (99 - 1), by omega⟩ : Fin 99) = ⟨(tb (ix1 t)).toNat, h⟩ := by
    apply Fin.ext
    show min (rI 99#32 tb (ix2 t 0)).toInt.toNat (99 - 1) = (tb (ix1 t)).toNat
    rw [rI_at _ _ _ (by omega), toInt_small _ (by omega)]
    omega
  rw [e]
  pointwise []
  refine (rX_at x _ k).trans (congrArg (fun r => xv x r k.val) ?_)
  show (tb (ix1 t)).toNat * 512 + p.val = 512 * (tb (ix1 t)).toNat + p.val
  omega

theorem gW_at (w : TW) (te : TI) (t : Fin 99) (k : Fin 2048) (n : Fin 4096) (h : (te (ix1 t)).toNat < 32) :
    gW w te (ix3 t k n) = w (ix4 0 ⟨(te (ix1 t)).toNat, h⟩ k n) := by
  have h9 := gather_slab (N := 32) (A := 2048) (B := 4096) (M := 99) (by decide) gather_S32x2048x4096_S99x1_S99x2048x4096_12_0_n_n_0_1_120484096_wf
    (shapeCast S32x2048x4096 w shapeCasts_S1x32x2048x4096_S32x2048x4096) (rI 32#32 te) t k n
  refine h9.trans ?_
  have e : (⟨min (rI 32#32 te (ix2 t 0)).toInt.toNat (32 - 1), by omega⟩ : Fin 32) = ⟨(te (ix1 t)).toNat, h⟩ := by
    apply Fin.ext
    show min (rI 32#32 te (ix2 t 0)).toInt.toNat (32 - 1) = (te (ix1 t)).toNat
    rw [rI_at _ _ _ (by omega), toInt_small _ (by omega)]
    omega
  rw [e]
  pointwise []

theorem gB_at (b : TB) (te : TI) (t : Fin 99) (n : Fin 4096) (h : (te (ix1 t)).toNat < 32) :
    gB b te (ix2 t n) = b (ix3 0 ⟨(te (ix1 t)).toNat, h⟩ n) := by
  have h9 := gather_line (N := 32) (A := 4096) (M := 99) (by decide) gather_S32x4096_S99x1_S99x4096_1_0_n_n_0_1_14096_wf
    (shapeCast S32x4096 b shapeCasts_S1x32x4096_S32x4096) (rI 32#32 te) t n
  refine h9.trans ?_
  have e : (⟨min (rI 32#32 te (ix2 t 0)).toInt.toNat (32 - 1), by omega⟩ : Fin 32) = ⟨(te (ix1 t)).toNat, h⟩ := by
    apply Fin.ext
    show min (rI 32#32 te (ix2 t 0)).toInt.toNat (32 - 1) = (te (ix1 t)).toNat
    rw [rI_at _ _ _ (by omega), toInt_small _ (by omega)]
    omega
  rw [e]
  pointwise []

theorem rL_at (X : FVec Ideal S99x512x2048 .bf16) (W : FVec Ideal S99x2048x4096 .f32) (B : FVec Ideal S99x4096 .f32) (t : Fin 99) (p : Fin 512) (n : Fin 4096) :
    rL X W B (ix3 t p n) = ∑ k : Fin 2048, X (ix3 t p k) * W (ix3 t k n) + B (ix2 t n) := by
  pointwise [rL]

theorem rM_at (nv : TI) (t : Fin 99) (p : Fin 512) : rM nv (ix3 t p 0) = IntOp.cmpi .slt (IntOp.muli 128#32 (BitVec.ofNat 32 (p.val / 128))) (nv (ix1 t)) := by
  pointwise [rM]

theorem rG_at (L : FVec Ideal S99x512x4096 .f32) (t : Fin 99) (p : Fin 512) (n : Fin 2048) :
    rG L (ix3 t p n) = glu (L (ix3 t p ⟨n.val, by omega⟩)) (L (ix3 t p ⟨2048 + n.val, by omega⟩)) := by
  unfold glu Ideal.logistic
  pointwise [rG]
  rfl

theorem rO_at (M : IVec S99x512x1 1) (G : FVec Ideal S99x512x2048 .bf16) (r : Fin 50688) (n : Fin 2048) :
    rO M G (ix2 r n) = if M (ix3 ⟨r.val / 512, by omega⟩ ⟨r.val % 512, by omega⟩ 0) = 1#1 then G (ix3 ⟨r.val / 512, by omega⟩ ⟨r.val % 512, by omega⟩ n) else 0 := by
  pointwise [rO]
  rfl

/-- An element of the result: zero in the dead rows of a tile, the gated product in the live ones. -/
def up (x : TX) (w : TW) (b : TB) (te tb nv : TI) (hte : ∀ t : Fin 99, (te (ix1 t)).toNat < 32) (t : Fin 99) (p : Fin 512) (n : Fin 2048) : EReal :=
  if 128 * (p.val / 128) < (nv (ix1 t)).toNat then
    glu (lin (xv x (512 * (tb (ix1 t)).toNat + p.val)) (fun k => w (ix4 0 ⟨(te (ix1 t)).toNat, hte t⟩ k ⟨n.val, by omega⟩)) (b (ix3 0 ⟨(te (ix1 t)).toNat, hte t⟩ ⟨n.val, by omega⟩)))
      (lin (xv x (512 * (tb (ix1 t)).toNat + p.val)) (fun k => w (ix4 0 ⟨(te (ix1 t)).toNat, hte t⟩ k ⟨2048 + n.val, by omega⟩)) (b (ix3 0 ⟨(te (ix1 t)).toNat, hte t⟩ ⟨2048 + n.val, by omega⟩)))
  else 0

theorem rL_up (x : TX) (w : TW) (b : TB) (te tb : TI) (hte : ∀ t : Fin 99, (te (ix1 t)).toNat < 32) (htb : ∀ t : Fin 99, (tb (ix1 t)).toNat < 99)
    (t : Fin 99) (p : Fin 512) (n : Fin 4096) : rL (gX x tb) (gW w te) (gB b te) (ix3 t p n)
      = lin (xv x (512 * (tb (ix1 t)).toNat + p.val)) (fun k => w (ix4 0 ⟨(te (ix1 t)).toNat, hte t⟩ k n)) (b (ix3 0 ⟨(te (ix1 t)).toNat, hte t⟩ n)) := by
  rw [rL_at]
  unfold lin
  exact congrArg₂ (· + ·) (Finset.sum_congr rfl fun k _ => congrArg₂ (· * ·) (gX_at x tb t p k (htb t)) (gW_at w te t k n (hte t)))
    (gB_at b te t n (hte t))

theorem ref_at (x : TX) (w : TW) (b : TB) (te tb nv : TI) (hte : ∀ t : Fin 99, (te (ix1 t)).toNat < 32) (htb : ∀ t : Fin 99, (tb (ix1 t)).toNat < 99)
    (hnv : ∀ t : Fin 99, (nv (ix1 t)).toNat ≤ 512) (r : Fin 50688) (n : Fin 2048) :
    rO (rM nv) (rG (rL (gX x tb) (gW w te) (gB b te))) (ix2 r n)
      = up x w b te tb nv hte ⟨r.val / 512, by omega⟩ ⟨r.val % 512, by omega⟩ n := by
  rw [rO_at, rM_at, rG_at, rL_up x w b te tb hte htb, rL_up x w b te tb hte htb]
  unfold up
  exact if_congr (live_iff ⟨r.val % 512 / 128, by omega⟩ _ (hnv _)) rfl rfl

end Cert.Up.Ref

end
-- ==== Proof.Up.Whole.lean ====
/-
  The whole result of the second kernel: every element is the reference's.
-/
module

public import proofs.«01_k».proof.Proof.Up.Blocks
public import proofs.«01_k».proof.Proof.Up.Ref

@[expose] public section

set_option synthInstance.maxSize 4096

noncomputable section

namespace Cert.Up

open Cert.KernelUpIdeal Cert.KernelUpIdeal.Gen
open Idealize.ShloMosaic Idealize.ShloMosaic.TcCoe

theorem ix_eq (t : Fin 99) : ix t = ix1 t := by
  funext a
  match a with
  | ⟨0, _⟩ => rfl

variable (m : (ℓ : Loc nD τ sig) → Buf (Elt Ideal) ℓ) (ρ : Dev nD → PrngReg) (hT : (TT (F := Ideal) m).OK)

theorem te_lt' (hT : (TT (F := Ideal) m).OK) (t : Fin 99) : ((TT (F := Ideal) m).te (ix1 t)).toNat < 32 := by
  rw [← ix_eq]; exact hT.te_lt t

/-- The reference's element over the arrays at launch. -/
def G (c : Dev nD) (y : S50688x2048.Idx) : EReal :=
  Ref.up (m ((c : Thread nD τ).loc main_arg5)) (m ((c : Thread nD τ).loc main_arg6)) (m ((c : Thread nD τ).loc main_arg7))
    (TT (F := Ideal) m).te (TT (F := Ideal) m).tb (TT (F := Ideal) m).nv (te_lt' m hT)
    ⟨(y 0).val / 512, by have : (y 0).val < 50688 := (y 0).isLt; omega⟩ ⟨(y 0).val % 512, by omega⟩ (y 1)

theorem word_congr {R R' : ℕ} (X : (⟨2, ![R, 128]⟩ : Shape).Idx → BitVec 32) (Y : (⟨2, ![R', 128]⟩ : Shape).Idx → BitVec 32) (i i' q : ℕ)
    (hi : i < R) (hi' : i' < R') (hq : q < 128) (h : X (ix2 ⟨i, hi⟩ ⟨q, hq⟩) = Y (ix2 ⟨i', hi'⟩ ⟨q, hq⟩)) : word X i q = word Y i' q :=
  (word_of X ⟨i, hi⟩ ⟨q, hq⟩ rfl rfl).symm.trans (h.trans (word_of Y ⟨i', hi'⟩ ⟨q, hq⟩ rfl rfl))

/-- A row of a point's block is a row of the whole array. -/
theorem xv_blk (c : Dev nD) (t : Fin grid0.N) (p : Fin 512) (k : Fin 2048) :
    xv (blkX (F := Ideal) c (V (F := Ideal) m ρ c) (TT (F := Ideal) m) hT t) p.val k.val
      = xv (m ((c : Thread nD τ).loc main_arg5) : S405504x128.Idx → BitVec 32)
          (512 * ((TT (F := Ideal) m).tb (ix1 (gt (grid0.coords t)))).toNat + p.val) k.val := by
  have hb := hT.tb_lt (gt (grid0.coords t))
  rw [ix_eq] at hb
  have key : ∀ (i q : ℕ) (hi : i < 4096) (hq : q < 128),
      word (blkX (F := Ideal) c (V (F := Ideal) m ρ c) (TT (F := Ideal) m) hT t) i q
        = word (m ((c : Thread nD τ).loc main_arg5) : S405504x128.Idx → BitVec 32)
            (((TT (F := Ideal) m).tb (ix1 (gt (grid0.coords t)))).toNat * 4096 + i) q := fun i q hi hq => by
    refine word_congr _ _ _ _ _ hi (by omega) hq ?_
    refine (blkX_at c (V (F := Ideal) m ρ c) (TT (F := Ideal) m) hT t ⟨i, hi⟩ ⟨q, hq⟩).trans ?_
    rw [V_kept m ρ c main_arg5 (by decide)]
    refine congrArg (fun j => (m ((c : Thread nD τ).loc main_arg5) : S405504x128.Idx → BitVec 32) (ix2 j ⟨q, hq⟩)) (Fin.ext ?_)
    show _ * 4096 + i = _
    rw [ix_eq]
  have hp := p.isLt
  have hk := k.isLt
  unfold xv
  by_cases h : k.val < 1024
  · rw [if_pos h, if_pos h, key _ _ (by omega) (by omega)]
    congr 2
    omega
  · rw [if_neg h, if_neg h, key _ _ (by omega) (by omega)]
    congr 2
    omega

theorem lin_congr (x x' : ℕ → EReal) (w w' : Fin 2048 → EReal) (b b' : EReal) (hx : ∀ k : Fin 2048, x k.val = x' k.val) (hw : ∀ k, w k = w' k) (hb : b = b') :
    lin x w b = lin x' w' b' := by
  unfold lin
  rw [hb]
  exact congrArg (· + b') (Finset.sum_congr rfl fun k _ => by rw [hx, hw])

abbrev W (c : Dev nD) : S1x32x2048x4096.Idx → EReal := m ((c : Thread nD τ).loc main_arg6)
abbrev B (c : Dev nD) : S1x32x4096.Idx → EReal := m ((c : Thread nD τ).loc main_arg7)

theorem wg_at (c : Dev nD) (e : Fin 32) (j : Fin 2) (k : Fin 2048) (n : Fin 1024) (i : Fin 4096) (hi : j.val * 1024 + n.val = i.val) :
    (wv (F := Ideal) c (V (F := Ideal) m ρ c main_v0) e j 0 : S2048x1024.Idx → EReal) (ix2 k n) = W m c (ix4 0 e k i) := by
  refine (wv_at c (V (F := Ideal) m ρ c main_v0) e j (0 : Fin 2) k n).trans ?_
  refine (host0_at m ρ c e k _).trans ?_
  refine congrArg (fun i => W m c (ix4 0 e k i)) (Fin.ext ?_)
  show 0 * 2048 + j.val * 1024 + n.val = i.val
  rw [Nat.zero_mul, Nat.zero_add]
  exact hi

theorem wu_at (c : Dev nD) (e : Fin 32) (j : Fin 2) (k : Fin 2048) (n : Fin 1024) (i : Fin 4096) (hi : 2048 + (j.val * 1024 + n.val) = i.val) :
    (wv (F := Ideal) c (V (F := Ideal) m ρ c main_v0) e j 1 : S2048x1024.Idx → EReal) (ix2 k n) = W m c (ix4 0 e k i) := by
  refine (wv_at c (V (F := Ideal) m ρ c main_v0) e j (1 : Fin 2) k n).trans ?_
  refine (host0_at m ρ c e k _).trans ?_
  refine congrArg (fun i => W m c (ix4 0 e k i)) (Fin.ext ?_)
  show (1 : Fin 2).val * 2048 + j.val * 1024 + n.val = i.val
  have : (1 : Fin 2).val = 1 := rfl
  omega

theorem bg_at (c : Dev nD) (t : Fin grid0.N) (n : Fin 1024) (i : Fin 4096) (hi : (gj (grid0.coords t)).val * 1024 + n.val = i.val) :
    (blkG (F := Ideal) c (V (F := Ideal) m ρ c) (TT (F := Ideal) m) hT t : S1x1x1024.Idx → EReal) (ix3 0 0 n) = B m c (ix3 0 (exT (TT (F := Ideal) m) hT t) i) := by
  refine (blkG_at c (V (F := Ideal) m ρ c) (TT (F := Ideal) m) hT t n).trans ((host2_at m ρ c _ _).trans ?_)
  exact congrArg (fun i => B m c (ix3 0 (exT (TT (F := Ideal) m) hT t) i)) (Fin.ext hi)

theorem bu_at (c : Dev nD) (t : Fin grid0.N) (n : Fin 1024) (i : Fin 4096) (hi : 2048 + ((gj (grid0.coords t)).val * 1024 + n.val) = i.val) :
    (blkU (F := Ideal) c (V (F := Ideal) m ρ c) (TT (F := Ideal) m) hT t : S1x1x1024.Idx → EReal) (ix3 0 0 n) = B m c (ix3 0 (exT (TT (F := Ideal) m) hT t) i) := by
  refine (blkU_at c (V (F := Ideal) m ρ c) (TT (F := Ideal) m) hT t n).trans ((host2_at m ρ c _ _).trans ?_)
  refine congrArg (fun i => B m c (ix3 0 (exT (TT (F := Ideal) m) hT t) i)) (Fin.ext ?_)
  show (2 + (gj (grid0.coords t)).val) * 1024 + n.val = i.val
  omega

theorem ex_eq (t : Fin grid0.N) :
    (⟨((TT (F := Ideal) m).te (ix1 (gt (grid0.coords t)))).toNat, te_lt' m hT _⟩ : Fin 32) = exT (TT (F := Ideal) m) hT t :=
  Fin.ext (congrArg (fun y => ((TT (F := Ideal) m).te y).toNat) (ix_eq _).symm)

/-- What a point leaves, element by element. -/
theorem outT_at (c : Dev nD) (t : Fin grid0.N) (p : Fin 512) (n : Fin 1024) :
    outT (F := Ideal) c (V (F := Ideal) m ρ c) (TT (F := Ideal) m) hT t (ix2 p n)
      = Ref.up (m ((c : Thread nD τ).loc main_arg5)) (W m c) (B m c)
          (TT (F := Ideal) m).te (TT (F := Ideal) m).tb (TT (F := Ideal) m).nv (te_lt' m hT)
          (gt (grid0.coords t)) p ⟨(gj (grid0.coords t)).val * 1024 + n.val, by have : (gj (grid0.coords t)).val < 2 := (gj (grid0.coords t)).isLt; omega⟩ := by
  refine (outVal_at ((TT (F := Ideal) m).nv (ix (gt (grid0.coords t)))) (hT.nv_le _) _ _ _ _ _ p n).trans ?_
  unfold Ref.up cell
  rw [ex_eq m hT t, ix_eq (gt (grid0.coords t))]
  refine if_congr Iff.rfl (congrArg₂ glu ?_ ?_) rfl
  · exact lin_congr _ _ _ _ _ _ (xv_blk m ρ hT c t p) (fun k => wg_at m ρ c _ _ k n _ rfl) (bg_at m ρ hT c t n _ rfl)
  · exact lin_congr _ _ _ _ _ _ (xv_blk m ρ hT c t p) (fun k => wu_at m ρ c _ _ k n _ rfl) (bu_at m ρ hT c t n _ rfl)

theorem t3 (T : Tab) (hT : T.OK) (t : Fin grid0.N) (y : S512x1024.Idx) (a : Fin 2) :
    ((((cfg0 (admT (F := Ideal) T hT)).win 3).blk t).view.emb y a).val = ![(gt (grid0.coords t)).val * 512 + (y 0).val, (gj (grid0.coords t)).val * 1024 + (y 1).val] a := by
  refine (Pipeline.Window.rect_emb_val ((cfg0 (admT (F := Ideal) T hT)).win 3) t y a rfl).trans ?_
  have h0 : (BitVec.ofNat 32 (gt (grid0.coords t)).val).toNat = (gt (grid0.coords t)).val := toNat_gt _
  have h1 := gj_word (gj (grid0.coords t))
  fin_cases a
  · show (BitVec.ofNat 32 (gt (grid0.coords t)).val).toNat * 512 + (y 0).val = _
    rw [h0]; rfl
  · show (BitVec.ofNat 32 (gj (grid0.coords t)).val).toNat * 1024 + (y 1).val = _
    rw [h1]; rfl

theorem flush3 (T : Tab) (hT : T.OK) (t : Fin grid0.N) : ((cfg0 (admT (F := Ideal) T hT)).win 3).flush t = true := by
  have hi : ∀ s : Fin grid0.N, ((cfg0 (admT (F := Ideal) T hT)).win 3).index s (0 : Fin 2) = s.val % 99 := fun s => by
    refine (toNat_gt (grid0.coords s)).trans (coords_val s).2
  unfold Pipeline.Window.flush
  simp only [Bool.and_eq_true, Bool.or_eq_true, decide_eq_true_eq]
  refine ⟨rfl, ?_⟩
  by_cases h : t.val + 1 = grid0.N
  · exact Or.inl h
  · have h' : t.val + 1 < grid0.N := by have := t.isLt; omega
    refine Or.inr ⟨h', fun e => ?_⟩
    have e0 : (t.val + 1) % 99 = t.val % 99 := (hi ⟨t.val + 1, h'⟩).symm.trans ((congrFun e (0 : Fin 2)).trans (hi t))
    omega

theorem out_eq (c : Dev nD) : outA (F := Ideal) m ρ hT c = G m hT c := by
  refine Pipeline.Dat.arrAt_eq_of_emb (dats (F := Ideal) m ρ hT 0 c) (3 : Fin 4) (G m hT c) (fun t _ y => ?_) (fun i => ?_)
  · have ey : y = ix2 (y 0 : Fin 512) (y 1 : Fin 1024) := by
      funext a
      match a with
      | ⟨0, _⟩ => rfl
      | ⟨1, _⟩ => rfl
    refine (congrArg (outT (F := Ideal) c (V (F := Ideal) m ρ c) (TT (F := Ideal) m) hT t) ey).trans ((outT_at m ρ hT c t (y 0) (y 1)).trans ?_)
    have e0 := t3 (TT (F := Ideal) m) hT t y 0
    have e1 := t3 (TT (F := Ideal) m) hT t y 1
    have hy0 : (y 0).val < 512 := (y 0).isLt
    unfold G
    refine congr (congr (congrArg _ (Fin.ext ?_)) (Fin.ext ?_)) (Fin.ext ?_)
    · refine Eq.symm ((congrArg (· / 512) e0).trans ?_)
      show ((gt (grid0.coords t)).val * 512 + (y 0).val) / 512 = _
      omega
    · refine Eq.symm ((congrArg (· % 512) e0).trans ?_)
      show ((gt (grid0.coords t)).val * 512 + (y 0).val) % 512 = _
      omega
    · exact e1.symm
  · have h0 : (i 0).val < 50688 := (i 0).isLt
    have h1 : (i 1).val < 2048 := (i 1).isLt
    obtain ⟨t, ht⟩ : ∃ t : Fin grid0.N, t.val = (i 1).val / 1024 * 99 + (i 0).val / 512 :=
      ⟨⟨(i 1).val / 1024 * 99 + (i 0).val / 512, by show _ < 198; omega⟩, rfl⟩
    refine ⟨t, flush3 _ _ _, ?_⟩
    have hc0 : (gj (grid0.coords t)).val = (i 1).val / 1024 := (coords_val t).1.trans (by omega)
    have hc1 : (gt (grid0.coords t)).val = (i 0).val / 512 := (coords_val t).2.trans (by omega)
    have hy : (((cfg0 (admT (F := Ideal) (TT (F := Ideal) m) hT)).win 3).blk t).view.emb
        (ix2 (⟨(i 0).val % 512, by omega⟩ : Fin 512) (⟨(i 1).val % 1024, by omega⟩ : Fin 1024)) = i := by
      funext a
      apply Fin.ext
      refine (t3 _ hT _ _ a).trans ?_
      fin_cases a
      · show (gt (grid0.coords t)).val * 512 + (i 0).val % 512 = (i 0).val
        omega
      · show (gj (grid0.coords t)).val * 1024 + (i 1).val % 1024 = (i 1).val
        omega
    exact Eq.subst (motive := fun z => z ∈ (((cfg0 (admT (F := Ideal) (TT (F := Ideal) m) hT)).win 3).blk t).view.set) hy (View.emb_mem_set _ _)

end Cert.Up

end
-- ==== Proof.Up.Same.lean ====
/-
  The second kernel and its reference return the same array.
-/
module

public import proofs.«01_k».proof.Defs
public import proofs.«01_k».proof.Proof.Up.Whole
public import proofs.«01_k».proof.Proof.Up.Pre
public import proofs.«01_k».proof.Proof.Gen.Pre_tables_ok

@[expose] public section

noncomputable section

namespace Cert.Up

open Idealize.ShloMosaic Idealize.ShloMosaic.TcCoe Idealize.SL.Sem

theorem rows_eq (x : Ref.TX) (w : Ref.TW) (b : Ref.TB) (te tb nv : Ref.TI) (hte : ∀ t : Fin 99, (te (ix1 t)).toNat < 32)
    (htb : ∀ t : Fin 99, (tb (ix1 t)).toNat < 99) (hnv : ∀ t : Fin 99, (nv (ix1 t)).toNat ≤ 512) (y : Cert.ReferenceUpIdeal.S50688x2048.Idx) :
    Ref.rO (Ref.rM nv) (Ref.rG (Ref.rL (Ref.gX x tb) (Ref.gW w te) (Ref.gB b te))) y
      = Ref.up x w b te tb nv hte ⟨(y 0).val / 512, by have : (y 0).val < 50688 := (y 0).isLt; omega⟩ ⟨(y 0).val % 512, by omega⟩ (y 1) := by
  have ey : y = ix2 (y 0 : Fin 50688) (y 1 : Fin 2048) := by
    funext a
    match a with
    | ⟨0, _⟩ => rfl
    | ⟨1, _⟩ => rfl
  exact (congrArg _ ey).trans (Ref.ref_at x w b te tb nv hte htb hnv (y 0) (y 1))

theorem algebraic_up : Cert.algebraic_KernelUpIdeal_ReferenceUpIdeal := by
  intro m ρ m' ρ' hp hagree
  have hT : (TT (F := Ideal) m).OK := tab_ok (F := Ideal) _ _ _ _ _ _ _ _ (hp 0)
  have htb : ∀ t : Fin 99, ((TT (F := Ideal) m).tb (ix1 t)).toNat < 99 := fun t => by rw [← ix_eq]; exact hT.tb_lt t
  have hnv : ∀ t : Fin 99, ((TT (F := Ideal) m).nv (ix1 t)).toNat ≤ 512 := fun t => by rw [← ix_eq]; exact hT.nv_le t
  have hG : ∀ c : Dev Cert.KernelUpIdeal.nD, Cert.ReferenceUpIdeal.Value.res_main_v65 (F := Ideal) m' c = G m hT c := fun c => by
    obtain ⟨h0, h1, h2, h3, h4, h5, h6, h7⟩ := hagree c
    refine (Ref.res_eq m' c).trans ?_
    rw [h0, h1, h4, h5, h6, h7]
    obtain rfl : c = 0 := Subsingleton.elim _ _
    funext y
    exact rows_eq _ _ _ _ _ _ (te_lt' m hT) htb hnv y
  refine ⟨fun c => G m hT c, ?_, ?_⟩
  · exact (θ_run Cert.KernelUpIdeal.defs _ _).mono (fun _ h c => ⟨(h.1 c).1.trans (out_eq m ρ hT c), (h.1 c).2⟩) (run_main (F := Ideal) m ρ hT)
  · exact (θ_run Cert.ReferenceUpIdeal.defs _ _).mono (fun _ h c => ⟨(h c).1.trans (hG c), (h c).2⟩)
      (Cert.ReferenceUpIdeal.Value.run (F := Ideal) m' ρ')

end Cert.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.KernelUp
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.ReferenceUpIdeal
public import proofs.«01_k».proof.Proof.Gen.ReferenceUpIdeal.Run
public import proofs.«01_k».proof.Proof.Gen.Pre_tables_ok
public import proofs.«01_k».proof.Proof.Mix.Out
public import proofs.«01_k».proof.Proof.Mix.RefRun
public import proofs.«01_k».proof.Proof.Up.Frames
public import proofs.«01_k».proof.Proof.Up.Same
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal := by
  intro m ρ m' ρ' _ hagree
  have hA : ∀ c, Cert.Mix.Ref.rA (launchContents m' c) = Cert.Mix.kA m c := fun c => by
    obtain ⟨h0, h1, h2, h3, h4, h5, h6, h7, h8⟩ := hagree c
    unfold Cert.Mix.kA
    rw [← h0, ← h1, ← h2, ← h3, ← h4, ← h5, ← h6, ← h7, ← h8]
    rfl
  refine ⟨fun c => Cert.KernelIdeal.Value.G9 m c, fun c => Cert.KernelIdeal.Value.G10 m c,
    fun c => Cert.KernelIdeal.Value.G11 m c, Cert.KernelIdeal.Value.run (F := Ideal) m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1.trans ?_, (h c).2.2.2⟩
  · funext i
    idx_vars i
    refine (Cert.Mix.Ref.v317 _ _ _).trans ?_
    rw [hA c]
    exact (Cert.Mix.outY m c _ _).symm
  · funext i
    idx_vars i
    refine (Cert.Mix.Ref.v53 _ _ _ _).trans ?_
    rw [hA c]
    exact (Cert.Mix.outA m c _ _ _).symm
  · funext i
    idx_vars i
    refine (Cert.Mix.Ref.v279 _ _ _ _).trans ?_
    rw [hA c]
    exact (Cert.Mix.outB m c _ _ _).symm

theorem frame_ri_up : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts, Cert.Pre_tables_ok.Gen.facts,
  fun m ρ _ => Cert.Kernel.Gen.frame m ρ, fun m ρ _ => Cert.KernelIdeal.Gen.frame m ρ, frame_ri,
  Cert.Up.frame_bits, Cert.Up.frame_ideal, frame_ri_up, trivial, algebraic, trivial, Cert.Up.algebraic_up⟩

end Cert.Proof

end
